-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![128, 2048]⟩ ⟨2, ![4096, 2048]⟩ 0 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S128x2048 : Shape := ⟨2, ![128, 2048]⟩
abbrev S1 : Shape := ⟨1, ![1]⟩
abbrev S4096x2048 : Shape := ⟨2, ![4096, 2048]⟩
abbrev S2x512x1024 : Shape := ⟨3, ![2, 512, 1024]⟩
abbrev S2x128x1024 : Shape := ⟨3, ![2, 128, 1024]⟩
abbrev S512x1024 : Shape := ⟨2, ![512, 1024]⟩
abbrev S4 : Shape := ⟨1, ![4]⟩
abbrev S2 : Shape := ⟨1, ![2]⟩
abbrev S_ : Shape := ⟨0, ![]⟩
abbrev S512x128 : Shape := ⟨2, ![512, 128]⟩
abbrev S128x1024 : Shape := ⟨2, ![128, 1024]⟩
abbrev S1x512x1024 : Shape := ⟨3, ![1, 512, 1024]⟩
abbrev S1x256x1024 : Shape := ⟨3, ![1, 256, 1024]⟩
abbrev S256x1024 : Shape := ⟨2, ![256, 1024]⟩
abbrev S1x128x1024 : Shape := ⟨3, ![1, 128, 1024]⟩

abbrev nBuf : Space → Nat
  | .hbm => 5
  | .vmem => 15
  | .smem => 2
  | _ => 0

abbrev bufTy : (tb : Table) → Fin (tcTables nBuf tb) → BufTy
  | .hbm, ⟨0, _⟩ => ⟨S4096x128, .fp8e4m3⟩
  | .hbm, ⟨1, _⟩ => ⟨S128x2048, .fp8e5m2⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x128, .fp8e4m3⟩
  | .local _ .vmem, ⟨1, _⟩ => ⟨S128x2048, .fp8e5m2⟩
  | .local _ .vmem, ⟨2, _⟩ => ⟨S4096x2048, .f32⟩
  | .local _ .vmem, ⟨3, _⟩ => ⟨S2x512x1024, .bf16⟩
  | .local _ .vmem, ⟨4, _⟩ => ⟨S2x512x1024, .bf16⟩
  | .local _ .vmem, ⟨5, _⟩ => ⟨S2x512x1024, .bf16⟩
  | .local _ .vmem, ⟨6, _⟩ => ⟨S2x512x1024, .bf16⟩
  | .local _ .vmem, ⟨7, _⟩ => ⟨S2x128x1024, .bf16⟩
  | .local _ .vmem, ⟨8, _⟩ => ⟨S2x128x1024, .bf16⟩
  | .local _ .vmem, ⟨9, _⟩ => ⟨S2x128x1024, .bf16⟩
  | .local _ .vmem, ⟨10, _⟩ => ⟨S2x128x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .smem, ⟨0, _⟩ => ⟨S1, .f32⟩
  | .local _ .smem, ⟨1, _⟩ => ⟨S1, .f32⟩
  | _, _ => ⟨S4096x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  (ofTc nBuf bufTy 5 29 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_scratch11 : Ref sig .tc := ⟨.vmem, 14, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 4

abbrev nD : Nat := 32
abbrev τ : Topo := Topo.v7x

variable {F : FTy → Type} [FloatOps F]

abbrev grid0 : Pipeline.Grid := .none

def k0_dev1 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_34 : BitVec 32 := 8#32
  let v48 : BitVec 32 := Scalar.muli v3 c8_i32_34
  let c2_i32_32 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c8_i32_19 : BitVec 32 := 8#32
  let v31 : BitVec 32 := Scalar.addi v12 c8_i32_19
  let c1_i32_20 : BitVec 32 := 1#32
  let v32 : BitVec 32 := Scalar.subi v31 c1_i32_20
  let c8_i32_21 : BitVec 32 := 8#32
  let v33 : BitVec 32 := Scalar.remsi v32 c8_i32_21
  let c0_i32_27 : BitVec 32 := 0#32
  let v38 : BitVec 1 := Scalar.cmpi .eq v33 c0_i32_27
  let c0_i32_31 : BitVec 32 := 0#32
  let c4_i32_28 : BitVec 32 := 4#32
  let v39 : BitVec 1 := Scalar.cmpi .sle v33 c4_i32_28
  let c1_i32_29 : BitVec 32 := 1#32
  let v40 : BitVec 32 := Scalar.subi v33 c1_i32_29
  let c8_i32_30 : BitVec 32 := 8#32
  let v41 : BitVec 32 := Scalar.subi c8_i32_30 v33
  let v42 : BitVec 32 := Scalar.select v39 v40 v41
  let v43 : BitVec 32 := Scalar.select v38 c0_i32_31 v42
  let v44 : BitVec 32 := Scalar.muli c2_i32_32 v43
  let c0_i32_22 : BitVec 32 := 0#32
  let v34 : BitVec 1 := Scalar.cmpi .eq v33 c0_i32_22
  let c0_i32_26 : BitVec 32 := 0#32
  let c4_i32_23 : BitVec 32 := 4#32
  let v35 : BitVec 1 := Scalar.cmpi .sle v33 c4_i32_23
  let c1_i32_24 : BitVec 32 := 1#32
  let c0_i32_25 : BitVec 32 := 0#32
  let v36 : BitVec 32 := Scalar.select v35 c1_i32_24 c0_i32_25
  let v37 : BitVec 32 := Scalar.select v34 c0_i32_26 v36
  let v45 : BitVec 32 := Scalar.addi v37 v43
  let c2_i32_33 : BitVec 32 := 2#32
  let v46 : BitVec 32 := Scalar.remsi v45 c2_i32_33
  let v47 : BitVec 32 := Scalar.addi v44 v46
  let v49 : BitVec 32 := Scalar.addi v48 v47
  let c1_i32_43 : BitVec 32 := 1#32
  let v60 : BitVec 32 := Scalar.muli v49 c1_i32_43
  let v61 : BitVec 32 := Scalar.addi c0_i32_44 v60
  v61.toNat
def k0_dev2 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_18 : BitVec 32 := 8#32
  let v29 : BitVec 32 := Scalar.muli v3 c8_i32_18
  let c2_i32_16 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_6 : BitVec 32 := 1#32
  let v13 : BitVec 32 := Scalar.addi v12 c1_i32_6
  let c8_i32_7 : BitVec 32 := 8#32
  let v14 : BitVec 32 := Scalar.remsi v13 c8_i32_7
  let c0_i32_11 : BitVec 32 := 0#32
  let v19 : BitVec 1 := Scalar.cmpi .eq v14 c0_i32_11
  let c0_i32_15 : BitVec 32 := 0#32
  let c4_i32_12 : BitVec 32 := 4#32
  let v20 : BitVec 1 := Scalar.cmpi .sle v14 c4_i32_12
  let c1_i32_13 : BitVec 32 := 1#32
  let v21 : BitVec 32 := Scalar.subi v14 c1_i32_13
  let c8_i32_14 : BitVec 32 := 8#32
  let v22 : BitVec 32 := Scalar.subi c8_i32_14 v14
  let v23 : BitVec 32 := Scalar.select v20 v21 v22
  let v24 : BitVec 32 := Scalar.select v19 c0_i32_15 v23
  let v25 : BitVec 32 := Scalar.muli c2_i32_16 v24
  let c0_i32 : BitVec 32 := 0#32
  let v15 : BitVec 1 := Scalar.cmpi .eq v14 c0_i32
  let c0_i32_10 : BitVec 32 := 0#32
  let c4_i32 : BitVec 32 := 4#32
  let v16 : BitVec 1 := Scalar.cmpi .sle v14 c4_i32
  let c1_i32_8 : BitVec 32 := 1#32
  let c0_i32_9 : BitVec 32 := 0#32
  let v17 : BitVec 32 := Scalar.select v16 c1_i32_8 c0_i32_9
  let v18 : BitVec 32 := Scalar.select v15 c0_i32_10 v17
  let v26 : BitVec 32 := Scalar.addi v18 v24
  let c2_i32_17 : BitVec 32 := 2#32
  let v27 : BitVec 32 := Scalar.remsi v26 c2_i32_17
  let v28 : BitVec 32 := Scalar.addi v25 v27
  let v30 : BitVec 32 := Scalar.addi v29 v28
  let c1_i32_46 : BitVec 32 := 1#32
  let v62 : BitVec 32 := Scalar.muli v30 c1_i32_46
  let v63 : BitVec 32 := Scalar.addi c0_i32_47 v62
  v63.toNat
def k0_dev3 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c4_i32_38 : BitVec 32 := 4#32
  let v54 : BitVec 32 := Scalar.addi v3 c4_i32_38
  let c1_i32_39 : BitVec 32 := 1#32
  let v55 : BitVec 32 := Scalar.subi v54 c1_i32_39
  let c4_i32_40 : BitVec 32 := 4#32
  let v56 : BitVec 32 := Scalar.remsi v55 c4_i32_40
  let c8_i32_41 : BitVec 32 := 8#32
  let v57 : BitVec 32 := Scalar.muli v56 c8_i32_41
  let c8_i32_0 : BitVec 32 := 8#32
  let v4 : BitVec 32 := Scalar.remsi v2 c8_i32_0
  let v58 : BitVec 32 := Scalar.addi v57 v4
  let c1_i32_50 : BitVec 32 := 1#32
  let v64 : BitVec 32 := Scalar.muli v58 c1_i32_50
  let v65 : BitVec 32 := Scalar.addi c0_i32_51 v64
  v65.toNat
def k0_dev4 (d0 : Dev nD) : Nat :=
  let c0_i32_54 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_35 : BitVec 32 := 1#32
  let v50 : BitVec 32 := Scalar.addi v3 c1_i32_35
  let c4_i32_36 : BitVec 32 := 4#32
  let v51 : BitVec 32 := Scalar.remsi v50 c4_i32_36
  let c8_i32_37 : BitVec 32 := 8#32
  let v52 : BitVec 32 := Scalar.muli v51 c8_i32_37
  let c8_i32_0 : BitVec 32 := 8#32
  let v4 : BitVec 32 := Scalar.remsi v2 c8_i32_0
  let v53 : BitVec 32 := Scalar.addi v52 v4
  let c1_i32_53 : BitVec 32 := 1#32
  let v66 : BitVec 32 := Scalar.muli v53 c1_i32_53
  let v67 : BitVec 32 := Scalar.addi c0_i32_54 v66
  v67.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c512_i32 : BitVec 32 := 512#32
  let v71 : BitVec 32 := Scalar.muli v12 c512_i32
  let v72 : Index := Scalar.indexCast v71
  let c0_56 : Index := 0#32
  ![v72.toNat, 0]
def k0_dev5 (d0 : Dev nD) : Nat :=
  let c0_i32_74 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_18 : BitVec 32 := 8#32
  let v29 : BitVec 32 := Scalar.muli v3 c8_i32_18
  let c2_i32_16 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_6 : BitVec 32 := 1#32
  let v13 : BitVec 32 := Scalar.addi v12 c1_i32_6
  let c8_i32_7 : BitVec 32 := 8#32
  let v14 : BitVec 32 := Scalar.remsi v13 c8_i32_7
  let c0_i32_11 : BitVec 32 := 0#32
  let v19 : BitVec 1 := Scalar.cmpi .eq v14 c0_i32_11
  let c0_i32_15 : BitVec 32 := 0#32
  let c4_i32_12 : BitVec 32 := 4#32
  let v20 : BitVec 1 := Scalar.cmpi .sle v14 c4_i32_12
  let c1_i32_13 : BitVec 32 := 1#32
  let v21 : BitVec 32 := Scalar.subi v14 c1_i32_13
  let c8_i32_14 : BitVec 32 := 8#32
  let v22 : BitVec 32 := Scalar.subi c8_i32_14 v14
  let v23 : BitVec 32 := Scalar.select v20 v21 v22
  let v24 : BitVec 32 := Scalar.select v19 c0_i32_15 v23
  let v25 : BitVec 32 := Scalar.muli c2_i32_16 v24
  let c0_i32 : BitVec 32 := 0#32
  let v15 : BitVec 1 := Scalar.cmpi .eq v14 c0_i32
  let c0_i32_10 : BitVec 32 := 0#32
  let c4_i32 : BitVec 32 := 4#32
  let v16 : BitVec 1 := Scalar.cmpi .sle v14 c4_i32
  let c1_i32_8 : BitVec 32 := 1#32
  let c0_i32_9 : BitVec 32 := 0#32
  let v17 : BitVec 32 := Scalar.select v16 c1_i32_8 c0_i32_9
  let v18 : BitVec 32 := Scalar.select v15 c0_i32_10 v17
  let v26 : BitVec 32 := Scalar.addi v18 v24
  let c2_i32_17 : BitVec 32 := 2#32
  let v27 : BitVec 32 := Scalar.remsi v26 c2_i32_17
  let v28 : BitVec 32 := Scalar.addi v25 v27
  let v30 : BitVec 32 := Scalar.addi v29 v28
  let c1_i32_73 : BitVec 32 := 1#32
  let v97 : BitVec 32 := Scalar.muli v30 c1_i32_73
  let v98 : BitVec 32 := Scalar.addi c0_i32_74 v97
  v98.toNat
def k0_dev6 (d0 : Dev nD) : Nat :=
  let c0_i32_84 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_34 : BitVec 32 := 8#32
  let v48 : BitVec 32 := Scalar.muli v3 c8_i32_34
  let c2_i32_32 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c8_i32_19 : BitVec 32 := 8#32
  let v31 : BitVec 32 := Scalar.addi v12 c8_i32_19
  let c1_i32_20 : BitVec 32 := 1#32
  let v32 : BitVec 32 := Scalar.subi v31 c1_i32_20
  let c8_i32_21 : BitVec 32 := 8#32
  let v33 : BitVec 32 := Scalar.remsi v32 c8_i32_21
  let c0_i32_27 : BitVec 32 := 0#32
  let v38 : BitVec 1 := Scalar.cmpi .eq v33 c0_i32_27
  let c0_i32_31 : BitVec 32 := 0#32
  let c4_i32_28 : BitVec 32 := 4#32
  let v39 : BitVec 1 := Scalar.cmpi .sle v33 c4_i32_28
  let c1_i32_29 : BitVec 32 := 1#32
  let v40 : BitVec 32 := Scalar.subi v33 c1_i32_29
  let c8_i32_30 : BitVec 32 := 8#32
  let v41 : BitVec 32 := Scalar.subi c8_i32_30 v33
  let v42 : BitVec 32 := Scalar.select v39 v40 v41
  let v43 : BitVec 32 := Scalar.select v38 c0_i32_31 v42
  let v44 : BitVec 32 := Scalar.muli c2_i32_32 v43
  let c0_i32_22 : BitVec 32 := 0#32
  let v34 : BitVec 1 := Scalar.cmpi .eq v33 c0_i32_22
  let c0_i32_26 : BitVec 32 := 0#32
  let c4_i32_23 : BitVec 32 := 4#32
  let v35 : BitVec 1 := Scalar.cmpi .sle v33 c4_i32_23
  let c1_i32_24 : BitVec 32 := 1#32
  let c0_i32_25 : BitVec 32 := 0#32
  let v36 : BitVec 32 := Scalar.select v35 c1_i32_24 c0_i32_25
  let v37 : BitVec 32 := Scalar.select v34 c0_i32_26 v36
  let v45 : BitVec 32 := Scalar.addi v37 v43
  let c2_i32_33 : BitVec 32 := 2#32
  let v46 : BitVec 32 := Scalar.remsi v45 c2_i32_33
  let v47 : BitVec 32 := Scalar.addi v44 v46
  let v49 : BitVec 32 := Scalar.addi v48 v47
  let c1_i32_83 : BitVec 32 := 1#32
  let v107 : BitVec 32 := Scalar.muli v49 c1_i32_83
  let v108 : BitVec 32 := Scalar.addi c0_i32_84 v107
  v108.toNat
def k0_dev7 (d0 : Dev nD) : Nat :=
  let c0_i32_94 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_18 : BitVec 32 := 8#32
  let v29 : BitVec 32 := Scalar.muli v3 c8_i32_18
  let c2_i32_16 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_6 : BitVec 32 := 1#32
  let v13 : BitVec 32 := Scalar.addi v12 c1_i32_6
  let c8_i32_7 : BitVec 32 := 8#32
  let v14 : BitVec 32 := Scalar.remsi v13 c8_i32_7
  let c0_i32_11 : BitVec 32 := 0#32
  let v19 : BitVec 1 := Scalar.cmpi .eq v14 c0_i32_11
  let c0_i32_15 : BitVec 32 := 0#32
  let c4_i32_12 : BitVec 32 := 4#32
  let v20 : BitVec 1 := Scalar.cmpi .sle v14 c4_i32_12
  let c1_i32_13 : BitVec 32 := 1#32
  let v21 : BitVec 32 := Scalar.subi v14 c1_i32_13
  let c8_i32_14 : BitVec 32 := 8#32
  let v22 : BitVec 32 := Scalar.subi c8_i32_14 v14
  let v23 : BitVec 32 := Scalar.select v20 v21 v22
  let v24 : BitVec 32 := Scalar.select v19 c0_i32_15 v23
  let v25 : BitVec 32 := Scalar.muli c2_i32_16 v24
  let c0_i32 : BitVec 32 := 0#32
  let v15 : BitVec 1 := Scalar.cmpi .eq v14 c0_i32
  let c0_i32_10 : BitVec 32 := 0#32
  let c4_i32 : BitVec 32 := 4#32
  let v16 : BitVec 1 := Scalar.cmpi .sle v14 c4_i32
  let c1_i32_8 : BitVec 32 := 1#32
  let c0_i32_9 : BitVec 32 := 0#32
  let v17 : BitVec 32 := Scalar.select v16 c1_i32_8 c0_i32_9
  let v18 : BitVec 32 := Scalar.select v15 c0_i32_10 v17
  let v26 : BitVec 32 := Scalar.addi v18 v24
  let c2_i32_17 : BitVec 32 := 2#32
  let v27 : BitVec 32 := Scalar.remsi v26 c2_i32_17
  let v28 : BitVec 32 := Scalar.addi v25 v27
  let v30 : BitVec 32 := Scalar.addi v29 v28
  let c1_i32_93 : BitVec 32 := 1#32
  let v117 : BitVec 32 := Scalar.muli v30 c1_i32_93
  let v118 : BitVec 32 := Scalar.addi c0_i32_94 v117
  v118.toNat
def k0_dev8 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_34 : BitVec 32 := 8#32
  let v48 : BitVec 32 := Scalar.muli v3 c8_i32_34
  let c2_i32_32 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c8_i32_19 : BitVec 32 := 8#32
  let v31 : BitVec 32 := Scalar.addi v12 c8_i32_19
  let c1_i32_20 : BitVec 32 := 1#32
  let v32 : BitVec 32 := Scalar.subi v31 c1_i32_20
  let c8_i32_21 : BitVec 32 := 8#32
  let v33 : BitVec 32 := Scalar.remsi v32 c8_i32_21
  let c0_i32_27 : BitVec 32 := 0#32
  let v38 : BitVec 1 := Scalar.cmpi .eq v33 c0_i32_27
  let c0_i32_31 : BitVec 32 := 0#32
  let c4_i32_28 : BitVec 32 := 4#32
  let v39 : BitVec 1 := Scalar.cmpi .sle v33 c4_i32_28
  let c1_i32_29 : BitVec 32 := 1#32
  let v40 : BitVec 32 := Scalar.subi v33 c1_i32_29
  let c8_i32_30 : BitVec 32 := 8#32
  let v41 : BitVec 32 := Scalar.subi c8_i32_30 v33
  let v42 : BitVec 32 := Scalar.select v39 v40 v41
  let v43 : BitVec 32 := Scalar.select v38 c0_i32_31 v42
  let v44 : BitVec 32 := Scalar.muli c2_i32_32 v43
  let c0_i32_22 : BitVec 32 := 0#32
  let v34 : BitVec 1 := Scalar.cmpi .eq v33 c0_i32_22
  let c0_i32_26 : BitVec 32 := 0#32
  let c4_i32_23 : BitVec 32 := 4#32
  let v35 : BitVec 1 := Scalar.cmpi .sle v33 c4_i32_23
  let c1_i32_24 : BitVec 32 := 1#32
  let c0_i32_25 : BitVec 32 := 0#32
  let v36 : BitVec 32 := Scalar.select v35 c1_i32_24 c0_i32_25
  let v37 : BitVec 32 := Scalar.select v34 c0_i32_26 v36
  let v45 : BitVec 32 := Scalar.addi v37 v43
  let c2_i32_33 : BitVec 32 := 2#32
  let v46 : BitVec 32 := Scalar.remsi v45 c2_i32_33
  let v47 : BitVec 32 := Scalar.addi v44 v46
  let v49 : BitVec 32 := Scalar.addi v48 v47
  let c1_i32_102 : BitVec 32 := 1#32
  let v127 : BitVec 32 := Scalar.muli v49 c1_i32_102
  let v128 : BitVec 32 := Scalar.addi c0_i32_103 v127
  v128.toNat
def k0_off2 (d0 : Dev nD) (c1_i32_108 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let v137 : BitVec 32 := Scalar.subi v12 c1_i32_108
  let c16_i32 : BitVec 32 := 16#32
  let v138 : BitVec 32 := Scalar.addi v137 c16_i32
  let c8_i32_109 : BitVec 32 := 8#32
  let v139 : BitVec 32 := Scalar.remsi v138 c8_i32_109
  let c512_i32_112 : BitVec 32 := 512#32
  let v142 : BitVec 32 := Scalar.muli v139 c512_i32_112
  let v143 : Index := Scalar.indexCast v142
  let c0_113 : Index := 0#32
  ![v143.toNat, 0]
def k0_off3 (d0 : Dev nD) (c1_i32_110 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let v140 : BitVec 32 := Scalar.addi v12 c1_i32_110
  let c8_i32_111 : BitVec 32 := 8#32
  let v141 : BitVec 32 := Scalar.remsi v140 c8_i32_111
  let c512_i32_117 : BitVec 32 := 512#32
  let v152 : BitVec 32 := Scalar.muli v141 c512_i32_117
  let v153 : Index := Scalar.indexCast v152
  let c0_118 : Index := 0#32
  ![v153.toNat, 0]
def k0_dev9 (d0 : Dev nD) : Nat :=
  let c0_i32_222 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_34 : BitVec 32 := 8#32
  let v48 : BitVec 32 := Scalar.muli v3 c8_i32_34
  let c2_i32_32 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c8_i32_19 : BitVec 32 := 8#32
  let v31 : BitVec 32 := Scalar.addi v12 c8_i32_19
  let c1_i32_20 : BitVec 32 := 1#32
  let v32 : BitVec 32 := Scalar.subi v31 c1_i32_20
  let c8_i32_21 : BitVec 32 := 8#32
  let v33 : BitVec 32 := Scalar.remsi v32 c8_i32_21
  let c0_i32_27 : BitVec 32 := 0#32
  let v38 : BitVec 1 := Scalar.cmpi .eq v33 c0_i32_27
  let c0_i32_31 : BitVec 32 := 0#32
  let c4_i32_28 : BitVec 32 := 4#32
  let v39 : BitVec 1 := Scalar.cmpi .sle v33 c4_i32_28
  let c1_i32_29 : BitVec 32 := 1#32
  let v40 : BitVec 32 := Scalar.subi v33 c1_i32_29
  let c8_i32_30 : BitVec 32 := 8#32
  let v41 : BitVec 32 := Scalar.subi c8_i32_30 v33
  let v42 : BitVec 32 := Scalar.select v39 v40 v41
  let v43 : BitVec 32 := Scalar.select v38 c0_i32_31 v42
  let v44 : BitVec 32 := Scalar.muli c2_i32_32 v43
  let c0_i32_22 : BitVec 32 := 0#32
  let v34 : BitVec 1 := Scalar.cmpi .eq v33 c0_i32_22
  let c0_i32_26 : BitVec 32 := 0#32
  let c4_i32_23 : BitVec 32 := 4#32
  let v35 : BitVec 1 := Scalar.cmpi .sle v33 c4_i32_23
  let c1_i32_24 : BitVec 32 := 1#32
  let c0_i32_25 : BitVec 32 := 0#32
  let v36 : BitVec 32 := Scalar.select v35 c1_i32_24 c0_i32_25
  let v37 : BitVec 32 := Scalar.select v34 c0_i32_26 v36
  let v45 : BitVec 32 := Scalar.addi v37 v43
  let c2_i32_33 : BitVec 32 := 2#32
  let v46 : BitVec 32 := Scalar.remsi v45 c2_i32_33
  let v47 : BitVec 32 := Scalar.addi v44 v46
  let v49 : BitVec 32 := Scalar.addi v48 v47
  let c1_i32_221 : BitVec 32 := 1#32
  let v246 : BitVec 32 := Scalar.muli v49 c1_i32_221
  let v247 : BitVec 32 := Scalar.addi c0_i32_222 v246
  v247.toNat
def k0_dev10 (d0 : Dev nD) : Nat :=
  let c0_i32_225 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_18 : BitVec 32 := 8#32
  let v29 : BitVec 32 := Scalar.muli v3 c8_i32_18
  let c2_i32_16 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_6 : BitVec 32 := 1#32
  let v13 : BitVec 32 := Scalar.addi v12 c1_i32_6
  let c8_i32_7 : BitVec 32 := 8#32
  let v14 : BitVec 32 := Scalar.remsi v13 c8_i32_7
  let c0_i32_11 : BitVec 32 := 0#32
  let v19 : BitVec 1 := Scalar.cmpi .eq v14 c0_i32_11
  let c0_i32_15 : BitVec 32 := 0#32
  let c4_i32_12 : BitVec 32 := 4#32
  let v20 : BitVec 1 := Scalar.cmpi .sle v14 c4_i32_12
  let c1_i32_13 : BitVec 32 := 1#32
  let v21 : BitVec 32 := Scalar.subi v14 c1_i32_13
  let c8_i32_14 : BitVec 32 := 8#32
  let v22 : BitVec 32 := Scalar.subi c8_i32_14 v14
  let v23 : BitVec 32 := Scalar.select v20 v21 v22
  let v24 : BitVec 32 := Scalar.select v19 c0_i32_15 v23
  let v25 : BitVec 32 := Scalar.muli c2_i32_16 v24
  let c0_i32 : BitVec 32 := 0#32
  let v15 : BitVec 1 := Scalar.cmpi .eq v14 c0_i32
  let c0_i32_10 : BitVec 32 := 0#32
  let c4_i32 : BitVec 32 := 4#32
  let v16 : BitVec 1 := Scalar.cmpi .sle v14 c4_i32
  let c1_i32_8 : BitVec 32 := 1#32
  let c0_i32_9 : BitVec 32 := 0#32
  let v17 : BitVec 32 := Scalar.select v16 c1_i32_8 c0_i32_9
  let v18 : BitVec 32 := Scalar.select v15 c0_i32_10 v17
  let v26 : BitVec 32 := Scalar.addi v18 v24
  let c2_i32_17 : BitVec 32 := 2#32
  let v27 : BitVec 32 := Scalar.remsi v26 c2_i32_17
  let v28 : BitVec 32 := Scalar.addi v25 v27
  let v30 : BitVec 32 := Scalar.addi v29 v28
  let c1_i32_224 : BitVec 32 := 1#32
  let v248 : BitVec 32 := Scalar.muli v30 c1_i32_224
  let v249 : BitVec 32 := Scalar.addi c0_i32_225 v248
  v249.toNat
def k0_dev11 (d0 : Dev nD) : Nat :=
  let c0_i32_231 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_18 : BitVec 32 := 8#32
  let v29 : BitVec 32 := Scalar.muli v3 c8_i32_18
  let c2_i32_16 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_6 : BitVec 32 := 1#32
  let v13 : BitVec 32 := Scalar.addi v12 c1_i32_6
  let c8_i32_7 : BitVec 32 := 8#32
  let v14 : BitVec 32 := Scalar.remsi v13 c8_i32_7
  let c0_i32_11 : BitVec 32 := 0#32
  let v19 : BitVec 1 := Scalar.cmpi .eq v14 c0_i32_11
  let c0_i32_15 : BitVec 32 := 0#32
  let c4_i32_12 : BitVec 32 := 4#32
  let v20 : BitVec 1 := Scalar.cmpi .sle v14 c4_i32_12
  let c1_i32_13 : BitVec 32 := 1#32
  let v21 : BitVec 32 := Scalar.subi v14 c1_i32_13
  let c8_i32_14 : BitVec 32 := 8#32
  let v22 : BitVec 32 := Scalar.subi c8_i32_14 v14
  let v23 : BitVec 32 := Scalar.select v20 v21 v22
  let v24 : BitVec 32 := Scalar.select v19 c0_i32_15 v23
  let v25 : BitVec 32 := Scalar.muli c2_i32_16 v24
  let c0_i32 : BitVec 32 := 0#32
  let v15 : BitVec 1 := Scalar.cmpi .eq v14 c0_i32
  let c0_i32_10 : BitVec 32 := 0#32
  let c4_i32 : BitVec 32 := 4#32
  let v16 : BitVec 1 := Scalar.cmpi .sle v14 c4_i32
  let c1_i32_8 : BitVec 32 := 1#32
  let c0_i32_9 : BitVec 32 := 0#32
  let v17 : BitVec 32 := Scalar.select v16 c1_i32_8 c0_i32_9
  let v18 : BitVec 32 := Scalar.select v15 c0_i32_10 v17
  let v26 : BitVec 32 := Scalar.addi v18 v24
  let c2_i32_17 : BitVec 32 := 2#32
  let v27 : BitVec 32 := Scalar.remsi v26 c2_i32_17
  let v28 : BitVec 32 := Scalar.addi v25 v27
  let v30 : BitVec 32 := Scalar.addi v29 v28
  let c1_i32_230 : BitVec 32 := 1#32
  let v250 : BitVec 32 := Scalar.muli v30 c1_i32_230
  let v251 : BitVec 32 := Scalar.addi c0_i32_231 v250
  v251.toNat
def k0_dev12 (d0 : Dev nD) : Nat :=
  let c0_i32_241 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_34 : BitVec 32 := 8#32
  let v48 : BitVec 32 := Scalar.muli v3 c8_i32_34
  let c2_i32_32 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c8_i32_19 : BitVec 32 := 8#32
  let v31 : BitVec 32 := Scalar.addi v12 c8_i32_19
  let c1_i32_20 : BitVec 32 := 1#32
  let v32 : BitVec 32 := Scalar.subi v31 c1_i32_20
  let c8_i32_21 : BitVec 32 := 8#32
  let v33 : BitVec 32 := Scalar.remsi v32 c8_i32_21
  let c0_i32_27 : BitVec 32 := 0#32
  let v38 : BitVec 1 := Scalar.cmpi .eq v33 c0_i32_27
  let c0_i32_31 : BitVec 32 := 0#32
  let c4_i32_28 : BitVec 32 := 4#32
  let v39 : BitVec 1 := Scalar.cmpi .sle v33 c4_i32_28
  let c1_i32_29 : BitVec 32 := 1#32
  let v40 : BitVec 32 := Scalar.subi v33 c1_i32_29
  let c8_i32_30 : BitVec 32 := 8#32
  let v41 : BitVec 32 := Scalar.subi c8_i32_30 v33
  let v42 : BitVec 32 := Scalar.select v39 v40 v41
  let v43 : BitVec 32 := Scalar.select v38 c0_i32_31 v42
  let v44 : BitVec 32 := Scalar.muli c2_i32_32 v43
  let c0_i32_22 : BitVec 32 := 0#32
  let v34 : BitVec 1 := Scalar.cmpi .eq v33 c0_i32_22
  let c0_i32_26 : BitVec 32 := 0#32
  let c4_i32_23 : BitVec 32 := 4#32
  let v35 : BitVec 1 := Scalar.cmpi .sle v33 c4_i32_23
  let c1_i32_24 : BitVec 32 := 1#32
  let c0_i32_25 : BitVec 32 := 0#32
  let v36 : BitVec 32 := Scalar.select v35 c1_i32_24 c0_i32_25
  let v37 : BitVec 32 := Scalar.select v34 c0_i32_26 v36
  let v45 : BitVec 32 := Scalar.addi v37 v43
  let c2_i32_33 : BitVec 32 := 2#32
  let v46 : BitVec 32 := Scalar.remsi v45 c2_i32_33
  let v47 : BitVec 32 := Scalar.addi v44 v46
  let v49 : BitVec 32 := Scalar.addi v48 v47
  let c1_i32_240 : BitVec 32 := 1#32
  let v260 : BitVec 32 := Scalar.muli v49 c1_i32_240
  let v261 : BitVec 32 := Scalar.addi c0_i32_241 v260
  v261.toNat
def k0_dev13 (d0 : Dev nD) : Nat :=
  let c0_i32_250 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_18 : BitVec 32 := 8#32
  let v29 : BitVec 32 := Scalar.muli v3 c8_i32_18
  let c2_i32_16 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_6 : BitVec 32 := 1#32
  let v13 : BitVec 32 := Scalar.addi v12 c1_i32_6
  let c8_i32_7 : BitVec 32 := 8#32
  let v14 : BitVec 32 := Scalar.remsi v13 c8_i32_7
  let c0_i32_11 : BitVec 32 := 0#32
  let v19 : BitVec 1 := Scalar.cmpi .eq v14 c0_i32_11
  let c0_i32_15 : BitVec 32 := 0#32
  let c4_i32_12 : BitVec 32 := 4#32
  let v20 : BitVec 1 := Scalar.cmpi .sle v14 c4_i32_12
  let c1_i32_13 : BitVec 32 := 1#32
  let v21 : BitVec 32 := Scalar.subi v14 c1_i32_13
  let c8_i32_14 : BitVec 32 := 8#32
  let v22 : BitVec 32 := Scalar.subi c8_i32_14 v14
  let v23 : BitVec 32 := Scalar.select v20 v21 v22
  let v24 : BitVec 32 := Scalar.select v19 c0_i32_15 v23
  let v25 : BitVec 32 := Scalar.muli c2_i32_16 v24
  let c0_i32 : BitVec 32 := 0#32
  let v15 : BitVec 1 := Scalar.cmpi .eq v14 c0_i32
  let c0_i32_10 : BitVec 32 := 0#32
  let c4_i32 : BitVec 32 := 4#32
  let v16 : BitVec 1 := Scalar.cmpi .sle v14 c4_i32
  let c1_i32_8 : BitVec 32 := 1#32
  let c0_i32_9 : BitVec 32 := 0#32
  let v17 : BitVec 32 := Scalar.select v16 c1_i32_8 c0_i32_9
  let v18 : BitVec 32 := Scalar.select v15 c0_i32_10 v17
  let v26 : BitVec 32 := Scalar.addi v18 v24
  let c2_i32_17 : BitVec 32 := 2#32
  let v27 : BitVec 32 := Scalar.remsi v26 c2_i32_17
  let v28 : BitVec 32 := Scalar.addi v25 v27
  let v30 : BitVec 32 := Scalar.addi v29 v28
  let c1_i32_249 : BitVec 32 := 1#32
  let v270 : BitVec 32 := Scalar.muli v30 c1_i32_249
  let v271 : BitVec 32 := Scalar.addi c0_i32_250 v270
  v271.toNat
def k0_dev14 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_34 : BitVec 32 := 8#32
  let v48 : BitVec 32 := Scalar.muli v3 c8_i32_34
  let c2_i32_32 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c8_i32_19 : BitVec 32 := 8#32
  let v31 : BitVec 32 := Scalar.addi v12 c8_i32_19
  let c1_i32_20 : BitVec 32 := 1#32
  let v32 : BitVec 32 := Scalar.subi v31 c1_i32_20
  let c8_i32_21 : BitVec 32 := 8#32
  let v33 : BitVec 32 := Scalar.remsi v32 c8_i32_21
  let c0_i32_27 : BitVec 32 := 0#32
  let v38 : BitVec 1 := Scalar.cmpi .eq v33 c0_i32_27
  let c0_i32_31 : BitVec 32 := 0#32
  let c4_i32_28 : BitVec 32 := 4#32
  let v39 : BitVec 1 := Scalar.cmpi .sle v33 c4_i32_28
  let c1_i32_29 : BitVec 32 := 1#32
  let v40 : BitVec 32 := Scalar.subi v33 c1_i32_29
  let c8_i32_30 : BitVec 32 := 8#32
  let v41 : BitVec 32 := Scalar.subi c8_i32_30 v33
  let v42 : BitVec 32 := Scalar.select v39 v40 v41
  let v43 : BitVec 32 := Scalar.select v38 c0_i32_31 v42
  let v44 : BitVec 32 := Scalar.muli c2_i32_32 v43
  let c0_i32_22 : BitVec 32 := 0#32
  let v34 : BitVec 1 := Scalar.cmpi .eq v33 c0_i32_22
  let c0_i32_26 : BitVec 32 := 0#32
  let c4_i32_23 : BitVec 32 := 4#32
  let v35 : BitVec 1 := Scalar.cmpi .sle v33 c4_i32_23
  let c1_i32_24 : BitVec 32 := 1#32
  let c0_i32_25 : BitVec 32 := 0#32
  let v36 : BitVec 32 := Scalar.select v35 c1_i32_24 c0_i32_25
  let v37 : BitVec 32 := Scalar.select v34 c0_i32_26 v36
  let v45 : BitVec 32 := Scalar.addi v37 v43
  let c2_i32_33 : BitVec 32 := 2#32
  let v46 : BitVec 32 := Scalar.remsi v45 c2_i32_33
  let v47 : BitVec 32 := Scalar.addi v44 v46
  let v49 : BitVec 32 := Scalar.addi v48 v47
  let c1_i32_259 : BitVec 32 := 1#32
  let v280 : BitVec 32 := Scalar.muli v49 c1_i32_259
  let v281 : BitVec 32 := Scalar.addi c0_i32_260 v280
  v281.toNat
def k0_dev15 (d0 : Dev nD) : Nat :=
  let c0_i32_382 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_34 : BitVec 32 := 8#32
  let v48 : BitVec 32 := Scalar.muli v3 c8_i32_34
  let c2_i32_32 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c8_i32_19 : BitVec 32 := 8#32
  let v31 : BitVec 32 := Scalar.addi v12 c8_i32_19
  let c1_i32_20 : BitVec 32 := 1#32
  let v32 : BitVec 32 := Scalar.subi v31 c1_i32_20
  let c8_i32_21 : BitVec 32 := 8#32
  let v33 : BitVec 32 := Scalar.remsi v32 c8_i32_21
  let c0_i32_27 : BitVec 32 := 0#32
  let v38 : BitVec 1 := Scalar.cmpi .eq v33 c0_i32_27
  let c0_i32_31 : BitVec 32 := 0#32
  let c4_i32_28 : BitVec 32 := 4#32
  let v39 : BitVec 1 := Scalar.cmpi .sle v33 c4_i32_28
  let c1_i32_29 : BitVec 32 := 1#32
  let v40 : BitVec 32 := Scalar.subi v33 c1_i32_29
  let c8_i32_30 : BitVec 32 := 8#32
  let v41 : BitVec 32 := Scalar.subi c8_i32_30 v33
  let v42 : BitVec 32 := Scalar.select v39 v40 v41
  let v43 : BitVec 32 := Scalar.select v38 c0_i32_31 v42
  let v44 : BitVec 32 := Scalar.muli c2_i32_32 v43
  let c0_i32_22 : BitVec 32 := 0#32
  let v34 : BitVec 1 := Scalar.cmpi .eq v33 c0_i32_22
  let c0_i32_26 : BitVec 32 := 0#32
  let c4_i32_23 : BitVec 32 := 4#32
  let v35 : BitVec 1 := Scalar.cmpi .sle v33 c4_i32_23
  let c1_i32_24 : BitVec 32 := 1#32
  let c0_i32_25 : BitVec 32 := 0#32
  let v36 : BitVec 32 := Scalar.select v35 c1_i32_24 c0_i32_25
  let v37 : BitVec 32 := Scalar.select v34 c0_i32_26 v36
  let v45 : BitVec 32 := Scalar.addi v37 v43
  let c2_i32_33 : BitVec 32 := 2#32
  let v46 : BitVec 32 := Scalar.remsi v45 c2_i32_33
  let v47 : BitVec 32 := Scalar.addi v44 v46
  let v49 : BitVec 32 := Scalar.addi v48 v47
  let c1_i32_381 : BitVec 32 := 1#32
  let v399 : BitVec 32 := Scalar.muli v49 c1_i32_381
  let v400 : BitVec 32 := Scalar.addi c0_i32_382 v399
  v400.toNat
def k0_dev16 (d0 : Dev nD) : Nat :=
  let c0_i32_385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_18 : BitVec 32 := 8#32
  let v29 : BitVec 32 := Scalar.muli v3 c8_i32_18
  let c2_i32_16 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_6 : BitVec 32 := 1#32
  let v13 : BitVec 32 := Scalar.addi v12 c1_i32_6
  let c8_i32_7 : BitVec 32 := 8#32
  let v14 : BitVec 32 := Scalar.remsi v13 c8_i32_7
  let c0_i32_11 : BitVec 32 := 0#32
  let v19 : BitVec 1 := Scalar.cmpi .eq v14 c0_i32_11
  let c0_i32_15 : BitVec 32 := 0#32
  let c4_i32_12 : BitVec 32 := 4#32
  let v20 : BitVec 1 := Scalar.cmpi .sle v14 c4_i32_12
  let c1_i32_13 : BitVec 32 := 1#32
  let v21 : BitVec 32 := Scalar.subi v14 c1_i32_13
  let c8_i32_14 : BitVec 32 := 8#32
  let v22 : BitVec 32 := Scalar.subi c8_i32_14 v14
  let v23 : BitVec 32 := Scalar.select v20 v21 v22
  let v24 : BitVec 32 := Scalar.select v19 c0_i32_15 v23
  let v25 : BitVec 32 := Scalar.muli c2_i32_16 v24
  let c0_i32 : BitVec 32 := 0#32
  let v15 : BitVec 1 := Scalar.cmpi .eq v14 c0_i32
  let c0_i32_10 : BitVec 32 := 0#32
  let c4_i32 : BitVec 32 := 4#32
  let v16 : BitVec 1 := Scalar.cmpi .sle v14 c4_i32
  let c1_i32_8 : BitVec 32 := 1#32
  let c0_i32_9 : BitVec 32 := 0#32
  let v17 : BitVec 32 := Scalar.select v16 c1_i32_8 c0_i32_9
  let v18 : BitVec 32 := Scalar.select v15 c0_i32_10 v17
  let v26 : BitVec 32 := Scalar.addi v18 v24
  let c2_i32_17 : BitVec 32 := 2#32
  let v27 : BitVec 32 := Scalar.remsi v26 c2_i32_17
  let v28 : BitVec 32 := Scalar.addi v25 v27
  let v30 : BitVec 32 := Scalar.addi v29 v28
  let c1_i32_384 : BitVec 32 := 1#32
  let v401 : BitVec 32 := Scalar.muli v30 c1_i32_384
  let v402 : BitVec 32 := Scalar.addi c0_i32_385 v401
  v402.toNat
def k0_dev17 (d0 : Dev nD) : Nat :=
  let c0_i32_395 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_18 : BitVec 32 := 8#32
  let v29 : BitVec 32 := Scalar.muli v3 c8_i32_18
  let c2_i32_16 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_6 : BitVec 32 := 1#32
  let v13 : BitVec 32 := Scalar.addi v12 c1_i32_6
  let c8_i32_7 : BitVec 32 := 8#32
  let v14 : BitVec 32 := Scalar.remsi v13 c8_i32_7
  let c0_i32_11 : BitVec 32 := 0#32
  let v19 : BitVec 1 := Scalar.cmpi .eq v14 c0_i32_11
  let c0_i32_15 : BitVec 32 := 0#32
  let c4_i32_12 : BitVec 32 := 4#32
  let v20 : BitVec 1 := Scalar.cmpi .sle v14 c4_i32_12
  let c1_i32_13 : BitVec 32 := 1#32
  let v21 : BitVec 32 := Scalar.subi v14 c1_i32_13
  let c8_i32_14 : BitVec 32 := 8#32
  let v22 : BitVec 32 := Scalar.subi c8_i32_14 v14
  let v23 : BitVec 32 := Scalar.select v20 v21 v22
  let v24 : BitVec 32 := Scalar.select v19 c0_i32_15 v23
  let v25 : BitVec 32 := Scalar.muli c2_i32_16 v24
  let c0_i32 : BitVec 32 := 0#32
  let v15 : BitVec 1 := Scalar.cmpi .eq v14 c0_i32
  let c0_i32_10 : BitVec 32 := 0#32
  let c4_i32 : BitVec 32 := 4#32
  let v16 : BitVec 1 := Scalar.cmpi .sle v14 c4_i32
  let c1_i32_8 : BitVec 32 := 1#32
  let c0_i32_9 : BitVec 32 := 0#32
  let v17 : BitVec 32 := Scalar.select v16 c1_i32_8 c0_i32_9
  let v18 : BitVec 32 := Scalar.select v15 c0_i32_10 v17
  let v26 : BitVec 32 := Scalar.addi v18 v24
  let c2_i32_17 : BitVec 32 := 2#32
  let v27 : BitVec 32 := Scalar.remsi v26 c2_i32_17
  let v28 : BitVec 32 := Scalar.addi v25 v27
  let v30 : BitVec 32 := Scalar.addi v29 v28
  let c1_i32_394 : BitVec 32 := 1#32
  let v403 : BitVec 32 := Scalar.muli v30 c1_i32_394
  let v404 : BitVec 32 := Scalar.addi c0_i32_395 v403
  v404.toNat
def k0_dev18 (d0 : Dev nD) : Nat :=
  let c0_i32_405 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_34 : BitVec 32 := 8#32
  let v48 : BitVec 32 := Scalar.muli v3 c8_i32_34
  let c2_i32_32 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c8_i32_19 : BitVec 32 := 8#32
  let v31 : BitVec 32 := Scalar.addi v12 c8_i32_19
  let c1_i32_20 : BitVec 32 := 1#32
  let v32 : BitVec 32 := Scalar.subi v31 c1_i32_20
  let c8_i32_21 : BitVec 32 := 8#32
  let v33 : BitVec 32 := Scalar.remsi v32 c8_i32_21
  let c0_i32_27 : BitVec 32 := 0#32
  let v38 : BitVec 1 := Scalar.cmpi .eq v33 c0_i32_27
  let c0_i32_31 : BitVec 32 := 0#32
  let c4_i32_28 : BitVec 32 := 4#32
  let v39 : BitVec 1 := Scalar.cmpi .sle v33 c4_i32_28
  let c1_i32_29 : BitVec 32 := 1#32
  let v40 : BitVec 32 := Scalar.subi v33 c1_i32_29
  let c8_i32_30 : BitVec 32 := 8#32
  let v41 : BitVec 32 := Scalar.subi c8_i32_30 v33
  let v42 : BitVec 32 := Scalar.select v39 v40 v41
  let v43 : BitVec 32 := Scalar.select v38 c0_i32_31 v42
  let v44 : BitVec 32 := Scalar.muli c2_i32_32 v43
  let c0_i32_22 : BitVec 32 := 0#32
  let v34 : BitVec 1 := Scalar.cmpi .eq v33 c0_i32_22
  let c0_i32_26 : BitVec 32 := 0#32
  let c4_i32_23 : BitVec 32 := 4#32
  let v35 : BitVec 1 := Scalar.cmpi .sle v33 c4_i32_23
  let c1_i32_24 : BitVec 32 := 1#32
  let c0_i32_25 : BitVec 32 := 0#32
  let v36 : BitVec 32 := Scalar.select v35 c1_i32_24 c0_i32_25
  let v37 : BitVec 32 := Scalar.select v34 c0_i32_26 v36
  let v45 : BitVec 32 := Scalar.addi v37 v43
  let c2_i32_33 : BitVec 32 := 2#32
  let v46 : BitVec 32 := Scalar.remsi v45 c2_i32_33
  let v47 : BitVec 32 := Scalar.addi v44 v46
  let v49 : BitVec 32 := Scalar.addi v48 v47
  let c1_i32_404 : BitVec 32 := 1#32
  let v413 : BitVec 32 := Scalar.muli v49 c1_i32_404
  let v414 : BitVec 32 := Scalar.addi c0_i32_405 v413
  v414.toNat
def k0_dev19 (d0 : Dev nD) : Nat :=
  let c0_i32_415 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_18 : BitVec 32 := 8#32
  let v29 : BitVec 32 := Scalar.muli v3 c8_i32_18
  let c2_i32_16 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_6 : BitVec 32 := 1#32
  let v13 : BitVec 32 := Scalar.addi v12 c1_i32_6
  let c8_i32_7 : BitVec 32 := 8#32
  let v14 : BitVec 32 := Scalar.remsi v13 c8_i32_7
  let c0_i32_11 : BitVec 32 := 0#32
  let v19 : BitVec 1 := Scalar.cmpi .eq v14 c0_i32_11
  let c0_i32_15 : BitVec 32 := 0#32
  let c4_i32_12 : BitVec 32 := 4#32
  let v20 : BitVec 1 := Scalar.cmpi .sle v14 c4_i32_12
  let c1_i32_13 : BitVec 32 := 1#32
  let v21 : BitVec 32 := Scalar.subi v14 c1_i32_13
  let c8_i32_14 : BitVec 32 := 8#32
  let v22 : BitVec 32 := Scalar.subi c8_i32_14 v14
  let v23 : BitVec 32 := Scalar.select v20 v21 v22
  let v24 : BitVec 32 := Scalar.select v19 c0_i32_15 v23
  let v25 : BitVec 32 := Scalar.muli c2_i32_16 v24
  let c0_i32 : BitVec 32 := 0#32
  let v15 : BitVec 1 := Scalar.cmpi .eq v14 c0_i32
  let c0_i32_10 : BitVec 32 := 0#32
  let c4_i32 : BitVec 32 := 4#32
  let v16 : BitVec 1 := Scalar.cmpi .sle v14 c4_i32
  let c1_i32_8 : BitVec 32 := 1#32
  let c0_i32_9 : BitVec 32 := 0#32
  let v17 : BitVec 32 := Scalar.select v16 c1_i32_8 c0_i32_9
  let v18 : BitVec 32 := Scalar.select v15 c0_i32_10 v17
  let v26 : BitVec 32 := Scalar.addi v18 v24
  let c2_i32_17 : BitVec 32 := 2#32
  let v27 : BitVec 32 := Scalar.remsi v26 c2_i32_17
  let v28 : BitVec 32 := Scalar.addi v25 v27
  let v30 : BitVec 32 := Scalar.addi v29 v28
  let c1_i32_414 : BitVec 32 := 1#32
  let v423 : BitVec 32 := Scalar.muli v30 c1_i32_414
  let v424 : BitVec 32 := Scalar.addi c0_i32_415 v423
  v424.toNat
def k0_dev20 (d0 : Dev nD) : Nat :=
  let c0_i32_425 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_34 : BitVec 32 := 8#32
  let v48 : BitVec 32 := Scalar.muli v3 c8_i32_34
  let c2_i32_32 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c8_i32_19 : BitVec 32 := 8#32
  let v31 : BitVec 32 := Scalar.addi v12 c8_i32_19
  let c1_i32_20 : BitVec 32 := 1#32
  let v32 : BitVec 32 := Scalar.subi v31 c1_i32_20
  let c8_i32_21 : BitVec 32 := 8#32
  let v33 : BitVec 32 := Scalar.remsi v32 c8_i32_21
  let c0_i32_27 : BitVec 32 := 0#32
  let v38 : BitVec 1 := Scalar.cmpi .eq v33 c0_i32_27
  let c0_i32_31 : BitVec 32 := 0#32
  let c4_i32_28 : BitVec 32 := 4#32
  let v39 : BitVec 1 := Scalar.cmpi .sle v33 c4_i32_28
  let c1_i32_29 : BitVec 32 := 1#32
  let v40 : BitVec 32 := Scalar.subi v33 c1_i32_29
  let c8_i32_30 : BitVec 32 := 8#32
  let v41 : BitVec 32 := Scalar.subi c8_i32_30 v33
  let v42 : BitVec 32 := Scalar.select v39 v40 v41
  let v43 : BitVec 32 := Scalar.select v38 c0_i32_31 v42
  let v44 : BitVec 32 := Scalar.muli c2_i32_32 v43
  let c0_i32_22 : BitVec 32 := 0#32
  let v34 : BitVec 1 := Scalar.cmpi .eq v33 c0_i32_22
  let c0_i32_26 : BitVec 32 := 0#32
  let c4_i32_23 : BitVec 32 := 4#32
  let v35 : BitVec 1 := Scalar.cmpi .sle v33 c4_i32_23
  let c1_i32_24 : BitVec 32 := 1#32
  let c0_i32_25 : BitVec 32 := 0#32
  let v36 : BitVec 32 := Scalar.select v35 c1_i32_24 c0_i32_25
  let v37 : BitVec 32 := Scalar.select v34 c0_i32_26 v36
  let v45 : BitVec 32 := Scalar.addi v37 v43
  let c2_i32_33 : BitVec 32 := 2#32
  let v46 : BitVec 32 := Scalar.remsi v45 c2_i32_33
  let v47 : BitVec 32 := Scalar.addi v44 v46
  let v49 : BitVec 32 := Scalar.addi v48 v47
  let c1_i32_424 : BitVec 32 := 1#32
  let v433 : BitVec 32 := Scalar.muli v49 c1_i32_424
  let v434 : BitVec 32 := Scalar.addi c0_i32_425 v433
  v434.toNat
def k0_dev21 (d0 : Dev nD) : Nat :=
  let c0_i32_547 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_34 : BitVec 32 := 8#32
  let v48 : BitVec 32 := Scalar.muli v3 c8_i32_34
  let c2_i32_32 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c8_i32_19 : BitVec 32 := 8#32
  let v31 : BitVec 32 := Scalar.addi v12 c8_i32_19
  let c1_i32_20 : BitVec 32 := 1#32
  let v32 : BitVec 32 := Scalar.subi v31 c1_i32_20
  let c8_i32_21 : BitVec 32 := 8#32
  let v33 : BitVec 32 := Scalar.remsi v32 c8_i32_21
  let c0_i32_27 : BitVec 32 := 0#32
  let v38 : BitVec 1 := Scalar.cmpi .eq v33 c0_i32_27
  let c0_i32_31 : BitVec 32 := 0#32
  let c4_i32_28 : BitVec 32 := 4#32
  let v39 : BitVec 1 := Scalar.cmpi .sle v33 c4_i32_28
  let c1_i32_29 : BitVec 32 := 1#32
  let v40 : BitVec 32 := Scalar.subi v33 c1_i32_29
  let c8_i32_30 : BitVec 32 := 8#32
  let v41 : BitVec 32 := Scalar.subi c8_i32_30 v33
  let v42 : BitVec 32 := Scalar.select v39 v40 v41
  let v43 : BitVec 32 := Scalar.select v38 c0_i32_31 v42
  let v44 : BitVec 32 := Scalar.muli c2_i32_32 v43
  let c0_i32_22 : BitVec 32 := 0#32
  let v34 : BitVec 1 := Scalar.cmpi .eq v33 c0_i32_22
  let c0_i32_26 : BitVec 32 := 0#32
  let c4_i32_23 : BitVec 32 := 4#32
  let v35 : BitVec 1 := Scalar.cmpi .sle v33 c4_i32_23
  let c1_i32_24 : BitVec 32 := 1#32
  let c0_i32_25 : BitVec 32 := 0#32
  let v36 : BitVec 32 := Scalar.select v35 c1_i32_24 c0_i32_25
  let v37 : BitVec 32 := Scalar.select v34 c0_i32_26 v36
  let v45 : BitVec 32 := Scalar.addi v37 v43
  let c2_i32_33 : BitVec 32 := 2#32
  let v46 : BitVec 32 := Scalar.remsi v45 c2_i32_33
  let v47 : BitVec 32 := Scalar.addi v44 v46
  let v49 : BitVec 32 := Scalar.addi v48 v47
  let c1_i32_546 : BitVec 32 := 1#32
  let v552 : BitVec 32 := Scalar.muli v49 c1_i32_546
  let v553 : BitVec 32 := Scalar.addi c0_i32_547 v552
  v553.toNat
def k0_dev22 (d0 : Dev nD) : Nat :=
  let c0_i32_550 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_18 : BitVec 32 := 8#32
  let v29 : BitVec 32 := Scalar.muli v3 c8_i32_18
  let c2_i32_16 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_6 : BitVec 32 := 1#32
  let v13 : BitVec 32 := Scalar.addi v12 c1_i32_6
  let c8_i32_7 : BitVec 32 := 8#32
  let v14 : BitVec 32 := Scalar.remsi v13 c8_i32_7
  let c0_i32_11 : BitVec 32 := 0#32
  let v19 : BitVec 1 := Scalar.cmpi .eq v14 c0_i32_11
  let c0_i32_15 : BitVec 32 := 0#32
  let c4_i32_12 : BitVec 32 := 4#32
  let v20 : BitVec 1 := Scalar.cmpi .sle v14 c4_i32_12
  let c1_i32_13 : BitVec 32 := 1#32
  let v21 : BitVec 32 := Scalar.subi v14 c1_i32_13
  let c8_i32_14 : BitVec 32 := 8#32
  let v22 : BitVec 32 := Scalar.subi c8_i32_14 v14
  let v23 : BitVec 32 := Scalar.select v20 v21 v22
  let v24 : BitVec 32 := Scalar.select v19 c0_i32_15 v23
  let v25 : BitVec 32 := Scalar.muli c2_i32_16 v24
  let c0_i32 : BitVec 32 := 0#32
  let v15 : BitVec 1 := Scalar.cmpi .eq v14 c0_i32
  let c0_i32_10 : BitVec 32 := 0#32
  let c4_i32 : BitVec 32 := 4#32
  let v16 : BitVec 1 := Scalar.cmpi .sle v14 c4_i32
  let c1_i32_8 : BitVec 32 := 1#32
  let c0_i32_9 : BitVec 32 := 0#32
  let v17 : BitVec 32 := Scalar.select v16 c1_i32_8 c0_i32_9
  let v18 : BitVec 32 := Scalar.select v15 c0_i32_10 v17
  let v26 : BitVec 32 := Scalar.addi v18 v24
  let c2_i32_17 : BitVec 32 := 2#32
  let v27 : BitVec 32 := Scalar.remsi v26 c2_i32_17
  let v28 : BitVec 32 := Scalar.addi v25 v27
  let v30 : BitVec 32 := Scalar.addi v29 v28
  let c1_i32_549 : BitVec 32 := 1#32
  let v554 : BitVec 32 := Scalar.muli v30 c1_i32_549
  let v555 : BitVec 32 := Scalar.addi c0_i32_550 v554
  v555.toNat
def k0_dev23 (d0 : Dev nD) : Nat :=
  let c0_i32_560 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_18 : BitVec 32 := 8#32
  let v29 : BitVec 32 := Scalar.muli v3 c8_i32_18
  let c2_i32_16 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_6 : BitVec 32 := 1#32
  let v13 : BitVec 32 := Scalar.addi v12 c1_i32_6
  let c8_i32_7 : BitVec 32 := 8#32
  let v14 : BitVec 32 := Scalar.remsi v13 c8_i32_7
  let c0_i32_11 : BitVec 32 := 0#32
  let v19 : BitVec 1 := Scalar.cmpi .eq v14 c0_i32_11
  let c0_i32_15 : BitVec 32 := 0#32
  let c4_i32_12 : BitVec 32 := 4#32
  let v20 : BitVec 1 := Scalar.cmpi .sle v14 c4_i32_12
  let c1_i32_13 : BitVec 32 := 1#32
  let v21 : BitVec 32 := Scalar.subi v14 c1_i32_13
  let c8_i32_14 : BitVec 32 := 8#32
  let v22 : BitVec 32 := Scalar.subi c8_i32_14 v14
  let v23 : BitVec 32 := Scalar.select v20 v21 v22
  let v24 : BitVec 32 := Scalar.select v19 c0_i32_15 v23
  let v25 : BitVec 32 := Scalar.muli c2_i32_16 v24
  let c0_i32 : BitVec 32 := 0#32
  let v15 : BitVec 1 := Scalar.cmpi .eq v14 c0_i32
  let c0_i32_10 : BitVec 32 := 0#32
  let c4_i32 : BitVec 32 := 4#32
  let v16 : BitVec 1 := Scalar.cmpi .sle v14 c4_i32
  let c1_i32_8 : BitVec 32 := 1#32
  let c0_i32_9 : BitVec 32 := 0#32
  let v17 : BitVec 32 := Scalar.select v16 c1_i32_8 c0_i32_9
  let v18 : BitVec 32 := Scalar.select v15 c0_i32_10 v17
  let v26 : BitVec 32 := Scalar.addi v18 v24
  let c2_i32_17 : BitVec 32 := 2#32
  let v27 : BitVec 32 := Scalar.remsi v26 c2_i32_17
  let v28 : BitVec 32 := Scalar.addi v25 v27
  let v30 : BitVec 32 := Scalar.addi v29 v28
  let c1_i32_559 : BitVec 32 := 1#32
  let v556 : BitVec 32 := Scalar.muli v30 c1_i32_559
  let v557 : BitVec 32 := Scalar.addi c0_i32_560 v556
  v557.toNat
def k0_dev24 (d0 : Dev nD) : Nat :=
  let c0_i32_570 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_34 : BitVec 32 := 8#32
  let v48 : BitVec 32 := Scalar.muli v3 c8_i32_34
  let c2_i32_32 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c8_i32_19 : BitVec 32 := 8#32
  let v31 : BitVec 32 := Scalar.addi v12 c8_i32_19
  let c1_i32_20 : BitVec 32 := 1#32
  let v32 : BitVec 32 := Scalar.subi v31 c1_i32_20
  let c8_i32_21 : BitVec 32 := 8#32
  let v33 : BitVec 32 := Scalar.remsi v32 c8_i32_21
  let c0_i32_27 : BitVec 32 := 0#32
  let v38 : BitVec 1 := Scalar.cmpi .eq v33 c0_i32_27
  let c0_i32_31 : BitVec 32 := 0#32
  let c4_i32_28 : BitVec 32 := 4#32
  let v39 : BitVec 1 := Scalar.cmpi .sle v33 c4_i32_28
  let c1_i32_29 : BitVec 32 := 1#32
  let v40 : BitVec 32 := Scalar.subi v33 c1_i32_29
  let c8_i32_30 : BitVec 32 := 8#32
  let v41 : BitVec 32 := Scalar.subi c8_i32_30 v33
  let v42 : BitVec 32 := Scalar.select v39 v40 v41
  let v43 : BitVec 32 := Scalar.select v38 c0_i32_31 v42
  let v44 : BitVec 32 := Scalar.muli c2_i32_32 v43
  let c0_i32_22 : BitVec 32 := 0#32
  let v34 : BitVec 1 := Scalar.cmpi .eq v33 c0_i32_22
  let c0_i32_26 : BitVec 32 := 0#32
  let c4_i32_23 : BitVec 32 := 4#32
  let v35 : BitVec 1 := Scalar.cmpi .sle v33 c4_i32_23
  let c1_i32_24 : BitVec 32 := 1#32
  let c0_i32_25 : BitVec 32 := 0#32
  let v36 : BitVec 32 := Scalar.select v35 c1_i32_24 c0_i32_25
  let v37 : BitVec 32 := Scalar.select v34 c0_i32_26 v36
  let v45 : BitVec 32 := Scalar.addi v37 v43
  let c2_i32_33 : BitVec 32 := 2#32
  let v46 : BitVec 32 := Scalar.remsi v45 c2_i32_33
  let v47 : BitVec 32 := Scalar.addi v44 v46
  let v49 : BitVec 32 := Scalar.addi v48 v47
  let c1_i32_569 : BitVec 32 := 1#32
  let v566 : BitVec 32 := Scalar.muli v49 c1_i32_569
  let v567 : BitVec 32 := Scalar.addi c0_i32_570 v566
  v567.toNat
def k0_dev25 (d0 : Dev nD) : Nat :=
  let c0_i32_580 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_18 : BitVec 32 := 8#32
  let v29 : BitVec 32 := Scalar.muli v3 c8_i32_18
  let c2_i32_16 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_6 : BitVec 32 := 1#32
  let v13 : BitVec 32 := Scalar.addi v12 c1_i32_6
  let c8_i32_7 : BitVec 32 := 8#32
  let v14 : BitVec 32 := Scalar.remsi v13 c8_i32_7
  let c0_i32_11 : BitVec 32 := 0#32
  let v19 : BitVec 1 := Scalar.cmpi .eq v14 c0_i32_11
  let c0_i32_15 : BitVec 32 := 0#32
  let c4_i32_12 : BitVec 32 := 4#32
  let v20 : BitVec 1 := Scalar.cmpi .sle v14 c4_i32_12
  let c1_i32_13 : BitVec 32 := 1#32
  let v21 : BitVec 32 := Scalar.subi v14 c1_i32_13
  let c8_i32_14 : BitVec 32 := 8#32
  let v22 : BitVec 32 := Scalar.subi c8_i32_14 v14
  let v23 : BitVec 32 := Scalar.select v20 v21 v22
  let v24 : BitVec 32 := Scalar.select v19 c0_i32_15 v23
  let v25 : BitVec 32 := Scalar.muli c2_i32_16 v24
  let c0_i32 : BitVec 32 := 0#32
  let v15 : BitVec 1 := Scalar.cmpi .eq v14 c0_i32
  let c0_i32_10 : BitVec 32 := 0#32
  let c4_i32 : BitVec 32 := 4#32
  let v16 : BitVec 1 := Scalar.cmpi .sle v14 c4_i32
  let c1_i32_8 : BitVec 32 := 1#32
  let c0_i32_9 : BitVec 32 := 0#32
  let v17 : BitVec 32 := Scalar.select v16 c1_i32_8 c0_i32_9
  let v18 : BitVec 32 := Scalar.select v15 c0_i32_10 v17
  let v26 : BitVec 32 := Scalar.addi v18 v24
  let c2_i32_17 : BitVec 32 := 2#32
  let v27 : BitVec 32 := Scalar.remsi v26 c2_i32_17
  let v28 : BitVec 32 := Scalar.addi v25 v27
  let v30 : BitVec 32 := Scalar.addi v29 v28
  let c1_i32_579 : BitVec 32 := 1#32
  let v576 : BitVec 32 := Scalar.muli v30 c1_i32_579
  let v577 : BitVec 32 := Scalar.addi c0_i32_580 v576
  v577.toNat
def k0_dev26 (d0 : Dev nD) : Nat :=
  let c0_i32_590 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_34 : BitVec 32 := 8#32
  let v48 : BitVec 32 := Scalar.muli v3 c8_i32_34
  let c2_i32_32 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c8_i32_19 : BitVec 32 := 8#32
  let v31 : BitVec 32 := Scalar.addi v12 c8_i32_19
  let c1_i32_20 : BitVec 32 := 1#32
  let v32 : BitVec 32 := Scalar.subi v31 c1_i32_20
  let c8_i32_21 : BitVec 32 := 8#32
  let v33 : BitVec 32 := Scalar.remsi v32 c8_i32_21
  let c0_i32_27 : BitVec 32 := 0#32
  let v38 : BitVec 1 := Scalar.cmpi .eq v33 c0_i32_27
  let c0_i32_31 : BitVec 32 := 0#32
  let c4_i32_28 : BitVec 32 := 4#32
  let v39 : BitVec 1 := Scalar.cmpi .sle v33 c4_i32_28
  let c1_i32_29 : BitVec 32 := 1#32
  let v40 : BitVec 32 := Scalar.subi v33 c1_i32_29
  let c8_i32_30 : BitVec 32 := 8#32
  let v41 : BitVec 32 := Scalar.subi c8_i32_30 v33
  let v42 : BitVec 32 := Scalar.select v39 v40 v41
  let v43 : BitVec 32 := Scalar.select v38 c0_i32_31 v42
  let v44 : BitVec 32 := Scalar.muli c2_i32_32 v43
  let c0_i32_22 : BitVec 32 := 0#32
  let v34 : BitVec 1 := Scalar.cmpi .eq v33 c0_i32_22
  let c0_i32_26 : BitVec 32 := 0#32
  let c4_i32_23 : BitVec 32 := 4#32
  let v35 : BitVec 1 := Scalar.cmpi .sle v33 c4_i32_23
  let c1_i32_24 : BitVec 32 := 1#32
  let c0_i32_25 : BitVec 32 := 0#32
  let v36 : BitVec 32 := Scalar.select v35 c1_i32_24 c0_i32_25
  let v37 : BitVec 32 := Scalar.select v34 c0_i32_26 v36
  let v45 : BitVec 32 := Scalar.addi v37 v43
  let c2_i32_33 : BitVec 32 := 2#32
  let v46 : BitVec 32 := Scalar.remsi v45 c2_i32_33
  let v47 : BitVec 32 := Scalar.addi v44 v46
  let v49 : BitVec 32 := Scalar.addi v48 v47
  let c1_i32_589 : BitVec 32 := 1#32
  let v586 : BitVec 32 := Scalar.muli v49 c1_i32_589
  let v587 : BitVec 32 := Scalar.addi c0_i32_590 v586
  v587.toNat
def k0_dev27 (d0 : Dev nD) : Nat :=
  let c0_i32_712 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_34 : BitVec 32 := 8#32
  let v48 : BitVec 32 := Scalar.muli v3 c8_i32_34
  let c2_i32_32 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c8_i32_19 : BitVec 32 := 8#32
  let v31 : BitVec 32 := Scalar.addi v12 c8_i32_19
  let c1_i32_20 : BitVec 32 := 1#32
  let v32 : BitVec 32 := Scalar.subi v31 c1_i32_20
  let c8_i32_21 : BitVec 32 := 8#32
  let v33 : BitVec 32 := Scalar.remsi v32 c8_i32_21
  let c0_i32_27 : BitVec 32 := 0#32
  let v38 : BitVec 1 := Scalar.cmpi .eq v33 c0_i32_27
  let c0_i32_31 : BitVec 32 := 0#32
  let c4_i32_28 : BitVec 32 := 4#32
  let v39 : BitVec 1 := Scalar.cmpi .sle v33 c4_i32_28
  let c1_i32_29 : BitVec 32 := 1#32
  let v40 : BitVec 32 := Scalar.subi v33 c1_i32_29
  let c8_i32_30 : BitVec 32 := 8#32
  let v41 : BitVec 32 := Scalar.subi c8_i32_30 v33
  let v42 : BitVec 32 := Scalar.select v39 v40 v41
  let v43 : BitVec 32 := Scalar.select v38 c0_i32_31 v42
  let v44 : BitVec 32 := Scalar.muli c2_i32_32 v43
  let c0_i32_22 : BitVec 32 := 0#32
  let v34 : BitVec 1 := Scalar.cmpi .eq v33 c0_i32_22
  let c0_i32_26 : BitVec 32 := 0#32
  let c4_i32_23 : BitVec 32 := 4#32
  let v35 : BitVec 1 := Scalar.cmpi .sle v33 c4_i32_23
  let c1_i32_24 : BitVec 32 := 1#32
  let c0_i32_25 : BitVec 32 := 0#32
  let v36 : BitVec 32 := Scalar.select v35 c1_i32_24 c0_i32_25
  let v37 : BitVec 32 := Scalar.select v34 c0_i32_26 v36
  let v45 : BitVec 32 := Scalar.addi v37 v43
  let c2_i32_33 : BitVec 32 := 2#32
  let v46 : BitVec 32 := Scalar.remsi v45 c2_i32_33
  let v47 : BitVec 32 := Scalar.addi v44 v46
  let v49 : BitVec 32 := Scalar.addi v48 v47
  let c1_i32_711 : BitVec 32 := 1#32
  let v705 : BitVec 32 := Scalar.muli v49 c1_i32_711
  let v706 : BitVec 32 := Scalar.addi c0_i32_712 v705
  v706.toNat
def k0_dev28 (d0 : Dev nD) : Nat :=
  let c0_i32_715 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_18 : BitVec 32 := 8#32
  let v29 : BitVec 32 := Scalar.muli v3 c8_i32_18
  let c2_i32_16 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_6 : BitVec 32 := 1#32
  let v13 : BitVec 32 := Scalar.addi v12 c1_i32_6
  let c8_i32_7 : BitVec 32 := 8#32
  let v14 : BitVec 32 := Scalar.remsi v13 c8_i32_7
  let c0_i32_11 : BitVec 32 := 0#32
  let v19 : BitVec 1 := Scalar.cmpi .eq v14 c0_i32_11
  let c0_i32_15 : BitVec 32 := 0#32
  let c4_i32_12 : BitVec 32 := 4#32
  let v20 : BitVec 1 := Scalar.cmpi .sle v14 c4_i32_12
  let c1_i32_13 : BitVec 32 := 1#32
  let v21 : BitVec 32 := Scalar.subi v14 c1_i32_13
  let c8_i32_14 : BitVec 32 := 8#32
  let v22 : BitVec 32 := Scalar.subi c8_i32_14 v14
  let v23 : BitVec 32 := Scalar.select v20 v21 v22
  let v24 : BitVec 32 := Scalar.select v19 c0_i32_15 v23
  let v25 : BitVec 32 := Scalar.muli c2_i32_16 v24
  let c0_i32 : BitVec 32 := 0#32
  let v15 : BitVec 1 := Scalar.cmpi .eq v14 c0_i32
  let c0_i32_10 : BitVec 32 := 0#32
  let c4_i32 : BitVec 32 := 4#32
  let v16 : BitVec 1 := Scalar.cmpi .sle v14 c4_i32
  let c1_i32_8 : BitVec 32 := 1#32
  let c0_i32_9 : BitVec 32 := 0#32
  let v17 : BitVec 32 := Scalar.select v16 c1_i32_8 c0_i32_9
  let v18 : BitVec 32 := Scalar.select v15 c0_i32_10 v17
  let v26 : BitVec 32 := Scalar.addi v18 v24
  let c2_i32_17 : BitVec 32 := 2#32
  let v27 : BitVec 32 := Scalar.remsi v26 c2_i32_17
  let v28 : BitVec 32 := Scalar.addi v25 v27
  let v30 : BitVec 32 := Scalar.addi v29 v28
  let c1_i32_714 : BitVec 32 := 1#32
  let v707 : BitVec 32 := Scalar.muli v30 c1_i32_714
  let v708 : BitVec 32 := Scalar.addi c0_i32_715 v707
  v708.toNat
def k0_dev29 (d0 : Dev nD) : Nat :=
  let c0_i32_725 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_18 : BitVec 32 := 8#32
  let v29 : BitVec 32 := Scalar.muli v3 c8_i32_18
  let c2_i32_16 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_6 : BitVec 32 := 1#32
  let v13 : BitVec 32 := Scalar.addi v12 c1_i32_6
  let c8_i32_7 : BitVec 32 := 8#32
  let v14 : BitVec 32 := Scalar.remsi v13 c8_i32_7
  let c0_i32_11 : BitVec 32 := 0#32
  let v19 : BitVec 1 := Scalar.cmpi .eq v14 c0_i32_11
  let c0_i32_15 : BitVec 32 := 0#32
  let c4_i32_12 : BitVec 32 := 4#32
  let v20 : BitVec 1 := Scalar.cmpi .sle v14 c4_i32_12
  let c1_i32_13 : BitVec 32 := 1#32
  let v21 : BitVec 32 := Scalar.subi v14 c1_i32_13
  let c8_i32_14 : BitVec 32 := 8#32
  let v22 : BitVec 32 := Scalar.subi c8_i32_14 v14
  let v23 : BitVec 32 := Scalar.select v20 v21 v22
  let v24 : BitVec 32 := Scalar.select v19 c0_i32_15 v23
  let v25 : BitVec 32 := Scalar.muli c2_i32_16 v24
  let c0_i32 : BitVec 32 := 0#32
  let v15 : BitVec 1 := Scalar.cmpi .eq v14 c0_i32
  let c0_i32_10 : BitVec 32 := 0#32
  let c4_i32 : BitVec 32 := 4#32
  let v16 : BitVec 1 := Scalar.cmpi .sle v14 c4_i32
  let c1_i32_8 : BitVec 32 := 1#32
  let c0_i32_9 : BitVec 32 := 0#32
  let v17 : BitVec 32 := Scalar.select v16 c1_i32_8 c0_i32_9
  let v18 : BitVec 32 := Scalar.select v15 c0_i32_10 v17
  let v26 : BitVec 32 := Scalar.addi v18 v24
  let c2_i32_17 : BitVec 32 := 2#32
  let v27 : BitVec 32 := Scalar.remsi v26 c2_i32_17
  let v28 : BitVec 32 := Scalar.addi v25 v27
  let v30 : BitVec 32 := Scalar.addi v29 v28
  let c1_i32_724 : BitVec 32 := 1#32
  let v709 : BitVec 32 := Scalar.muli v30 c1_i32_724
  let v710 : BitVec 32 := Scalar.addi c0_i32_725 v709
  v710.toNat
def k0_dev30 (d0 : Dev nD) : Nat :=
  let c0_i32_735 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_34 : BitVec 32 := 8#32
  let v48 : BitVec 32 := Scalar.muli v3 c8_i32_34
  let c2_i32_32 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c8_i32_19 : BitVec 32 := 8#32
  let v31 : BitVec 32 := Scalar.addi v12 c8_i32_19
  let c1_i32_20 : BitVec 32 := 1#32
  let v32 : BitVec 32 := Scalar.subi v31 c1_i32_20
  let c8_i32_21 : BitVec 32 := 8#32
  let v33 : BitVec 32 := Scalar.remsi v32 c8_i32_21
  let c0_i32_27 : BitVec 32 := 0#32
  let v38 : BitVec 1 := Scalar.cmpi .eq v33 c0_i32_27
  let c0_i32_31 : BitVec 32 := 0#32
  let c4_i32_28 : BitVec 32 := 4#32
  let v39 : BitVec 1 := Scalar.cmpi .sle v33 c4_i32_28
  let c1_i32_29 : BitVec 32 := 1#32
  let v40 : BitVec 32 := Scalar.subi v33 c1_i32_29
  let c8_i32_30 : BitVec 32 := 8#32
  let v41 : BitVec 32 := Scalar.subi c8_i32_30 v33
  let v42 : BitVec 32 := Scalar.select v39 v40 v41
  let v43 : BitVec 32 := Scalar.select v38 c0_i32_31 v42
  let v44 : BitVec 32 := Scalar.muli c2_i32_32 v43
  let c0_i32_22 : BitVec 32 := 0#32
  let v34 : BitVec 1 := Scalar.cmpi .eq v33 c0_i32_22
  let c0_i32_26 : BitVec 32 := 0#32
  let c4_i32_23 : BitVec 32 := 4#32
  let v35 : BitVec 1 := Scalar.cmpi .sle v33 c4_i32_23
  let c1_i32_24 : BitVec 32 := 1#32
  let c0_i32_25 : BitVec 32 := 0#32
  let v36 : BitVec 32 := Scalar.select v35 c1_i32_24 c0_i32_25
  let v37 : BitVec 32 := Scalar.select v34 c0_i32_26 v36
  let v45 : BitVec 32 := Scalar.addi v37 v43
  let c2_i32_33 : BitVec 32 := 2#32
  let v46 : BitVec 32 := Scalar.remsi v45 c2_i32_33
  let v47 : BitVec 32 := Scalar.addi v44 v46
  let v49 : BitVec 32 := Scalar.addi v48 v47
  let c1_i32_734 : BitVec 32 := 1#32
  let v719 : BitVec 32 := Scalar.muli v49 c1_i32_734
  let v720 : BitVec 32 := Scalar.addi c0_i32_735 v719
  v720.toNat
def k0_dev31 (d0 : Dev nD) : Nat :=
  let c0_i32_745 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_18 : BitVec 32 := 8#32
  let v29 : BitVec 32 := Scalar.muli v3 c8_i32_18
  let c2_i32_16 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_6 : BitVec 32 := 1#32
  let v13 : BitVec 32 := Scalar.addi v12 c1_i32_6
  let c8_i32_7 : BitVec 32 := 8#32
  let v14 : BitVec 32 := Scalar.remsi v13 c8_i32_7
  let c0_i32_11 : BitVec 32 := 0#32
  let v19 : BitVec 1 := Scalar.cmpi .eq v14 c0_i32_11
  let c0_i32_15 : BitVec 32 := 0#32
  let c4_i32_12 : BitVec 32 := 4#32
  let v20 : BitVec 1 := Scalar.cmpi .sle v14 c4_i32_12
  let c1_i32_13 : BitVec 32 := 1#32
  let v21 : BitVec 32 := Scalar.subi v14 c1_i32_13
  let c8_i32_14 : BitVec 32 := 8#32
  let v22 : BitVec 32 := Scalar.subi c8_i32_14 v14
  let v23 : BitVec 32 := Scalar.select v20 v21 v22
  let v24 : BitVec 32 := Scalar.select v19 c0_i32_15 v23
  let v25 : BitVec 32 := Scalar.muli c2_i32_16 v24
  let c0_i32 : BitVec 32 := 0#32
  let v15 : BitVec 1 := Scalar.cmpi .eq v14 c0_i32
  let c0_i32_10 : BitVec 32 := 0#32
  let c4_i32 : BitVec 32 := 4#32
  let v16 : BitVec 1 := Scalar.cmpi .sle v14 c4_i32
  let c1_i32_8 : BitVec 32 := 1#32
  let c0_i32_9 : BitVec 32 := 0#32
  let v17 : BitVec 32 := Scalar.select v16 c1_i32_8 c0_i32_9
  let v18 : BitVec 32 := Scalar.select v15 c0_i32_10 v17
  let v26 : BitVec 32 := Scalar.addi v18 v24
  let c2_i32_17 : BitVec 32 := 2#32
  let v27 : BitVec 32 := Scalar.remsi v26 c2_i32_17
  let v28 : BitVec 32 := Scalar.addi v25 v27
  let v30 : BitVec 32 := Scalar.addi v29 v28
  let c1_i32_744 : BitVec 32 := 1#32
  let v729 : BitVec 32 := Scalar.muli v30 c1_i32_744
  let v730 : BitVec 32 := Scalar.addi c0_i32_745 v729
  v730.toNat
def k0_dev32 (d0 : Dev nD) : Nat :=
  let c0_i32_755 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_34 : BitVec 32 := 8#32
  let v48 : BitVec 32 := Scalar.muli v3 c8_i32_34
  let c2_i32_32 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c8_i32_19 : BitVec 32 := 8#32
  let v31 : BitVec 32 := Scalar.addi v12 c8_i32_19
  let c1_i32_20 : BitVec 32 := 1#32
  let v32 : BitVec 32 := Scalar.subi v31 c1_i32_20
  let c8_i32_21 : BitVec 32 := 8#32
  let v33 : BitVec 32 := Scalar.remsi v32 c8_i32_21
  let c0_i32_27 : BitVec 32 := 0#32
  let v38 : BitVec 1 := Scalar.cmpi .eq v33 c0_i32_27
  let c0_i32_31 : BitVec 32 := 0#32
  let c4_i32_28 : BitVec 32 := 4#32
  let v39 : BitVec 1 := Scalar.cmpi .sle v33 c4_i32_28
  let c1_i32_29 : BitVec 32 := 1#32
  let v40 : BitVec 32 := Scalar.subi v33 c1_i32_29
  let c8_i32_30 : BitVec 32 := 8#32
  let v41 : BitVec 32 := Scalar.subi c8_i32_30 v33
  let v42 : BitVec 32 := Scalar.select v39 v40 v41
  let v43 : BitVec 32 := Scalar.select v38 c0_i32_31 v42
  let v44 : BitVec 32 := Scalar.muli c2_i32_32 v43
  let c0_i32_22 : BitVec 32 := 0#32
  let v34 : BitVec 1 := Scalar.cmpi .eq v33 c0_i32_22
  let c0_i32_26 : BitVec 32 := 0#32
  let c4_i32_23 : BitVec 32 := 4#32
  let v35 : BitVec 1 := Scalar.cmpi .sle v33 c4_i32_23
  let c1_i32_24 : BitVec 32 := 1#32
  let c0_i32_25 : BitVec 32 := 0#32
  let v36 : BitVec 32 := Scalar.select v35 c1_i32_24 c0_i32_25
  let v37 : BitVec 32 := Scalar.select v34 c0_i32_26 v36
  let v45 : BitVec 32 := Scalar.addi v37 v43
  let c2_i32_33 : BitVec 32 := 2#32
  let v46 : BitVec 32 := Scalar.remsi v45 c2_i32_33
  let v47 : BitVec 32 := Scalar.addi v44 v46
  let v49 : BitVec 32 := Scalar.addi v48 v47
  let c1_i32_754 : BitVec 32 := 1#32
  let v739 : BitVec 32 := Scalar.muli v49 c1_i32_754
  let v740 : BitVec 32 := Scalar.addi c0_i32_755 v739
  v740.toNat
def k0_dev33 (d0 : Dev nD) : Nat :=
  let c0_i32_876 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_34 : BitVec 32 := 8#32
  let v48 : BitVec 32 := Scalar.muli v3 c8_i32_34
  let c2_i32_32 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c8_i32_19 : BitVec 32 := 8#32
  let v31 : BitVec 32 := Scalar.addi v12 c8_i32_19
  let c1_i32_20 : BitVec 32 := 1#32
  let v32 : BitVec 32 := Scalar.subi v31 c1_i32_20
  let c8_i32_21 : BitVec 32 := 8#32
  let v33 : BitVec 32 := Scalar.remsi v32 c8_i32_21
  let c0_i32_27 : BitVec 32 := 0#32
  let v38 : BitVec 1 := Scalar.cmpi .eq v33 c0_i32_27
  let c0_i32_31 : BitVec 32 := 0#32
  let c4_i32_28 : BitVec 32 := 4#32
  let v39 : BitVec 1 := Scalar.cmpi .sle v33 c4_i32_28
  let c1_i32_29 : BitVec 32 := 1#32
  let v40 : BitVec 32 := Scalar.subi v33 c1_i32_29
  let c8_i32_30 : BitVec 32 := 8#32
  let v41 : BitVec 32 := Scalar.subi c8_i32_30 v33
  let v42 : BitVec 32 := Scalar.select v39 v40 v41
  let v43 : BitVec 32 := Scalar.select v38 c0_i32_31 v42
  let v44 : BitVec 32 := Scalar.muli c2_i32_32 v43
  let c0_i32_22 : BitVec 32 := 0#32
  let v34 : BitVec 1 := Scalar.cmpi .eq v33 c0_i32_22
  let c0_i32_26 : BitVec 32 := 0#32
  let c4_i32_23 : BitVec 32 := 4#32
  let v35 : BitVec 1 := Scalar.cmpi .sle v33 c4_i32_23
  let c1_i32_24 : BitVec 32 := 1#32
  let c0_i32_25 : BitVec 32 := 0#32
  let v36 : BitVec 32 := Scalar.select v35 c1_i32_24 c0_i32_25
  let v37 : BitVec 32 := Scalar.select v34 c0_i32_26 v36
  let v45 : BitVec 32 := Scalar.addi v37 v43
  let c2_i32_33 : BitVec 32 := 2#32
  let v46 : BitVec 32 := Scalar.remsi v45 c2_i32_33
  let v47 : BitVec 32 := Scalar.addi v44 v46
  let v49 : BitVec 32 := Scalar.addi v48 v47
  let c1_i32_875 : BitVec 32 := 1#32
  let v858 : BitVec 32 := Scalar.muli v49 c1_i32_875
  let v859 : BitVec 32 := Scalar.addi c0_i32_876 v858
  v859.toNat
def k0_dev34 (d0 : Dev nD) : Nat :=
  let c0_i32_879 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_18 : BitVec 32 := 8#32
  let v29 : BitVec 32 := Scalar.muli v3 c8_i32_18
  let c2_i32_16 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_6 : BitVec 32 := 1#32
  let v13 : BitVec 32 := Scalar.addi v12 c1_i32_6
  let c8_i32_7 : BitVec 32 := 8#32
  let v14 : BitVec 32 := Scalar.remsi v13 c8_i32_7
  let c0_i32_11 : BitVec 32 := 0#32
  let v19 : BitVec 1 := Scalar.cmpi .eq v14 c0_i32_11
  let c0_i32_15 : BitVec 32 := 0#32
  let c4_i32_12 : BitVec 32 := 4#32
  let v20 : BitVec 1 := Scalar.cmpi .sle v14 c4_i32_12
  let c1_i32_13 : BitVec 32 := 1#32
  let v21 : BitVec 32 := Scalar.subi v14 c1_i32_13
  let c8_i32_14 : BitVec 32 := 8#32
  let v22 : BitVec 32 := Scalar.subi c8_i32_14 v14
  let v23 : BitVec 32 := Scalar.select v20 v21 v22
  let v24 : BitVec 32 := Scalar.select v19 c0_i32_15 v23
  let v25 : BitVec 32 := Scalar.muli c2_i32_16 v24
  let c0_i32 : BitVec 32 := 0#32
  let v15 : BitVec 1 := Scalar.cmpi .eq v14 c0_i32
  let c0_i32_10 : BitVec 32 := 0#32
  let c4_i32 : BitVec 32 := 4#32
  let v16 : BitVec 1 := Scalar.cmpi .sle v14 c4_i32
  let c1_i32_8 : BitVec 32 := 1#32
  let c0_i32_9 : BitVec 32 := 0#32
  let v17 : BitVec 32 := Scalar.select v16 c1_i32_8 c0_i32_9
  let v18 : BitVec 32 := Scalar.select v15 c0_i32_10 v17
  let v26 : BitVec 32 := Scalar.addi v18 v24
  let c2_i32_17 : BitVec 32 := 2#32
  let v27 : BitVec 32 := Scalar.remsi v26 c2_i32_17
  let v28 : BitVec 32 := Scalar.addi v25 v27
  let v30 : BitVec 32 := Scalar.addi v29 v28
  let c1_i32_878 : BitVec 32 := 1#32
  let v860 : BitVec 32 := Scalar.muli v30 c1_i32_878
  let v861 : BitVec 32 := Scalar.addi c0_i32_879 v860
  v861.toNat
def k0_dev35 (d0 : Dev nD) : Nat :=
  let c0_i32_889 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_18 : BitVec 32 := 8#32
  let v29 : BitVec 32 := Scalar.muli v3 c8_i32_18
  let c2_i32_16 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_6 : BitVec 32 := 1#32
  let v13 : BitVec 32 := Scalar.addi v12 c1_i32_6
  let c8_i32_7 : BitVec 32 := 8#32
  let v14 : BitVec 32 := Scalar.remsi v13 c8_i32_7
  let c0_i32_11 : BitVec 32 := 0#32
  let v19 : BitVec 1 := Scalar.cmpi .eq v14 c0_i32_11
  let c0_i32_15 : BitVec 32 := 0#32
  let c4_i32_12 : BitVec 32 := 4#32
  let v20 : BitVec 1 := Scalar.cmpi .sle v14 c4_i32_12
  let c1_i32_13 : BitVec 32 := 1#32
  let v21 : BitVec 32 := Scalar.subi v14 c1_i32_13
  let c8_i32_14 : BitVec 32 := 8#32
  let v22 : BitVec 32 := Scalar.subi c8_i32_14 v14
  let v23 : BitVec 32 := Scalar.select v20 v21 v22
  let v24 : BitVec 32 := Scalar.select v19 c0_i32_15 v23
  let v25 : BitVec 32 := Scalar.muli c2_i32_16 v24
  let c0_i32 : BitVec 32 := 0#32
  let v15 : BitVec 1 := Scalar.cmpi .eq v14 c0_i32
  let c0_i32_10 : BitVec 32 := 0#32
  let c4_i32 : BitVec 32 := 4#32
  let v16 : BitVec 1 := Scalar.cmpi .sle v14 c4_i32
  let c1_i32_8 : BitVec 32 := 1#32
  let c0_i32_9 : BitVec 32 := 0#32
  let v17 : BitVec 32 := Scalar.select v16 c1_i32_8 c0_i32_9
  let v18 : BitVec 32 := Scalar.select v15 c0_i32_10 v17
  let v26 : BitVec 32 := Scalar.addi v18 v24
  let c2_i32_17 : BitVec 32 := 2#32
  let v27 : BitVec 32 := Scalar.remsi v26 c2_i32_17
  let v28 : BitVec 32 := Scalar.addi v25 v27
  let v30 : BitVec 32 := Scalar.addi v29 v28
  let c1_i32_888 : BitVec 32 := 1#32
  let v862 : BitVec 32 := Scalar.muli v30 c1_i32_888
  let v863 : BitVec 32 := Scalar.addi c0_i32_889 v862
  v863.toNat
def k0_dev36 (d0 : Dev nD) : Nat :=
  let c0_i32_899 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_34 : BitVec 32 := 8#32
  let v48 : BitVec 32 := Scalar.muli v3 c8_i32_34
  let c2_i32_32 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c8_i32_19 : BitVec 32 := 8#32
  let v31 : BitVec 32 := Scalar.addi v12 c8_i32_19
  let c1_i32_20 : BitVec 32 := 1#32
  let v32 : BitVec 32 := Scalar.subi v31 c1_i32_20
  let c8_i32_21 : BitVec 32 := 8#32
  let v33 : BitVec 32 := Scalar.remsi v32 c8_i32_21
  let c0_i32_27 : BitVec 32 := 0#32
  let v38 : BitVec 1 := Scalar.cmpi .eq v33 c0_i32_27
  let c0_i32_31 : BitVec 32 := 0#32
  let c4_i32_28 : BitVec 32 := 4#32
  let v39 : BitVec 1 := Scalar.cmpi .sle v33 c4_i32_28
  let c1_i32_29 : BitVec 32 := 1#32
  let v40 : BitVec 32 := Scalar.subi v33 c1_i32_29
  let c8_i32_30 : BitVec 32 := 8#32
  let v41 : BitVec 32 := Scalar.subi c8_i32_30 v33
  let v42 : BitVec 32 := Scalar.select v39 v40 v41
  let v43 : BitVec 32 := Scalar.select v38 c0_i32_31 v42
  let v44 : BitVec 32 := Scalar.muli c2_i32_32 v43
  let c0_i32_22 : BitVec 32 := 0#32
  let v34 : BitVec 1 := Scalar.cmpi .eq v33 c0_i32_22
  let c0_i32_26 : BitVec 32 := 0#32
  let c4_i32_23 : BitVec 32 := 4#32
  let v35 : BitVec 1 := Scalar.cmpi .sle v33 c4_i32_23
  let c1_i32_24 : BitVec 32 := 1#32
  let c0_i32_25 : BitVec 32 := 0#32
  let v36 : BitVec 32 := Scalar.select v35 c1_i32_24 c0_i32_25
  let v37 : BitVec 32 := Scalar.select v34 c0_i32_26 v36
  let v45 : BitVec 32 := Scalar.addi v37 v43
  let c2_i32_33 : BitVec 32 := 2#32
  let v46 : BitVec 32 := Scalar.remsi v45 c2_i32_33
  let v47 : BitVec 32 := Scalar.addi v44 v46
  let v49 : BitVec 32 := Scalar.addi v48 v47
  let c1_i32_898 : BitVec 32 := 1#32
  let v872 : BitVec 32 := Scalar.muli v49 c1_i32_898
  let v873 : BitVec 32 := Scalar.addi c0_i32_899 v872
  v873.toNat
def k0_dev37 (d0 : Dev nD) : Nat :=
  let c0_i32_909 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_18 : BitVec 32 := 8#32
  let v29 : BitVec 32 := Scalar.muli v3 c8_i32_18
  let c2_i32_16 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_6 : BitVec 32 := 1#32
  let v13 : BitVec 32 := Scalar.addi v12 c1_i32_6
  let c8_i32_7 : BitVec 32 := 8#32
  let v14 : BitVec 32 := Scalar.remsi v13 c8_i32_7
  let c0_i32_11 : BitVec 32 := 0#32
  let v19 : BitVec 1 := Scalar.cmpi .eq v14 c0_i32_11
  let c0_i32_15 : BitVec 32 := 0#32
  let c4_i32_12 : BitVec 32 := 4#32
  let v20 : BitVec 1 := Scalar.cmpi .sle v14 c4_i32_12
  let c1_i32_13 : BitVec 32 := 1#32
  let v21 : BitVec 32 := Scalar.subi v14 c1_i32_13
  let c8_i32_14 : BitVec 32 := 8#32
  let v22 : BitVec 32 := Scalar.subi c8_i32_14 v14
  let v23 : BitVec 32 := Scalar.select v20 v21 v22
  let v24 : BitVec 32 := Scalar.select v19 c0_i32_15 v23
  let v25 : BitVec 32 := Scalar.muli c2_i32_16 v24
  let c0_i32 : BitVec 32 := 0#32
  let v15 : BitVec 1 := Scalar.cmpi .eq v14 c0_i32
  let c0_i32_10 : BitVec 32 := 0#32
  let c4_i32 : BitVec 32 := 4#32
  let v16 : BitVec 1 := Scalar.cmpi .sle v14 c4_i32
  let c1_i32_8 : BitVec 32 := 1#32
  let c0_i32_9 : BitVec 32 := 0#32
  let v17 : BitVec 32 := Scalar.select v16 c1_i32_8 c0_i32_9
  let v18 : BitVec 32 := Scalar.select v15 c0_i32_10 v17
  let v26 : BitVec 32 := Scalar.addi v18 v24
  let c2_i32_17 : BitVec 32 := 2#32
  let v27 : BitVec 32 := Scalar.remsi v26 c2_i32_17
  let v28 : BitVec 32 := Scalar.addi v25 v27
  let v30 : BitVec 32 := Scalar.addi v29 v28
  let c1_i32_908 : BitVec 32 := 1#32
  let v882 : BitVec 32 := Scalar.muli v30 c1_i32_908
  let v883 : BitVec 32 := Scalar.addi c0_i32_909 v882
  v883.toNat
def k0_dev38 (d0 : Dev nD) : Nat :=
  let c0_i32_919 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_34 : BitVec 32 := 8#32
  let v48 : BitVec 32 := Scalar.muli v3 c8_i32_34
  let c2_i32_32 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c8_i32_19 : BitVec 32 := 8#32
  let v31 : BitVec 32 := Scalar.addi v12 c8_i32_19
  let c1_i32_20 : BitVec 32 := 1#32
  let v32 : BitVec 32 := Scalar.subi v31 c1_i32_20
  let c8_i32_21 : BitVec 32 := 8#32
  let v33 : BitVec 32 := Scalar.remsi v32 c8_i32_21
  let c0_i32_27 : BitVec 32 := 0#32
  let v38 : BitVec 1 := Scalar.cmpi .eq v33 c0_i32_27
  let c0_i32_31 : BitVec 32 := 0#32
  let c4_i32_28 : BitVec 32 := 4#32
  let v39 : BitVec 1 := Scalar.cmpi .sle v33 c4_i32_28
  let c1_i32_29 : BitVec 32 := 1#32
  let v40 : BitVec 32 := Scalar.subi v33 c1_i32_29
  let c8_i32_30 : BitVec 32 := 8#32
  let v41 : BitVec 32 := Scalar.subi c8_i32_30 v33
  let v42 : BitVec 32 := Scalar.select v39 v40 v41
  let v43 : BitVec 32 := Scalar.select v38 c0_i32_31 v42
  let v44 : BitVec 32 := Scalar.muli c2_i32_32 v43
  let c0_i32_22 : BitVec 32 := 0#32
  let v34 : BitVec 1 := Scalar.cmpi .eq v33 c0_i32_22
  let c0_i32_26 : BitVec 32 := 0#32
  let c4_i32_23 : BitVec 32 := 4#32
  let v35 : BitVec 1 := Scalar.cmpi .sle v33 c4_i32_23
  let c1_i32_24 : BitVec 32 := 1#32
  let c0_i32_25 : BitVec 32 := 0#32
  let v36 : BitVec 32 := Scalar.select v35 c1_i32_24 c0_i32_25
  let v37 : BitVec 32 := Scalar.select v34 c0_i32_26 v36
  let v45 : BitVec 32 := Scalar.addi v37 v43
  let c2_i32_33 : BitVec 32 := 2#32
  let v46 : BitVec 32 := Scalar.remsi v45 c2_i32_33
  let v47 : BitVec 32 := Scalar.addi v44 v46
  let v49 : BitVec 32 := Scalar.addi v48 v47
  let c1_i32_918 : BitVec 32 := 1#32
  let v892 : BitVec 32 := Scalar.muli v49 c1_i32_918
  let v893 : BitVec 32 := Scalar.addi c0_i32_919 v892
  v893.toNat
def k0_dev39 (d0 : Dev nD) : Nat :=
  let c0_i32_1040 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_34 : BitVec 32 := 8#32
  let v48 : BitVec 32 := Scalar.muli v3 c8_i32_34
  let c2_i32_32 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c8_i32_19 : BitVec 32 := 8#32
  let v31 : BitVec 32 := Scalar.addi v12 c8_i32_19
  let c1_i32_20 : BitVec 32 := 1#32
  let v32 : BitVec 32 := Scalar.subi v31 c1_i32_20
  let c8_i32_21 : BitVec 32 := 8#32
  let v33 : BitVec 32 := Scalar.remsi v32 c8_i32_21
  let c0_i32_27 : BitVec 32 := 0#32
  let v38 : BitVec 1 := Scalar.cmpi .eq v33 c0_i32_27
  let c0_i32_31 : BitVec 32 := 0#32
  let c4_i32_28 : BitVec 32 := 4#32
  let v39 : BitVec 1 := Scalar.cmpi .sle v33 c4_i32_28
  let c1_i32_29 : BitVec 32 := 1#32
  let v40 : BitVec 32 := Scalar.subi v33 c1_i32_29
  let c8_i32_30 : BitVec 32 := 8#32
  let v41 : BitVec 32 := Scalar.subi c8_i32_30 v33
  let v42 : BitVec 32 := Scalar.select v39 v40 v41
  let v43 : BitVec 32 := Scalar.select v38 c0_i32_31 v42
  let v44 : BitVec 32 := Scalar.muli c2_i32_32 v43
  let c0_i32_22 : BitVec 32 := 0#32
  let v34 : BitVec 1 := Scalar.cmpi .eq v33 c0_i32_22
  let c0_i32_26 : BitVec 32 := 0#32
  let c4_i32_23 : BitVec 32 := 4#32
  let v35 : BitVec 1 := Scalar.cmpi .sle v33 c4_i32_23
  let c1_i32_24 : BitVec 32 := 1#32
  let c0_i32_25 : BitVec 32 := 0#32
  let v36 : BitVec 32 := Scalar.select v35 c1_i32_24 c0_i32_25
  let v37 : BitVec 32 := Scalar.select v34 c0_i32_26 v36
  let v45 : BitVec 32 := Scalar.addi v37 v43
  let c2_i32_33 : BitVec 32 := 2#32
  let v46 : BitVec 32 := Scalar.remsi v45 c2_i32_33
  let v47 : BitVec 32 := Scalar.addi v44 v46
  let v49 : BitVec 32 := Scalar.addi v48 v47
  let c1_i32_1039 : BitVec 32 := 1#32
  let v1011 : BitVec 32 := Scalar.muli v49 c1_i32_1039
  let v1012 : BitVec 32 := Scalar.addi c0_i32_1040 v1011
  v1012.toNat
def k0_dev40 (d0 : Dev nD) : Nat :=
  let c0_i32_1043 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_18 : BitVec 32 := 8#32
  let v29 : BitVec 32 := Scalar.muli v3 c8_i32_18
  let c2_i32_16 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_6 : BitVec 32 := 1#32
  let v13 : BitVec 32 := Scalar.addi v12 c1_i32_6
  let c8_i32_7 : BitVec 32 := 8#32
  let v14 : BitVec 32 := Scalar.remsi v13 c8_i32_7
  let c0_i32_11 : BitVec 32 := 0#32
  let v19 : BitVec 1 := Scalar.cmpi .eq v14 c0_i32_11
  let c0_i32_15 : BitVec 32 := 0#32
  let c4_i32_12 : BitVec 32 := 4#32
  let v20 : BitVec 1 := Scalar.cmpi .sle v14 c4_i32_12
  let c1_i32_13 : BitVec 32 := 1#32
  let v21 : BitVec 32 := Scalar.subi v14 c1_i32_13
  let c8_i32_14 : BitVec 32 := 8#32
  let v22 : BitVec 32 := Scalar.subi c8_i32_14 v14
  let v23 : BitVec 32 := Scalar.select v20 v21 v22
  let v24 : BitVec 32 := Scalar.select v19 c0_i32_15 v23
  let v25 : BitVec 32 := Scalar.muli c2_i32_16 v24
  let c0_i32 : BitVec 32 := 0#32
  let v15 : BitVec 1 := Scalar.cmpi .eq v14 c0_i32
  let c0_i32_10 : BitVec 32 := 0#32
  let c4_i32 : BitVec 32 := 4#32
  let v16 : BitVec 1 := Scalar.cmpi .sle v14 c4_i32
  let c1_i32_8 : BitVec 32 := 1#32
  let c0_i32_9 : BitVec 32 := 0#32
  let v17 : BitVec 32 := Scalar.select v16 c1_i32_8 c0_i32_9
  let v18 : BitVec 32 := Scalar.select v15 c0_i32_10 v17
  let v26 : BitVec 32 := Scalar.addi v18 v24
  let c2_i32_17 : BitVec 32 := 2#32
  let v27 : BitVec 32 := Scalar.remsi v26 c2_i32_17
  let v28 : BitVec 32 := Scalar.addi v25 v27
  let v30 : BitVec 32 := Scalar.addi v29 v28
  let c1_i32_1042 : BitVec 32 := 1#32
  let v1013 : BitVec 32 := Scalar.muli v30 c1_i32_1042
  let v1014 : BitVec 32 := Scalar.addi c0_i32_1043 v1013
  v1014.toNat
def k0_dev41 (d0 : Dev nD) : Nat :=
  let c0_i32_1053 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_18 : BitVec 32 := 8#32
  let v29 : BitVec 32 := Scalar.muli v3 c8_i32_18
  let c2_i32_16 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_6 : BitVec 32 := 1#32
  let v13 : BitVec 32 := Scalar.addi v12 c1_i32_6
  let c8_i32_7 : BitVec 32 := 8#32
  let v14 : BitVec 32 := Scalar.remsi v13 c8_i32_7
  let c0_i32_11 : BitVec 32 := 0#32
  let v19 : BitVec 1 := Scalar.cmpi .eq v14 c0_i32_11
  let c0_i32_15 : BitVec 32 := 0#32
  let c4_i32_12 : BitVec 32 := 4#32
  let v20 : BitVec 1 := Scalar.cmpi .sle v14 c4_i32_12
  let c1_i32_13 : BitVec 32 := 1#32
  let v21 : BitVec 32 := Scalar.subi v14 c1_i32_13
  let c8_i32_14 : BitVec 32 := 8#32
  let v22 : BitVec 32 := Scalar.subi c8_i32_14 v14
  let v23 : BitVec 32 := Scalar.select v20 v21 v22
  let v24 : BitVec 32 := Scalar.select v19 c0_i32_15 v23
  let v25 : BitVec 32 := Scalar.muli c2_i32_16 v24
  let c0_i32 : BitVec 32 := 0#32
  let v15 : BitVec 1 := Scalar.cmpi .eq v14 c0_i32
  let c0_i32_10 : BitVec 32 := 0#32
  let c4_i32 : BitVec 32 := 4#32
  let v16 : BitVec 1 := Scalar.cmpi .sle v14 c4_i32
  let c1_i32_8 : BitVec 32 := 1#32
  let c0_i32_9 : BitVec 32 := 0#32
  let v17 : BitVec 32 := Scalar.select v16 c1_i32_8 c0_i32_9
  let v18 : BitVec 32 := Scalar.select v15 c0_i32_10 v17
  let v26 : BitVec 32 := Scalar.addi v18 v24
  let c2_i32_17 : BitVec 32 := 2#32
  let v27 : BitVec 32 := Scalar.remsi v26 c2_i32_17
  let v28 : BitVec 32 := Scalar.addi v25 v27
  let v30 : BitVec 32 := Scalar.addi v29 v28
  let c1_i32_1052 : BitVec 32 := 1#32
  let v1015 : BitVec 32 := Scalar.muli v30 c1_i32_1052
  let v1016 : BitVec 32 := Scalar.addi c0_i32_1053 v1015
  v1016.toNat
def k0_dev42 (d0 : Dev nD) : Nat :=
  let c0_i32_1063 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_34 : BitVec 32 := 8#32
  let v48 : BitVec 32 := Scalar.muli v3 c8_i32_34
  let c2_i32_32 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c8_i32_19 : BitVec 32 := 8#32
  let v31 : BitVec 32 := Scalar.addi v12 c8_i32_19
  let c1_i32_20 : BitVec 32 := 1#32
  let v32 : BitVec 32 := Scalar.subi v31 c1_i32_20
  let c8_i32_21 : BitVec 32 := 8#32
  let v33 : BitVec 32 := Scalar.remsi v32 c8_i32_21
  let c0_i32_27 : BitVec 32 := 0#32
  let v38 : BitVec 1 := Scalar.cmpi .eq v33 c0_i32_27
  let c0_i32_31 : BitVec 32 := 0#32
  let c4_i32_28 : BitVec 32 := 4#32
  let v39 : BitVec 1 := Scalar.cmpi .sle v33 c4_i32_28
  let c1_i32_29 : BitVec 32 := 1#32
  let v40 : BitVec 32 := Scalar.subi v33 c1_i32_29
  let c8_i32_30 : BitVec 32 := 8#32
  let v41 : BitVec 32 := Scalar.subi c8_i32_30 v33
  let v42 : BitVec 32 := Scalar.select v39 v40 v41
  let v43 : BitVec 32 := Scalar.select v38 c0_i32_31 v42
  let v44 : BitVec 32 := Scalar.muli c2_i32_32 v43
  let c0_i32_22 : BitVec 32 := 0#32
  let v34 : BitVec 1 := Scalar.cmpi .eq v33 c0_i32_22
  let c0_i32_26 : BitVec 32 := 0#32
  let c4_i32_23 : BitVec 32 := 4#32
  let v35 : BitVec 1 := Scalar.cmpi .sle v33 c4_i32_23
  let c1_i32_24 : BitVec 32 := 1#32
  let c0_i32_25 : BitVec 32 := 0#32
  let v36 : BitVec 32 := Scalar.select v35 c1_i32_24 c0_i32_25
  let v37 : BitVec 32 := Scalar.select v34 c0_i32_26 v36
  let v45 : BitVec 32 := Scalar.addi v37 v43
  let c2_i32_33 : BitVec 32 := 2#32
  let v46 : BitVec 32 := Scalar.remsi v45 c2_i32_33
  let v47 : BitVec 32 := Scalar.addi v44 v46
  let v49 : BitVec 32 := Scalar.addi v48 v47
  let c1_i32_1062 : BitVec 32 := 1#32
  let v1025 : BitVec 32 := Scalar.muli v49 c1_i32_1062
  let v1026 : BitVec 32 := Scalar.addi c0_i32_1063 v1025
  v1026.toNat
def k0_dev43 (d0 : Dev nD) : Nat :=
  let c0_i32_1073 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_18 : BitVec 32 := 8#32
  let v29 : BitVec 32 := Scalar.muli v3 c8_i32_18
  let c2_i32_16 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_6 : BitVec 32 := 1#32
  let v13 : BitVec 32 := Scalar.addi v12 c1_i32_6
  let c8_i32_7 : BitVec 32 := 8#32
  let v14 : BitVec 32 := Scalar.remsi v13 c8_i32_7
  let c0_i32_11 : BitVec 32 := 0#32
  let v19 : BitVec 1 := Scalar.cmpi .eq v14 c0_i32_11
  let c0_i32_15 : BitVec 32 := 0#32
  let c4_i32_12 : BitVec 32 := 4#32
  let v20 : BitVec 1 := Scalar.cmpi .sle v14 c4_i32_12
  let c1_i32_13 : BitVec 32 := 1#32
  let v21 : BitVec 32 := Scalar.subi v14 c1_i32_13
  let c8_i32_14 : BitVec 32 := 8#32
  let v22 : BitVec 32 := Scalar.subi c8_i32_14 v14
  let v23 : BitVec 32 := Scalar.select v20 v21 v22
  let v24 : BitVec 32 := Scalar.select v19 c0_i32_15 v23
  let v25 : BitVec 32 := Scalar.muli c2_i32_16 v24
  let c0_i32 : BitVec 32 := 0#32
  let v15 : BitVec 1 := Scalar.cmpi .eq v14 c0_i32
  let c0_i32_10 : BitVec 32 := 0#32
  let c4_i32 : BitVec 32 := 4#32
  let v16 : BitVec 1 := Scalar.cmpi .sle v14 c4_i32
  let c1_i32_8 : BitVec 32 := 1#32
  let c0_i32_9 : BitVec 32 := 0#32
  let v17 : BitVec 32 := Scalar.select v16 c1_i32_8 c0_i32_9
  let v18 : BitVec 32 := Scalar.select v15 c0_i32_10 v17
  let v26 : BitVec 32 := Scalar.addi v18 v24
  let c2_i32_17 : BitVec 32 := 2#32
  let v27 : BitVec 32 := Scalar.remsi v26 c2_i32_17
  let v28 : BitVec 32 := Scalar.addi v25 v27
  let v30 : BitVec 32 := Scalar.addi v29 v28
  let c1_i32_1072 : BitVec 32 := 1#32
  let v1035 : BitVec 32 := Scalar.muli v30 c1_i32_1072
  let v1036 : BitVec 32 := Scalar.addi c0_i32_1073 v1035
  v1036.toNat
def k0_dev44 (d0 : Dev nD) : Nat :=
  let c0_i32_1083 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_34 : BitVec 32 := 8#32
  let v48 : BitVec 32 := Scalar.muli v3 c8_i32_34
  let c2_i32_32 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c8_i32_19 : BitVec 32 := 8#32
  let v31 : BitVec 32 := Scalar.addi v12 c8_i32_19
  let c1_i32_20 : BitVec 32 := 1#32
  let v32 : BitVec 32 := Scalar.subi v31 c1_i32_20
  let c8_i32_21 : BitVec 32 := 8#32
  let v33 : BitVec 32 := Scalar.remsi v32 c8_i32_21
  let c0_i32_27 : BitVec 32 := 0#32
  let v38 : BitVec 1 := Scalar.cmpi .eq v33 c0_i32_27
  let c0_i32_31 : BitVec 32 := 0#32
  let c4_i32_28 : BitVec 32 := 4#32
  let v39 : BitVec 1 := Scalar.cmpi .sle v33 c4_i32_28
  let c1_i32_29 : BitVec 32 := 1#32
  let v40 : BitVec 32 := Scalar.subi v33 c1_i32_29
  let c8_i32_30 : BitVec 32 := 8#32
  let v41 : BitVec 32 := Scalar.subi c8_i32_30 v33
  let v42 : BitVec 32 := Scalar.select v39 v40 v41
  let v43 : BitVec 32 := Scalar.select v38 c0_i32_31 v42
  let v44 : BitVec 32 := Scalar.muli c2_i32_32 v43
  let c0_i32_22 : BitVec 32 := 0#32
  let v34 : BitVec 1 := Scalar.cmpi .eq v33 c0_i32_22
  let c0_i32_26 : BitVec 32 := 0#32
  let c4_i32_23 : BitVec 32 := 4#32
  let v35 : BitVec 1 := Scalar.cmpi .sle v33 c4_i32_23
  let c1_i32_24 : BitVec 32 := 1#32
  let c0_i32_25 : BitVec 32 := 0#32
  let v36 : BitVec 32 := Scalar.select v35 c1_i32_24 c0_i32_25
  let v37 : BitVec 32 := Scalar.select v34 c0_i32_26 v36
  let v45 : BitVec 32 := Scalar.addi v37 v43
  let c2_i32_33 : BitVec 32 := 2#32
  let v46 : BitVec 32 := Scalar.remsi v45 c2_i32_33
  let v47 : BitVec 32 := Scalar.addi v44 v46
  let v49 : BitVec 32 := Scalar.addi v48 v47
  let c1_i32_1082 : BitVec 32 := 1#32
  let v1045 : BitVec 32 := Scalar.muli v49 c1_i32_1082
  let v1046 : BitVec 32 := Scalar.addi c0_i32_1083 v1045
  v1046.toNat
def k0_dev45 (d0 : Dev nD) : Nat :=
  let c0_i32_1200 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_34 : BitVec 32 := 8#32
  let v48 : BitVec 32 := Scalar.muli v3 c8_i32_34
  let c2_i32_32 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c8_i32_19 : BitVec 32 := 8#32
  let v31 : BitVec 32 := Scalar.addi v12 c8_i32_19
  let c1_i32_20 : BitVec 32 := 1#32
  let v32 : BitVec 32 := Scalar.subi v31 c1_i32_20
  let c8_i32_21 : BitVec 32 := 8#32
  let v33 : BitVec 32 := Scalar.remsi v32 c8_i32_21
  let c0_i32_27 : BitVec 32 := 0#32
  let v38 : BitVec 1 := Scalar.cmpi .eq v33 c0_i32_27
  let c0_i32_31 : BitVec 32 := 0#32
  let c4_i32_28 : BitVec 32 := 4#32
  let v39 : BitVec 1 := Scalar.cmpi .sle v33 c4_i32_28
  let c1_i32_29 : BitVec 32 := 1#32
  let v40 : BitVec 32 := Scalar.subi v33 c1_i32_29
  let c8_i32_30 : BitVec 32 := 8#32
  let v41 : BitVec 32 := Scalar.subi c8_i32_30 v33
  let v42 : BitVec 32 := Scalar.select v39 v40 v41
  let v43 : BitVec 32 := Scalar.select v38 c0_i32_31 v42
  let v44 : BitVec 32 := Scalar.muli c2_i32_32 v43
  let c0_i32_22 : BitVec 32 := 0#32
  let v34 : BitVec 1 := Scalar.cmpi .eq v33 c0_i32_22
  let c0_i32_26 : BitVec 32 := 0#32
  let c4_i32_23 : BitVec 32 := 4#32
  let v35 : BitVec 1 := Scalar.cmpi .sle v33 c4_i32_23
  let c1_i32_24 : BitVec 32 := 1#32
  let c0_i32_25 : BitVec 32 := 0#32
  let v36 : BitVec 32 := Scalar.select v35 c1_i32_24 c0_i32_25
  let v37 : BitVec 32 := Scalar.select v34 c0_i32_26 v36
  let v45 : BitVec 32 := Scalar.addi v37 v43
  let c2_i32_33 : BitVec 32 := 2#32
  let v46 : BitVec 32 := Scalar.remsi v45 c2_i32_33
  let v47 : BitVec 32 := Scalar.addi v44 v46
  let v49 : BitVec 32 := Scalar.addi v48 v47
  let c1_i32_1199 : BitVec 32 := 1#32
  let v1164 : BitVec 32 := Scalar.muli v49 c1_i32_1199
  let v1165 : BitVec 32 := Scalar.addi c0_i32_1200 v1164
  v1165.toNat
def k0_dev46 (d0 : Dev nD) : Nat :=
  let c0_i32_1203 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_18 : BitVec 32 := 8#32
  let v29 : BitVec 32 := Scalar.muli v3 c8_i32_18
  let c2_i32_16 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_6 : BitVec 32 := 1#32
  let v13 : BitVec 32 := Scalar.addi v12 c1_i32_6
  let c8_i32_7 : BitVec 32 := 8#32
  let v14 : BitVec 32 := Scalar.remsi v13 c8_i32_7
  let c0_i32_11 : BitVec 32 := 0#32
  let v19 : BitVec 1 := Scalar.cmpi .eq v14 c0_i32_11
  let c0_i32_15 : BitVec 32 := 0#32
  let c4_i32_12 : BitVec 32 := 4#32
  let v20 : BitVec 1 := Scalar.cmpi .sle v14 c4_i32_12
  let c1_i32_13 : BitVec 32 := 1#32
  let v21 : BitVec 32 := Scalar.subi v14 c1_i32_13
  let c8_i32_14 : BitVec 32 := 8#32
  let v22 : BitVec 32 := Scalar.subi c8_i32_14 v14
  let v23 : BitVec 32 := Scalar.select v20 v21 v22
  let v24 : BitVec 32 := Scalar.select v19 c0_i32_15 v23
  let v25 : BitVec 32 := Scalar.muli c2_i32_16 v24
  let c0_i32 : BitVec 32 := 0#32
  let v15 : BitVec 1 := Scalar.cmpi .eq v14 c0_i32
  let c0_i32_10 : BitVec 32 := 0#32
  let c4_i32 : BitVec 32 := 4#32
  let v16 : BitVec 1 := Scalar.cmpi .sle v14 c4_i32
  let c1_i32_8 : BitVec 32 := 1#32
  let c0_i32_9 : BitVec 32 := 0#32
  let v17 : BitVec 32 := Scalar.select v16 c1_i32_8 c0_i32_9
  let v18 : BitVec 32 := Scalar.select v15 c0_i32_10 v17
  let v26 : BitVec 32 := Scalar.addi v18 v24
  let c2_i32_17 : BitVec 32 := 2#32
  let v27 : BitVec 32 := Scalar.remsi v26 c2_i32_17
  let v28 : BitVec 32 := Scalar.addi v25 v27
  let v30 : BitVec 32 := Scalar.addi v29 v28
  let c1_i32_1202 : BitVec 32 := 1#32
  let v1166 : BitVec 32 := Scalar.muli v30 c1_i32_1202
  let v1167 : BitVec 32 := Scalar.addi c0_i32_1203 v1166
  v1167.toNat
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c128_i32 : BitVec 32 := 128#32
  let v1175 : BitVec 32 := Scalar.muli v3 c128_i32
  let v1176 : Index := Scalar.indexCast v1175
  let c0_1211 : Index := 0#32
  ![v1176.toNat, 0]
def k0_dev47 (d0 : Dev nD) : Nat :=
  let c0_i32_1229 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_35 : BitVec 32 := 1#32
  let v50 : BitVec 32 := Scalar.addi v3 c1_i32_35
  let c4_i32_36 : BitVec 32 := 4#32
  let v51 : BitVec 32 := Scalar.remsi v50 c4_i32_36
  let c8_i32_37 : BitVec 32 := 8#32
  let v52 : BitVec 32 := Scalar.muli v51 c8_i32_37
  let c8_i32_0 : BitVec 32 := 8#32
  let v4 : BitVec 32 := Scalar.remsi v2 c8_i32_0
  let v53 : BitVec 32 := Scalar.addi v52 v4
  let c1_i32_1228 : BitVec 32 := 1#32
  let v1187 : BitVec 32 := Scalar.muli v53 c1_i32_1228
  let v1188 : BitVec 32 := Scalar.addi c0_i32_1229 v1187
  v1188.toNat
def k0_dev48 (d0 : Dev nD) : Nat :=
  let c0_i32_1239 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c4_i32_38 : BitVec 32 := 4#32
  let v54 : BitVec 32 := Scalar.addi v3 c4_i32_38
  let c1_i32_39 : BitVec 32 := 1#32
  let v55 : BitVec 32 := Scalar.subi v54 c1_i32_39
  let c4_i32_40 : BitVec 32 := 4#32
  let v56 : BitVec 32 := Scalar.remsi v55 c4_i32_40
  let c8_i32_41 : BitVec 32 := 8#32
  let v57 : BitVec 32 := Scalar.muli v56 c8_i32_41
  let c8_i32_0 : BitVec 32 := 8#32
  let v4 : BitVec 32 := Scalar.remsi v2 c8_i32_0
  let v58 : BitVec 32 := Scalar.addi v57 v4
  let c1_i32_1238 : BitVec 32 := 1#32
  let v1197 : BitVec 32 := Scalar.muli v58 c1_i32_1238
  let v1198 : BitVec 32 := Scalar.addi c0_i32_1239 v1197
  v1198.toNat
def k0_off5 (d0 : Dev nD) (c1_i32_1282 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v1235 : BitVec 32 := Scalar.subi v3 c1_i32_1282
  let c8_i32_1283 : BitVec 32 := 8#32
  let v1236 : BitVec 32 := Scalar.addi v1235 c8_i32_1283
  let c4_i32_1284 : BitVec 32 := 4#32
  let v1237 : BitVec 32 := Scalar.remsi v1236 c4_i32_1284
  let c128_i32_1290 : BitVec 32 := 128#32
  let v1242 : BitVec 32 := Scalar.muli v1237 c128_i32_1290
  let v1243 : Index := Scalar.indexCast v1242
  let c0_1291 : Index := 0#32
  ![v1243.toNat, 0]
def k0_off6 (d0 : Dev nD) (c1_i32_1285 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let v1238 : BitVec 32 := Scalar.addi v3 c1_i32_1285
  let c4_i32_1286 : BitVec 32 := 4#32
  let v1239 : BitVec 32 := Scalar.remsi v1238 c4_i32_1286
  let c128_i32_1295 : BitVec 32 := 128#32
  let v1248 : BitVec 32 := Scalar.muli v1239 c128_i32_1295
  let v1249 : Index := Scalar.indexCast v1248
  let c0_1296 : Index := 0#32
  ![v1249.toNat, 0]
def k0_dev49 (d0 : Dev nD) : Nat :=
  let c0_i32_1305 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c4_i32_38 : BitVec 32 := 4#32
  let v54 : BitVec 32 := Scalar.addi v3 c4_i32_38
  let c1_i32_39 : BitVec 32 := 1#32
  let v55 : BitVec 32 := Scalar.subi v54 c1_i32_39
  let c4_i32_40 : BitVec 32 := 4#32
  let v56 : BitVec 32 := Scalar.remsi v55 c4_i32_40
  let c8_i32_41 : BitVec 32 := 8#32
  let v57 : BitVec 32 := Scalar.muli v56 c8_i32_41
  let c8_i32_0 : BitVec 32 := 8#32
  let v4 : BitVec 32 := Scalar.remsi v2 c8_i32_0
  let v58 : BitVec 32 := Scalar.addi v57 v4
  let c1_i32_1304 : BitVec 32 := 1#32
  let v1258 : BitVec 32 := Scalar.muli v58 c1_i32_1304
  let v1259 : BitVec 32 := Scalar.addi c0_i32_1305 v1258
  v1259.toNat
def k0_dev50 (d0 : Dev nD) : Nat :=
  let c0_i32_1308 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_35 : BitVec 32 := 1#32
  let v50 : BitVec 32 := Scalar.addi v3 c1_i32_35
  let c4_i32_36 : BitVec 32 := 4#32
  let v51 : BitVec 32 := Scalar.remsi v50 c4_i32_36
  let c8_i32_37 : BitVec 32 := 8#32
  let v52 : BitVec 32 := Scalar.muli v51 c8_i32_37
  let c8_i32_0 : BitVec 32 := 8#32
  let v4 : BitVec 32 := Scalar.remsi v2 c8_i32_0
  let v53 : BitVec 32 := Scalar.addi v52 v4
  let c1_i32_1307 : BitVec 32 := 1#32
  let v1260 : BitVec 32 := Scalar.muli v53 c1_i32_1307
  let v1261 : BitVec 32 := Scalar.addi c0_i32_1308 v1260
  v1261.toNat
def k0_dev51 (d0 : Dev nD) : Nat :=
  let c0_i32_1318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_35 : BitVec 32 := 1#32
  let v50 : BitVec 32 := Scalar.addi v3 c1_i32_35
  let c4_i32_36 : BitVec 32 := 4#32
  let v51 : BitVec 32 := Scalar.remsi v50 c4_i32_36
  let c8_i32_37 : BitVec 32 := 8#32
  let v52 : BitVec 32 := Scalar.muli v51 c8_i32_37
  let c8_i32_0 : BitVec 32 := 8#32
  let v4 : BitVec 32 := Scalar.remsi v2 c8_i32_0
  let v53 : BitVec 32 := Scalar.addi v52 v4
  let c1_i32_1317 : BitVec 32 := 1#32
  let v1262 : BitVec 32 := Scalar.muli v53 c1_i32_1317
  let v1263 : BitVec 32 := Scalar.addi c0_i32_1318 v1262
  v1263.toNat
def k0_dev52 (d0 : Dev nD) : Nat :=
  let c0_i32_1328 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c4_i32_38 : BitVec 32 := 4#32
  let v54 : BitVec 32 := Scalar.addi v3 c4_i32_38
  let c1_i32_39 : BitVec 32 := 1#32
  let v55 : BitVec 32 := Scalar.subi v54 c1_i32_39
  let c4_i32_40 : BitVec 32 := 4#32
  let v56 : BitVec 32 := Scalar.remsi v55 c4_i32_40
  let c8_i32_41 : BitVec 32 := 8#32
  let v57 : BitVec 32 := Scalar.muli v56 c8_i32_41
  let c8_i32_0 : BitVec 32 := 8#32
  let v4 : BitVec 32 := Scalar.remsi v2 c8_i32_0
  let v58 : BitVec 32 := Scalar.addi v57 v4
  let c1_i32_1327 : BitVec 32 := 1#32
  let v1272 : BitVec 32 := Scalar.muli v58 c1_i32_1327
  let v1273 : BitVec 32 := Scalar.addi c0_i32_1328 v1272
  v1273.toNat
def k0_dev53 (d0 : Dev nD) : Nat :=
  let c0_i32_1394 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c4_i32_38 : BitVec 32 := 4#32
  let v54 : BitVec 32 := Scalar.addi v3 c4_i32_38
  let c1_i32_39 : BitVec 32 := 1#32
  let v55 : BitVec 32 := Scalar.subi v54 c1_i32_39
  let c4_i32_40 : BitVec 32 := 4#32
  let v56 : BitVec 32 := Scalar.remsi v55 c4_i32_40
  let c8_i32_41 : BitVec 32 := 8#32
  let v57 : BitVec 32 := Scalar.muli v56 c8_i32_41
  let c8_i32_0 : BitVec 32 := 8#32
  let v4 : BitVec 32 := Scalar.remsi v2 c8_i32_0
  let v58 : BitVec 32 := Scalar.addi v57 v4
  let c1_i32_1393 : BitVec 32 := 1#32
  let v1333 : BitVec 32 := Scalar.muli v58 c1_i32_1393
  let v1334 : BitVec 32 := Scalar.addi c0_i32_1394 v1333
  v1334.toNat
def k0_dev54 (d0 : Dev nD) : Nat :=
  let c0_i32_1397 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_35 : BitVec 32 := 1#32
  let v50 : BitVec 32 := Scalar.addi v3 c1_i32_35
  let c4_i32_36 : BitVec 32 := 4#32
  let v51 : BitVec 32 := Scalar.remsi v50 c4_i32_36
  let c8_i32_37 : BitVec 32 := 8#32
  let v52 : BitVec 32 := Scalar.muli v51 c8_i32_37
  let c8_i32_0 : BitVec 32 := 8#32
  let v4 : BitVec 32 := Scalar.remsi v2 c8_i32_0
  let v53 : BitVec 32 := Scalar.addi v52 v4
  let c1_i32_1396 : BitVec 32 := 1#32
  let v1335 : BitVec 32 := Scalar.muli v53 c1_i32_1396
  let v1336 : BitVec 32 := Scalar.addi c0_i32_1397 v1335
  v1336.toNat
def k0_dev55 (d0 : Dev nD) : Nat :=
  let c0_i32_1407 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_35 : BitVec 32 := 1#32
  let v50 : BitVec 32 := Scalar.addi v3 c1_i32_35
  let c4_i32_36 : BitVec 32 := 4#32
  let v51 : BitVec 32 := Scalar.remsi v50 c4_i32_36
  let c8_i32_37 : BitVec 32 := 8#32
  let v52 : BitVec 32 := Scalar.muli v51 c8_i32_37
  let c8_i32_0 : BitVec 32 := 8#32
  let v4 : BitVec 32 := Scalar.remsi v2 c8_i32_0
  let v53 : BitVec 32 := Scalar.addi v52 v4
  let c1_i32_1406 : BitVec 32 := 1#32
  let v1337 : BitVec 32 := Scalar.muli v53 c1_i32_1406
  let v1338 : BitVec 32 := Scalar.addi c0_i32_1407 v1337
  v1338.toNat
def k0_dev56 (d0 : Dev nD) : Nat :=
  let c0_i32_1417 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c4_i32_38 : BitVec 32 := 4#32
  let v54 : BitVec 32 := Scalar.addi v3 c4_i32_38
  let c1_i32_39 : BitVec 32 := 1#32
  let v55 : BitVec 32 := Scalar.subi v54 c1_i32_39
  let c4_i32_40 : BitVec 32 := 4#32
  let v56 : BitVec 32 := Scalar.remsi v55 c4_i32_40
  let c8_i32_41 : BitVec 32 := 8#32
  let v57 : BitVec 32 := Scalar.muli v56 c8_i32_41
  let c8_i32_0 : BitVec 32 := 8#32
  let v4 : BitVec 32 := Scalar.remsi v2 c8_i32_0
  let v58 : BitVec 32 := Scalar.addi v57 v4
  let c1_i32_1416 : BitVec 32 := 1#32
  let v1347 : BitVec 32 := Scalar.muli v58 c1_i32_1416
  let v1348 : BitVec 32 := Scalar.addi c0_i32_1417 v1347
  v1348.toNat
def k0_off7 (d0 : Dev nD) (c3_i32_1460 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_1204 : BitVec 32 := 1#32
  let v1168 : BitVec 32 := Scalar.addi v12 c1_i32_1204
  let c8_i32_1205 : BitVec 32 := 8#32
  let v1169 : BitVec 32 := Scalar.remsi v1168 c8_i32_1205
  let c512_i32_1206 : BitVec 32 := 512#32
  let v1170 : BitVec 32 := Scalar.muli v1169 c512_i32_1206
  let c8_i32 : BitVec 32 := 8#32
  let v3 : BitVec 32 := Scalar.divsi v2 c8_i32
  let v1385 : BitVec 32 := Scalar.subi v3 c3_i32_1460
  let c8_i32_1461 : BitVec 32 := 8#32
  let v1386 : BitVec 32 := Scalar.addi v1385 c8_i32_1461
  let c4_i32_1462 : BitVec 32 := 4#32
  let v1387 : BitVec 32 := Scalar.remsi v1386 c4_i32_1462
  let c128_i32_1483 : BitVec 32 := 128#32
  let v1428 : BitVec 32 := Scalar.muli v1387 c128_i32_1483
  let v1429 : BitVec 32 := Scalar.addi v1170 v1428
  let v1430 : Index := Scalar.indexCast v1429
  let c0_1484 : Index := 0#32
  ![v1430.toNat, 0]
def k0_off8 (d0 : Dev nD) (c3_i32_1463 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c8_i32_1207 : BitVec 32 := 8#32
  let v1171 : BitVec 32 := Scalar.addi v12 c8_i32_1207
  let c1_i32_1208 : BitVec 32 := 1#32
  let v1172 : BitVec 32 := Scalar.subi v1171 c1_i32_1208
  let c8_i32_1209 : BitVec 32 := 8#32
  let v1173 : BitVec 32 := Scalar.remsi v1172 c8_i32_1209
  let c512_i32_1210 : BitVec 32 := 512#32
  let v1174 : BitVec 32 := Scalar.muli v1173 c512_i32_1210
  let c8_i32 : BitVec 32 := 8#32
  let v3 : BitVec 32 := Scalar.divsi v2 c8_i32
  let v1388 : BitVec 32 := Scalar.addi v3 c3_i32_1463
  let c4_i32_1464 : BitVec 32 := 4#32
  let v1389 : BitVec 32 := Scalar.remsi v1388 c4_i32_1464
  let c128_i32_1485 : BitVec 32 := 128#32
  let v1432 : BitVec 32 := Scalar.muli v1389 c128_i32_1485
  let v1433 : BitVec 32 := Scalar.addi v1174 v1432
  let v1434 : Index := Scalar.indexCast v1433
  let c1024_1486 : Index := 1024#32
  ![v1434.toNat, 1024]
def k0_dev57 (d0 : Dev nD) : Nat :=
  let c0_i32_1499 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c4_i32_38 : BitVec 32 := 4#32
  let v54 : BitVec 32 := Scalar.addi v3 c4_i32_38
  let c1_i32_39 : BitVec 32 := 1#32
  let v55 : BitVec 32 := Scalar.subi v54 c1_i32_39
  let c4_i32_40 : BitVec 32 := 4#32
  let v56 : BitVec 32 := Scalar.remsi v55 c4_i32_40
  let c8_i32_41 : BitVec 32 := 8#32
  let v57 : BitVec 32 := Scalar.muli v56 c8_i32_41
  let c8_i32_0 : BitVec 32 := 8#32
  let v4 : BitVec 32 := Scalar.remsi v2 c8_i32_0
  let v58 : BitVec 32 := Scalar.addi v57 v4
  let c1_i32_1498 : BitVec 32 := 1#32
  let v1456 : BitVec 32 := Scalar.muli v58 c1_i32_1498
  let v1457 : BitVec 32 := Scalar.addi c0_i32_1499 v1456
  v1457.toNat
def k0_dev58 (d0 : Dev nD) : Nat :=
  let c0_i32_1502 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_35 : BitVec 32 := 1#32
  let v50 : BitVec 32 := Scalar.addi v3 c1_i32_35
  let c4_i32_36 : BitVec 32 := 4#32
  let v51 : BitVec 32 := Scalar.remsi v50 c4_i32_36
  let c8_i32_37 : BitVec 32 := 8#32
  let v52 : BitVec 32 := Scalar.muli v51 c8_i32_37
  let c8_i32_0 : BitVec 32 := 8#32
  let v4 : BitVec 32 := Scalar.remsi v2 c8_i32_0
  let v53 : BitVec 32 := Scalar.addi v52 v4
  let c1_i32_1501 : BitVec 32 := 1#32
  let v1458 : BitVec 32 := Scalar.muli v53 c1_i32_1501
  let v1459 : BitVec 32 := Scalar.addi c0_i32_1502 v1458
  v1459.toNat
def k0_dev59 (d0 : Dev nD) : Nat :=
  let c0_i32_1512 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_35 : BitVec 32 := 1#32
  let v50 : BitVec 32 := Scalar.addi v3 c1_i32_35
  let c4_i32_36 : BitVec 32 := 4#32
  let v51 : BitVec 32 := Scalar.remsi v50 c4_i32_36
  let c8_i32_37 : BitVec 32 := 8#32
  let v52 : BitVec 32 := Scalar.muli v51 c8_i32_37
  let c8_i32_0 : BitVec 32 := 8#32
  let v4 : BitVec 32 := Scalar.remsi v2 c8_i32_0
  let v53 : BitVec 32 := Scalar.addi v52 v4
  let c1_i32_1511 : BitVec 32 := 1#32
  let v1460 : BitVec 32 := Scalar.muli v53 c1_i32_1511
  let v1461 : BitVec 32 := Scalar.addi c0_i32_1512 v1460
  v1461.toNat
def k0_dev60 (d0 : Dev nD) : Nat :=
  let c0_i32_1522 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c4_i32_38 : BitVec 32 := 4#32
  let v54 : BitVec 32 := Scalar.addi v3 c4_i32_38
  let c1_i32_39 : BitVec 32 := 1#32
  let v55 : BitVec 32 := Scalar.subi v54 c1_i32_39
  let c4_i32_40 : BitVec 32 := 4#32
  let v56 : BitVec 32 := Scalar.remsi v55 c4_i32_40
  let c8_i32_41 : BitVec 32 := 8#32
  let v57 : BitVec 32 := Scalar.muli v56 c8_i32_41
  let c8_i32_0 : BitVec 32 := 8#32
  let v4 : BitVec 32 := Scalar.remsi v2 c8_i32_0
  let v58 : BitVec 32 := Scalar.addi v57 v4
  let c1_i32_1521 : BitVec 32 := 1#32
  let v1470 : BitVec 32 := Scalar.muli v58 c1_i32_1521
  let v1471 : BitVec 32 := Scalar.addi c0_i32_1522 v1470
  v1471.toNat
def k0_dev61 (d0 : Dev nD) : Nat :=
  let c0_i32_1604 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c4_i32_38 : BitVec 32 := 4#32
  let v54 : BitVec 32 := Scalar.addi v3 c4_i32_38
  let c1_i32_39 : BitVec 32 := 1#32
  let v55 : BitVec 32 := Scalar.subi v54 c1_i32_39
  let c4_i32_40 : BitVec 32 := 4#32
  let v56 : BitVec 32 := Scalar.remsi v55 c4_i32_40
  let c8_i32_41 : BitVec 32 := 8#32
  let v57 : BitVec 32 := Scalar.muli v56 c8_i32_41
  let c8_i32_0 : BitVec 32 := 8#32
  let v4 : BitVec 32 := Scalar.remsi v2 c8_i32_0
  let v58 : BitVec 32 := Scalar.addi v57 v4
  let c1_i32_1603 : BitVec 32 := 1#32
  let v1551 : BitVec 32 := Scalar.muli v58 c1_i32_1603
  let v1552 : BitVec 32 := Scalar.addi c0_i32_1604 v1551
  v1552.toNat
def k0_dev62 (d0 : Dev nD) : Nat :=
  let c0_i32_1607 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_35 : BitVec 32 := 1#32
  let v50 : BitVec 32 := Scalar.addi v3 c1_i32_35
  let c4_i32_36 : BitVec 32 := 4#32
  let v51 : BitVec 32 := Scalar.remsi v50 c4_i32_36
  let c8_i32_37 : BitVec 32 := 8#32
  let v52 : BitVec 32 := Scalar.muli v51 c8_i32_37
  let c8_i32_0 : BitVec 32 := 8#32
  let v4 : BitVec 32 := Scalar.remsi v2 c8_i32_0
  let v53 : BitVec 32 := Scalar.addi v52 v4
  let c1_i32_1606 : BitVec 32 := 1#32
  let v1553 : BitVec 32 := Scalar.muli v53 c1_i32_1606
  let v1554 : BitVec 32 := Scalar.addi c0_i32_1607 v1553
  v1554.toNat
def k0_dev63 (d0 : Dev nD) : Nat :=
  let c0_i32_1617 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_35 : BitVec 32 := 1#32
  let v50 : BitVec 32 := Scalar.addi v3 c1_i32_35
  let c4_i32_36 : BitVec 32 := 4#32
  let v51 : BitVec 32 := Scalar.remsi v50 c4_i32_36
  let c8_i32_37 : BitVec 32 := 8#32
  let v52 : BitVec 32 := Scalar.muli v51 c8_i32_37
  let c8_i32_0 : BitVec 32 := 8#32
  let v4 : BitVec 32 := Scalar.remsi v2 c8_i32_0
  let v53 : BitVec 32 := Scalar.addi v52 v4
  let c1_i32_1616 : BitVec 32 := 1#32
  let v1555 : BitVec 32 := Scalar.muli v53 c1_i32_1616
  let v1556 : BitVec 32 := Scalar.addi c0_i32_1617 v1555
  v1556.toNat
def k0_dev64 (d0 : Dev nD) : Nat :=
  let c0_i32_1627 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c4_i32_38 : BitVec 32 := 4#32
  let v54 : BitVec 32 := Scalar.addi v3 c4_i32_38
  let c1_i32_39 : BitVec 32 := 1#32
  let v55 : BitVec 32 := Scalar.subi v54 c1_i32_39
  let c4_i32_40 : BitVec 32 := 4#32
  let v56 : BitVec 32 := Scalar.remsi v55 c4_i32_40
  let c8_i32_41 : BitVec 32 := 8#32
  let v57 : BitVec 32 := Scalar.muli v56 c8_i32_41
  let c8_i32_0 : BitVec 32 := 8#32
  let v4 : BitVec 32 := Scalar.remsi v2 c8_i32_0
  let v58 : BitVec 32 := Scalar.addi v57 v4
  let c1_i32_1626 : BitVec 32 := 1#32
  let v1565 : BitVec 32 := Scalar.muli v58 c1_i32_1626
  let v1566 : BitVec 32 := Scalar.addi c0_i32_1627 v1565
  v1566.toNat
def k0_dev65 (d0 : Dev nD) : Nat :=
  let c0_i32_1716 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c1_i32_35 : BitVec 32 := 1#32
  let v50 : BitVec 32 := Scalar.addi v3 c1_i32_35
  let c4_i32_36 : BitVec 32 := 4#32
  let v51 : BitVec 32 := Scalar.remsi v50 c4_i32_36
  let c8_i32_37 : BitVec 32 := 8#32
  let v52 : BitVec 32 := Scalar.muli v51 c8_i32_37
  let c8_i32_0 : BitVec 32 := 8#32
  let v4 : BitVec 32 := Scalar.remsi v2 c8_i32_0
  let v53 : BitVec 32 := Scalar.addi v52 v4
  let c1_i32_1715 : BitVec 32 := 1#32
  let v1646 : BitVec 32 := Scalar.muli v53 c1_i32_1715
  let v1647 : BitVec 32 := Scalar.addi c0_i32_1716 v1646
  v1647.toNat
def k0_dev66 (d0 : Dev nD) : Nat :=
  let c0_i32_1726 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c4_i32_38 : BitVec 32 := 4#32
  let v54 : BitVec 32 := Scalar.addi v3 c4_i32_38
  let c1_i32_39 : BitVec 32 := 1#32
  let v55 : BitVec 32 := Scalar.subi v54 c1_i32_39
  let c4_i32_40 : BitVec 32 := 4#32
  let v56 : BitVec 32 := Scalar.remsi v55 c4_i32_40
  let c8_i32_41 : BitVec 32 := 8#32
  let v57 : BitVec 32 := Scalar.muli v56 c8_i32_41
  let c8_i32_0 : BitVec 32 := 8#32
  let v4 : BitVec 32 := Scalar.remsi v2 c8_i32_0
  let v58 : BitVec 32 := Scalar.addi v57 v4
  let c1_i32_1725 : BitVec 32 := 1#32
  let v1656 : BitVec 32 := Scalar.muli v58 c1_i32_1725
  let v1657 : BitVec 32 := Scalar.addi c0_i32_1726 v1656
  v1657.toNat
def k0_dev67 (d0 : Dev nD) : Nat :=
  let c0_i32_1813 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_18 : BitVec 32 := 8#32
  let v29 : BitVec 32 := Scalar.muli v3 c8_i32_18
  let c2_i32_16 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_6 : BitVec 32 := 1#32
  let v13 : BitVec 32 := Scalar.addi v12 c1_i32_6
  let c8_i32_7 : BitVec 32 := 8#32
  let v14 : BitVec 32 := Scalar.remsi v13 c8_i32_7
  let c0_i32_11 : BitVec 32 := 0#32
  let v19 : BitVec 1 := Scalar.cmpi .eq v14 c0_i32_11
  let c0_i32_15 : BitVec 32 := 0#32
  let c4_i32_12 : BitVec 32 := 4#32
  let v20 : BitVec 1 := Scalar.cmpi .sle v14 c4_i32_12
  let c1_i32_13 : BitVec 32 := 1#32
  let v21 : BitVec 32 := Scalar.subi v14 c1_i32_13
  let c8_i32_14 : BitVec 32 := 8#32
  let v22 : BitVec 32 := Scalar.subi c8_i32_14 v14
  let v23 : BitVec 32 := Scalar.select v20 v21 v22
  let v24 : BitVec 32 := Scalar.select v19 c0_i32_15 v23
  let v25 : BitVec 32 := Scalar.muli c2_i32_16 v24
  let c0_i32 : BitVec 32 := 0#32
  let v15 : BitVec 1 := Scalar.cmpi .eq v14 c0_i32
  let c0_i32_10 : BitVec 32 := 0#32
  let c4_i32 : BitVec 32 := 4#32
  let v16 : BitVec 1 := Scalar.cmpi .sle v14 c4_i32
  let c1_i32_8 : BitVec 32 := 1#32
  let c0_i32_9 : BitVec 32 := 0#32
  let v17 : BitVec 32 := Scalar.select v16 c1_i32_8 c0_i32_9
  let v18 : BitVec 32 := Scalar.select v15 c0_i32_10 v17
  let v26 : BitVec 32 := Scalar.addi v18 v24
  let c2_i32_17 : BitVec 32 := 2#32
  let v27 : BitVec 32 := Scalar.remsi v26 c2_i32_17
  let v28 : BitVec 32 := Scalar.addi v25 v27
  let v30 : BitVec 32 := Scalar.addi v29 v28
  let c1_i32_1812 : BitVec 32 := 1#32
  let v1735 : BitVec 32 := Scalar.muli v30 c1_i32_1812
  let v1736 : BitVec 32 := Scalar.addi c0_i32_1813 v1735
  v1736.toNat
def k0_dev68 (d0 : Dev nD) : Nat :=
  let c0_i32_1823 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_34 : BitVec 32 := 8#32
  let v48 : BitVec 32 := Scalar.muli v3 c8_i32_34
  let c2_i32_32 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c8_i32_19 : BitVec 32 := 8#32
  let v31 : BitVec 32 := Scalar.addi v12 c8_i32_19
  let c1_i32_20 : BitVec 32 := 1#32
  let v32 : BitVec 32 := Scalar.subi v31 c1_i32_20
  let c8_i32_21 : BitVec 32 := 8#32
  let v33 : BitVec 32 := Scalar.remsi v32 c8_i32_21
  let c0_i32_27 : BitVec 32 := 0#32
  let v38 : BitVec 1 := Scalar.cmpi .eq v33 c0_i32_27
  let c0_i32_31 : BitVec 32 := 0#32
  let c4_i32_28 : BitVec 32 := 4#32
  let v39 : BitVec 1 := Scalar.cmpi .sle v33 c4_i32_28
  let c1_i32_29 : BitVec 32 := 1#32
  let v40 : BitVec 32 := Scalar.subi v33 c1_i32_29
  let c8_i32_30 : BitVec 32 := 8#32
  let v41 : BitVec 32 := Scalar.subi c8_i32_30 v33
  let v42 : BitVec 32 := Scalar.select v39 v40 v41
  let v43 : BitVec 32 := Scalar.select v38 c0_i32_31 v42
  let v44 : BitVec 32 := Scalar.muli c2_i32_32 v43
  let c0_i32_22 : BitVec 32 := 0#32
  let v34 : BitVec 1 := Scalar.cmpi .eq v33 c0_i32_22
  let c0_i32_26 : BitVec 32 := 0#32
  let c4_i32_23 : BitVec 32 := 4#32
  let v35 : BitVec 1 := Scalar.cmpi .sle v33 c4_i32_23
  let c1_i32_24 : BitVec 32 := 1#32
  let c0_i32_25 : BitVec 32 := 0#32
  let v36 : BitVec 32 := Scalar.select v35 c1_i32_24 c0_i32_25
  let v37 : BitVec 32 := Scalar.select v34 c0_i32_26 v36
  let v45 : BitVec 32 := Scalar.addi v37 v43
  let c2_i32_33 : BitVec 32 := 2#32
  let v46 : BitVec 32 := Scalar.remsi v45 c2_i32_33
  let v47 : BitVec 32 := Scalar.addi v44 v46
  let v49 : BitVec 32 := Scalar.addi v48 v47
  let c1_i32_1822 : BitVec 32 := 1#32
  let v1745 : BitVec 32 := Scalar.muli v49 c1_i32_1822
  let v1746 : BitVec 32 := Scalar.addi c0_i32_1823 v1745
  v1746.toNat
def k0_dev69 (d0 : Dev nD) : Nat :=
  let c0_i32_1833 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_18 : BitVec 32 := 8#32
  let v29 : BitVec 32 := Scalar.muli v3 c8_i32_18
  let c2_i32_16 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_6 : BitVec 32 := 1#32
  let v13 : BitVec 32 := Scalar.addi v12 c1_i32_6
  let c8_i32_7 : BitVec 32 := 8#32
  let v14 : BitVec 32 := Scalar.remsi v13 c8_i32_7
  let c0_i32_11 : BitVec 32 := 0#32
  let v19 : BitVec 1 := Scalar.cmpi .eq v14 c0_i32_11
  let c0_i32_15 : BitVec 32 := 0#32
  let c4_i32_12 : BitVec 32 := 4#32
  let v20 : BitVec 1 := Scalar.cmpi .sle v14 c4_i32_12
  let c1_i32_13 : BitVec 32 := 1#32
  let v21 : BitVec 32 := Scalar.subi v14 c1_i32_13
  let c8_i32_14 : BitVec 32 := 8#32
  let v22 : BitVec 32 := Scalar.subi c8_i32_14 v14
  let v23 : BitVec 32 := Scalar.select v20 v21 v22
  let v24 : BitVec 32 := Scalar.select v19 c0_i32_15 v23
  let v25 : BitVec 32 := Scalar.muli c2_i32_16 v24
  let c0_i32 : BitVec 32 := 0#32
  let v15 : BitVec 1 := Scalar.cmpi .eq v14 c0_i32
  let c0_i32_10 : BitVec 32 := 0#32
  let c4_i32 : BitVec 32 := 4#32
  let v16 : BitVec 1 := Scalar.cmpi .sle v14 c4_i32
  let c1_i32_8 : BitVec 32 := 1#32
  let c0_i32_9 : BitVec 32 := 0#32
  let v17 : BitVec 32 := Scalar.select v16 c1_i32_8 c0_i32_9
  let v18 : BitVec 32 := Scalar.select v15 c0_i32_10 v17
  let v26 : BitVec 32 := Scalar.addi v18 v24
  let c2_i32_17 : BitVec 32 := 2#32
  let v27 : BitVec 32 := Scalar.remsi v26 c2_i32_17
  let v28 : BitVec 32 := Scalar.addi v25 v27
  let v30 : BitVec 32 := Scalar.addi v29 v28
  let c1_i32_1832 : BitVec 32 := 1#32
  let v1755 : BitVec 32 := Scalar.muli v30 c1_i32_1832
  let v1756 : BitVec 32 := Scalar.addi c0_i32_1833 v1755
  v1756.toNat
def k0_dev70 (d0 : Dev nD) : Nat :=
  let c0_i32_1843 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_34 : BitVec 32 := 8#32
  let v48 : BitVec 32 := Scalar.muli v3 c8_i32_34
  let c2_i32_32 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c8_i32_19 : BitVec 32 := 8#32
  let v31 : BitVec 32 := Scalar.addi v12 c8_i32_19
  let c1_i32_20 : BitVec 32 := 1#32
  let v32 : BitVec 32 := Scalar.subi v31 c1_i32_20
  let c8_i32_21 : BitVec 32 := 8#32
  let v33 : BitVec 32 := Scalar.remsi v32 c8_i32_21
  let c0_i32_27 : BitVec 32 := 0#32
  let v38 : BitVec 1 := Scalar.cmpi .eq v33 c0_i32_27
  let c0_i32_31 : BitVec 32 := 0#32
  let c4_i32_28 : BitVec 32 := 4#32
  let v39 : BitVec 1 := Scalar.cmpi .sle v33 c4_i32_28
  let c1_i32_29 : BitVec 32 := 1#32
  let v40 : BitVec 32 := Scalar.subi v33 c1_i32_29
  let c8_i32_30 : BitVec 32 := 8#32
  let v41 : BitVec 32 := Scalar.subi c8_i32_30 v33
  let v42 : BitVec 32 := Scalar.select v39 v40 v41
  let v43 : BitVec 32 := Scalar.select v38 c0_i32_31 v42
  let v44 : BitVec 32 := Scalar.muli c2_i32_32 v43
  let c0_i32_22 : BitVec 32 := 0#32
  let v34 : BitVec 1 := Scalar.cmpi .eq v33 c0_i32_22
  let c0_i32_26 : BitVec 32 := 0#32
  let c4_i32_23 : BitVec 32 := 4#32
  let v35 : BitVec 1 := Scalar.cmpi .sle v33 c4_i32_23
  let c1_i32_24 : BitVec 32 := 1#32
  let c0_i32_25 : BitVec 32 := 0#32
  let v36 : BitVec 32 := Scalar.select v35 c1_i32_24 c0_i32_25
  let v37 : BitVec 32 := Scalar.select v34 c0_i32_26 v36
  let v45 : BitVec 32 := Scalar.addi v37 v43
  let c2_i32_33 : BitVec 32 := 2#32
  let v46 : BitVec 32 := Scalar.remsi v45 c2_i32_33
  let v47 : BitVec 32 := Scalar.addi v44 v46
  let v49 : BitVec 32 := Scalar.addi v48 v47
  let c1_i32_1842 : BitVec 32 := 1#32
  let v1765 : BitVec 32 := Scalar.muli v49 c1_i32_1842
  let v1766 : BitVec 32 := Scalar.addi c0_i32_1843 v1765
  v1766.toNat
def k0_off9 (d0 : Dev nD) (c0_i32_1848 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let v1775 : BitVec 32 := Scalar.subi v12 c0_i32_1848
  let c16_i32_1849 : BitVec 32 := 16#32
  let v1776 : BitVec 32 := Scalar.addi v1775 c16_i32_1849
  let c8_i32_1850 : BitVec 32 := 8#32
  let v1777 : BitVec 32 := Scalar.remsi v1776 c8_i32_1850
  let c512_i32_1851 : BitVec 32 := 512#32
  let v1778 : BitVec 32 := Scalar.muli v1777 c512_i32_1851
  let v1813 : Index := Scalar.indexCast v1778
  let c0_1896 : Index := 0#32
  ![v1813.toNat, 0]
def k0_off10 (d0 : Dev nD) (c0_i32_1852 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let v1779 : BitVec 32 := Scalar.addi v12 c0_i32_1852
  let c8_i32_1853 : BitVec 32 := 8#32
  let v1780 : BitVec 32 := Scalar.remsi v1779 c8_i32_1853
  let c512_i32_1854 : BitVec 32 := 512#32
  let v1781 : BitVec 32 := Scalar.muli v1780 c512_i32_1854
  let v1818 : Index := Scalar.indexCast v1781
  let c1024_1900 : Index := 1024#32
  ![v1818.toNat, 1024]
def k0_off11 (d0 : Dev nD) (c0_i32_1848 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let v1775 : BitVec 32 := Scalar.subi v12 c0_i32_1848
  let c16_i32_1849 : BitVec 32 := 16#32
  let v1776 : BitVec 32 := Scalar.addi v1775 c16_i32_1849
  let c8_i32_1850 : BitVec 32 := 8#32
  let v1777 : BitVec 32 := Scalar.remsi v1776 c8_i32_1850
  let c512_i32_1851 : BitVec 32 := 512#32
  let v1778 : BitVec 32 := Scalar.muli v1777 c512_i32_1851
  let c256_i32_1954 : BitVec 32 := 256#32
  let v1861 : BitVec 32 := Scalar.addi v1778 c256_i32_1954
  let v1862 : Index := Scalar.indexCast v1861
  let c0_1955 : Index := 0#32
  ![v1862.toNat, 0]
def k0_off12 (d0 : Dev nD) (c0_i32_1852 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let v1779 : BitVec 32 := Scalar.addi v12 c0_i32_1852
  let c8_i32_1853 : BitVec 32 := 8#32
  let v1780 : BitVec 32 := Scalar.remsi v1779 c8_i32_1853
  let c512_i32_1854 : BitVec 32 := 512#32
  let v1781 : BitVec 32 := Scalar.muli v1780 c512_i32_1854
  let c256_i32_1959 : BitVec 32 := 256#32
  let v1867 : BitVec 32 := Scalar.addi v1781 c256_i32_1959
  let v1868 : Index := Scalar.indexCast v1867
  let c1024_1960 : Index := 1024#32
  ![v1868.toNat, 1024]
def k0_dev71 (d0 : Dev nD) : Nat :=
  let c0_i32_1975 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_34 : BitVec 32 := 8#32
  let v48 : BitVec 32 := Scalar.muli v3 c8_i32_34
  let c2_i32_32 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c8_i32_19 : BitVec 32 := 8#32
  let v31 : BitVec 32 := Scalar.addi v12 c8_i32_19
  let c1_i32_20 : BitVec 32 := 1#32
  let v32 : BitVec 32 := Scalar.subi v31 c1_i32_20
  let c8_i32_21 : BitVec 32 := 8#32
  let v33 : BitVec 32 := Scalar.remsi v32 c8_i32_21
  let c0_i32_27 : BitVec 32 := 0#32
  let v38 : BitVec 1 := Scalar.cmpi .eq v33 c0_i32_27
  let c0_i32_31 : BitVec 32 := 0#32
  let c4_i32_28 : BitVec 32 := 4#32
  let v39 : BitVec 1 := Scalar.cmpi .sle v33 c4_i32_28
  let c1_i32_29 : BitVec 32 := 1#32
  let v40 : BitVec 32 := Scalar.subi v33 c1_i32_29
  let c8_i32_30 : BitVec 32 := 8#32
  let v41 : BitVec 32 := Scalar.subi c8_i32_30 v33
  let v42 : BitVec 32 := Scalar.select v39 v40 v41
  let v43 : BitVec 32 := Scalar.select v38 c0_i32_31 v42
  let v44 : BitVec 32 := Scalar.muli c2_i32_32 v43
  let c0_i32_22 : BitVec 32 := 0#32
  let v34 : BitVec 1 := Scalar.cmpi .eq v33 c0_i32_22
  let c0_i32_26 : BitVec 32 := 0#32
  let c4_i32_23 : BitVec 32 := 4#32
  let v35 : BitVec 1 := Scalar.cmpi .sle v33 c4_i32_23
  let c1_i32_24 : BitVec 32 := 1#32
  let c0_i32_25 : BitVec 32 := 0#32
  let v36 : BitVec 32 := Scalar.select v35 c1_i32_24 c0_i32_25
  let v37 : BitVec 32 := Scalar.select v34 c0_i32_26 v36
  let v45 : BitVec 32 := Scalar.addi v37 v43
  let c2_i32_33 : BitVec 32 := 2#32
  let v46 : BitVec 32 := Scalar.remsi v45 c2_i32_33
  let v47 : BitVec 32 := Scalar.addi v44 v46
  let v49 : BitVec 32 := Scalar.addi v48 v47
  let c1_i32_1974 : BitVec 32 := 1#32
  let v1880 : BitVec 32 := Scalar.muli v49 c1_i32_1974
  let v1881 : BitVec 32 := Scalar.addi c0_i32_1975 v1880
  v1881.toNat
def k0_dev72 (d0 : Dev nD) : Nat :=
  let c0_i32_1978 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_18 : BitVec 32 := 8#32
  let v29 : BitVec 32 := Scalar.muli v3 c8_i32_18
  let c2_i32_16 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_6 : BitVec 32 := 1#32
  let v13 : BitVec 32 := Scalar.addi v12 c1_i32_6
  let c8_i32_7 : BitVec 32 := 8#32
  let v14 : BitVec 32 := Scalar.remsi v13 c8_i32_7
  let c0_i32_11 : BitVec 32 := 0#32
  let v19 : BitVec 1 := Scalar.cmpi .eq v14 c0_i32_11
  let c0_i32_15 : BitVec 32 := 0#32
  let c4_i32_12 : BitVec 32 := 4#32
  let v20 : BitVec 1 := Scalar.cmpi .sle v14 c4_i32_12
  let c1_i32_13 : BitVec 32 := 1#32
  let v21 : BitVec 32 := Scalar.subi v14 c1_i32_13
  let c8_i32_14 : BitVec 32 := 8#32
  let v22 : BitVec 32 := Scalar.subi c8_i32_14 v14
  let v23 : BitVec 32 := Scalar.select v20 v21 v22
  let v24 : BitVec 32 := Scalar.select v19 c0_i32_15 v23
  let v25 : BitVec 32 := Scalar.muli c2_i32_16 v24
  let c0_i32 : BitVec 32 := 0#32
  let v15 : BitVec 1 := Scalar.cmpi .eq v14 c0_i32
  let c0_i32_10 : BitVec 32 := 0#32
  let c4_i32 : BitVec 32 := 4#32
  let v16 : BitVec 1 := Scalar.cmpi .sle v14 c4_i32
  let c1_i32_8 : BitVec 32 := 1#32
  let c0_i32_9 : BitVec 32 := 0#32
  let v17 : BitVec 32 := Scalar.select v16 c1_i32_8 c0_i32_9
  let v18 : BitVec 32 := Scalar.select v15 c0_i32_10 v17
  let v26 : BitVec 32 := Scalar.addi v18 v24
  let c2_i32_17 : BitVec 32 := 2#32
  let v27 : BitVec 32 := Scalar.remsi v26 c2_i32_17
  let v28 : BitVec 32 := Scalar.addi v25 v27
  let v30 : BitVec 32 := Scalar.addi v29 v28
  let c1_i32_1977 : BitVec 32 := 1#32
  let v1882 : BitVec 32 := Scalar.muli v30 c1_i32_1977
  let v1883 : BitVec 32 := Scalar.addi c0_i32_1978 v1882
  v1883.toNat
def k0_dev73 (d0 : Dev nD) : Nat :=
  let c0_i32_1984 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_18 : BitVec 32 := 8#32
  let v29 : BitVec 32 := Scalar.muli v3 c8_i32_18
  let c2_i32_16 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_6 : BitVec 32 := 1#32
  let v13 : BitVec 32 := Scalar.addi v12 c1_i32_6
  let c8_i32_7 : BitVec 32 := 8#32
  let v14 : BitVec 32 := Scalar.remsi v13 c8_i32_7
  let c0_i32_11 : BitVec 32 := 0#32
  let v19 : BitVec 1 := Scalar.cmpi .eq v14 c0_i32_11
  let c0_i32_15 : BitVec 32 := 0#32
  let c4_i32_12 : BitVec 32 := 4#32
  let v20 : BitVec 1 := Scalar.cmpi .sle v14 c4_i32_12
  let c1_i32_13 : BitVec 32 := 1#32
  let v21 : BitVec 32 := Scalar.subi v14 c1_i32_13
  let c8_i32_14 : BitVec 32 := 8#32
  let v22 : BitVec 32 := Scalar.subi c8_i32_14 v14
  let v23 : BitVec 32 := Scalar.select v20 v21 v22
  let v24 : BitVec 32 := Scalar.select v19 c0_i32_15 v23
  let v25 : BitVec 32 := Scalar.muli c2_i32_16 v24
  let c0_i32 : BitVec 32 := 0#32
  let v15 : BitVec 1 := Scalar.cmpi .eq v14 c0_i32
  let c0_i32_10 : BitVec 32 := 0#32
  let c4_i32 : BitVec 32 := 4#32
  let v16 : BitVec 1 := Scalar.cmpi .sle v14 c4_i32
  let c1_i32_8 : BitVec 32 := 1#32
  let c0_i32_9 : BitVec 32 := 0#32
  let v17 : BitVec 32 := Scalar.select v16 c1_i32_8 c0_i32_9
  let v18 : BitVec 32 := Scalar.select v15 c0_i32_10 v17
  let v26 : BitVec 32 := Scalar.addi v18 v24
  let c2_i32_17 : BitVec 32 := 2#32
  let v27 : BitVec 32 := Scalar.remsi v26 c2_i32_17
  let v28 : BitVec 32 := Scalar.addi v25 v27
  let v30 : BitVec 32 := Scalar.addi v29 v28
  let c1_i32_1983 : BitVec 32 := 1#32
  let v1884 : BitVec 32 := Scalar.muli v30 c1_i32_1983
  let v1885 : BitVec 32 := Scalar.addi c0_i32_1984 v1884
  v1885.toNat
def k0_dev74 (d0 : Dev nD) : Nat :=
  let c0_i32_1994 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_34 : BitVec 32 := 8#32
  let v48 : BitVec 32 := Scalar.muli v3 c8_i32_34
  let c2_i32_32 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c8_i32_19 : BitVec 32 := 8#32
  let v31 : BitVec 32 := Scalar.addi v12 c8_i32_19
  let c1_i32_20 : BitVec 32 := 1#32
  let v32 : BitVec 32 := Scalar.subi v31 c1_i32_20
  let c8_i32_21 : BitVec 32 := 8#32
  let v33 : BitVec 32 := Scalar.remsi v32 c8_i32_21
  let c0_i32_27 : BitVec 32 := 0#32
  let v38 : BitVec 1 := Scalar.cmpi .eq v33 c0_i32_27
  let c0_i32_31 : BitVec 32 := 0#32
  let c4_i32_28 : BitVec 32 := 4#32
  let v39 : BitVec 1 := Scalar.cmpi .sle v33 c4_i32_28
  let c1_i32_29 : BitVec 32 := 1#32
  let v40 : BitVec 32 := Scalar.subi v33 c1_i32_29
  let c8_i32_30 : BitVec 32 := 8#32
  let v41 : BitVec 32 := Scalar.subi c8_i32_30 v33
  let v42 : BitVec 32 := Scalar.select v39 v40 v41
  let v43 : BitVec 32 := Scalar.select v38 c0_i32_31 v42
  let v44 : BitVec 32 := Scalar.muli c2_i32_32 v43
  let c0_i32_22 : BitVec 32 := 0#32
  let v34 : BitVec 1 := Scalar.cmpi .eq v33 c0_i32_22
  let c0_i32_26 : BitVec 32 := 0#32
  let c4_i32_23 : BitVec 32 := 4#32
  let v35 : BitVec 1 := Scalar.cmpi .sle v33 c4_i32_23
  let c1_i32_24 : BitVec 32 := 1#32
  let c0_i32_25 : BitVec 32 := 0#32
  let v36 : BitVec 32 := Scalar.select v35 c1_i32_24 c0_i32_25
  let v37 : BitVec 32 := Scalar.select v34 c0_i32_26 v36
  let v45 : BitVec 32 := Scalar.addi v37 v43
  let c2_i32_33 : BitVec 32 := 2#32
  let v46 : BitVec 32 := Scalar.remsi v45 c2_i32_33
  let v47 : BitVec 32 := Scalar.addi v44 v46
  let v49 : BitVec 32 := Scalar.addi v48 v47
  let c1_i32_1993 : BitVec 32 := 1#32
  let v1894 : BitVec 32 := Scalar.muli v49 c1_i32_1993
  let v1895 : BitVec 32 := Scalar.addi c0_i32_1994 v1894
  v1895.toNat
def k0_dev75 (d0 : Dev nD) : Nat :=
  let c0_i32_2004 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_18 : BitVec 32 := 8#32
  let v29 : BitVec 32 := Scalar.muli v3 c8_i32_18
  let c2_i32_16 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_6 : BitVec 32 := 1#32
  let v13 : BitVec 32 := Scalar.addi v12 c1_i32_6
  let c8_i32_7 : BitVec 32 := 8#32
  let v14 : BitVec 32 := Scalar.remsi v13 c8_i32_7
  let c0_i32_11 : BitVec 32 := 0#32
  let v19 : BitVec 1 := Scalar.cmpi .eq v14 c0_i32_11
  let c0_i32_15 : BitVec 32 := 0#32
  let c4_i32_12 : BitVec 32 := 4#32
  let v20 : BitVec 1 := Scalar.cmpi .sle v14 c4_i32_12
  let c1_i32_13 : BitVec 32 := 1#32
  let v21 : BitVec 32 := Scalar.subi v14 c1_i32_13
  let c8_i32_14 : BitVec 32 := 8#32
  let v22 : BitVec 32 := Scalar.subi c8_i32_14 v14
  let v23 : BitVec 32 := Scalar.select v20 v21 v22
  let v24 : BitVec 32 := Scalar.select v19 c0_i32_15 v23
  let v25 : BitVec 32 := Scalar.muli c2_i32_16 v24
  let c0_i32 : BitVec 32 := 0#32
  let v15 : BitVec 1 := Scalar.cmpi .eq v14 c0_i32
  let c0_i32_10 : BitVec 32 := 0#32
  let c4_i32 : BitVec 32 := 4#32
  let v16 : BitVec 1 := Scalar.cmpi .sle v14 c4_i32
  let c1_i32_8 : BitVec 32 := 1#32
  let c0_i32_9 : BitVec 32 := 0#32
  let v17 : BitVec 32 := Scalar.select v16 c1_i32_8 c0_i32_9
  let v18 : BitVec 32 := Scalar.select v15 c0_i32_10 v17
  let v26 : BitVec 32 := Scalar.addi v18 v24
  let c2_i32_17 : BitVec 32 := 2#32
  let v27 : BitVec 32 := Scalar.remsi v26 c2_i32_17
  let v28 : BitVec 32 := Scalar.addi v25 v27
  let v30 : BitVec 32 := Scalar.addi v29 v28
  let c1_i32_2003 : BitVec 32 := 1#32
  let v1904 : BitVec 32 := Scalar.muli v30 c1_i32_2003
  let v1905 : BitVec 32 := Scalar.addi c0_i32_2004 v1904
  v1905.toNat
def k0_dev76 (d0 : Dev nD) : Nat :=
  let c0_i32_2014 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_34 : BitVec 32 := 8#32
  let v48 : BitVec 32 := Scalar.muli v3 c8_i32_34
  let c2_i32_32 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c8_i32_19 : BitVec 32 := 8#32
  let v31 : BitVec 32 := Scalar.addi v12 c8_i32_19
  let c1_i32_20 : BitVec 32 := 1#32
  let v32 : BitVec 32 := Scalar.subi v31 c1_i32_20
  let c8_i32_21 : BitVec 32 := 8#32
  let v33 : BitVec 32 := Scalar.remsi v32 c8_i32_21
  let c0_i32_27 : BitVec 32 := 0#32
  let v38 : BitVec 1 := Scalar.cmpi .eq v33 c0_i32_27
  let c0_i32_31 : BitVec 32 := 0#32
  let c4_i32_28 : BitVec 32 := 4#32
  let v39 : BitVec 1 := Scalar.cmpi .sle v33 c4_i32_28
  let c1_i32_29 : BitVec 32 := 1#32
  let v40 : BitVec 32 := Scalar.subi v33 c1_i32_29
  let c8_i32_30 : BitVec 32 := 8#32
  let v41 : BitVec 32 := Scalar.subi c8_i32_30 v33
  let v42 : BitVec 32 := Scalar.select v39 v40 v41
  let v43 : BitVec 32 := Scalar.select v38 c0_i32_31 v42
  let v44 : BitVec 32 := Scalar.muli c2_i32_32 v43
  let c0_i32_22 : BitVec 32 := 0#32
  let v34 : BitVec 1 := Scalar.cmpi .eq v33 c0_i32_22
  let c0_i32_26 : BitVec 32 := 0#32
  let c4_i32_23 : BitVec 32 := 4#32
  let v35 : BitVec 1 := Scalar.cmpi .sle v33 c4_i32_23
  let c1_i32_24 : BitVec 32 := 1#32
  let c0_i32_25 : BitVec 32 := 0#32
  let v36 : BitVec 32 := Scalar.select v35 c1_i32_24 c0_i32_25
  let v37 : BitVec 32 := Scalar.select v34 c0_i32_26 v36
  let v45 : BitVec 32 := Scalar.addi v37 v43
  let c2_i32_33 : BitVec 32 := 2#32
  let v46 : BitVec 32 := Scalar.remsi v45 c2_i32_33
  let v47 : BitVec 32 := Scalar.addi v44 v46
  let v49 : BitVec 32 := Scalar.addi v48 v47
  let c1_i32_2013 : BitVec 32 := 1#32
  let v1914 : BitVec 32 := Scalar.muli v49 c1_i32_2013
  let v1915 : BitVec 32 := Scalar.addi c0_i32_2014 v1914
  v1915.toNat
def k0_dev77 (d0 : Dev nD) : Nat :=
  let c0_i32_2146 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_34 : BitVec 32 := 8#32
  let v48 : BitVec 32 := Scalar.muli v3 c8_i32_34
  let c2_i32_32 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c8_i32_19 : BitVec 32 := 8#32
  let v31 : BitVec 32 := Scalar.addi v12 c8_i32_19
  let c1_i32_20 : BitVec 32 := 1#32
  let v32 : BitVec 32 := Scalar.subi v31 c1_i32_20
  let c8_i32_21 : BitVec 32 := 8#32
  let v33 : BitVec 32 := Scalar.remsi v32 c8_i32_21
  let c0_i32_27 : BitVec 32 := 0#32
  let v38 : BitVec 1 := Scalar.cmpi .eq v33 c0_i32_27
  let c0_i32_31 : BitVec 32 := 0#32
  let c4_i32_28 : BitVec 32 := 4#32
  let v39 : BitVec 1 := Scalar.cmpi .sle v33 c4_i32_28
  let c1_i32_29 : BitVec 32 := 1#32
  let v40 : BitVec 32 := Scalar.subi v33 c1_i32_29
  let c8_i32_30 : BitVec 32 := 8#32
  let v41 : BitVec 32 := Scalar.subi c8_i32_30 v33
  let v42 : BitVec 32 := Scalar.select v39 v40 v41
  let v43 : BitVec 32 := Scalar.select v38 c0_i32_31 v42
  let v44 : BitVec 32 := Scalar.muli c2_i32_32 v43
  let c0_i32_22 : BitVec 32 := 0#32
  let v34 : BitVec 1 := Scalar.cmpi .eq v33 c0_i32_22
  let c0_i32_26 : BitVec 32 := 0#32
  let c4_i32_23 : BitVec 32 := 4#32
  let v35 : BitVec 1 := Scalar.cmpi .sle v33 c4_i32_23
  let c1_i32_24 : BitVec 32 := 1#32
  let c0_i32_25 : BitVec 32 := 0#32
  let v36 : BitVec 32 := Scalar.select v35 c1_i32_24 c0_i32_25
  let v37 : BitVec 32 := Scalar.select v34 c0_i32_26 v36
  let v45 : BitVec 32 := Scalar.addi v37 v43
  let c2_i32_33 : BitVec 32 := 2#32
  let v46 : BitVec 32 := Scalar.remsi v45 c2_i32_33
  let v47 : BitVec 32 := Scalar.addi v44 v46
  let v49 : BitVec 32 := Scalar.addi v48 v47
  let c1_i32_2145 : BitVec 32 := 1#32
  let v2029 : BitVec 32 := Scalar.muli v49 c1_i32_2145
  let v2030 : BitVec 32 := Scalar.addi c0_i32_2146 v2029
  v2030.toNat
def k0_dev78 (d0 : Dev nD) : Nat :=
  let c0_i32_2149 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_18 : BitVec 32 := 8#32
  let v29 : BitVec 32 := Scalar.muli v3 c8_i32_18
  let c2_i32_16 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_6 : BitVec 32 := 1#32
  let v13 : BitVec 32 := Scalar.addi v12 c1_i32_6
  let c8_i32_7 : BitVec 32 := 8#32
  let v14 : BitVec 32 := Scalar.remsi v13 c8_i32_7
  let c0_i32_11 : BitVec 32 := 0#32
  let v19 : BitVec 1 := Scalar.cmpi .eq v14 c0_i32_11
  let c0_i32_15 : BitVec 32 := 0#32
  let c4_i32_12 : BitVec 32 := 4#32
  let v20 : BitVec 1 := Scalar.cmpi .sle v14 c4_i32_12
  let c1_i32_13 : BitVec 32 := 1#32
  let v21 : BitVec 32 := Scalar.subi v14 c1_i32_13
  let c8_i32_14 : BitVec 32 := 8#32
  let v22 : BitVec 32 := Scalar.subi c8_i32_14 v14
  let v23 : BitVec 32 := Scalar.select v20 v21 v22
  let v24 : BitVec 32 := Scalar.select v19 c0_i32_15 v23
  let v25 : BitVec 32 := Scalar.muli c2_i32_16 v24
  let c0_i32 : BitVec 32 := 0#32
  let v15 : BitVec 1 := Scalar.cmpi .eq v14 c0_i32
  let c0_i32_10 : BitVec 32 := 0#32
  let c4_i32 : BitVec 32 := 4#32
  let v16 : BitVec 1 := Scalar.cmpi .sle v14 c4_i32
  let c1_i32_8 : BitVec 32 := 1#32
  let c0_i32_9 : BitVec 32 := 0#32
  let v17 : BitVec 32 := Scalar.select v16 c1_i32_8 c0_i32_9
  let v18 : BitVec 32 := Scalar.select v15 c0_i32_10 v17
  let v26 : BitVec 32 := Scalar.addi v18 v24
  let c2_i32_17 : BitVec 32 := 2#32
  let v27 : BitVec 32 := Scalar.remsi v26 c2_i32_17
  let v28 : BitVec 32 := Scalar.addi v25 v27
  let v30 : BitVec 32 := Scalar.addi v29 v28
  let c1_i32_2148 : BitVec 32 := 1#32
  let v2031 : BitVec 32 := Scalar.muli v30 c1_i32_2148
  let v2032 : BitVec 32 := Scalar.addi c0_i32_2149 v2031
  v2032.toNat
def k0_dev79 (d0 : Dev nD) : Nat :=
  let c0_i32_2159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_18 : BitVec 32 := 8#32
  let v29 : BitVec 32 := Scalar.muli v3 c8_i32_18
  let c2_i32_16 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_6 : BitVec 32 := 1#32
  let v13 : BitVec 32 := Scalar.addi v12 c1_i32_6
  let c8_i32_7 : BitVec 32 := 8#32
  let v14 : BitVec 32 := Scalar.remsi v13 c8_i32_7
  let c0_i32_11 : BitVec 32 := 0#32
  let v19 : BitVec 1 := Scalar.cmpi .eq v14 c0_i32_11
  let c0_i32_15 : BitVec 32 := 0#32
  let c4_i32_12 : BitVec 32 := 4#32
  let v20 : BitVec 1 := Scalar.cmpi .sle v14 c4_i32_12
  let c1_i32_13 : BitVec 32 := 1#32
  let v21 : BitVec 32 := Scalar.subi v14 c1_i32_13
  let c8_i32_14 : BitVec 32 := 8#32
  let v22 : BitVec 32 := Scalar.subi c8_i32_14 v14
  let v23 : BitVec 32 := Scalar.select v20 v21 v22
  let v24 : BitVec 32 := Scalar.select v19 c0_i32_15 v23
  let v25 : BitVec 32 := Scalar.muli c2_i32_16 v24
  let c0_i32 : BitVec 32 := 0#32
  let v15 : BitVec 1 := Scalar.cmpi .eq v14 c0_i32
  let c0_i32_10 : BitVec 32 := 0#32
  let c4_i32 : BitVec 32 := 4#32
  let v16 : BitVec 1 := Scalar.cmpi .sle v14 c4_i32
  let c1_i32_8 : BitVec 32 := 1#32
  let c0_i32_9 : BitVec 32 := 0#32
  let v17 : BitVec 32 := Scalar.select v16 c1_i32_8 c0_i32_9
  let v18 : BitVec 32 := Scalar.select v15 c0_i32_10 v17
  let v26 : BitVec 32 := Scalar.addi v18 v24
  let c2_i32_17 : BitVec 32 := 2#32
  let v27 : BitVec 32 := Scalar.remsi v26 c2_i32_17
  let v28 : BitVec 32 := Scalar.addi v25 v27
  let v30 : BitVec 32 := Scalar.addi v29 v28
  let c1_i32_2158 : BitVec 32 := 1#32
  let v2033 : BitVec 32 := Scalar.muli v30 c1_i32_2158
  let v2034 : BitVec 32 := Scalar.addi c0_i32_2159 v2033
  v2034.toNat
def k0_dev80 (d0 : Dev nD) : Nat :=
  let c0_i32_2169 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_34 : BitVec 32 := 8#32
  let v48 : BitVec 32 := Scalar.muli v3 c8_i32_34
  let c2_i32_32 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c8_i32_19 : BitVec 32 := 8#32
  let v31 : BitVec 32 := Scalar.addi v12 c8_i32_19
  let c1_i32_20 : BitVec 32 := 1#32
  let v32 : BitVec 32 := Scalar.subi v31 c1_i32_20
  let c8_i32_21 : BitVec 32 := 8#32
  let v33 : BitVec 32 := Scalar.remsi v32 c8_i32_21
  let c0_i32_27 : BitVec 32 := 0#32
  let v38 : BitVec 1 := Scalar.cmpi .eq v33 c0_i32_27
  let c0_i32_31 : BitVec 32 := 0#32
  let c4_i32_28 : BitVec 32 := 4#32
  let v39 : BitVec 1 := Scalar.cmpi .sle v33 c4_i32_28
  let c1_i32_29 : BitVec 32 := 1#32
  let v40 : BitVec 32 := Scalar.subi v33 c1_i32_29
  let c8_i32_30 : BitVec 32 := 8#32
  let v41 : BitVec 32 := Scalar.subi c8_i32_30 v33
  let v42 : BitVec 32 := Scalar.select v39 v40 v41
  let v43 : BitVec 32 := Scalar.select v38 c0_i32_31 v42
  let v44 : BitVec 32 := Scalar.muli c2_i32_32 v43
  let c0_i32_22 : BitVec 32 := 0#32
  let v34 : BitVec 1 := Scalar.cmpi .eq v33 c0_i32_22
  let c0_i32_26 : BitVec 32 := 0#32
  let c4_i32_23 : BitVec 32 := 4#32
  let v35 : BitVec 1 := Scalar.cmpi .sle v33 c4_i32_23
  let c1_i32_24 : BitVec 32 := 1#32
  let c0_i32_25 : BitVec 32 := 0#32
  let v36 : BitVec 32 := Scalar.select v35 c1_i32_24 c0_i32_25
  let v37 : BitVec 32 := Scalar.select v34 c0_i32_26 v36
  let v45 : BitVec 32 := Scalar.addi v37 v43
  let c2_i32_33 : BitVec 32 := 2#32
  let v46 : BitVec 32 := Scalar.remsi v45 c2_i32_33
  let v47 : BitVec 32 := Scalar.addi v44 v46
  let v49 : BitVec 32 := Scalar.addi v48 v47
  let c1_i32_2168 : BitVec 32 := 1#32
  let v2043 : BitVec 32 := Scalar.muli v49 c1_i32_2168
  let v2044 : BitVec 32 := Scalar.addi c0_i32_2169 v2043
  v2044.toNat
def k0_dev81 (d0 : Dev nD) : Nat :=
  let c0_i32_2179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_18 : BitVec 32 := 8#32
  let v29 : BitVec 32 := Scalar.muli v3 c8_i32_18
  let c2_i32_16 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_6 : BitVec 32 := 1#32
  let v13 : BitVec 32 := Scalar.addi v12 c1_i32_6
  let c8_i32_7 : BitVec 32 := 8#32
  let v14 : BitVec 32 := Scalar.remsi v13 c8_i32_7
  let c0_i32_11 : BitVec 32 := 0#32
  let v19 : BitVec 1 := Scalar.cmpi .eq v14 c0_i32_11
  let c0_i32_15 : BitVec 32 := 0#32
  let c4_i32_12 : BitVec 32 := 4#32
  let v20 : BitVec 1 := Scalar.cmpi .sle v14 c4_i32_12
  let c1_i32_13 : BitVec 32 := 1#32
  let v21 : BitVec 32 := Scalar.subi v14 c1_i32_13
  let c8_i32_14 : BitVec 32 := 8#32
  let v22 : BitVec 32 := Scalar.subi c8_i32_14 v14
  let v23 : BitVec 32 := Scalar.select v20 v21 v22
  let v24 : BitVec 32 := Scalar.select v19 c0_i32_15 v23
  let v25 : BitVec 32 := Scalar.muli c2_i32_16 v24
  let c0_i32 : BitVec 32 := 0#32
  let v15 : BitVec 1 := Scalar.cmpi .eq v14 c0_i32
  let c0_i32_10 : BitVec 32 := 0#32
  let c4_i32 : BitVec 32 := 4#32
  let v16 : BitVec 1 := Scalar.cmpi .sle v14 c4_i32
  let c1_i32_8 : BitVec 32 := 1#32
  let c0_i32_9 : BitVec 32 := 0#32
  let v17 : BitVec 32 := Scalar.select v16 c1_i32_8 c0_i32_9
  let v18 : BitVec 32 := Scalar.select v15 c0_i32_10 v17
  let v26 : BitVec 32 := Scalar.addi v18 v24
  let c2_i32_17 : BitVec 32 := 2#32
  let v27 : BitVec 32 := Scalar.remsi v26 c2_i32_17
  let v28 : BitVec 32 := Scalar.addi v25 v27
  let v30 : BitVec 32 := Scalar.addi v29 v28
  let c1_i32_2178 : BitVec 32 := 1#32
  let v2053 : BitVec 32 := Scalar.muli v30 c1_i32_2178
  let v2054 : BitVec 32 := Scalar.addi c0_i32_2179 v2053
  v2054.toNat
def k0_dev82 (d0 : Dev nD) : Nat :=
  let c0_i32_2189 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_34 : BitVec 32 := 8#32
  let v48 : BitVec 32 := Scalar.muli v3 c8_i32_34
  let c2_i32_32 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c8_i32_19 : BitVec 32 := 8#32
  let v31 : BitVec 32 := Scalar.addi v12 c8_i32_19
  let c1_i32_20 : BitVec 32 := 1#32
  let v32 : BitVec 32 := Scalar.subi v31 c1_i32_20
  let c8_i32_21 : BitVec 32 := 8#32
  let v33 : BitVec 32 := Scalar.remsi v32 c8_i32_21
  let c0_i32_27 : BitVec 32 := 0#32
  let v38 : BitVec 1 := Scalar.cmpi .eq v33 c0_i32_27
  let c0_i32_31 : BitVec 32 := 0#32
  let c4_i32_28 : BitVec 32 := 4#32
  let v39 : BitVec 1 := Scalar.cmpi .sle v33 c4_i32_28
  let c1_i32_29 : BitVec 32 := 1#32
  let v40 : BitVec 32 := Scalar.subi v33 c1_i32_29
  let c8_i32_30 : BitVec 32 := 8#32
  let v41 : BitVec 32 := Scalar.subi c8_i32_30 v33
  let v42 : BitVec 32 := Scalar.select v39 v40 v41
  let v43 : BitVec 32 := Scalar.select v38 c0_i32_31 v42
  let v44 : BitVec 32 := Scalar.muli c2_i32_32 v43
  let c0_i32_22 : BitVec 32 := 0#32
  let v34 : BitVec 1 := Scalar.cmpi .eq v33 c0_i32_22
  let c0_i32_26 : BitVec 32 := 0#32
  let c4_i32_23 : BitVec 32 := 4#32
  let v35 : BitVec 1 := Scalar.cmpi .sle v33 c4_i32_23
  let c1_i32_24 : BitVec 32 := 1#32
  let c0_i32_25 : BitVec 32 := 0#32
  let v36 : BitVec 32 := Scalar.select v35 c1_i32_24 c0_i32_25
  let v37 : BitVec 32 := Scalar.select v34 c0_i32_26 v36
  let v45 : BitVec 32 := Scalar.addi v37 v43
  let c2_i32_33 : BitVec 32 := 2#32
  let v46 : BitVec 32 := Scalar.remsi v45 c2_i32_33
  let v47 : BitVec 32 := Scalar.addi v44 v46
  let v49 : BitVec 32 := Scalar.addi v48 v47
  let c1_i32_2188 : BitVec 32 := 1#32
  let v2063 : BitVec 32 := Scalar.muli v49 c1_i32_2188
  let v2064 : BitVec 32 := Scalar.addi c0_i32_2189 v2063
  v2064.toNat
def k0_dev83 (d0 : Dev nD) : Nat :=
  let c0_i32_2321 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_34 : BitVec 32 := 8#32
  let v48 : BitVec 32 := Scalar.muli v3 c8_i32_34
  let c2_i32_32 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c8_i32_19 : BitVec 32 := 8#32
  let v31 : BitVec 32 := Scalar.addi v12 c8_i32_19
  let c1_i32_20 : BitVec 32 := 1#32
  let v32 : BitVec 32 := Scalar.subi v31 c1_i32_20
  let c8_i32_21 : BitVec 32 := 8#32
  let v33 : BitVec 32 := Scalar.remsi v32 c8_i32_21
  let c0_i32_27 : BitVec 32 := 0#32
  let v38 : BitVec 1 := Scalar.cmpi .eq v33 c0_i32_27
  let c0_i32_31 : BitVec 32 := 0#32
  let c4_i32_28 : BitVec 32 := 4#32
  let v39 : BitVec 1 := Scalar.cmpi .sle v33 c4_i32_28
  let c1_i32_29 : BitVec 32 := 1#32
  let v40 : BitVec 32 := Scalar.subi v33 c1_i32_29
  let c8_i32_30 : BitVec 32 := 8#32
  let v41 : BitVec 32 := Scalar.subi c8_i32_30 v33
  let v42 : BitVec 32 := Scalar.select v39 v40 v41
  let v43 : BitVec 32 := Scalar.select v38 c0_i32_31 v42
  let v44 : BitVec 32 := Scalar.muli c2_i32_32 v43
  let c0_i32_22 : BitVec 32 := 0#32
  let v34 : BitVec 1 := Scalar.cmpi .eq v33 c0_i32_22
  let c0_i32_26 : BitVec 32 := 0#32
  let c4_i32_23 : BitVec 32 := 4#32
  let v35 : BitVec 1 := Scalar.cmpi .sle v33 c4_i32_23
  let c1_i32_24 : BitVec 32 := 1#32
  let c0_i32_25 : BitVec 32 := 0#32
  let v36 : BitVec 32 := Scalar.select v35 c1_i32_24 c0_i32_25
  let v37 : BitVec 32 := Scalar.select v34 c0_i32_26 v36
  let v45 : BitVec 32 := Scalar.addi v37 v43
  let c2_i32_33 : BitVec 32 := 2#32
  let v46 : BitVec 32 := Scalar.remsi v45 c2_i32_33
  let v47 : BitVec 32 := Scalar.addi v44 v46
  let v49 : BitVec 32 := Scalar.addi v48 v47
  let c1_i32_2320 : BitVec 32 := 1#32
  let v2178 : BitVec 32 := Scalar.muli v49 c1_i32_2320
  let v2179 : BitVec 32 := Scalar.addi c0_i32_2321 v2178
  v2179.toNat
def k0_dev84 (d0 : Dev nD) : Nat :=
  let c0_i32_2324 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_18 : BitVec 32 := 8#32
  let v29 : BitVec 32 := Scalar.muli v3 c8_i32_18
  let c2_i32_16 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_6 : BitVec 32 := 1#32
  let v13 : BitVec 32 := Scalar.addi v12 c1_i32_6
  let c8_i32_7 : BitVec 32 := 8#32
  let v14 : BitVec 32 := Scalar.remsi v13 c8_i32_7
  let c0_i32_11 : BitVec 32 := 0#32
  let v19 : BitVec 1 := Scalar.cmpi .eq v14 c0_i32_11
  let c0_i32_15 : BitVec 32 := 0#32
  let c4_i32_12 : BitVec 32 := 4#32
  let v20 : BitVec 1 := Scalar.cmpi .sle v14 c4_i32_12
  let c1_i32_13 : BitVec 32 := 1#32
  let v21 : BitVec 32 := Scalar.subi v14 c1_i32_13
  let c8_i32_14 : BitVec 32 := 8#32
  let v22 : BitVec 32 := Scalar.subi c8_i32_14 v14
  let v23 : BitVec 32 := Scalar.select v20 v21 v22
  let v24 : BitVec 32 := Scalar.select v19 c0_i32_15 v23
  let v25 : BitVec 32 := Scalar.muli c2_i32_16 v24
  let c0_i32 : BitVec 32 := 0#32
  let v15 : BitVec 1 := Scalar.cmpi .eq v14 c0_i32
  let c0_i32_10 : BitVec 32 := 0#32
  let c4_i32 : BitVec 32 := 4#32
  let v16 : BitVec 1 := Scalar.cmpi .sle v14 c4_i32
  let c1_i32_8 : BitVec 32 := 1#32
  let c0_i32_9 : BitVec 32 := 0#32
  let v17 : BitVec 32 := Scalar.select v16 c1_i32_8 c0_i32_9
  let v18 : BitVec 32 := Scalar.select v15 c0_i32_10 v17
  let v26 : BitVec 32 := Scalar.addi v18 v24
  let c2_i32_17 : BitVec 32 := 2#32
  let v27 : BitVec 32 := Scalar.remsi v26 c2_i32_17
  let v28 : BitVec 32 := Scalar.addi v25 v27
  let v30 : BitVec 32 := Scalar.addi v29 v28
  let c1_i32_2323 : BitVec 32 := 1#32
  let v2180 : BitVec 32 := Scalar.muli v30 c1_i32_2323
  let v2181 : BitVec 32 := Scalar.addi c0_i32_2324 v2180
  v2181.toNat
def k0_dev85 (d0 : Dev nD) : Nat :=
  let c0_i32_2334 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_18 : BitVec 32 := 8#32
  let v29 : BitVec 32 := Scalar.muli v3 c8_i32_18
  let c2_i32_16 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_6 : BitVec 32 := 1#32
  let v13 : BitVec 32 := Scalar.addi v12 c1_i32_6
  let c8_i32_7 : BitVec 32 := 8#32
  let v14 : BitVec 32 := Scalar.remsi v13 c8_i32_7
  let c0_i32_11 : BitVec 32 := 0#32
  let v19 : BitVec 1 := Scalar.cmpi .eq v14 c0_i32_11
  let c0_i32_15 : BitVec 32 := 0#32
  let c4_i32_12 : BitVec 32 := 4#32
  let v20 : BitVec 1 := Scalar.cmpi .sle v14 c4_i32_12
  let c1_i32_13 : BitVec 32 := 1#32
  let v21 : BitVec 32 := Scalar.subi v14 c1_i32_13
  let c8_i32_14 : BitVec 32 := 8#32
  let v22 : BitVec 32 := Scalar.subi c8_i32_14 v14
  let v23 : BitVec 32 := Scalar.select v20 v21 v22
  let v24 : BitVec 32 := Scalar.select v19 c0_i32_15 v23
  let v25 : BitVec 32 := Scalar.muli c2_i32_16 v24
  let c0_i32 : BitVec 32 := 0#32
  let v15 : BitVec 1 := Scalar.cmpi .eq v14 c0_i32
  let c0_i32_10 : BitVec 32 := 0#32
  let c4_i32 : BitVec 32 := 4#32
  let v16 : BitVec 1 := Scalar.cmpi .sle v14 c4_i32
  let c1_i32_8 : BitVec 32 := 1#32
  let c0_i32_9 : BitVec 32 := 0#32
  let v17 : BitVec 32 := Scalar.select v16 c1_i32_8 c0_i32_9
  let v18 : BitVec 32 := Scalar.select v15 c0_i32_10 v17
  let v26 : BitVec 32 := Scalar.addi v18 v24
  let c2_i32_17 : BitVec 32 := 2#32
  let v27 : BitVec 32 := Scalar.remsi v26 c2_i32_17
  let v28 : BitVec 32 := Scalar.addi v25 v27
  let v30 : BitVec 32 := Scalar.addi v29 v28
  let c1_i32_2333 : BitVec 32 := 1#32
  let v2182 : BitVec 32 := Scalar.muli v30 c1_i32_2333
  let v2183 : BitVec 32 := Scalar.addi c0_i32_2334 v2182
  v2183.toNat
def k0_dev86 (d0 : Dev nD) : Nat :=
  let c0_i32_2344 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_34 : BitVec 32 := 8#32
  let v48 : BitVec 32 := Scalar.muli v3 c8_i32_34
  let c2_i32_32 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c8_i32_19 : BitVec 32 := 8#32
  let v31 : BitVec 32 := Scalar.addi v12 c8_i32_19
  let c1_i32_20 : BitVec 32 := 1#32
  let v32 : BitVec 32 := Scalar.subi v31 c1_i32_20
  let c8_i32_21 : BitVec 32 := 8#32
  let v33 : BitVec 32 := Scalar.remsi v32 c8_i32_21
  let c0_i32_27 : BitVec 32 := 0#32
  let v38 : BitVec 1 := Scalar.cmpi .eq v33 c0_i32_27
  let c0_i32_31 : BitVec 32 := 0#32
  let c4_i32_28 : BitVec 32 := 4#32
  let v39 : BitVec 1 := Scalar.cmpi .sle v33 c4_i32_28
  let c1_i32_29 : BitVec 32 := 1#32
  let v40 : BitVec 32 := Scalar.subi v33 c1_i32_29
  let c8_i32_30 : BitVec 32 := 8#32
  let v41 : BitVec 32 := Scalar.subi c8_i32_30 v33
  let v42 : BitVec 32 := Scalar.select v39 v40 v41
  let v43 : BitVec 32 := Scalar.select v38 c0_i32_31 v42
  let v44 : BitVec 32 := Scalar.muli c2_i32_32 v43
  let c0_i32_22 : BitVec 32 := 0#32
  let v34 : BitVec 1 := Scalar.cmpi .eq v33 c0_i32_22
  let c0_i32_26 : BitVec 32 := 0#32
  let c4_i32_23 : BitVec 32 := 4#32
  let v35 : BitVec 1 := Scalar.cmpi .sle v33 c4_i32_23
  let c1_i32_24 : BitVec 32 := 1#32
  let c0_i32_25 : BitVec 32 := 0#32
  let v36 : BitVec 32 := Scalar.select v35 c1_i32_24 c0_i32_25
  let v37 : BitVec 32 := Scalar.select v34 c0_i32_26 v36
  let v45 : BitVec 32 := Scalar.addi v37 v43
  let c2_i32_33 : BitVec 32 := 2#32
  let v46 : BitVec 32 := Scalar.remsi v45 c2_i32_33
  let v47 : BitVec 32 := Scalar.addi v44 v46
  let v49 : BitVec 32 := Scalar.addi v48 v47
  let c1_i32_2343 : BitVec 32 := 1#32
  let v2192 : BitVec 32 := Scalar.muli v49 c1_i32_2343
  let v2193 : BitVec 32 := Scalar.addi c0_i32_2344 v2192
  v2193.toNat
def k0_dev87 (d0 : Dev nD) : Nat :=
  let c0_i32_2354 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_18 : BitVec 32 := 8#32
  let v29 : BitVec 32 := Scalar.muli v3 c8_i32_18
  let c2_i32_16 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_6 : BitVec 32 := 1#32
  let v13 : BitVec 32 := Scalar.addi v12 c1_i32_6
  let c8_i32_7 : BitVec 32 := 8#32
  let v14 : BitVec 32 := Scalar.remsi v13 c8_i32_7
  let c0_i32_11 : BitVec 32 := 0#32
  let v19 : BitVec 1 := Scalar.cmpi .eq v14 c0_i32_11
  let c0_i32_15 : BitVec 32 := 0#32
  let c4_i32_12 : BitVec 32 := 4#32
  let v20 : BitVec 1 := Scalar.cmpi .sle v14 c4_i32_12
  let c1_i32_13 : BitVec 32 := 1#32
  let v21 : BitVec 32 := Scalar.subi v14 c1_i32_13
  let c8_i32_14 : BitVec 32 := 8#32
  let v22 : BitVec 32 := Scalar.subi c8_i32_14 v14
  let v23 : BitVec 32 := Scalar.select v20 v21 v22
  let v24 : BitVec 32 := Scalar.select v19 c0_i32_15 v23
  let v25 : BitVec 32 := Scalar.muli c2_i32_16 v24
  let c0_i32 : BitVec 32 := 0#32
  let v15 : BitVec 1 := Scalar.cmpi .eq v14 c0_i32
  let c0_i32_10 : BitVec 32 := 0#32
  let c4_i32 : BitVec 32 := 4#32
  let v16 : BitVec 1 := Scalar.cmpi .sle v14 c4_i32
  let c1_i32_8 : BitVec 32 := 1#32
  let c0_i32_9 : BitVec 32 := 0#32
  let v17 : BitVec 32 := Scalar.select v16 c1_i32_8 c0_i32_9
  let v18 : BitVec 32 := Scalar.select v15 c0_i32_10 v17
  let v26 : BitVec 32 := Scalar.addi v18 v24
  let c2_i32_17 : BitVec 32 := 2#32
  let v27 : BitVec 32 := Scalar.remsi v26 c2_i32_17
  let v28 : BitVec 32 := Scalar.addi v25 v27
  let v30 : BitVec 32 := Scalar.addi v29 v28
  let c1_i32_2353 : BitVec 32 := 1#32
  let v2202 : BitVec 32 := Scalar.muli v30 c1_i32_2353
  let v2203 : BitVec 32 := Scalar.addi c0_i32_2354 v2202
  v2203.toNat
def k0_dev88 (d0 : Dev nD) : Nat :=
  let c0_i32_2364 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_34 : BitVec 32 := 8#32
  let v48 : BitVec 32 := Scalar.muli v3 c8_i32_34
  let c2_i32_32 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c8_i32_19 : BitVec 32 := 8#32
  let v31 : BitVec 32 := Scalar.addi v12 c8_i32_19
  let c1_i32_20 : BitVec 32 := 1#32
  let v32 : BitVec 32 := Scalar.subi v31 c1_i32_20
  let c8_i32_21 : BitVec 32 := 8#32
  let v33 : BitVec 32 := Scalar.remsi v32 c8_i32_21
  let c0_i32_27 : BitVec 32 := 0#32
  let v38 : BitVec 1 := Scalar.cmpi .eq v33 c0_i32_27
  let c0_i32_31 : BitVec 32 := 0#32
  let c4_i32_28 : BitVec 32 := 4#32
  let v39 : BitVec 1 := Scalar.cmpi .sle v33 c4_i32_28
  let c1_i32_29 : BitVec 32 := 1#32
  let v40 : BitVec 32 := Scalar.subi v33 c1_i32_29
  let c8_i32_30 : BitVec 32 := 8#32
  let v41 : BitVec 32 := Scalar.subi c8_i32_30 v33
  let v42 : BitVec 32 := Scalar.select v39 v40 v41
  let v43 : BitVec 32 := Scalar.select v38 c0_i32_31 v42
  let v44 : BitVec 32 := Scalar.muli c2_i32_32 v43
  let c0_i32_22 : BitVec 32 := 0#32
  let v34 : BitVec 1 := Scalar.cmpi .eq v33 c0_i32_22
  let c0_i32_26 : BitVec 32 := 0#32
  let c4_i32_23 : BitVec 32 := 4#32
  let v35 : BitVec 1 := Scalar.cmpi .sle v33 c4_i32_23
  let c1_i32_24 : BitVec 32 := 1#32
  let c0_i32_25 : BitVec 32 := 0#32
  let v36 : BitVec 32 := Scalar.select v35 c1_i32_24 c0_i32_25
  let v37 : BitVec 32 := Scalar.select v34 c0_i32_26 v36
  let v45 : BitVec 32 := Scalar.addi v37 v43
  let c2_i32_33 : BitVec 32 := 2#32
  let v46 : BitVec 32 := Scalar.remsi v45 c2_i32_33
  let v47 : BitVec 32 := Scalar.addi v44 v46
  let v49 : BitVec 32 := Scalar.addi v48 v47
  let c1_i32_2363 : BitVec 32 := 1#32
  let v2212 : BitVec 32 := Scalar.muli v49 c1_i32_2363
  let v2213 : BitVec 32 := Scalar.addi c0_i32_2364 v2212
  v2213.toNat
def k0_dev89 (d0 : Dev nD) : Nat :=
  let c0_i32_2496 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_34 : BitVec 32 := 8#32
  let v48 : BitVec 32 := Scalar.muli v3 c8_i32_34
  let c2_i32_32 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c8_i32_19 : BitVec 32 := 8#32
  let v31 : BitVec 32 := Scalar.addi v12 c8_i32_19
  let c1_i32_20 : BitVec 32 := 1#32
  let v32 : BitVec 32 := Scalar.subi v31 c1_i32_20
  let c8_i32_21 : BitVec 32 := 8#32
  let v33 : BitVec 32 := Scalar.remsi v32 c8_i32_21
  let c0_i32_27 : BitVec 32 := 0#32
  let v38 : BitVec 1 := Scalar.cmpi .eq v33 c0_i32_27
  let c0_i32_31 : BitVec 32 := 0#32
  let c4_i32_28 : BitVec 32 := 4#32
  let v39 : BitVec 1 := Scalar.cmpi .sle v33 c4_i32_28
  let c1_i32_29 : BitVec 32 := 1#32
  let v40 : BitVec 32 := Scalar.subi v33 c1_i32_29
  let c8_i32_30 : BitVec 32 := 8#32
  let v41 : BitVec 32 := Scalar.subi c8_i32_30 v33
  let v42 : BitVec 32 := Scalar.select v39 v40 v41
  let v43 : BitVec 32 := Scalar.select v38 c0_i32_31 v42
  let v44 : BitVec 32 := Scalar.muli c2_i32_32 v43
  let c0_i32_22 : BitVec 32 := 0#32
  let v34 : BitVec 1 := Scalar.cmpi .eq v33 c0_i32_22
  let c0_i32_26 : BitVec 32 := 0#32
  let c4_i32_23 : BitVec 32 := 4#32
  let v35 : BitVec 1 := Scalar.cmpi .sle v33 c4_i32_23
  let c1_i32_24 : BitVec 32 := 1#32
  let c0_i32_25 : BitVec 32 := 0#32
  let v36 : BitVec 32 := Scalar.select v35 c1_i32_24 c0_i32_25
  let v37 : BitVec 32 := Scalar.select v34 c0_i32_26 v36
  let v45 : BitVec 32 := Scalar.addi v37 v43
  let c2_i32_33 : BitVec 32 := 2#32
  let v46 : BitVec 32 := Scalar.remsi v45 c2_i32_33
  let v47 : BitVec 32 := Scalar.addi v44 v46
  let v49 : BitVec 32 := Scalar.addi v48 v47
  let c1_i32_2495 : BitVec 32 := 1#32
  let v2327 : BitVec 32 := Scalar.muli v49 c1_i32_2495
  let v2328 : BitVec 32 := Scalar.addi c0_i32_2496 v2327
  v2328.toNat
def k0_dev90 (d0 : Dev nD) : Nat :=
  let c0_i32_2499 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_18 : BitVec 32 := 8#32
  let v29 : BitVec 32 := Scalar.muli v3 c8_i32_18
  let c2_i32_16 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_6 : BitVec 32 := 1#32
  let v13 : BitVec 32 := Scalar.addi v12 c1_i32_6
  let c8_i32_7 : BitVec 32 := 8#32
  let v14 : BitVec 32 := Scalar.remsi v13 c8_i32_7
  let c0_i32_11 : BitVec 32 := 0#32
  let v19 : BitVec 1 := Scalar.cmpi .eq v14 c0_i32_11
  let c0_i32_15 : BitVec 32 := 0#32
  let c4_i32_12 : BitVec 32 := 4#32
  let v20 : BitVec 1 := Scalar.cmpi .sle v14 c4_i32_12
  let c1_i32_13 : BitVec 32 := 1#32
  let v21 : BitVec 32 := Scalar.subi v14 c1_i32_13
  let c8_i32_14 : BitVec 32 := 8#32
  let v22 : BitVec 32 := Scalar.subi c8_i32_14 v14
  let v23 : BitVec 32 := Scalar.select v20 v21 v22
  let v24 : BitVec 32 := Scalar.select v19 c0_i32_15 v23
  let v25 : BitVec 32 := Scalar.muli c2_i32_16 v24
  let c0_i32 : BitVec 32 := 0#32
  let v15 : BitVec 1 := Scalar.cmpi .eq v14 c0_i32
  let c0_i32_10 : BitVec 32 := 0#32
  let c4_i32 : BitVec 32 := 4#32
  let v16 : BitVec 1 := Scalar.cmpi .sle v14 c4_i32
  let c1_i32_8 : BitVec 32 := 1#32
  let c0_i32_9 : BitVec 32 := 0#32
  let v17 : BitVec 32 := Scalar.select v16 c1_i32_8 c0_i32_9
  let v18 : BitVec 32 := Scalar.select v15 c0_i32_10 v17
  let v26 : BitVec 32 := Scalar.addi v18 v24
  let c2_i32_17 : BitVec 32 := 2#32
  let v27 : BitVec 32 := Scalar.remsi v26 c2_i32_17
  let v28 : BitVec 32 := Scalar.addi v25 v27
  let v30 : BitVec 32 := Scalar.addi v29 v28
  let c1_i32_2498 : BitVec 32 := 1#32
  let v2329 : BitVec 32 := Scalar.muli v30 c1_i32_2498
  let v2330 : BitVec 32 := Scalar.addi c0_i32_2499 v2329
  v2330.toNat
def k0_dev91 (d0 : Dev nD) : Nat :=
  let c0_i32_2509 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_18 : BitVec 32 := 8#32
  let v29 : BitVec 32 := Scalar.muli v3 c8_i32_18
  let c2_i32_16 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_6 : BitVec 32 := 1#32
  let v13 : BitVec 32 := Scalar.addi v12 c1_i32_6
  let c8_i32_7 : BitVec 32 := 8#32
  let v14 : BitVec 32 := Scalar.remsi v13 c8_i32_7
  let c0_i32_11 : BitVec 32 := 0#32
  let v19 : BitVec 1 := Scalar.cmpi .eq v14 c0_i32_11
  let c0_i32_15 : BitVec 32 := 0#32
  let c4_i32_12 : BitVec 32 := 4#32
  let v20 : BitVec 1 := Scalar.cmpi .sle v14 c4_i32_12
  let c1_i32_13 : BitVec 32 := 1#32
  let v21 : BitVec 32 := Scalar.subi v14 c1_i32_13
  let c8_i32_14 : BitVec 32 := 8#32
  let v22 : BitVec 32 := Scalar.subi c8_i32_14 v14
  let v23 : BitVec 32 := Scalar.select v20 v21 v22
  let v24 : BitVec 32 := Scalar.select v19 c0_i32_15 v23
  let v25 : BitVec 32 := Scalar.muli c2_i32_16 v24
  let c0_i32 : BitVec 32 := 0#32
  let v15 : BitVec 1 := Scalar.cmpi .eq v14 c0_i32
  let c0_i32_10 : BitVec 32 := 0#32
  let c4_i32 : BitVec 32 := 4#32
  let v16 : BitVec 1 := Scalar.cmpi .sle v14 c4_i32
  let c1_i32_8 : BitVec 32 := 1#32
  let c0_i32_9 : BitVec 32 := 0#32
  let v17 : BitVec 32 := Scalar.select v16 c1_i32_8 c0_i32_9
  let v18 : BitVec 32 := Scalar.select v15 c0_i32_10 v17
  let v26 : BitVec 32 := Scalar.addi v18 v24
  let c2_i32_17 : BitVec 32 := 2#32
  let v27 : BitVec 32 := Scalar.remsi v26 c2_i32_17
  let v28 : BitVec 32 := Scalar.addi v25 v27
  let v30 : BitVec 32 := Scalar.addi v29 v28
  let c1_i32_2508 : BitVec 32 := 1#32
  let v2331 : BitVec 32 := Scalar.muli v30 c1_i32_2508
  let v2332 : BitVec 32 := Scalar.addi c0_i32_2509 v2331
  v2332.toNat
def k0_dev92 (d0 : Dev nD) : Nat :=
  let c0_i32_2519 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_34 : BitVec 32 := 8#32
  let v48 : BitVec 32 := Scalar.muli v3 c8_i32_34
  let c2_i32_32 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c8_i32_19 : BitVec 32 := 8#32
  let v31 : BitVec 32 := Scalar.addi v12 c8_i32_19
  let c1_i32_20 : BitVec 32 := 1#32
  let v32 : BitVec 32 := Scalar.subi v31 c1_i32_20
  let c8_i32_21 : BitVec 32 := 8#32
  let v33 : BitVec 32 := Scalar.remsi v32 c8_i32_21
  let c0_i32_27 : BitVec 32 := 0#32
  let v38 : BitVec 1 := Scalar.cmpi .eq v33 c0_i32_27
  let c0_i32_31 : BitVec 32 := 0#32
  let c4_i32_28 : BitVec 32 := 4#32
  let v39 : BitVec 1 := Scalar.cmpi .sle v33 c4_i32_28
  let c1_i32_29 : BitVec 32 := 1#32
  let v40 : BitVec 32 := Scalar.subi v33 c1_i32_29
  let c8_i32_30 : BitVec 32 := 8#32
  let v41 : BitVec 32 := Scalar.subi c8_i32_30 v33
  let v42 : BitVec 32 := Scalar.select v39 v40 v41
  let v43 : BitVec 32 := Scalar.select v38 c0_i32_31 v42
  let v44 : BitVec 32 := Scalar.muli c2_i32_32 v43
  let c0_i32_22 : BitVec 32 := 0#32
  let v34 : BitVec 1 := Scalar.cmpi .eq v33 c0_i32_22
  let c0_i32_26 : BitVec 32 := 0#32
  let c4_i32_23 : BitVec 32 := 4#32
  let v35 : BitVec 1 := Scalar.cmpi .sle v33 c4_i32_23
  let c1_i32_24 : BitVec 32 := 1#32
  let c0_i32_25 : BitVec 32 := 0#32
  let v36 : BitVec 32 := Scalar.select v35 c1_i32_24 c0_i32_25
  let v37 : BitVec 32 := Scalar.select v34 c0_i32_26 v36
  let v45 : BitVec 32 := Scalar.addi v37 v43
  let c2_i32_33 : BitVec 32 := 2#32
  let v46 : BitVec 32 := Scalar.remsi v45 c2_i32_33
  let v47 : BitVec 32 := Scalar.addi v44 v46
  let v49 : BitVec 32 := Scalar.addi v48 v47
  let c1_i32_2518 : BitVec 32 := 1#32
  let v2341 : BitVec 32 := Scalar.muli v49 c1_i32_2518
  let v2342 : BitVec 32 := Scalar.addi c0_i32_2519 v2341
  v2342.toNat
def k0_dev93 (d0 : Dev nD) : Nat :=
  let c0_i32_2529 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_18 : BitVec 32 := 8#32
  let v29 : BitVec 32 := Scalar.muli v3 c8_i32_18
  let c2_i32_16 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_6 : BitVec 32 := 1#32
  let v13 : BitVec 32 := Scalar.addi v12 c1_i32_6
  let c8_i32_7 : BitVec 32 := 8#32
  let v14 : BitVec 32 := Scalar.remsi v13 c8_i32_7
  let c0_i32_11 : BitVec 32 := 0#32
  let v19 : BitVec 1 := Scalar.cmpi .eq v14 c0_i32_11
  let c0_i32_15 : BitVec 32 := 0#32
  let c4_i32_12 : BitVec 32 := 4#32
  let v20 : BitVec 1 := Scalar.cmpi .sle v14 c4_i32_12
  let c1_i32_13 : BitVec 32 := 1#32
  let v21 : BitVec 32 := Scalar.subi v14 c1_i32_13
  let c8_i32_14 : BitVec 32 := 8#32
  let v22 : BitVec 32 := Scalar.subi c8_i32_14 v14
  let v23 : BitVec 32 := Scalar.select v20 v21 v22
  let v24 : BitVec 32 := Scalar.select v19 c0_i32_15 v23
  let v25 : BitVec 32 := Scalar.muli c2_i32_16 v24
  let c0_i32 : BitVec 32 := 0#32
  let v15 : BitVec 1 := Scalar.cmpi .eq v14 c0_i32
  let c0_i32_10 : BitVec 32 := 0#32
  let c4_i32 : BitVec 32 := 4#32
  let v16 : BitVec 1 := Scalar.cmpi .sle v14 c4_i32
  let c1_i32_8 : BitVec 32 := 1#32
  let c0_i32_9 : BitVec 32 := 0#32
  let v17 : BitVec 32 := Scalar.select v16 c1_i32_8 c0_i32_9
  let v18 : BitVec 32 := Scalar.select v15 c0_i32_10 v17
  let v26 : BitVec 32 := Scalar.addi v18 v24
  let c2_i32_17 : BitVec 32 := 2#32
  let v27 : BitVec 32 := Scalar.remsi v26 c2_i32_17
  let v28 : BitVec 32 := Scalar.addi v25 v27
  let v30 : BitVec 32 := Scalar.addi v29 v28
  let c1_i32_2528 : BitVec 32 := 1#32
  let v2351 : BitVec 32 := Scalar.muli v30 c1_i32_2528
  let v2352 : BitVec 32 := Scalar.addi c0_i32_2529 v2351
  v2352.toNat
def k0_dev94 (d0 : Dev nD) : Nat :=
  let c0_i32_2539 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_34 : BitVec 32 := 8#32
  let v48 : BitVec 32 := Scalar.muli v3 c8_i32_34
  let c2_i32_32 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c8_i32_19 : BitVec 32 := 8#32
  let v31 : BitVec 32 := Scalar.addi v12 c8_i32_19
  let c1_i32_20 : BitVec 32 := 1#32
  let v32 : BitVec 32 := Scalar.subi v31 c1_i32_20
  let c8_i32_21 : BitVec 32 := 8#32
  let v33 : BitVec 32 := Scalar.remsi v32 c8_i32_21
  let c0_i32_27 : BitVec 32 := 0#32
  let v38 : BitVec 1 := Scalar.cmpi .eq v33 c0_i32_27
  let c0_i32_31 : BitVec 32 := 0#32
  let c4_i32_28 : BitVec 32 := 4#32
  let v39 : BitVec 1 := Scalar.cmpi .sle v33 c4_i32_28
  let c1_i32_29 : BitVec 32 := 1#32
  let v40 : BitVec 32 := Scalar.subi v33 c1_i32_29
  let c8_i32_30 : BitVec 32 := 8#32
  let v41 : BitVec 32 := Scalar.subi c8_i32_30 v33
  let v42 : BitVec 32 := Scalar.select v39 v40 v41
  let v43 : BitVec 32 := Scalar.select v38 c0_i32_31 v42
  let v44 : BitVec 32 := Scalar.muli c2_i32_32 v43
  let c0_i32_22 : BitVec 32 := 0#32
  let v34 : BitVec 1 := Scalar.cmpi .eq v33 c0_i32_22
  let c0_i32_26 : BitVec 32 := 0#32
  let c4_i32_23 : BitVec 32 := 4#32
  let v35 : BitVec 1 := Scalar.cmpi .sle v33 c4_i32_23
  let c1_i32_24 : BitVec 32 := 1#32
  let c0_i32_25 : BitVec 32 := 0#32
  let v36 : BitVec 32 := Scalar.select v35 c1_i32_24 c0_i32_25
  let v37 : BitVec 32 := Scalar.select v34 c0_i32_26 v36
  let v45 : BitVec 32 := Scalar.addi v37 v43
  let c2_i32_33 : BitVec 32 := 2#32
  let v46 : BitVec 32 := Scalar.remsi v45 c2_i32_33
  let v47 : BitVec 32 := Scalar.addi v44 v46
  let v49 : BitVec 32 := Scalar.addi v48 v47
  let c1_i32_2538 : BitVec 32 := 1#32
  let v2361 : BitVec 32 := Scalar.muli v49 c1_i32_2538
  let v2362 : BitVec 32 := Scalar.addi c0_i32_2539 v2361
  v2362.toNat
def k0_dev95 (d0 : Dev nD) : Nat :=
  let c0_i32_2671 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_34 : BitVec 32 := 8#32
  let v48 : BitVec 32 := Scalar.muli v3 c8_i32_34
  let c2_i32_32 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c8_i32_19 : BitVec 32 := 8#32
  let v31 : BitVec 32 := Scalar.addi v12 c8_i32_19
  let c1_i32_20 : BitVec 32 := 1#32
  let v32 : BitVec 32 := Scalar.subi v31 c1_i32_20
  let c8_i32_21 : BitVec 32 := 8#32
  let v33 : BitVec 32 := Scalar.remsi v32 c8_i32_21
  let c0_i32_27 : BitVec 32 := 0#32
  let v38 : BitVec 1 := Scalar.cmpi .eq v33 c0_i32_27
  let c0_i32_31 : BitVec 32 := 0#32
  let c4_i32_28 : BitVec 32 := 4#32
  let v39 : BitVec 1 := Scalar.cmpi .sle v33 c4_i32_28
  let c1_i32_29 : BitVec 32 := 1#32
  let v40 : BitVec 32 := Scalar.subi v33 c1_i32_29
  let c8_i32_30 : BitVec 32 := 8#32
  let v41 : BitVec 32 := Scalar.subi c8_i32_30 v33
  let v42 : BitVec 32 := Scalar.select v39 v40 v41
  let v43 : BitVec 32 := Scalar.select v38 c0_i32_31 v42
  let v44 : BitVec 32 := Scalar.muli c2_i32_32 v43
  let c0_i32_22 : BitVec 32 := 0#32
  let v34 : BitVec 1 := Scalar.cmpi .eq v33 c0_i32_22
  let c0_i32_26 : BitVec 32 := 0#32
  let c4_i32_23 : BitVec 32 := 4#32
  let v35 : BitVec 1 := Scalar.cmpi .sle v33 c4_i32_23
  let c1_i32_24 : BitVec 32 := 1#32
  let c0_i32_25 : BitVec 32 := 0#32
  let v36 : BitVec 32 := Scalar.select v35 c1_i32_24 c0_i32_25
  let v37 : BitVec 32 := Scalar.select v34 c0_i32_26 v36
  let v45 : BitVec 32 := Scalar.addi v37 v43
  let c2_i32_33 : BitVec 32 := 2#32
  let v46 : BitVec 32 := Scalar.remsi v45 c2_i32_33
  let v47 : BitVec 32 := Scalar.addi v44 v46
  let v49 : BitVec 32 := Scalar.addi v48 v47
  let c1_i32_2670 : BitVec 32 := 1#32
  let v2476 : BitVec 32 := Scalar.muli v49 c1_i32_2670
  let v2477 : BitVec 32 := Scalar.addi c0_i32_2671 v2476
  v2477.toNat
def k0_dev96 (d0 : Dev nD) : Nat :=
  let c0_i32_2674 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_18 : BitVec 32 := 8#32
  let v29 : BitVec 32 := Scalar.muli v3 c8_i32_18
  let c2_i32_16 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_6 : BitVec 32 := 1#32
  let v13 : BitVec 32 := Scalar.addi v12 c1_i32_6
  let c8_i32_7 : BitVec 32 := 8#32
  let v14 : BitVec 32 := Scalar.remsi v13 c8_i32_7
  let c0_i32_11 : BitVec 32 := 0#32
  let v19 : BitVec 1 := Scalar.cmpi .eq v14 c0_i32_11
  let c0_i32_15 : BitVec 32 := 0#32
  let c4_i32_12 : BitVec 32 := 4#32
  let v20 : BitVec 1 := Scalar.cmpi .sle v14 c4_i32_12
  let c1_i32_13 : BitVec 32 := 1#32
  let v21 : BitVec 32 := Scalar.subi v14 c1_i32_13
  let c8_i32_14 : BitVec 32 := 8#32
  let v22 : BitVec 32 := Scalar.subi c8_i32_14 v14
  let v23 : BitVec 32 := Scalar.select v20 v21 v22
  let v24 : BitVec 32 := Scalar.select v19 c0_i32_15 v23
  let v25 : BitVec 32 := Scalar.muli c2_i32_16 v24
  let c0_i32 : BitVec 32 := 0#32
  let v15 : BitVec 1 := Scalar.cmpi .eq v14 c0_i32
  let c0_i32_10 : BitVec 32 := 0#32
  let c4_i32 : BitVec 32 := 4#32
  let v16 : BitVec 1 := Scalar.cmpi .sle v14 c4_i32
  let c1_i32_8 : BitVec 32 := 1#32
  let c0_i32_9 : BitVec 32 := 0#32
  let v17 : BitVec 32 := Scalar.select v16 c1_i32_8 c0_i32_9
  let v18 : BitVec 32 := Scalar.select v15 c0_i32_10 v17
  let v26 : BitVec 32 := Scalar.addi v18 v24
  let c2_i32_17 : BitVec 32 := 2#32
  let v27 : BitVec 32 := Scalar.remsi v26 c2_i32_17
  let v28 : BitVec 32 := Scalar.addi v25 v27
  let v30 : BitVec 32 := Scalar.addi v29 v28
  let c1_i32_2673 : BitVec 32 := 1#32
  let v2478 : BitVec 32 := Scalar.muli v30 c1_i32_2673
  let v2479 : BitVec 32 := Scalar.addi c0_i32_2674 v2478
  v2479.toNat
def k0_dev97 (d0 : Dev nD) : Nat :=
  let c0_i32_2684 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_18 : BitVec 32 := 8#32
  let v29 : BitVec 32 := Scalar.muli v3 c8_i32_18
  let c2_i32_16 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_6 : BitVec 32 := 1#32
  let v13 : BitVec 32 := Scalar.addi v12 c1_i32_6
  let c8_i32_7 : BitVec 32 := 8#32
  let v14 : BitVec 32 := Scalar.remsi v13 c8_i32_7
  let c0_i32_11 : BitVec 32 := 0#32
  let v19 : BitVec 1 := Scalar.cmpi .eq v14 c0_i32_11
  let c0_i32_15 : BitVec 32 := 0#32
  let c4_i32_12 : BitVec 32 := 4#32
  let v20 : BitVec 1 := Scalar.cmpi .sle v14 c4_i32_12
  let c1_i32_13 : BitVec 32 := 1#32
  let v21 : BitVec 32 := Scalar.subi v14 c1_i32_13
  let c8_i32_14 : BitVec 32 := 8#32
  let v22 : BitVec 32 := Scalar.subi c8_i32_14 v14
  let v23 : BitVec 32 := Scalar.select v20 v21 v22
  let v24 : BitVec 32 := Scalar.select v19 c0_i32_15 v23
  let v25 : BitVec 32 := Scalar.muli c2_i32_16 v24
  let c0_i32 : BitVec 32 := 0#32
  let v15 : BitVec 1 := Scalar.cmpi .eq v14 c0_i32
  let c0_i32_10 : BitVec 32 := 0#32
  let c4_i32 : BitVec 32 := 4#32
  let v16 : BitVec 1 := Scalar.cmpi .sle v14 c4_i32
  let c1_i32_8 : BitVec 32 := 1#32
  let c0_i32_9 : BitVec 32 := 0#32
  let v17 : BitVec 32 := Scalar.select v16 c1_i32_8 c0_i32_9
  let v18 : BitVec 32 := Scalar.select v15 c0_i32_10 v17
  let v26 : BitVec 32 := Scalar.addi v18 v24
  let c2_i32_17 : BitVec 32 := 2#32
  let v27 : BitVec 32 := Scalar.remsi v26 c2_i32_17
  let v28 : BitVec 32 := Scalar.addi v25 v27
  let v30 : BitVec 32 := Scalar.addi v29 v28
  let c1_i32_2683 : BitVec 32 := 1#32
  let v2480 : BitVec 32 := Scalar.muli v30 c1_i32_2683
  let v2481 : BitVec 32 := Scalar.addi c0_i32_2684 v2480
  v2481.toNat
def k0_dev98 (d0 : Dev nD) : Nat :=
  let c0_i32_2694 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_34 : BitVec 32 := 8#32
  let v48 : BitVec 32 := Scalar.muli v3 c8_i32_34
  let c2_i32_32 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c8_i32_19 : BitVec 32 := 8#32
  let v31 : BitVec 32 := Scalar.addi v12 c8_i32_19
  let c1_i32_20 : BitVec 32 := 1#32
  let v32 : BitVec 32 := Scalar.subi v31 c1_i32_20
  let c8_i32_21 : BitVec 32 := 8#32
  let v33 : BitVec 32 := Scalar.remsi v32 c8_i32_21
  let c0_i32_27 : BitVec 32 := 0#32
  let v38 : BitVec 1 := Scalar.cmpi .eq v33 c0_i32_27
  let c0_i32_31 : BitVec 32 := 0#32
  let c4_i32_28 : BitVec 32 := 4#32
  let v39 : BitVec 1 := Scalar.cmpi .sle v33 c4_i32_28
  let c1_i32_29 : BitVec 32 := 1#32
  let v40 : BitVec 32 := Scalar.subi v33 c1_i32_29
  let c8_i32_30 : BitVec 32 := 8#32
  let v41 : BitVec 32 := Scalar.subi c8_i32_30 v33
  let v42 : BitVec 32 := Scalar.select v39 v40 v41
  let v43 : BitVec 32 := Scalar.select v38 c0_i32_31 v42
  let v44 : BitVec 32 := Scalar.muli c2_i32_32 v43
  let c0_i32_22 : BitVec 32 := 0#32
  let v34 : BitVec 1 := Scalar.cmpi .eq v33 c0_i32_22
  let c0_i32_26 : BitVec 32 := 0#32
  let c4_i32_23 : BitVec 32 := 4#32
  let v35 : BitVec 1 := Scalar.cmpi .sle v33 c4_i32_23
  let c1_i32_24 : BitVec 32 := 1#32
  let c0_i32_25 : BitVec 32 := 0#32
  let v36 : BitVec 32 := Scalar.select v35 c1_i32_24 c0_i32_25
  let v37 : BitVec 32 := Scalar.select v34 c0_i32_26 v36
  let v45 : BitVec 32 := Scalar.addi v37 v43
  let c2_i32_33 : BitVec 32 := 2#32
  let v46 : BitVec 32 := Scalar.remsi v45 c2_i32_33
  let v47 : BitVec 32 := Scalar.addi v44 v46
  let v49 : BitVec 32 := Scalar.addi v48 v47
  let c1_i32_2693 : BitVec 32 := 1#32
  let v2490 : BitVec 32 := Scalar.muli v49 c1_i32_2693
  let v2491 : BitVec 32 := Scalar.addi c0_i32_2694 v2490
  v2491.toNat
def k0_dev99 (d0 : Dev nD) : Nat :=
  let c0_i32_2704 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_18 : BitVec 32 := 8#32
  let v29 : BitVec 32 := Scalar.muli v3 c8_i32_18
  let c2_i32_16 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_6 : BitVec 32 := 1#32
  let v13 : BitVec 32 := Scalar.addi v12 c1_i32_6
  let c8_i32_7 : BitVec 32 := 8#32
  let v14 : BitVec 32 := Scalar.remsi v13 c8_i32_7
  let c0_i32_11 : BitVec 32 := 0#32
  let v19 : BitVec 1 := Scalar.cmpi .eq v14 c0_i32_11
  let c0_i32_15 : BitVec 32 := 0#32
  let c4_i32_12 : BitVec 32 := 4#32
  let v20 : BitVec 1 := Scalar.cmpi .sle v14 c4_i32_12
  let c1_i32_13 : BitVec 32 := 1#32
  let v21 : BitVec 32 := Scalar.subi v14 c1_i32_13
  let c8_i32_14 : BitVec 32 := 8#32
  let v22 : BitVec 32 := Scalar.subi c8_i32_14 v14
  let v23 : BitVec 32 := Scalar.select v20 v21 v22
  let v24 : BitVec 32 := Scalar.select v19 c0_i32_15 v23
  let v25 : BitVec 32 := Scalar.muli c2_i32_16 v24
  let c0_i32 : BitVec 32 := 0#32
  let v15 : BitVec 1 := Scalar.cmpi .eq v14 c0_i32
  let c0_i32_10 : BitVec 32 := 0#32
  let c4_i32 : BitVec 32 := 4#32
  let v16 : BitVec 1 := Scalar.cmpi .sle v14 c4_i32
  let c1_i32_8 : BitVec 32 := 1#32
  let c0_i32_9 : BitVec 32 := 0#32
  let v17 : BitVec 32 := Scalar.select v16 c1_i32_8 c0_i32_9
  let v18 : BitVec 32 := Scalar.select v15 c0_i32_10 v17
  let v26 : BitVec 32 := Scalar.addi v18 v24
  let c2_i32_17 : BitVec 32 := 2#32
  let v27 : BitVec 32 := Scalar.remsi v26 c2_i32_17
  let v28 : BitVec 32 := Scalar.addi v25 v27
  let v30 : BitVec 32 := Scalar.addi v29 v28
  let c1_i32_2703 : BitVec 32 := 1#32
  let v2500 : BitVec 32 := Scalar.muli v30 c1_i32_2703
  let v2501 : BitVec 32 := Scalar.addi c0_i32_2704 v2500
  v2501.toNat
def k0_dev100 (d0 : Dev nD) : Nat :=
  let c0_i32_2714 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_34 : BitVec 32 := 8#32
  let v48 : BitVec 32 := Scalar.muli v3 c8_i32_34
  let c2_i32_32 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c8_i32_19 : BitVec 32 := 8#32
  let v31 : BitVec 32 := Scalar.addi v12 c8_i32_19
  let c1_i32_20 : BitVec 32 := 1#32
  let v32 : BitVec 32 := Scalar.subi v31 c1_i32_20
  let c8_i32_21 : BitVec 32 := 8#32
  let v33 : BitVec 32 := Scalar.remsi v32 c8_i32_21
  let c0_i32_27 : BitVec 32 := 0#32
  let v38 : BitVec 1 := Scalar.cmpi .eq v33 c0_i32_27
  let c0_i32_31 : BitVec 32 := 0#32
  let c4_i32_28 : BitVec 32 := 4#32
  let v39 : BitVec 1 := Scalar.cmpi .sle v33 c4_i32_28
  let c1_i32_29 : BitVec 32 := 1#32
  let v40 : BitVec 32 := Scalar.subi v33 c1_i32_29
  let c8_i32_30 : BitVec 32 := 8#32
  let v41 : BitVec 32 := Scalar.subi c8_i32_30 v33
  let v42 : BitVec 32 := Scalar.select v39 v40 v41
  let v43 : BitVec 32 := Scalar.select v38 c0_i32_31 v42
  let v44 : BitVec 32 := Scalar.muli c2_i32_32 v43
  let c0_i32_22 : BitVec 32 := 0#32
  let v34 : BitVec 1 := Scalar.cmpi .eq v33 c0_i32_22
  let c0_i32_26 : BitVec 32 := 0#32
  let c4_i32_23 : BitVec 32 := 4#32
  let v35 : BitVec 1 := Scalar.cmpi .sle v33 c4_i32_23
  let c1_i32_24 : BitVec 32 := 1#32
  let c0_i32_25 : BitVec 32 := 0#32
  let v36 : BitVec 32 := Scalar.select v35 c1_i32_24 c0_i32_25
  let v37 : BitVec 32 := Scalar.select v34 c0_i32_26 v36
  let v45 : BitVec 32 := Scalar.addi v37 v43
  let c2_i32_33 : BitVec 32 := 2#32
  let v46 : BitVec 32 := Scalar.remsi v45 c2_i32_33
  let v47 : BitVec 32 := Scalar.addi v44 v46
  let v49 : BitVec 32 := Scalar.addi v48 v47
  let c1_i32_2713 : BitVec 32 := 1#32
  let v2510 : BitVec 32 := Scalar.muli v49 c1_i32_2713
  let v2511 : BitVec 32 := Scalar.addi c0_i32_2714 v2510
  v2511.toNat
def k0_dev101 (d0 : Dev nD) : Nat :=
  let c0_i32_2853 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_18 : BitVec 32 := 8#32
  let v29 : BitVec 32 := Scalar.muli v3 c8_i32_18
  let c2_i32_16 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_6 : BitVec 32 := 1#32
  let v13 : BitVec 32 := Scalar.addi v12 c1_i32_6
  let c8_i32_7 : BitVec 32 := 8#32
  let v14 : BitVec 32 := Scalar.remsi v13 c8_i32_7
  let c0_i32_11 : BitVec 32 := 0#32
  let v19 : BitVec 1 := Scalar.cmpi .eq v14 c0_i32_11
  let c0_i32_15 : BitVec 32 := 0#32
  let c4_i32_12 : BitVec 32 := 4#32
  let v20 : BitVec 1 := Scalar.cmpi .sle v14 c4_i32_12
  let c1_i32_13 : BitVec 32 := 1#32
  let v21 : BitVec 32 := Scalar.subi v14 c1_i32_13
  let c8_i32_14 : BitVec 32 := 8#32
  let v22 : BitVec 32 := Scalar.subi c8_i32_14 v14
  let v23 : BitVec 32 := Scalar.select v20 v21 v22
  let v24 : BitVec 32 := Scalar.select v19 c0_i32_15 v23
  let v25 : BitVec 32 := Scalar.muli c2_i32_16 v24
  let c0_i32 : BitVec 32 := 0#32
  let v15 : BitVec 1 := Scalar.cmpi .eq v14 c0_i32
  let c0_i32_10 : BitVec 32 := 0#32
  let c4_i32 : BitVec 32 := 4#32
  let v16 : BitVec 1 := Scalar.cmpi .sle v14 c4_i32
  let c1_i32_8 : BitVec 32 := 1#32
  let c0_i32_9 : BitVec 32 := 0#32
  let v17 : BitVec 32 := Scalar.select v16 c1_i32_8 c0_i32_9
  let v18 : BitVec 32 := Scalar.select v15 c0_i32_10 v17
  let v26 : BitVec 32 := Scalar.addi v18 v24
  let c2_i32_17 : BitVec 32 := 2#32
  let v27 : BitVec 32 := Scalar.remsi v26 c2_i32_17
  let v28 : BitVec 32 := Scalar.addi v25 v27
  let v30 : BitVec 32 := Scalar.addi v29 v28
  let c1_i32_2852 : BitVec 32 := 1#32
  let v2625 : BitVec 32 := Scalar.muli v30 c1_i32_2852
  let v2626 : BitVec 32 := Scalar.addi c0_i32_2853 v2625
  v2626.toNat
def k0_dev102 (d0 : Dev nD) : Nat :=
  let c0_i32_2863 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_34 : BitVec 32 := 8#32
  let v48 : BitVec 32 := Scalar.muli v3 c8_i32_34
  let c2_i32_32 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c8_i32_19 : BitVec 32 := 8#32
  let v31 : BitVec 32 := Scalar.addi v12 c8_i32_19
  let c1_i32_20 : BitVec 32 := 1#32
  let v32 : BitVec 32 := Scalar.subi v31 c1_i32_20
  let c8_i32_21 : BitVec 32 := 8#32
  let v33 : BitVec 32 := Scalar.remsi v32 c8_i32_21
  let c0_i32_27 : BitVec 32 := 0#32
  let v38 : BitVec 1 := Scalar.cmpi .eq v33 c0_i32_27
  let c0_i32_31 : BitVec 32 := 0#32
  let c4_i32_28 : BitVec 32 := 4#32
  let v39 : BitVec 1 := Scalar.cmpi .sle v33 c4_i32_28
  let c1_i32_29 : BitVec 32 := 1#32
  let v40 : BitVec 32 := Scalar.subi v33 c1_i32_29
  let c8_i32_30 : BitVec 32 := 8#32
  let v41 : BitVec 32 := Scalar.subi c8_i32_30 v33
  let v42 : BitVec 32 := Scalar.select v39 v40 v41
  let v43 : BitVec 32 := Scalar.select v38 c0_i32_31 v42
  let v44 : BitVec 32 := Scalar.muli c2_i32_32 v43
  let c0_i32_22 : BitVec 32 := 0#32
  let v34 : BitVec 1 := Scalar.cmpi .eq v33 c0_i32_22
  let c0_i32_26 : BitVec 32 := 0#32
  let c4_i32_23 : BitVec 32 := 4#32
  let v35 : BitVec 1 := Scalar.cmpi .sle v33 c4_i32_23
  let c1_i32_24 : BitVec 32 := 1#32
  let c0_i32_25 : BitVec 32 := 0#32
  let v36 : BitVec 32 := Scalar.select v35 c1_i32_24 c0_i32_25
  let v37 : BitVec 32 := Scalar.select v34 c0_i32_26 v36
  let v45 : BitVec 32 := Scalar.addi v37 v43
  let c2_i32_33 : BitVec 32 := 2#32
  let v46 : BitVec 32 := Scalar.remsi v45 c2_i32_33
  let v47 : BitVec 32 := Scalar.addi v44 v46
  let v49 : BitVec 32 := Scalar.addi v48 v47
  let c1_i32_2862 : BitVec 32 := 1#32
  let v2635 : BitVec 32 := Scalar.muli v49 c1_i32_2862
  let v2636 : BitVec 32 := Scalar.addi c0_i32_2863 v2635
  v2636.toNat
def k0_dev103 (d0 : Dev nD) : Nat :=
  let c0_i32_2873 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_18 : BitVec 32 := 8#32
  let v29 : BitVec 32 := Scalar.muli v3 c8_i32_18
  let c2_i32_16 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c1_i32_6 : BitVec 32 := 1#32
  let v13 : BitVec 32 := Scalar.addi v12 c1_i32_6
  let c8_i32_7 : BitVec 32 := 8#32
  let v14 : BitVec 32 := Scalar.remsi v13 c8_i32_7
  let c0_i32_11 : BitVec 32 := 0#32
  let v19 : BitVec 1 := Scalar.cmpi .eq v14 c0_i32_11
  let c0_i32_15 : BitVec 32 := 0#32
  let c4_i32_12 : BitVec 32 := 4#32
  let v20 : BitVec 1 := Scalar.cmpi .sle v14 c4_i32_12
  let c1_i32_13 : BitVec 32 := 1#32
  let v21 : BitVec 32 := Scalar.subi v14 c1_i32_13
  let c8_i32_14 : BitVec 32 := 8#32
  let v22 : BitVec 32 := Scalar.subi c8_i32_14 v14
  let v23 : BitVec 32 := Scalar.select v20 v21 v22
  let v24 : BitVec 32 := Scalar.select v19 c0_i32_15 v23
  let v25 : BitVec 32 := Scalar.muli c2_i32_16 v24
  let c0_i32 : BitVec 32 := 0#32
  let v15 : BitVec 1 := Scalar.cmpi .eq v14 c0_i32
  let c0_i32_10 : BitVec 32 := 0#32
  let c4_i32 : BitVec 32 := 4#32
  let v16 : BitVec 1 := Scalar.cmpi .sle v14 c4_i32
  let c1_i32_8 : BitVec 32 := 1#32
  let c0_i32_9 : BitVec 32 := 0#32
  let v17 : BitVec 32 := Scalar.select v16 c1_i32_8 c0_i32_9
  let v18 : BitVec 32 := Scalar.select v15 c0_i32_10 v17
  let v26 : BitVec 32 := Scalar.addi v18 v24
  let c2_i32_17 : BitVec 32 := 2#32
  let v27 : BitVec 32 := Scalar.remsi v26 c2_i32_17
  let v28 : BitVec 32 := Scalar.addi v25 v27
  let v30 : BitVec 32 := Scalar.addi v29 v28
  let c1_i32_2872 : BitVec 32 := 1#32
  let v2645 : BitVec 32 := Scalar.muli v30 c1_i32_2872
  let v2646 : BitVec 32 := Scalar.addi c0_i32_2873 v2645
  v2646.toNat
def k0_dev104 (d0 : Dev nD) : Nat :=
  let c0_i32_2883 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v3 : BitVec 32 := Scalar.divsi v2 c8_i32
  let c8_i32_34 : BitVec 32 := 8#32
  let v48 : BitVec 32 := Scalar.muli v3 c8_i32_34
  let c2_i32_32 : BitVec 32 := 2#32
  let c8_i32_0 : BitVec 32 := 8#32
  let v4 : BitVec 32 := Scalar.remsi v2 c8_i32_0
  let c2_i32 : BitVec 32 := 2#32
  let v5 : BitVec 32 := Scalar.divsi v4 c2_i32
  let v6 : BitVec 32 := Scalar.addi v4 v5
  let c2_i32_1 : BitVec 32 := 2#32
  let v7 : BitVec 32 := Scalar.remsi v6 c2_i32_1
  let c1_i32_2 : BitVec 32 := 1#32
  let v8 : BitVec 1 := Scalar.cmpi .eq v7 c1_i32_2
  let c1_i32_3 : BitVec 32 := 1#32
  let v9 : BitVec 32 := Scalar.addi c1_i32_3 v5
  let c8_i32_4 : BitVec 32 := 8#32
  let v10 : BitVec 32 := Scalar.subi c8_i32_4 v5
  let c8_i32_5 : BitVec 32 := 8#32
  let v11 : BitVec 32 := Scalar.remsi v10 c8_i32_5
  let v12 : BitVec 32 := Scalar.select v8 v9 v11
  let c8_i32_19 : BitVec 32 := 8#32
  let v31 : BitVec 32 := Scalar.addi v12 c8_i32_19
  let c1_i32_20 : BitVec 32 := 1#32
  let v32 : BitVec 32 := Scalar.subi v31 c1_i32_20
  let c8_i32_21 : BitVec 32 := 8#32
  let v33 : BitVec 32 := Scalar.remsi v32 c8_i32_21
  let c0_i32_27 : BitVec 32 := 0#32
  let v38 : BitVec 1 := Scalar.cmpi .eq v33 c0_i32_27
  let c0_i32_31 : BitVec 32 := 0#32
  let c4_i32_28 : BitVec 32 := 4#32
  let v39 : BitVec 1 := Scalar.cmpi .sle v33 c4_i32_28
  let c1_i32_29 : BitVec 32 := 1#32
  let v40 : BitVec 32 := Scalar.subi v33 c1_i32_29
  let c8_i32_30 : BitVec 32 := 8#32
  let v41 : BitVec 32 := Scalar.subi c8_i32_30 v33
  let v42 : BitVec 32 := Scalar.select v39 v40 v41
  let v43 : BitVec 32 := Scalar.select v38 c0_i32_31 v42
  let v44 : BitVec 32 := Scalar.muli c2_i32_32 v43
  let c0_i32_22 : BitVec 32 := 0#32
  let v34 : BitVec 1 := Scalar.cmpi .eq v33 c0_i32_22
  let c0_i32_26 : BitVec 32 := 0#32
  let c4_i32_23 : BitVec 32 := 4#32
  let v35 : BitVec 1 := Scalar.cmpi .sle v33 c4_i32_23
  let c1_i32_24 : BitVec 32 := 1#32
  let c0_i32_25 : BitVec 32 := 0#32
  let v36 : BitVec 32 := Scalar.select v35 c1_i32_24 c0_i32_25
  let v37 : BitVec 32 := Scalar.select v34 c0_i32_26 v36
  let v45 : BitVec 32 := Scalar.addi v37 v43
  let c2_i32_33 : BitVec 32 := 2#32
  let v46 : BitVec 32 := Scalar.remsi v45 c2_i32_33
  let v47 : BitVec 32 := Scalar.addi v44 v46
  let v49 : BitVec 32 := Scalar.addi v48 v47
  let c1_i32_2882 : BitVec 32 := 1#32
  let v2655 : BitVec 32 := Scalar.muli v49 c1_i32_2882
  let v2656 : BitVec 32 := Scalar.addi c0_i32_2883 v2655
  v2656.toNat
abbrev stage0_0 : Fin 1 → Memref sig .tc .vmem S4096x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e4m3⟩
  | .hbm, ⟨1, _⟩ => ⟨S4096x2048, .fp8e5m2⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .fp8e4m3⟩
  | .local _ .vmem, ⟨1, _⟩ => ⟨S4096x2048, .fp8e5m2⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .fp8e4m3⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Program.lean ====
/-
  The kernel's text with its repetition folded: one definition per kind of step, the direction a `Bool` (`false` the
  ring going right, `true` the ring going left), the buffer slot and the half variables, and `bodyProg`, the whole body
  as the sequence of its hops. `Proof/Fold.lean` proves that the printed body is this program.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KProof

open Cert.KernelIdeal Cert.KernelIdeal.Gen

open Idealize.ShloMosaic
open Idealize.ShloMosaic.TcCoe
open Idealize.SL.Sem

variable {F : FTy → Type} [FloatOps F]

/-- Programs of the kernel's body. -/
abbrev KProg (F : FTy → Type) [FloatOps F] (α : Type) : Type 1 := Prog (TpuEff nD τ sig (Elt F) Λ₀ .tc) α

/-! ## Operands -/

/-- The input block and the weight block (whole staging buffers), the two scales, the result. -/
abbrev xM : Memref sig .tc .vmem S4096x128 .fp8e4m3 := win0_0.stage 0
abbrev wM : Memref sig .tc .vmem S128x2048 .fp8e5m2 := win0_1.stage 0
abbrev sxM : Memref sig .tc .smem S1 .f32 := win0_2.stage 0
abbrev swM : Memref sig .tc .smem S1 .f32 := win0_3.stage 0
abbrev oM : Memref sig .tc .vmem S4096x2048 .f32 := win0_4.stage 0

/-- The staging and landing buffers of the plane ring, by direction. -/
abbrev stA : Bool → Memref sig .tc .vmem S2x512x1024 .bf16 | false => Memref.whole cc0_scratch0 | true => Memref.whole cc0_scratch1
abbrev cmA : Bool → Memref sig .tc .vmem S2x512x1024 .bf16 | false => Memref.whole cc0_scratch2 | true => Memref.whole cc0_scratch3
/-- The staging and landing buffers of the ring across planes, by direction. -/
abbrev stB : Bool → Memref sig .tc .vmem S2x128x1024 .bf16 | false => Memref.whole cc0_scratch4 | true => Memref.whole cc0_scratch5
abbrev cmB : Bool → Memref sig .tc .vmem S2x128x1024 .bf16 | false => Memref.whole cc0_scratch6 | true => Memref.whole cc0_scratch7
/-- The plane sums and the finished rows, by direction. -/
abbrev plM : Bool → Memref sig .tc .vmem S512x1024 .bf16 | false => Memref.whole cc0_scratch8 | true => Memref.whole cc0_scratch9
abbrev fiM : Bool → Memref sig .tc .vmem S512x1024 .bf16 | false => Memref.whole cc0_scratch10 | true => Memref.whole cc0_scratch11
/-- The semaphores, by direction. -/
abbrev sendA : Bool → DmaSems sig S4 | false => cc0_scratch12 | true => cc0_scratch13
abbrev recvA : Bool → DmaSems sig S4 | false => cc0_scratch14 | true => cc0_scratch15
abbrev sendB : Bool → DmaSems sig S2 | false => cc0_scratch16 | true => cc0_scratch17
abbrev recvB : Bool → DmaSems sig S2 | false => cc0_scratch18 | true => cc0_scratch19
abbrev credA : Bool → Sems sig S_ | false => cc0_scratch20 | true => cc0_scratch21
abbrev credB : Bool → Sems sig S_ | false => cc0_scratch22 | true => cc0_scratch23
/-- The barrier semaphore. -/
abbrev barS : Sem sig := (SemArray.scalar (sig.barrier 0 rfl) : Sems sig S_).sem

/-- The device that `c` sends to on the plane ring and on the ring across planes. -/
def tgtA (d : Bool) (c : Dev nD) : Dev nD := match d with
  | false => ⟨k0_dev2 c, k0_dev2_lt c⟩
  | true => ⟨k0_dev1 c, k0_dev1_lt c⟩
@[inherit_doc tgtA] def tgtB (d : Bool) (c : Dev nD) : Dev nD := match d with
  | false => ⟨k0_dev4 c, k0_dev4_lt c⟩
  | true => ⟨k0_dev3 c, k0_dev3_lt c⟩

/-! ## Rectangles -/

theorem inbH (p u : Fin 2) : ∀ a, (![p.val, 256 * u.val, 0] : Fin 3 → Nat) a + S1x256x1024.size a ≤ S2x512x1024.size a := by
  revert p u; decide
theorem inbP (p : Fin 2) : ∀ a, (![p.val, 0, 0] : Fin 3 → Nat) a + S1x128x1024.size a ≤ S2x128x1024.size a := by
  revert p; decide
theorem inb4 (p u : Fin 2) : ∀ a, (![2 * p.val + u.val] : Fin 1 → Nat) a + S1.size a ≤ S4.size a := by
  revert p u; decide
theorem inb2 (p : Fin 2) : ∀ a, (![p.val] : Fin 1 → Nat) a + S1.size a ≤ S2.size a := by
  revert p; decide
theorem inbPl (u : Fin 2) : ∀ a, (![256 * u.val, 0] : Fin 2 → Nat) a + S256x1024.size a ≤ S512x1024.size a := by
  revert u; decide
theorem inbW (d : Bool) : ∀ a, (![0, 1024 * d.toNat] : Fin 2 → Nat) a + S128x1024.size a ≤ S128x2048.size a := by
  revert d; decide

/-- Half `u` of slot `p` of a plane-ring buffer. -/
abbrev rH (p u : Fin 2) : Rect S2x512x1024 := Rect.unit (s := S2x512x1024) ![p.val, 256 * u.val, 0] S1x256x1024.size (inbH p u)
/-- Slot 0 of a plane-ring buffer. -/
abbrev rS : Rect S2x512x1024 := Rect.unit (s := S2x512x1024) ![0, 0, 0] S1x512x1024.size inb_S2x512x1024_S1x512x1024_0_0_0
/-- Slot `p` of a buffer of the ring across planes. -/
abbrev rP (p : Fin 2) : Rect S2x128x1024 := Rect.unit (s := S2x128x1024) ![p.val, 0, 0] S1x128x1024.size (inbP p)
/-- Half `u` of a plane sum. -/
abbrev rPl (u : Fin 2) : Rect S512x1024 := Rect.unit (s := S512x1024) ![256 * u.val, 0] S256x1024.size (inbPl u)
/-- The columns of direction `d` of the weights. -/
abbrev rW (d : Bool) : Rect S128x2048 := Rect.unit (s := S128x2048) ![0, 1024 * d.toNat] S128x1024.size (inbW d)

/-- Where the rows of the input block start that direction `d` multiplies at hop `s`. -/
def offX (d : Bool) (c : Dev nD) (s : Fin 7) : Fin 2 → Nat := match d with
  | false => k0_off2 c (BitVec.ofNat 32 (1 + s.val))
  | true => k0_off3 c (BitVec.ofNat 32 (1 + s.val))
theorem inbX (d : Bool) (c : Dev nD) (s : Fin 7) : ∀ a, offX d c s a + S512x128.size a ≤ S4096x128.size a :=
  match d with
  | false => k0_off2_inb c s
  | true => k0_off3_inb c s
/-- Those rows. -/
abbrev rX (d : Bool) (c : Dev nD) (s : Fin 7) : Rect S4096x128 := Rect.unit (s := S4096x128) (offX d c s) S512x128.size (inbX d c s)
/-- The rows it starts from. -/
abbrev rX0 (c : Dev nD) : Rect S4096x128 := Rect.unit (s := S4096x128) (k0_off1 c) S512x128.size (k0_off1_inb c)

/-- A half as a transfer names it. -/
abbrev halfM (M : Memref sig .tc .vmem S2x512x1024 .bf16) (p u : Fin 2) : Memref sig .tc .vmem S256x1024 .bf16 :=
  (M.slice (rH p u) (fun _ => rfl)).squeeze S256x1024 squeezes_S1x256x1024_S256x1024
/-- A slot of the ring across planes as a transfer names it. -/
abbrev slotM (M : Memref sig .tc .vmem S2x128x1024 .bf16) (p : Fin 2) : Memref sig .tc .vmem S128x1024 .bf16 :=
  (M.slice (rP p) (fun _ => rfl)).squeeze S128x1024 squeezes_S1x128x1024_S128x1024
/-- The semaphore of half `u` of slot `p`. -/
abbrev sem4 (A : DmaSems sig S4) (p u : Fin 2) : DmaSem sig :=
  ((A.slice (Rect.unit (s := S4) ![2 * p.val + u.val] S1.size (inb4 p u))).squeeze S_ squeezes_S1_S_).sem
/-- The semaphore of slot `p`. -/
abbrev sem2 (A : DmaSems sig S2) (p : Fin 2) : DmaSem sig :=
  ((A.slice (Rect.unit (s := S2) ![p.val] S1.size (inb2 p))).squeeze S_ squeezes_S1_S_).sem

theorem wholeA (d : Bool) : (stA d).IsWhole ∧ (cmA d).IsWhole := by cases d <;> exact ⟨Memref.isWhole_whole _, Memref.isWhole_whole _⟩
theorem wholeB (d : Bool) : (stB d).IsWhole ∧ (cmB d).IsWhole := by cases d <;> exact ⟨Memref.isWhole_whole _, Memref.isWhole_whole _⟩

theorem wholeF (d : Bool) : (plM d).IsWhole ∧ (fiM d).IsWhole := by cases d <;> exact ⟨Memref.isWhole_whole _, Memref.isWhole_whole _⟩

theorem wordsH (p u : Fin 2) : (rH p u).WholeWords (EltTy.packing .bf16) := by
  revert p u
  exact fun
    | 0, 0 => wordsbf16_S2x512x1024_S1x256x1024_0_0_0
    | 0, 1 => wordsbf16_S2x512x1024_S1x256x1024_0_256_0
    | 1, 0 => wordsbf16_S2x512x1024_S1x256x1024_1_0_0
    | 1, 1 => wordsbf16_S2x512x1024_S1x256x1024_1_256_0
theorem wordsP (p : Fin 2) : (rP p).WholeWords (EltTy.packing .bf16) := by
  revert p
  exact fun
    | 0 => wordsbf16_S2x128x1024_S1x128x1024_0_0_0
    | 1 => wordsbf16_S2x128x1024_S1x128x1024_1_0_0
theorem packedH (p u : Fin 2) : (rH p u).PackedRows (EltTy.packing .bf16) := by
  revert p u
  exact fun
    | 0, 0 => packedbf16_S2x512x1024_S1x256x1024_0_0_0
    | 0, 1 => packedbf16_S2x512x1024_S1x256x1024_0_256_0
    | 1, 0 => packedbf16_S2x512x1024_S1x256x1024_1_0_0
    | 1, 1 => packedbf16_S2x512x1024_S1x256x1024_1_256_0
theorem packedP (p : Fin 2) : (rP p).PackedRows (EltTy.packing .bf16) := by
  revert p
  exact fun
    | 0 => packedbf16_S2x128x1024_S1x128x1024_0_0_0
    | 1 => packedbf16_S2x128x1024_S1x128x1024_1_0_0

theorem exactH {M : Memref sig .tc .vmem S2x512x1024 .bf16} (h : M.IsWhole) (p u : Fin 2) : (halfM M p u).view.WordExact :=
  (h.wordExact_slice rfl _ (wordsH p u)).reshape _ _
theorem exactP {M : Memref sig .tc .vmem S2x128x1024 .bf16} (h : M.IsWhole) (p : Fin 2) : (slotM M p).view.WordExact :=
  (h.wordExact_slice rfl _ (wordsP p)).reshape _ _

/-! ## Steps -/

/-- The transfer of half `u` of slot `p` in direction `d`. -/
def sendH (c : Dev nD) (p : Fin 2) (d : Bool) (u : Fin 2) : KProg F PUnit :=
  Prog.lift (.enqueueDma (halfM (stA d) p u) (.remote (Dev.tc (tgtA d c)) (halfM (cmA d) p u) (.dma (sem4 (sendA d) p u)))
    (.dma (sem4 (recvA d) p u)) (exactH (wholeA d).1 p u) (exactH (wholeA d).2 p u) ⟨⟨rfl, Or.inl rfl⟩, trivial⟩)
/-- The wait until it has been read out, -/
def waitSendH (p : Fin 2) (d : Bool) (u : Fin 2) : KProg F PUnit :=
  Prog.lift (.waitDma2 (sem4 (sendA d) p u) (halfM (cmA d) p u) (halfM (stA d) p u) (exactH (wholeA d).2 p u) (exactH (wholeA d).1 p u))
/-- and until the neighbour's has landed. -/
def waitRecvH (p : Fin 2) (d : Bool) (u : Fin 2) : KProg F PUnit :=
  Prog.lift (.waitDma2 (sem4 (recvA d) p u) (halfM (stA d) p u) (halfM (cmA d) p u) (exactH (wholeA d).1 p u) (exactH (wholeA d).2 p u))
/-- The same for the ring across planes. -/
def sendP (c : Dev nD) (p : Fin 2) (d : Bool) : KProg F PUnit :=
  Prog.lift (.enqueueDma (slotM (stB d) p) (.remote (Dev.tc (tgtB d c)) (slotM (cmB d) p) (.dma (sem2 (sendB d) p)))
    (.dma (sem2 (recvB d) p)) (exactP (wholeB d).1 p) (exactP (wholeB d).2 p) ⟨⟨rfl, Or.inl rfl⟩, trivial⟩)
@[inherit_doc sendP] def waitSendP (p : Fin 2) (d : Bool) : KProg F PUnit :=
  Prog.lift (.waitDma2 (sem2 (sendB d) p) (slotM (cmB d) p) (slotM (stB d) p) (exactP (wholeB d).2 p) (exactP (wholeB d).1 p))
@[inherit_doc sendP] def waitRecvP (p : Fin 2) (d : Bool) : KProg F PUnit :=
  Prog.lift (.waitDma2 (sem2 (recvB d) p) (slotM (stB d) p) (slotM (cmB d) p) (exactP (wholeB d).1 p) (exactP (wholeB d).2 p))

def loadH (M : Memref sig .tc .vmem S2x512x1024 .bf16) (p u : Fin 2) : KProg F (Vec F S1x256x1024 .bf16) :=
  Prog.lift (.load M (rH p u).toLoadRect (View.loadsAt_vmem h_S1x256x1024))
def loadP (M : Memref sig .tc .vmem S2x128x1024 .bf16) (p : Fin 2) : KProg F (Vec F S1x128x1024 .bf16) :=
  Prog.lift (.load M (rP p).toLoadRect (View.loadsAt_vmem h_S1x128x1024))
/-- Pallas loads what a store will overwrite; the loaded value is not used. -/
def storeH (d : Bool) (p u : Fin 2) (v : Vec F S1x256x1024 .bf16) : KProg F PUnit := do
  let _ ← loadH (stA d) p u
  Prog.lift (.store (stA d) (rH p u) v Finset.univ
    (View.stores_vmem h_S1x256x1024 ((wholeA d).1.storeExact_slice rfl _ (packedH p u)) (fun _ => rfl)) (.inl rfl))
@[inherit_doc storeH] def storeP (d : Bool) (p : Fin 2) (v : Vec F S1x128x1024 .bf16) : KProg F PUnit := do
  let _ ← loadP (stB d) p
  Prog.lift (.store (stB d) (rP p) v Finset.univ
    (View.stores_vmem h_S1x128x1024 ((wholeB d).1.storeExact_slice rfl _ (packedP p)) (fun _ => rfl)) (.inl rfl))

/-- Whole slots of the plane ring, written before its first hop and before the gather's. -/
def storeS (d : Bool) (v : Vec F S1x512x1024 .bf16) : KProg F PUnit := do
  let _ ← (Prog.lift (.load (stA d) rS.toLoadRect (View.loadsAt_vmem h_S1x512x1024)) : KProg F _)
  Prog.lift (.store (stA d) rS v Finset.univ
    (View.stores_vmem h_S1x512x1024 ((wholeA d).1.storeExact_slice rfl _ packedbf16_S2x512x1024_S1x512x1024_0_0_0) (fun _ => rfl)) (.inl rfl))

/-! ## Rectangles of the two-dimensional buffers that depend on the device -/

/-- The device's quarter of the plane sum that the ring across planes starts from, -/
abbrev rB0 (c : Dev nD) : Rect S512x1024 := Rect.unit (s := S512x1024) (k0_off4 c) S128x1024.size (k0_off4_inb c)
/-- and where the quarter lies that direction `d` handles at step `r`. -/
def offB (d : Bool) (c : Dev nD) (r : Fin 4) : Fin 2 → Nat := match d with
  | false => k0_off5 c (BitVec.ofNat 32 r.val)
  | true => k0_off6 c (BitVec.ofNat 32 r.val)
theorem inbB (d : Bool) (c : Dev nD) (r : Fin 4) : ∀ a, offB d c r a + S128x1024.size a ≤ S512x1024.size a :=
  match d with
  | false => k0_off5_inb c r
  | true => k0_off6_inb c r
/-- That quarter, -/
abbrev rB (d : Bool) (c : Dev nD) (r : Fin 4) : Rect S512x1024 := Rect.unit (s := S512x1024) (offB d c r) S128x1024.size (inbB d c r)
theorem packedB (d : Bool) (c : Dev nD) (r : Fin 4) : (rB d c r).PackedRows (EltTy.packing .bf16) :=
  match d with
  | false => k0_off5_packedbf16 c r
  | true => k0_off6_packedbf16 c r
theorem packedPl (u : Fin 2) : (rPl u).PackedRows (EltTy.packing .bf16) := by
  revert u
  exact fun
    | 0 => packedbf16_S512x1024_S256x1024_0_0
    | 1 => packedbf16_S512x1024_S256x1024_256_0
/-- and where it lies in the result. -/
def offO (d : Bool) (c : Dev nD) (r : Fin 4) : Fin 2 → Nat := match d with
  | false => k0_off7 c (BitVec.ofNat 32 r.val)
  | true => k0_off8 c (BitVec.ofNat 32 r.val)
theorem inbO (d : Bool) (c : Dev nD) (r : Fin 4) : ∀ a, offO d c r a + S128x1024.size a ≤ S4096x2048.size a :=
  match d with
  | false => k0_off7_inb c r
  | true => k0_off8_inb c r
abbrev rO (d : Bool) (c : Dev nD) (r : Fin 4) : Rect S4096x2048 := Rect.unit (s := S4096x2048) (offO d c r) S128x1024.size (inbO d c r)
/-- Where half `u` lies of the rows of the result that the gather writes at hop `t`. -/
def offG (d : Bool) (u : Fin 2) (c : Dev nD) (t : Fin 7) : Fin 2 → Nat := match d, u with
  | false, 0 => k0_off9 c (BitVec.ofNat 32 t.val)
  | true, 0 => k0_off10 c (BitVec.ofNat 32 t.val)
  | false, 1 => k0_off11 c (BitVec.ofNat 32 t.val)
  | true, 1 => k0_off12 c (BitVec.ofNat 32 t.val)
theorem inbG (d : Bool) (u : Fin 2) (c : Dev nD) (t : Fin 7) : ∀ a, offG d u c t a + S256x1024.size a ≤ S4096x2048.size a :=
  match d, u with
  | false, 0 => k0_off9_inb c t
  | true, 0 => k0_off10_inb c t
  | false, 1 => k0_off11_inb c t
  | true, 1 => k0_off12_inb c t
abbrev rG (d : Bool) (u : Fin 2) (c : Dev nD) (t : Fin 7) : Rect S4096x2048 := Rect.unit (s := S4096x2048) (offG d u c t) S256x1024.size (inbG d u c t)

/-! ## Payloads -/

theorem slicesU (u : Fin 2) : S512x1024.Slices ![256 * u.val, 0] S256x1024 := by
  revert u
  exact fun
    | 0 => slices_S512x1024_o0_0_S256x1024
    | 1 => slices_S512x1024_o256_0_S256x1024

/-- The product of the input rows and the weight columns, rounded. -/
def prodV (x : Vec F S512x128 .fp8e4m3) (w : Vec F S128x1024 .fp8e5m2) : FVec F S512x1024 .bf16 := k0_pay4 x w
/-- What landed plus half `u` of the device's own product. -/
def accV (u : Fin 2) (v : FVec F S512x1024 .bf16) (r : Vec F S1x256x1024 .bf16) : FVec F S256x1024 .bf16 :=
  addf (shapeCast S256x1024 r shapeCasts_S1x256x1024_S256x1024) (extractStridedSlice S256x1024 ![256 * u.val, 0] v (slicesU u))
/-- A half without its slot's axis, and with it. -/
def upH (v : FVec F S256x1024 .bf16) : FVec F S1x256x1024 .bf16 := shapeCast S1x256x1024 v shapeCasts_S256x1024_S1x256x1024
@[inherit_doc upH] def dnH (v : Vec F S1x256x1024 .bf16) : FVec F S256x1024 .bf16 := shapeCast S256x1024 v shapeCasts_S1x256x1024_S256x1024
/-- The same for a slot of the ring across planes, -/
def upP (v : FVec F S128x1024 .bf16) : FVec F S1x128x1024 .bf16 := shapeCast S1x128x1024 v shapeCasts_S128x1024_S1x128x1024
@[inherit_doc upP] def dnP (v : Vec F S1x128x1024 .bf16) : FVec F S128x1024 .bf16 := shapeCast S128x1024 v shapeCasts_S1x128x1024_S128x1024
/-- and for a whole slot. -/
def upS (v : FVec F S512x1024 .bf16) : FVec F S1x512x1024 .bf16 := shapeCast S1x512x1024 v shapeCasts_S512x1024_S1x512x1024
/-- A cast that leaves the shape alone, as the printer writes one around stored values. -/
def sameV (v : FVec F S128x1024 .bf16) : FVec F S128x1024 .bf16 := shapeCast S128x1024 v shapeCasts_S128x1024_S128x1024
@[inherit_doc sameV] def sameV' (v : FVec F S256x1024 .bf16) : FVec F S256x1024 .bf16 := shapeCast S256x1024 v shapeCasts_S256x1024_S256x1024
/-- The silu of the finished sum times the scale. -/
def siluV (sc : F .f32) (r : Vec F S1x128x1024 .bf16) (v : Vec F S128x1024 .bf16) : FVec F S128x1024 .f32 := k0_pay64 sc (dnP r) v
def truncV (y : FVec F S128x1024 .f32) : FVec F S128x1024 .bf16 := truncf .bf16 y bitsLt_bf16_f32

/-! ## Steps over the two-dimensional buffers -/

def loadX (d : Bool) (c : Dev nD) (s : Fin 7) : KProg F (Vec F S512x128 .fp8e4m3) :=
  Prog.lift (.load xM (rX d c s).toLoadRect (View.loadsAt_vmem h_S512x128))
def loadX0 (c : Dev nD) : KProg F (Vec F S512x128 .fp8e4m3) :=
  Prog.lift (.load xM (rX0 c).toLoadRect (View.loadsAt_vmem h_S512x128))
def loadW (d : Bool) : KProg F (Vec F S128x1024 .fp8e5m2) :=
  Prog.lift (.load wM (rW d).toLoadRect (View.loadsAt_vmem h_S128x1024))
def storePl (d : Bool) (u : Fin 2) (v : Vec F S256x1024 .bf16) : KProg F PUnit := do
  let _ ← (Prog.lift (.load (plM d) (rPl u).toLoadRect (View.loadsAt_vmem h_S256x1024)) : KProg F _)
  Prog.lift (.store (plM d) (rPl u) v Finset.univ
    (View.stores_vmem h_S256x1024 ((wholeF d).1.storeExact_slice rfl _ (packedPl u)) (fun _ => rfl)) (.inl rfl))
def loadPl0 (d : Bool) (c : Dev nD) : KProg F (Vec F S128x1024 .bf16) :=
  Prog.lift (.load (plM d) (rB0 c).toLoadRect (View.loadsAt_vmem h_S128x1024))
def loadPl (d : Bool) (c : Dev nD) (r : Fin 4) : KProg F (Vec F S128x1024 .bf16) :=
  Prog.lift (.load (plM d) (rB d c r).toLoadRect (View.loadsAt_vmem h_S128x1024))
def storeFi (d : Bool) (c : Dev nD) (r : Fin 4) (v : Vec F S128x1024 .bf16) : KProg F PUnit := do
  let _ ← (Prog.lift (.load (fiM d) (rB d c r).toLoadRect (View.loadsAt_vmem h_S128x1024)) : KProg F _)
  Prog.lift (.store (fiM d) (rB d c r) v Finset.univ
    (View.stores_vmem h_S128x1024 ((wholeF d).2.storeExact_slice rfl _ (packedB d c r)) (fun _ => rfl)) (.inl rfl))
def loadFi (d : Bool) : KProg F (Vec F S512x1024 .bf16) :=
  Prog.lift (.load (fiM d) (Rect.unit (s := S512x1024) ![0, 0] S512x1024.size inb_S512x1024_S512x1024_0_0).toLoadRect (View.loadsAt_vmem h_S512x1024))
def storeO (d : Bool) (c : Dev nD) (r : Fin 4) (v : Vec F S128x1024 .f32) : KProg F PUnit := do
  let _ ← (Prog.lift (.load oM (rO d c r).toLoadRect (View.loadsAt_vmem h_S128x1024)) : KProg F _)
  Prog.lift (.store oM (rO d c r) v Finset.univ (View.stores_vmem_bits_univ h_S128x1024 rfl) (.inl rfl))
def storeG (d : Bool) (u : Fin 2) (c : Dev nD) (t : Fin 7) (v : Vec F S256x1024 .f32) : KProg F PUnit := do
  let _ ← (Prog.lift (.load oM (rG d u c t).toLoadRect (View.loadsAt_vmem h_S256x1024)) : KProg F _)
  Prog.lift (.store oM (rG d u c t) v Finset.univ (View.stores_vmem_bits_univ h_S256x1024 rfl) (.inl rfl))

/-! ## The body -/

/-- Both directions' credits of one kind of ring. -/
def waitCrA (n : BitVec 32) : KProg F PUnit := do
  semWaitWord (credA false).sem n
  semWaitWord (credA true).sem n
@[inherit_doc waitCrA] def waitCrB : KProg F PUnit := do
  semWaitWord (credB false).sem 1#32
  semWaitWord (credB true).sem 1#32
/-- The credits given back to the neighbours that write this device's slots. -/
def giveA (c : Dev nD) : KProg F PUnit := do
  semSignalWord (tgtA true c) (credA false).sem 1#32
  semSignalWord (tgtA false c) (credA true).sem 1#32
@[inherit_doc giveA] def giveB (c : Dev nD) (n : BitVec 32) : KProg F PUnit := do
  semSignalWord (tgtB true c) (credB false).sem n
  semSignalWord (tgtB false c) (credB true).sem n

/-- The barrier with the two neighbours of the plane, and the first credits across planes. -/
def bar (c : Dev nD) : KProg F PUnit := do
  semSignalWord (tgtA true c) barS 1#32
  semSignalWord (tgtA false c) barS 1#32
  semWaitWord barS 2#32
  giveB c 2#32
/-- The two scales' product. -/
def scale : KProg F (F .f32) := do
  let a ← smemLoad sxM (Rect.unit (s := S1) ![0] S1.size inb_S1_S1_0) numel1_S1 rfl
  let b ← smemLoad swM (Rect.unit (s := S1) ![0] S1.size inb_S1_S1_0) numel1_S1 rfl
  pure (k0_pay2 a b)
/-- The first product into slot 0. -/
def pro (c : Dev nD) (d : Bool) : KProg F PUnit := do
  let x ← loadX0 c
  let w ← loadW d
  storeS d (upS (prodV x w))
/-- The four transfers of a hop of the plane ring. -/
def sends (c : Dev nD) (p : Fin 2) : KProg F PUnit := do
  sendH c p false 0
  sendH c p true 0
  sendH c p false 1
  sendH c p true 1
/-- The four waits for half `u`. -/
def waits4 (p u : Fin 2) : KProg F PUnit := do
  waitSendH p false u
  waitSendH p true u
  waitRecvH p false u
  waitRecvH p true u
/-- Half `u` of a reducing hop: what landed, plus the own product, becomes what is sent next; -/
def red (p q u : Fin 2) (v v' : FVec F S512x1024 .bf16) : KProg F PUnit := do
  waits4 p u
  let r ← loadH (cmA false) p u
  let r' ← loadH (cmA true) p u
  storeH false q u (upH (accV u v r))
  storeH true q u (upH (accV u v' r'))
/-- after the last, the plane sum. -/
def redL (p u : Fin 2) (v v' : FVec F S512x1024 .bf16) : KProg F PUnit := do
  waits4 p u
  let r ← loadH (cmA false) p u
  let r' ← loadH (cmA true) p u
  storePl false u (sameV' (accV u v r))
  storePl true u (sameV' (accV u v' r'))
/-- A reducing hop of the plane ring, sending slot `p` and filling slot `q`; -/
def hopA (c : Dev nD) (s : Fin 7) (p q : Fin 2) : KProg F PUnit := do
  sends c p
  let x ← loadX false c s
  let w ← loadW false
  let x' ← loadX true c s
  let w' ← loadW true
  red p q 0 (prodV x w) (prodV x' w')
  red p q 1 (prodV x w) (prodV x' w')
  giveA c
/-- the last one. -/
def hopAL (c : Dev nD) (s : Fin 7) (p : Fin 2) : KProg F PUnit := do
  sends c p
  let x ← loadX false c s
  let w ← loadW false
  let x' ← loadX true c s
  let w' ← loadW true
  redL p 0 (prodV x w) (prodV x' w')
  redL p 1 (prodV x w) (prodV x' w')
  giveA c
/-- The first quarter handed to the ring across planes. -/
def proB (c : Dev nD) (d : Bool) : KProg F PUnit := do
  let v ← loadPl0 d c
  storeP d 0 (upP v)
/-- Credits, transfers and waits of a hop across planes. -/
def moveB (c : Dev nD) (p : Fin 2) : KProg F PUnit := do
  waitCrB
  sendP c p false
  sendP c p true
  waitSendP p false
  waitSendP p true
  waitRecvP p false
  waitRecvP p true
/-- A reducing hop across planes; -/
def hopB (c : Dev nD) (r : Fin 4) (p q : Fin 2) : KProg F PUnit := do
  moveB c p
  let a ← loadP (cmB false) p
  let v ← loadPl false c r
  let a' ← loadP (cmB true) p
  let v' ← loadPl true c r
  storeP false q (upP (addf (dnP a) v))
  storeP true q (upP (addf (dnP a') v'))
  giveB c 1#32
/-- the one that finishes a quarter; -/
def hopBL (c : Dev nD) (sc : F .f32) : KProg F PUnit := do
  moveB c 0
  let a ← loadP (cmB false) 0
  let v ← loadPl false c 3
  let a' ← loadP (cmB true) 0
  let v' ← loadPl true c 3
  storeO false c 3 (siluV sc a v)
  storeO true c 3 (siluV sc a' v')
  storeFi false c 3 (sameV (truncV (siluV sc a v)))
  storeFi true c 3 (sameV (truncV (siluV sc a' v')))
  storeP false 1 (upP (truncV (siluV sc a v)))
  storeP true 1 (upP (truncV (siluV sc a' v')))
  giveB c 1#32
/-- and what a gathering hop stores of what landed. -/
def keepB (c : Dev nD) (r : Fin 4) (p : Fin 2) : KProg F PUnit := do
  let a ← loadP (cmB false) p
  storeFi false c r (sameV (dnP a))
  let a ← loadP (cmB true) p
  storeFi true c r (sameV (dnP a))
  let a ← loadP (cmB false) p
  storeO false c r (extf .f32 (dnP a) bitsLt_bf16_f32)
  let a ← loadP (cmB true) p
  storeO true c r (extf .f32 (dnP a) bitsLt_bf16_f32)
/-- What landed, handed on. -/
def passB (p q : Fin 2) : KProg F PUnit := do
  let a ← loadP (cmB false) p
  storeP false q (upP (dnP a))
  let a ← loadP (cmB true) p
  storeP true q (upP (dnP a))
/-- The finished rows handed to the gather within the plane. -/
def proC (d : Bool) : KProg F PUnit := do
  let v ← loadFi d
  storeS d (upS v)
/-- Half `u` of a gathering hop in the plane: what landed is stored, -/
def keepG (c : Dev nD) (t : Fin 7) (p u : Fin 2) : KProg F PUnit := do
  waits4 p u
  let a ← loadH (cmA false) p u
  storeG false u c t (extf .f32 (dnH a) bitsLt_bf16_f32)
  let a ← loadH (cmA true) p u
  storeG true u c t (extf .f32 (dnH a) bitsLt_bf16_f32)
/-- and handed on. -/
def passG (p q u : Fin 2) : KProg F PUnit := do
  let a ← loadH (cmA false) p u
  storeH false q u (upH (dnH a))
  let a ← loadH (cmA true) p u
  storeH true q u (upH (dnH a))
/-- A gathering hop within the plane. -/
def hopC (c : Dev nD) (t : Fin 7) (p q : Fin 2) : KProg F PUnit := do
  sends c p
  keepG c t p 0
  passG p q 0
  keepG c t p 1
  passG p q 1
/-- The last one. -/
def hopCL (c : Dev nD) (t : Fin 7) (p : Fin 2) : KProg F PUnit := do
  sends c p
  keepG c t p 0
  keepG c t p 1

/-- The reducing half: the plane ring, -/
def partA (c : Dev nD) : KProg F PUnit := do
  hopA c 0 0 1
  hopA c 1 1 0
  waitCrA 1#32
  hopA c 2 0 1
  waitCrA 1#32
  hopA c 3 1 0
  waitCrA 1#32
  hopA c 4 0 1
  waitCrA 1#32
  hopA c 5 1 0
  waitCrA 1#32
  hopAL c 6 0
/-- the ring across planes, -/
def partB (c : Dev nD) (sc : F .f32) : KProg F PUnit := do
  proB c false
  proB c true
  hopB c 1 0 1
  hopB c 2 1 0
  hopBL c sc
  moveB c 1
  keepB c 0 1
  passB 1 0
  giveB c 1#32
  moveB c 0
  keepB c 1 0
  passB 0 1
  moveB c 1
  keepB c 2 1
/-- and the gather within the plane. -/
def partC (c : Dev nD) : KProg F PUnit := do
  proC false
  proC true
  waitCrA 2#32
  hopC c 0 0 1
  giveA c
  hopC c 1 1 0
  giveA c
  waitCrA 1#32
  hopC c 2 0 1
  giveA c
  waitCrA 1#32
  hopC c 3 1 0
  giveA c
  waitCrA 1#32
  hopC c 4 0 1
  giveA c
  waitCrA 1#32
  hopC c 5 1 0
  waitCrA 1#32
  hopCL c 6 0

/-- The whole body. -/
def bodyProg : KProg F PUnit := do
  let c ← (Prog.lift .deviceId : KProg F _)
  bar c
  let sc ← scale
  pro c false
  pro c true
  partA c
  partB c sc
  partC c

end Cert.KProof

end
-- ==== Proof.Common.lean ====
/-
  The protocol of the kernel's semaphores: which cells there are, what each round of each cell is paid, and what a device
  owes hop by hop. Written over arbitrary contents of the transfers (`AC` in the plane, `BC` across planes).

  Cells of a device: the barrier; per direction one credit cell for each of the two rings; per direction, slot and half one
  send and one receive cell of the plane ring; per direction and slot one of each of the ring across planes.
  - A credit cell has one round; its duty j is the release after hop j by the device that reads what this one sends, and hands
    over all that its releases so far allow (`CumA`, `CumB`): facts only, so a wait that has consumed k units knows the
    first k releases whichever units it took.
  - A send or receive cell has one duty in each round: the half comes back, or arrives with its contents.
  - The landing slots themselves lie in invariants (Lib/Release.lean), released by the reader, taken by the writer.
-/
module

public import proofs.«01_k».proof.Proof.Program
public import Idealize.ShloMosaic.Lib.Release
public import Idealize.ShloMosaic.Lib.Pipeline.SiteBlocks

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.SiteBlocks (L lv mem_L mem_L' mayWait_of)

variable {F : FTy → Type} [FloatOps F]

/-! ## The resource algebra -/

/-- Keys of landing slots: device, which ring (`true` across planes), direction, slot. -/
abbrev SKey : Type := Dev nD × Bool × Bool × Fin 2
abbrev UB : Type := URounds (GSem nD τ sig) ℕ
abbrev UC : Type := USlots SKey
def UU : Type := UR sig nD τ × (UB × UC)
instance instUU : URA UU := inferInstanceAs (URA (UR sig nD τ × (UB × UC)))

local notation "𝕄" => MT nD τ sig ℕ (Elt F) ℕ UU ℕ

def EP : Emb (UR sig nD τ) (MT nD τ sig ℕ (Elt F) ℕ UU ℕ) := embL (A := UR sig nD τ) (B := UB × UC)
instance EP_landsIn : (EP : Emb (UR sig nD τ) 𝕄).LandsIn (upEmb : UEmb _ 𝕄) :=
  inferInstanceAs ((embL (A := UR sig nD τ) (B := UB × UC) : Emb (UR sig nD τ) (MT nD τ sig ℕ (Elt F) ℕ (UR sig nD τ × (UB × UC)) ℕ)).LandsIn
    (upEmb : UEmb _ (MT nD τ sig ℕ (Elt F) ℕ (UR sig nD τ × (UB × UC)) ℕ)))
def ER : Emb UB (MT nD τ sig ℕ (Elt F) ℕ UU ℕ) := (Emb.inl : Emb UB (UB × UC)).trans (embR (A := UR sig nD τ) (B := UB × UC))
def ES : Emb UC (MT nD τ sig ℕ (Elt F) ℕ UU ℕ) := (Emb.inr : Emb UC (UB × UC)).trans (embR (A := UR sig nD τ) (B := UB × UC))

instance ER_landsIn : (ER : Emb UB 𝕄).LandsIn (upEmb : UEmb _ 𝕄) :=
  inferInstanceAs (((Emb.inl : Emb UB (UB × UC)).trans (embR (A := UR sig nD τ) (B := UB × UC)) : Emb UB (MT nD τ sig ℕ (Elt F) ℕ (UR sig nD τ × (UB × UC)) ℕ)).LandsIn
    (upEmb : UEmb _ (MT nD τ sig ℕ (Elt F) ℕ (UR sig nD τ × (UB × UC)) ℕ)))
instance ES_landsIn : (ES : Emb UC 𝕄).LandsIn (upEmb : UEmb _ 𝕄) :=
  inferInstanceAs (((Emb.inr : Emb UC (UB × UC)).trans (embR (A := UR sig nD τ) (B := UB × UC)) : Emb UC (MT nD τ sig ℕ (Elt F) ℕ (UR sig nD τ × (UB × UC)) ℕ)).LandsIn
    (upEmb : UEmb _ (MT nD τ sig ℕ (Elt F) ℕ (UR sig nD τ × (UB × UC)) ℕ)))

abbrev 𝒱₀ : Variants := Variants.none

/-- What is proved of a program of device `c`. -/
abbrev WP (c : Dev nD) {α : Type} (p : KProg F α) (Q : α → sProp 𝕄) : sProp 𝕄 :=
  wp frame (wpE (defs₀ (F := F)) 𝒱₀ (c : Thread nD τ) none) Set.univ p Q

/-! ## Cells -/

/-- The cells of one device. -/
inductive Cl where
  | bar | cA (d : Bool) | cB (d : Bool)
  | sA (d : Bool) (p u : Fin 2) | rA (d : Bool) (p u : Fin 2)
  | sB (d : Bool) (p : Fin 2) | rB (d : Bool) (p : Fin 2)
  deriving DecidableEq

instance : Fintype Cl := Fintype.ofList
  [.bar, .cA false, .cA true, .cB false, .cB true,
   .sA false 0 0, .sA false 0 1, .sA false 1 0, .sA false 1 1, .sA true 0 0, .sA true 0 1, .sA true 1 0, .sA true 1 1,
   .rA false 0 0, .rA false 0 1, .rA false 1 0, .rA false 1 1, .rA true 0 0, .rA true 0 1, .rA true 1 0, .rA true 1 1,
   .sB false 0, .sB false 1, .sB true 0, .sB true 1, .rB false 0, .rB false 1, .rB true 0, .rB true 1]
  (by
    intro x
    cases x with
    | bar => decide
    | cA d => revert d; decide
    | cB d => revert d; decide
    | sA d p u => revert d p u; decide
    | rA d p u => revert d p u; decide
    | sB d p => revert d p; decide
    | rB d p => revert d p; decide)

/-- Their semaphores. -/
abbrev semOf : Cl → SemLoc sig
  | .bar => .reg barS
  | .cA d => .reg (credA d).sem
  | .cB d => .reg (credB d).sem
  | .sA d p u => .dma (sem4 (sendA d) p u)
  | .rA d p u => .dma (sem4 (recvA d) p u)
  | .sB d p => .dma (sem2 (sendB d) p)
  | .rB d p => .dma (sem2 (recvB d) p)

abbrev kcell (x : Dev nD × Cl) : GSem nD τ sig := ((x.1 : Thread nD τ), semOf x.2)

theorem semOf_injective : Function.Injective semOf := by
  have h : ∀ x y : Cl, semOf x = semOf y → x = y := by decide
  exact fun x y => h x y

theorem kcell_injective : Function.Injective kcell := by
  rintro ⟨c, k⟩ ⟨c', k'⟩ h
  have h1 : c = c' := congrArg (fun g : GSem nD τ sig => g.1.1) h
  have h2 : semOf k = semOf k' := congrArg Prod.snd h
  rw [h1, semOf_injective h2]

/-- The device and cell behind a semaphore, if it is one of these. -/
def dec (g : GSem nD τ sig) : Option (Dev nD × Cl) := Function.partialInv kcell g

@[simp] theorem dec_kcell (x : Dev nD × Cl) : dec (kcell x) = some x := Function.partialInv_left kcell_injective x

/-! ## The neighbours -/

theorem tgtA_tgtA (d : Bool) (c : Dev nD) : tgtA d (tgtA (!d) c) = c := by revert d c; decide
theorem tgtA_tgtA' (d : Bool) (c : Dev nD) : tgtA (!d) (tgtA d c) = c := by revert d c; decide
theorem tgtB_tgtB (d : Bool) (c : Dev nD) : tgtB d (tgtB (!d) c) = c := by revert d c; decide
theorem tgtB_tgtB' (d : Bool) (c : Dev nD) : tgtB (!d) (tgtB d c) = c := by revert d c; decide

/-! ## Hops: a plane hop's slot, its turn in that slot, and back -/

/-- The slot that plane hop `h` sends (hops 0 to 6 reduce, 7 to 13 gather). -/
def pslot (h : ℕ) : Fin 2 := if h < 7 then ⟨h % 2, Nat.mod_lt _ (by decide)⟩ else ⟨(h - 7) % 2, Nat.mod_lt _ (by decide)⟩
/-- How many earlier hops sent that slot. -/
def rnd (h : ℕ) : ℕ := if h < 7 then h / 2 else if (h - 7) % 2 = 0 then 4 + (h - 7) / 2 else 3 + (h - 7) / 2
/-- The hop that sends slot `p` for the `r`-th time. -/
def hopOf (p : Fin 2) (r : ℕ) : ℕ :=
  if p = 0 then (if r < 4 then 2 * r else 7 + 2 * (r - 4)) else (if r < 3 then 2 * r + 1 else 8 + 2 * (r - 3))

theorem hopOf_pslot {h : ℕ} (hh : h < 14) : hopOf (pslot h) (rnd h) = h := by
  revert h; decide

/-- The slot of a hop across planes. -/
def qslot (b : ℕ) : Fin 2 := ⟨b % 2, Nat.mod_lt _ (by decide)⟩
def hopOfB (p : Fin 2) (r : ℕ) : ℕ := 2 * r + p.val
theorem hopOfB_qslot (b : ℕ) : hopOfB (qslot b) (b / 2) = b := by
  show 2 * (b / 2) + b % 2 = b
  omega

/-! ## Holdings -/

/-- The half held at any contents. -/
abbrev anyH (M : Memref sig .tc .vmem S2x512x1024 .bf16) (p u : Fin 2) (c : Dev nD) : sProp 𝕄 :=
  slot ((halfM M p u).view.loc (c : Thread nD τ)) (halfM M p u).view.set
abbrev anyP (M : Memref sig .tc .vmem S2x128x1024 .bf16) (p : Fin 2) (c : Dev nD) : sProp 𝕄 :=
  slot ((slotM M p).view.loc (c : Thread nD τ)) (slotM M p).view.set
/-- The half held with contents `X`. -/
abbrev ownH (M : Memref sig .tc .vmem S2x512x1024 .bf16) (p u : Fin 2) (c : Dev nD) (X : FVec F S256x1024 .bf16) : sProp 𝕄 :=
  owns (c : Thread nD τ) (halfM M p u) fullShare X
abbrev ownP (M : Memref sig .tc .vmem S2x128x1024 .bf16) (p : Fin 2) (c : Dev nD) (X : FVec F S128x1024 .bf16) : sProp 𝕄 :=
  owns (c : Thread nD τ) (slotM M p) fullShare X

theorem ownH_any (M : Memref sig .tc .vmem S2x512x1024 .bf16) (p u : Fin 2) (c : Dev nD) (X : FVec F S256x1024 .bf16) :
    ownH M p u c X ⊢ (anyH M p u c : sProp 𝕄) := by
  unfold ownH owns anyH slot
  iintro ⟨%f, -, H⟩; iexists f; iexact H
theorem ownP_any (M : Memref sig .tc .vmem S2x128x1024 .bf16) (p : Fin 2) (c : Dev nD) (X : FVec F S128x1024 .bf16) :
    ownP M p c X ⊢ (anyP M p c : sProp 𝕄) := by
  unfold ownP owns anyP slot
  iintro ⟨%f, -, H⟩; iexists f; iexact H
theorem any_ownH (M : Memref sig .tc .vmem S2x512x1024 .bf16) (p u : Fin 2) (c : Dev nD) :
    (anyH M p u c : sProp 𝕄) ⊢ iprop(∃ X, ownH M p u c X) := by
  unfold ownH owns anyH slot
  iintro ⟨%f, H⟩; iexists _, f; isplitr; · (ipureintro; rfl)
  iexact H
theorem any_ownP (M : Memref sig .tc .vmem S2x128x1024 .bf16) (p : Fin 2) (c : Dev nD) :
    (anyP M p c : sProp 𝕄) ⊢ iprop(∃ X, ownP M p c X) := by
  unfold ownP owns anyP slot
  iintro ⟨%f, H⟩; iexists _, f; isplitr; · (ipureintro; rfl)
  iexact H

/-- What lies in a landing slot's invariant. -/
def slotOf (k : SKey) : sProp 𝕄 :=
  if k.2.1 then anyP (cmB k.2.2.1) k.2.2.2 k.1
  else iprop(anyH (cmA k.2.2.1) k.2.2.2 0 k.1 ∗ anyH (cmA k.2.2.1) k.2.2.2 1 k.1)

abbrev keyA (c : Dev nD) (d : Bool) (p : Fin 2) : SKey := (c, false, d, p)
abbrev keyB (c : Dev nD) (d : Bool) (p : Fin 2) : SKey := (c, true, d, p)

theorem slotOf_A (c : Dev nD) (d : Bool) (p : Fin 2) :
    (slotOf (keyA c d p) : sProp 𝕄) = iprop(anyH (cmA d) p 0 c ∗ anyH (cmA d) p 1 c) := if_neg Bool.false_ne_true
theorem slotOf_B (c : Dev nD) (d : Bool) (p : Fin 2) : (slotOf (keyB c d p) : sProp 𝕄) = anyP (cmB d) p c := if_pos rfl

instance slotOf_storable (k : SKey) : Storable (upEmb : UEmb _ 𝕄) (slotOf (F := F) k) := by
  unfold slotOf; split <;> infer_instance

theorem half_nonempty (M : Memref sig .tc .vmem S2x512x1024 .bf16) (p u : Fin 2) : (halfM M p u).view.set.Nonempty :=
  ⟨_, Finset.mem_map_of_mem _ (Finset.mem_univ (fun a => ⟨0, by revert a; decide⟩))⟩
theorem slotP_nonempty (M : Memref sig .tc .vmem S2x128x1024 .bf16) (p : Fin 2) : (slotM M p).view.set.Nonempty :=
  ⟨_, Finset.mem_map_of_mem _ (Finset.mem_univ (fun a => ⟨0, by revert a; decide⟩))⟩

theorem slotOf_excl (k : SKey) : iprop(slotOf k ∗ slotOf k) ⊢ (False : sProp 𝕄) := by
  unfold slotOf
  split
  · exact slot_slot_false (slotP_nonempty _ _)
  · iintro ⟨⟨H, -⟩, ⟨H', -⟩⟩
    iapply (slot_slot_false (ℓ := (halfM (cmA k.2.2.1) k.2.2.2 0).view.loc (k.1 : Thread nD τ)) (half_nonempty (cmA k.2.2.1) k.2.2.2 0))
    isplitl [H] <;> iassumption

/-! ## The facts that a credit hands over -/

/-- After hop `j` reader `c` has released that hop's slot once more and its receive cells have passed the round. -/
def FactA (c : Dev nD) (d : Bool) (j : ℕ) : sProp 𝕄 :=
  iprop(released ES (keyA c d (pslot j)) (rnd j + 2)
    ∗ reached ER (kcell (c, .rA d (pslot j) 0)) (rnd j + 1) ∗ reached ER (kcell (c, .rA d (pslot j) 1)) (rnd j + 1))
/-- Both slots released once. -/
def InitA (c : Dev nD) (d : Bool) : sProp 𝕄 := iprop(released ES (keyA c d 0) 1 ∗ released ES (keyA c d 1) 1)
/-- Hops 0 to `j`. -/
def CumA (c : Dev nD) (d : Bool) (n : ℕ) : sProp 𝕄 := bigSep (Finset.range n) fun j => FactA c d j
@[inherit_doc FactA] def FactB (c : Dev nD) (d : Bool) (b : ℕ) : sProp 𝕄 :=
  iprop(released ES (keyB c d (qslot b)) (b / 2 + 2) ∗ reached ER (kcell (c, .rB d (qslot b))) (b / 2 + 1))
@[inherit_doc InitA] def InitB (c : Dev nD) (d : Bool) : sProp 𝕄 := iprop(released ES (keyB c d 0) 1 ∗ released ES (keyB c d 1) 1)
@[inherit_doc CumA] def CumB (c : Dev nD) (d : Bool) (n : ℕ) : sProp 𝕄 := iprop(InitB c d ∗ bigSep (Finset.range n) fun j => FactB c d j)

instance (c : Dev nD) (d : Bool) (j : ℕ) : Storable (upEmb : UEmb _ 𝕄) (FactA (F := F) c d j) := by unfold FactA; infer_instance
instance (c : Dev nD) (d : Bool) : Storable (upEmb : UEmb _ 𝕄) (InitA (F := F) c d) := by unfold InitA; infer_instance
instance (c : Dev nD) (d : Bool) (j : ℕ) : Storable (upEmb : UEmb _ 𝕄) (CumA (F := F) c d j) := by unfold CumA; infer_instance
instance (c : Dev nD) (d : Bool) (j : ℕ) : Storable (upEmb : UEmb _ 𝕄) (FactB (F := F) c d j) := by unfold FactB; infer_instance
instance (c : Dev nD) (d : Bool) : Storable (upEmb : UEmb _ 𝕄) (InitB (F := F) c d) := by unfold InitB; infer_instance
instance (c : Dev nD) (d : Bool) (j : ℕ) : Storable (upEmb : UEmb _ 𝕄) (CumB (F := F) c d j) := by unfold CumB; infer_instance
instance (c : Dev nD) (d : Bool) (j : ℕ) : BI.Persistent (FactA (F := F) c d j) := by unfold FactA; infer_instance
instance (c : Dev nD) (d : Bool) : BI.Persistent (InitA (F := F) c d) := by unfold InitA; infer_instance
instance (c : Dev nD) (d : Bool) (j : ℕ) : BI.Persistent (CumA (F := F) c d j) := by unfold CumA; infer_instance
instance (c : Dev nD) (d : Bool) (j : ℕ) : BI.Persistent (FactB (F := F) c d j) := by unfold FactB; infer_instance
instance (c : Dev nD) (d : Bool) : BI.Persistent (InitB (F := F) c d) := by unfold InitB; infer_instance
instance (c : Dev nD) (d : Bool) (j : ℕ) : BI.Persistent (CumB (F := F) c d j) := by unfold CumB; infer_instance

/-! ## The schedule -/

/-- The credit of a half's transfer, and of a slot's across planes. -/
abbrev NA : ℕ := (halfM (cmA false) 0 0).view.dmaCredit
abbrev NB : ℕ := (slotM (cmB false) 0).view.dmaCredit

/-- How many rounds a cell has, -/
def nR : Cl → ℕ
  | .bar => 1 | .cA _ => 1 | .cB _ => 1
  | .sA _ p _ => if p = 0 then 8 else 6
  | .rA _ p _ => if p = 0 then 8 else 6
  | .sB _ _ => 3 | .rB _ _ => 3
/-- how many duties each, -/
def nD' : Cl → ℕ
  | .bar => 2 | .cA _ => 12 | .cB _ => 6 | _ => 1
/-- and how much each is. -/
def amt : Cl → ℕ
  | .bar => 1 | .cA _ => 1 | .cB _ => 1
  | .sA _ _ _ => NA | .rA _ _ _ => NA | .sB _ _ => NB | .rB _ _ => NB

theorem NA_pos : 0 < NA := View.dmaCredit_pos _ (by decide)
theorem NB_pos : 0 < NB := View.dmaCredit_pos _ (by decide)
theorem amt_pos (x : Cl) : 0 < amt x := by
  cases x <;> first | exact Nat.one_pos | exact NA_pos | exact NB_pos

variable (AC : Bool → Fin 2 → ℕ → Dev nD → FVec F S256x1024 .bf16) (BC : Bool → ℕ → Dev nD → FVec F S128x1024 .bf16)

/-- What each duty hands the cell's device. -/
def pay (c : Dev nD) (x : Cl) (r j : ℕ) : sProp 𝕄 := match x with
  | .bar => InitA (tgtA (j == 1) c) (j == 1)
  | .cA d => CumA (tgtA d c) d (j + 1)
  | .cB d => CumB (tgtB d c) d (j - 1)
  | .sA d p u => anyH (stA d) p u c
  | .rA d p u => ownH (cmA d) p u c (AC d u (hopOf p r) (tgtA (!d) c))
  | .sB d p => anyP (stB d) p c
  | .rB d p => ownP (cmB d) p c (BC d (hopOfB p r) (tgtB (!d) c))

instance pay_storable (c : Dev nD) (x : Cl) (r j : ℕ) : Storable (upEmb : UEmb _ 𝕄) (pay AC BC c x r j) := by
  cases x <;> (unfold pay; infer_instance)

/-- The schedule of all cells. -/
def Rd : Rounds.Schedule (GSem nD τ sig) ℕ 𝕄 where
  duties g r := match dec g with
    | some x => if r < nR x.2 then Finset.range (nD' x.2) else ∅
    | none => ∅
  unitless _ := False
  amount g _ _ := match dec g with
    | some x => amt x.2
    | none => 1
  payload g r j := match dec g with
    | some x => pay AC BC x.1 x.2 r j
    | none => iprop(emp)
  amount_pos g _ _ _ := by
    cases h : dec g with
    | none => exact Nat.one_pos
    | some x => exact amt_pos x.2

instance Rd_storable (g : GSem nD τ sig) (r j : ℕ) : Storable (upEmb : UEmb _ 𝕄) ((Rd AC BC).payload g r j) := by
  unfold Rd
  dsimp only
  cases dec g with
  | none => dsimp only; infer_instance
  | some x => dsimp only; infer_instance

theorem Rd_duties (x : Dev nD × Cl) {r : ℕ} (hr : r < nR x.2) : (Rd AC BC).duties (kcell x) r = Finset.range (nD' x.2) := by
  unfold Rd; dsimp only; rw [dec_kcell]; exact if_pos hr
theorem Rd_duties_later (x : Dev nD × Cl) (r : ℕ) (hr : nR x.2 ≤ r) : (Rd AC BC).duties (kcell x) r = ∅ := by
  unfold Rd; dsimp only; rw [dec_kcell]; exact if_neg (by omega)
theorem Rd_amount (x : Dev nD × Cl) (r j : ℕ) : (Rd AC BC).amount (kcell x) r j = amt x.2 := by
  unfold Rd; dsimp only; rw [dec_kcell]
theorem Rd_payload (x : Dev nD × Cl) (r j : ℕ) : (Rd AC BC).payload (kcell x) r j = pay AC BC x.1 x.2 r j := by
  unfold Rd; dsimp only; rw [dec_kcell]
theorem Rd_expect (x : Dev nD × Cl) {r : ℕ} (hr : r < nR x.2) : (Rd AC BC).expect (kcell x) r = nD' x.2 * amt x.2 := by
  unfold Schedule.expect Schedule.amountOf
  rw [Rd_duties AC BC x hr, Finset.sum_congr rfl fun j _ => Rd_amount AC BC x r j, Finset.sum_const, Finset.card_range, smul_eq_mul]

/-! ## What is owed: indices are the position of the paying step in the program -/

/-- Indices of the payments of plane hop `h` and of hop `b` across planes. -/
def posA (h i : ℕ) : ℕ := if h < 7 then 5 + 6 * h + i else 71 + 6 * (h - 7) + i
def posB (b i : ℕ) : ℕ := 47 + 4 * b + i
/-- All indices lie below. -/
abbrev NI : ℕ := 113

/-- Units that a credit cell is paid for hop `h` (none after the last two). -/
def unitA (h : ℕ) : ℕ := if h < 12 then 1 else 0
def unitB (b : ℕ) : ℕ := if b < 4 then 1 else 0

/-- The transfer of half `u` at hop `h`, the release after it. -/
def owS (c : Dev nD) (h : ℕ) (d : Bool) (u : Fin 2) : CellTallies nD τ sig ℕ :=
  tallyAt (kcell (tgtA d c, .rA d (pslot h) u)) (posA h (2 * u.val + d.toNat)) NA
def owG (c : Dev nD) (h : ℕ) (d : Bool) : CellTallies nD τ sig ℕ :=
  tallyAt (kcell (tgtA (!d) c, .cA d)) (posA h (4 + d.toNat)) (unitA h)
def owP (c : Dev nD) (b : ℕ) (d : Bool) : CellTallies nD τ sig ℕ :=
  tallyAt (kcell (tgtB d c, .rB d (qslot b))) (posB b d.toNat) NB
def owGB (c : Dev nD) (b : ℕ) (d : Bool) : CellTallies nD τ sig ℕ :=
  tallyAt (kcell (tgtB (!d) c, .cB d)) (posB b (2 + d.toNat)) (unitB b)
/-- The barrier's signals and the first credits across planes. -/
def owBar (c : Dev nD) (d : Bool) : CellTallies nD τ sig ℕ := tallyAt (kcell (tgtA (!d) c, .bar)) (1 + d.toNat) 1
def owI (c : Dev nD) (d : Bool) : CellTallies nD τ sig ℕ := tallyAt (kcell (tgtB (!d) c, .cB d)) (3 + d.toNat) 2

/-- A whole hop's payments before what is owed later, the first one last. -/
def addA (c : Dev nD) (h : ℕ) (O : CellTallies nD τ sig ℕ) : CellTallies nD τ sig ℕ :=
  O + owG c h true + owG c h false + owS c h true 1 + owS c h false 1 + owS c h true 0 + owS c h false 0
def addB (c : Dev nD) (b : ℕ) (O : CellTallies nD τ sig ℕ) : CellTallies nD τ sig ℕ :=
  O + owGB c b true + owGB c b false + owP c b true + owP c b false
/-- What is owed from plane hop `h ≥ 7` on, -/
def owFromC (c : Dev nD) : ℕ → CellTallies nD τ sig ℕ
  | 0 => 0
  | n + 1 => addA c (13 - n) (owFromC c n)
/-- from hop `6 - n` across planes on: `n` hops left, -/
def owFromB (c : Dev nD) : ℕ → CellTallies nD τ sig ℕ
  | 0 => owFromC c 7
  | n + 1 => addB c (5 - n) (owFromB c n)
/-- with `n` reducing hops left, -/
def owFromA (c : Dev nD) : ℕ → CellTallies nD τ sig ℕ
  | 0 => owFromB c 6
  | n + 1 => addA c (6 - n) (owFromA c n)
/-- and at the start. -/
def O₀ (c : Dev nD) : CellTallies nD τ sig ℕ :=
  owFromA c 7 + owI c true + owI c false + owBar c true + owBar c false

/-- Everything owed lies at an index of at least `b`. -/
def Ab (b : ℕ) (O : CellTallies nD τ sig ℕ) : Prop := ∀ (g : GSem nD τ sig) (i : ℕ), 0 < O g i → i ∈ L NI g ∧ b ≤ i

theorem Ab.zero (b : ℕ) : Ab b 0 := fun _ _ h => absurd h (Nat.lt_irrefl 0)
theorem Ab.mono {b b' : ℕ} {O : CellTallies nD τ sig ℕ} (h : Ab b O) (hb : b' ≤ b) : Ab b' O := fun g i hi => ⟨(h g i hi).1, le_trans hb (h g i hi).2⟩
theorem Ab.add {b : ℕ} {O D : CellTallies nD τ sig ℕ} (h : Ab b O) (h' : Ab b D) : Ab b (O + D) := fun g i hi => by
  rcases Pipeline.add_pos_cases hi with hi | hi
  · exact h g i hi
  · exact h' g i hi
theorem Ab.tally {b : ℕ} (x : Dev nD × Cl) {i n : ℕ} (hb : b ≤ i) (hi : i < NI) : Ab b (tallyAt (kcell x) i n) := fun g k hk => by
  obtain ⟨rfl, rfl⟩ := Pipeline.tallyAt_pos hk
  exact ⟨mem_L' rfl hi, hb⟩

theorem posA_lt {h i : ℕ} (hh : h < 14) (hi : i < 6) : posA h i < NI := by
  show _ < 113
  unfold posA; split <;> omega
theorem posB_lt {b i : ℕ} (hb : b < 6) (hi : i < 4) : posB b i < NI := by
  show _ < 113
  unfold posB; omega
theorem posA_add (h i : ℕ) : posA h i = posA h 0 + i := by
  unfold posA; split <;> omega
theorem posB_add (b i : ℕ) : posB b i = posB b 0 + i := by
  unfold posB; omega

section
variable (c : Dev nD) {h b k : ℕ} (u : Fin 2) (d : Bool)

theorem Ab.owS (hh : h < 14) (hk : k ≤ posA h 0 + 2 * u.val + d.toNat) : Ab k (owS c h d u) := by
  have hu := u.isLt
  have hd : d.toNat < 2 := by cases d <;> decide
  exact Ab.tally _ (by rw [posA_add]; omega) (posA_lt hh (by omega))
theorem Ab.owG (hh : h < 14) (hk : k ≤ posA h 0 + 4 + d.toNat) : Ab k (owG c h d) := by
  have hd : d.toNat < 2 := by cases d <;> decide
  exact Ab.tally _ (by rw [posA_add]; omega) (posA_lt hh (by omega))
theorem Ab.owP (hb : b < 6) (hk : k ≤ posB b 0 + d.toNat) : Ab k (owP c b d) := by
  have hd : d.toNat < 2 := by cases d <;> decide
  exact Ab.tally _ (by rw [posB_add]; omega) (posB_lt hb (by omega))
theorem Ab.owGB (hb : b < 6) (hk : k ≤ posB b 0 + 2 + d.toNat) : Ab k (owGB c b d) := by
  have hd : d.toNat < 2 := by cases d <;> decide
  exact Ab.tally _ (by rw [posB_add]; omega) (posB_lt hb (by omega))

theorem Ab.gA {O : CellTallies nD τ sig ℕ} (hh : h < 14) (hO : Ab (posA h 0 + 6) O) : Ab (posA h 0 + 4) (O + KProof.owG c h true + KProof.owG c h false) :=
  ((hO.mono (by omega)).add (Ab.owG c true hh (by simp))).add (Ab.owG c false hh (by simp))
theorem Ab.addA {O : CellTallies nD τ sig ℕ} (hh : h < 14) (hO : Ab (posA h 0 + 6) O) : Ab (posA h 0) (addA c h O) := by
  unfold KProof.addA
  exact (((((Ab.gA c hh hO).mono (by omega)).add (Ab.owS c 1 true hh (by simp; omega))).add (Ab.owS c 1 false hh (by simp))).add
    (Ab.owS c 0 true hh (by simp))).add (Ab.owS c 0 false hh (by simp))
theorem Ab.gB {O : CellTallies nD τ sig ℕ} (hb : b < 6) (hO : Ab (posB b 0 + 4) O) : Ab (posB b 0 + 2) (O + KProof.owGB c b true + KProof.owGB c b false) :=
  ((hO.mono (by omega)).add (Ab.owGB c true hb (by simp))).add (Ab.owGB c false hb (by simp))
theorem Ab.addB {O : CellTallies nD τ sig ℕ} (hb : b < 6) (hO : Ab (posB b 0 + 4) O) : Ab (posB b 0) (addB c b O) := by
  unfold KProof.addB
  exact ((((Ab.gB c hb hO).mono (by omega))).add (Ab.owP c true hb (by simp))).add (Ab.owP c false hb (by simp))

theorem Ab.fromC : ∀ n : ℕ, n ≤ 7 → Ab (113 - 6 * n) (owFromC c n)
  | 0, _ => Ab.zero _
  | n + 1, hn => by
    have e : posA (13 - n) 0 = 113 - 6 * (n + 1) := by unfold posA; rw [if_neg (by omega)]; omega
    rw [← e]
    exact Ab.addA c (by omega) ((Ab.fromC n (by omega)).mono (by omega))
theorem Ab.fromB : ∀ n : ℕ, n ≤ 6 → Ab (71 - 4 * n) (owFromB c n)
  | 0, _ => Ab.fromC c 7 (by omega)
  | n + 1, hn => by
    have e : posB (5 - n) 0 = 71 - 4 * (n + 1) := by unfold posB; omega
    rw [← e]
    exact Ab.addB c (by omega) ((Ab.fromB n (by omega)).mono (by omega))
theorem Ab.fromA : ∀ n : ℕ, n ≤ 7 → Ab (47 - 6 * n) (owFromA c n)
  | 0, _ => Ab.fromB c 6 (by omega)
  | n + 1, hn => by
    have e : posA (6 - n) 0 = 47 - 6 * (n + 1) := by unfold posA; rw [if_pos (by omega)]; omega
    rw [← e]
    exact Ab.addA c (by omega) ((Ab.fromA n (by omega)).mono (by omega))
theorem Ab.start₂ : Ab 3 (owFromA c 7 + owI c true + owI c false) :=
  (((Ab.fromA c 7 (by omega)).mono (by omega)).add (Ab.tally _ (by simp) (by decide))).add (Ab.tally _ (by simp) (by decide))
theorem Ab.start : Ab 1 (O₀ c) :=
  (((Ab.start₂ c).mono (by omega)).add (Ab.tally _ (by simp) (by decide))).add (Ab.tally _ (by simp) (by decide))
end

/-- A wait at an index below everything owed is allowed. -/
theorem mayWait {b i : ℕ} (hi : i < b) (hN : i < NI) (c : Dev nD) (sm : SemLoc sig) {O : CellTallies nD τ sig ℕ} (hO : Ab b O) :
    (levAts (L NI) lv : sProp 𝕄) ⊢ MayWait (c : Thread nD τ) sm i O :=
  mayWait_of hN c sm O fun g k hk => ⟨(hO g k hk).1, lt_of_lt_of_le hi (hO g k hk).2⟩

/-! ## What every device knows -/

/-- The invariants of all cells and slots, that every cell has reached round 0, and the levels. -/
def Known (KN : Dev nD × Cl → ℕ) (SN : SKey → ℕ) : sProp 𝕄 :=
  iprop((bigSep Finset.univ fun x : Dev nD × Cl => cellInv ER (Rd AC BC) (KN x) (kcell x))
    ∗ (bigSep Finset.univ fun k : SKey => slotInv ES (SN k) k (slotOf k))
    ∗ (bigSep Finset.univ fun x : Dev nD × Cl => reached ER (kcell x) 0)
    ∗ levAts (L NI) lv)

instance Known_persistent (KN : Dev nD × Cl → ℕ) (SN : SKey → ℕ) : BI.Persistent (Known AC BC KN SN) := by unfold Known; infer_instance

variable (KN : Dev nD × Cl → ℕ) (SN : SKey → ℕ)

theorem known_cell (x : Dev nD × Cl) : Known AC BC KN SN ⊢ (cellInv ER (Rd AC BC) (KN x) (kcell x) : sProp 𝕄) := by
  unfold Known
  iintro ⟨H, -⟩
  ihave H' := (show (bigSep Finset.univ fun x : Dev nD × Cl => cellInv ER (Rd AC BC) (KN x) (kcell x)) ⊢ (cellInv ER (Rd AC BC) (KN x) (kcell x) : sProp 𝕄)
    from BI.bigSep_elim (Finset.mem_univ x)) $$ H
  iexact H'
theorem known_slot (k : SKey) : Known AC BC KN SN ⊢ (slotInv ES (SN k) k (slotOf k) : sProp 𝕄) := by
  unfold Known
  iintro ⟨-, H, -⟩
  ihave H' := (show (bigSep Finset.univ fun k : SKey => slotInv ES (SN k) k (slotOf k)) ⊢ (slotInv ES (SN k) k (slotOf k) : sProp 𝕄)
    from BI.bigSep_elim (Finset.mem_univ k)) $$ H
  iexact H'
theorem known_reached (x : Dev nD × Cl) : Known AC BC KN SN ⊢ (reached ER (kcell x) 0 : sProp 𝕄) := by
  unfold Known
  iintro ⟨-, -, H, -⟩
  ihave H' := (show (bigSep Finset.univ fun x : Dev nD × Cl => reached ER (kcell x) 0) ⊢ (reached ER (kcell x) 0 : sProp 𝕄)
    from BI.bigSep_elim (Finset.mem_univ x)) $$ H
  iexact H'
theorem known_lev : Known AC BC KN SN ⊢ (levAts (L NI) lv : sProp 𝕄) := by
  unfold Known
  iintro ⟨-, -, -, H⟩; iexact H

end Cert.KProof

end
-- ==== Proof.Steps.lean ====
/-
  One rule per remote step of the kernel under the schedule of Common.lean: the transfers, the waits on them, the credits
  waited for and given, each with the kernel's own cells; then the four transfers and the four waits of a hop together.
-/
module

public import proofs.«01_k».proof.Proof.Common

@[expose] public section

set_option maxRecDepth 8000

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.SiteBlocks (L lv mem_L mem_L' mayWait_of)

variable {F : FTy → Type} [FloatOps F]

local notation "𝕄" => MT nD τ sig ℕ (Elt F) ℕ UU ℕ

/-- What device `c` still owes, whatever its waits so far. -/
def Ow (c : Dev nD) (O : CellTallies nD τ sig ℕ) : sProp 𝕄 := iprop(∃ W, owes (c : Thread nD τ) O W)

/-- The owner of a cell stands at round `r`, none of it consumed. -/
def AtR (c : Dev nD) (x : Cl) (r : ℕ) : sProp 𝕄 := iprop(atPos ER (kcell (c, x)) r ∅ 0 ∗ reached ER (kcell (c, x)) r)

variable (AC : Bool → Fin 2 → ℕ → Dev nD → FVec F S256x1024 .bf16) (BC : Bool → ℕ → Dev nD → FVec F S128x1024 .bf16)
variable (KN : Dev nD × Cl → ℕ) (SN : SKey → ℕ)

/-- A wait at an index below everything owed is allowed. -/
theorem known_mayWait {b i : ℕ} (hi : i < b) (hN : i < NI) (c : Dev nD) (sm : SemLoc sig) {O : CellTallies nD τ sig ℕ} (hO : Ab b O) :
    Known AC BC KN SN ⊢ (MayWait (c : Thread nD τ) sm i O : sProp 𝕄) := by
  unfold Known
  iintro ⟨-, -, -, H⟩
  iapply (mayWait hi hN c sm hO)
  iexact H
/-- And one at several indices. -/
theorem known_mayOwe {b : ℕ} (hb : 0 < b) (hN : b ≤ NI) (c : Dev nD) (sm : SemLoc sig) (I : Finset ℕ) (hI : ∀ i ∈ I, i < b) {O : CellTallies nD τ sig ℕ} (hO : Ab b O) :
    Known AC BC KN SN ⊢ (MayOwe (c : Thread nD τ) (I.image (sm, ·)) O : sProp 𝕄) := by
  unfold Known
  iintro ⟨-, -, -, H⟩
  iapply (MayOwe.of_cut (L := L NI) (lev := lv) (b - 1)
        (fun p hp => by
          obtain ⟨i, hi, rfl⟩ := Finset.mem_image.mp hp
          exact mem_L c _ (lt_of_lt_of_le (hI i hi) hN))
        (fun g i hg => (hO g i hg).1)
        (fun p hp => by
          obtain ⟨i, hi, rfl⟩ := Finset.mem_image.mp hp
          exact Nat.le_pred_of_lt (hI i hi))
        (fun g i hg => by have := (hO g i hg).2; show b - 1 < i; omega))
  iexact H

theorem bigSep_insert' {I : Type} [DecidableEq I] {s : Finset I} {i : I} (hi : i ∉ s) (Φ : I → sProp 𝕄) :
    bigSep (insert i s) Φ = iprop(Φ i ∗ bigSep s Φ) := BI.bigSep_insert hi
theorem bigSep_union_disj {I : Type} [DecidableEq I] {s t : Finset I} (h : Disjoint s t) (Φ : I → sProp 𝕄) :
    bigSep (s ∪ t) Φ = iprop(bigSep s Φ ∗ bigSep t Φ) := BI.bigSep_union h

/-! ## Transfers -/

/-- A transfer under the schedule: the source held with its contents and the landing place go in. -/
theorem wp_sendG {s : Shape} {src dst : Memref sig .tc .vmem s .bf16} (c n : Dev nD) {x x' : Cl} {sS sem : SemLoc sig}
    (hx : semOf x = sS) (hx' : semOf x' = sem) {hsc : dst.view.ref.isScScratch = false} {hsrc : src.view.WordExact} {hdst : dst.view.WordExact}
    {hsem : DmaTarget.Typed .vmem sem (.remote (Dev.tc n : Thread nD τ) dst sS hsc)} {N r : ℕ} (hN : dst.view.amount sem = N)
    (ha : amt x = N) (ha' : amt x' = N) (hr : r < nR x) (hr' : r < nR x') (hD : nD' x = 1) (hD' : nD' x' = 1) {X : FVec F s .bf16} (ι : ℕ)
    (O : CellTallies nD τ sig ℕ)
    (hpay₁ : slot (src.view.loc (c : Thread nD τ)) src.view.set ⊢ (pay AC BC c x r 0 : sProp 𝕄))
    (hpay₂ : (owns (c := (n : Thread nD τ)) dst fullShare X : sProp 𝕄) ⊢ pay AC BC n x' r 0)
    {α : Type} {Q : α → sProp 𝕄} {k : PUnit → KProg F α} :
    iprop(Known AC BC KN SN ∗ owns (c := (c : Thread nD τ)) src fullShare X ∗ slot (dst.view.loc (n : Thread nD τ)) dst.view.set
        ∗ Ow c (O + tallyAt (kcell (n, x')) ι N)
        ∗ dutyTok ER (kcell (c, x)) r 0 ∗ reached ER (kcell (c, x)) r
        ∗ dutyTok ER (kcell (n, x')) r 0 ∗ reached ER (kcell (n, x')) r)
      ⊢ iprop(((cred (tallyAt (kcell (c, x)) 0 N) ∗ Ow c O) -∗ WP c (k ⟨⟩) Q)
        -∗ WP c (.op (.enqueueDma src (.remote (Dev.tc n : Thread nD τ) dst sS hsc) sem hsrc hdst hsem) k) Q) := by
  subst hx hx'
  unfold WP Ow owns slot
  have hd (w : Dev nD) (y : Cl) (hr : r < nR y) (hD : nD' y = 1) : 0 ∈ (Rd AC BC).duties (kcell (w, y)) r := by
    rw [Rd_duties AC BC (w, y) hr]
    exact Finset.mem_range.mpr (by show 0 < nD' y; omega)
  iintro ⟨#HK, ⟨%fs, %hfs, Hs⟩, ⟨%fd, Hd⟩, ⟨%W, HO⟩, Ht, Hr, Ht', Hr'⟩ Hk
  iapply (Rounds.wp_send_pointsTo 𝒱₀ ER (Rd AC BC) (c : Thread nD τ) none (κ₁ := KN (c, x)) (κ₂ := KN (n, x'))
    (r₁ := r) (r₂ := r) (d₁ := 0) (d₂ := 0) (c' := (n : Thread nD τ)) (fs := fs) (fd := fd) (O₀ := O + tallyAt (kcell (n, x')) ι N) (W := W)
    (hd c x hr hD) (hd n x' hr' hD') ι 0 N hN
    ((Rd_amount AC BC (c, x) r 0).trans ha) ((Rd_amount AC BC (n, x') r 0).trans ha') O rfl
    ((show _ ⊢ (slot (src.view.loc (c : Thread nD τ)) src.view.set : sProp 𝕄) by
      unfold slot; iintro H; iexists fs; iexact H).trans (hpay₁.trans (Entails.of_eq (Rd_payload AC BC (c, x) r 0).symm)))
    ((show _ ⊢ (owns (c := (n : Thread nD τ)) dst fullShare X : sProp 𝕄) by
      rw [hfs]; unfold owns; iintro H; iexists (dst.view.write (Elt F) fd X Finset.univ)
      isplitr
      · ipureintro; exact View.read_write_univ ..
      iexact H).trans (hpay₂.trans (Entails.of_eq (Rd_payload AC BC (n, x') r 0).symm)))) $$ [Hs Hd HO Ht Hr Ht' Hr']
  · isplitr
    · iapply (known_cell AC BC KN SN (c, x)); iexact HK
    isplitr
    · iapply (known_cell AC BC KN SN (n, x')); iexact HK
    isplitl [Hs]; · iexact Hs
    isplitl [Hd]; · iexact Hd
    isplitl [HO]; · iexact HO
    isplitl [Ht]; · iexact Ht
    isplitl [Hr]; · iexact Hr
    isplitl [Ht']; · iexact Ht'
    iexact Hr'
  iintro ⟨Hc, HO⟩
  iapply Hk
  isplitl [Hc]; · iexact Hc
  iexists W; iexact HO

theorem amountA (d : Bool) (p u : Fin 2) (sm : SemLoc sig) (hs : ∃ s, sm = .dma s) : (halfM (cmA d) p u).view.amount sm = NA := by
  obtain ⟨s, rfl⟩ := hs; cases d <;> rfl
theorem amountB (d : Bool) (p : Fin 2) (sm : SemLoc sig) (hs : ∃ s, sm = .dma s) : (slotM (cmB d) p).view.amount sm = NB := by
  obtain ⟨s, rfl⟩ := hs; cases d <;> rfl

/-- A half's transfer: the half held with its contents and the neighbour's landing half go in. -/
theorem wp_sendH (c : Dev nD) {h r : ℕ} {p : Fin 2} (hp : hopOf p r = h) (hr : r < nR (.sA false p 0)) (d : Bool) (u : Fin 2)
    (O : CellTallies nD τ sig ℕ) (hps : pslot h = p)
    {α : Type} {Q : α → sProp 𝕄} {k : PUnit → KProg F α} :
    iprop(Known AC BC KN SN ∗ ownH (stA d) p u c (AC d u h c) ∗ anyH (cmA d) p u (tgtA d c) ∗ Ow c (O + owS c h d u)
        ∗ dutyTok ER (kcell (c, .sA d p u)) r 0 ∗ reached ER (kcell (c, .sA d p u)) r
        ∗ dutyTok ER (kcell (tgtA d c, .rA d p u)) r 0 ∗ reached ER (kcell (tgtA d c, .rA d p u)) r)
      ⊢ iprop(((cred (tallyAt (kcell (c, .sA d p u)) 0 NA) ∗ Ow c O) -∗ WP c (k ⟨⟩) Q) -∗ WP c (sendH c p d u >>= k) Q) := by
  have h := wp_sendG AC BC KN SN (src := halfM (stA d) p u) (dst := halfM (cmA d) p u) c (tgtA d c) (x := .sA d p u) (x' := .rA d p u) rfl rfl
    (hsc := by cases d <;> rfl) (hsrc := exactH (wholeA d).1 p u) (hdst := exactH (wholeA d).2 p u) (hsem := ⟨⟨rfl, Or.inl rfl⟩, trivial⟩)
    (r := r) (amountA d p u _ ⟨_, rfl⟩) rfl rfl hr hr rfl rfl (X := AC d u h c) (posA h (2 * u.val + d.toNat)) O
    (Entails.refl _) (Entails.of_eq (show ownH (cmA d) p u (tgtA d c) (AC d u h c) = (pay AC BC (tgtA d c) (.rA d p u) r 0 : sProp 𝕄) by
      unfold pay; dsimp only; rw [hp, tgtA_tgtA']))
    (Q := Q) (k := k)
  unfold owS
  rw [hps]
  exact h

@[inherit_doc wp_sendH] theorem wp_sendP (c : Dev nD) {b r : ℕ} {p : Fin 2} (hp : hopOfB p r = b) (hr : r < nR (.sB false p)) (d : Bool)
    (O : CellTallies nD τ sig ℕ) (hps : qslot b = p)
    {α : Type} {Q : α → sProp 𝕄} {k : PUnit → KProg F α} :
    iprop(Known AC BC KN SN ∗ ownP (stB d) p c (BC d b c) ∗ anyP (cmB d) p (tgtB d c) ∗ Ow c (O + owP c b d)
        ∗ dutyTok ER (kcell (c, .sB d p)) r 0 ∗ reached ER (kcell (c, .sB d p)) r
        ∗ dutyTok ER (kcell (tgtB d c, .rB d p)) r 0 ∗ reached ER (kcell (tgtB d c, .rB d p)) r)
      ⊢ iprop(((cred (tallyAt (kcell (c, .sB d p)) 0 NB) ∗ Ow c O) -∗ WP c (k ⟨⟩) Q) -∗ WP c (sendP c p d >>= k) Q) := by
  have h := wp_sendG AC BC KN SN (src := slotM (stB d) p) (dst := slotM (cmB d) p) c (tgtB d c) (x := .sB d p) (x' := .rB d p) rfl rfl
    (hsc := by cases d <;> rfl) (hsrc := exactP (wholeB d).1 p) (hdst := exactP (wholeB d).2 p) (hsem := ⟨⟨rfl, Or.inl rfl⟩, trivial⟩)
    (r := r) (amountB d p _ ⟨_, rfl⟩) rfl rfl hr hr rfl rfl (X := BC d b c) (posB b d.toNat) O
    (Entails.refl _) (Entails.of_eq (show ownP (cmB d) p (tgtB d c) (BC d b c) = (pay AC BC (tgtB d c) (.rB d p) r 0 : sProp 𝕄) by
      unfold pay; dsimp only; rw [hp, tgtB_tgtB']))
    (Q := Q) (k := k)
  unfold owP
  rw [hps]
  exact h

/-! ## Waits on transfers -/

/-- A wait for the one duty of the open round of a transfer's cell. -/
theorem wp_waitD (c : Dev nD) (x : Cl) {r ι b : ℕ} (hr : r < nR x) (hD : nD' x = 1) {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (semOf x) (amt x) K)
    {O : CellTallies nD τ sig ℕ} (hO : Ab b O) (hι : ι < b) (hι' : ι < NI)
    {α : Type} {Q : α → sProp 𝕄} {k : PUnit → KProg F α} :
    iprop(Known AC BC KN SN ∗ cred (tallyAt (kcell (c, x)) ι (amt x)) ∗ Ow c O ∗ AtR c x r)
      ⊢ iprop(((Ow c O ∗ AtR c x (r + 1) ∗ pay AC BC c x r 0) -∗ WP c (k ⟨⟩) Q) -∗ WP c (.op w k) Q) := by
  unfold WP Ow AtR
  iintro ⟨#HK, Hc, ⟨%W, HO⟩, ⟨Hat, -⟩⟩ Hk
  iapply (Rounds.wp_wait_rest_token 𝒱₀ ER (Rd AC BC) (c : Thread nD τ) none (κ := KN (c, x)) hw (Set.mem_univ _) ι (O := O) (W := W)
    (R := r) (m := 0) (T := ∅) (by rw [Nat.zero_add]; exact ((Rd_expect AC BC (c, x) hr).trans (by rw [hD, Nat.one_mul])).symm)) $$ [Hc HO Hat]
  · isplitr
    · iapply (known_cell AC BC KN SN (c, x)); iexact HK
    isplitl [Hc]; · iexact Hc
    isplitl [HO]; · iexact HO
    isplitr
    · iapply (known_mayWait AC BC KN SN hι hι' c (semOf x) hO); iexact HK
    iexact Hat
  iintro ⟨HO, Hat, Hr, Hpay⟩
  iapply Hk
  isplitl [HO]; · iexists _; iexact HO
  isplitl [Hat Hr]
  · isplitl [Hat]; · iexact Hat
    iexact Hr
  ihave Hp := (Entails.of_eq (show bigSep ((Rd AC BC).duties (kcell (c, x)) r \ ∅) (fun j => (Rd AC BC).payload (kcell (c, x)) r j) = (pay AC BC c x r 0 : sProp 𝕄) by
    rw [Finset.sdiff_empty, Rd_duties AC BC (c, x) hr]
    show bigSep (Finset.range (nD' x)) _ = _
    rw [hD, Finset.range_one, bigSep_singleton, Rd_payload AC BC (c, x)])) $$ Hpay
  iexact Hp

/-- The wait until a half has been read out, -/
theorem wp_waitSendH (c : Dev nD) {p : Fin 2} {r b : ℕ} (hr : r < nR (.sA false p 0)) (d : Bool) (u : Fin 2) {O : CellTallies nD τ sig ℕ} (hO : Ab b O) (hb : 0 < b)
    {α : Type} {Q : α → sProp 𝕄} {k : PUnit → KProg F α} :
    iprop(Known AC BC KN SN ∗ cred (tallyAt (kcell (c, .sA d p u)) 0 NA) ∗ Ow c O ∗ AtR c (.sA d p u) r)
      ⊢ iprop(((Ow c O ∗ AtR c (.sA d p u) (r + 1) ∗ anyH (stA d) p u c) -∗ WP c (k ⟨⟩) Q) -∗ WP c (waitSendH p d u >>= k) Q) := by
  unfold waitSendH
  simp only [Prog.lift, Prog.bind_op, Prog.bind_ret]
  exact wp_waitD AC BC KN SN c (.sA d p u) hr rfl
    (fun K => by cases d <;> exact wpE_waitDma2_eq 𝒱₀ (c : Thread nD τ) none Set.univ K) hO hb (by decide)
/-- and until the neighbour's half has landed. -/
theorem wp_waitRecvH (c : Dev nD) {h : ℕ} {p : Fin 2} {r b : ℕ} (hp : hopOf p r = h) (hr : r < nR (.sA false p 0)) (d : Bool) (u : Fin 2)
    {O : CellTallies nD τ sig ℕ} (hO : Ab b O) (hb : posA h 0 + 4 ≤ b) (hh : h < 14)
    {α : Type} {Q : α → sProp 𝕄} {k : PUnit → KProg F α} :
    iprop(Known AC BC KN SN ∗ cred (tallyAt (kcell (c, .rA d p u)) (posA h (2 * u.val + d.toNat)) NA) ∗ Ow c O ∗ AtR c (.rA d p u) r)
      ⊢ iprop(((Ow c O ∗ AtR c (.rA d p u) (r + 1) ∗ ownH (cmA d) p u c (AC d u h (tgtA (!d) c))) -∗ WP c (k ⟨⟩) Q) -∗ WP c (waitRecvH p d u >>= k) Q) := by
  unfold waitRecvH
  simp only [Prog.lift, Prog.bind_op, Prog.bind_ret]
  subst hp
  have hu := u.isLt
  have hd : d.toNat < 2 := by cases d <;> decide
  exact wp_waitD AC BC KN SN c (.rA d p u) hr rfl
    (fun K => by cases d <;> exact wpE_waitDma2_eq 𝒱₀ (c : Thread nD τ) none Set.univ K) hO (by rw [posA_add]; omega) (posA_lt hh (by omega))
@[inherit_doc wp_waitSendH] theorem wp_waitSendP (c : Dev nD) {p : Fin 2} {r b : ℕ} (hr : r < nR (.sB false p)) (d : Bool) {O : CellTallies nD τ sig ℕ} (hO : Ab b O) (hb : 0 < b)
    {α : Type} {Q : α → sProp 𝕄} {k : PUnit → KProg F α} :
    iprop(Known AC BC KN SN ∗ cred (tallyAt (kcell (c, .sB d p)) 0 NB) ∗ Ow c O ∗ AtR c (.sB d p) r)
      ⊢ iprop(((Ow c O ∗ AtR c (.sB d p) (r + 1) ∗ anyP (stB d) p c) -∗ WP c (k ⟨⟩) Q) -∗ WP c (waitSendP p d >>= k) Q) := by
  unfold waitSendP
  simp only [Prog.lift, Prog.bind_op, Prog.bind_ret]
  exact wp_waitD AC BC KN SN c (.sB d p) hr rfl
    (fun K => by cases d <;> exact wpE_waitDma2_eq 𝒱₀ (c : Thread nD τ) none Set.univ K) hO hb (by decide)
@[inherit_doc wp_waitRecvH] theorem wp_waitRecvP (c : Dev nD) {h : ℕ} {p : Fin 2} {r b : ℕ} (hp : hopOfB p r = h) (hr : r < nR (.sB false p)) (d : Bool)
    {O : CellTallies nD τ sig ℕ} (hO : Ab b O) (hb : posB h 0 + 2 ≤ b) (hh : h < 6)
    {α : Type} {Q : α → sProp 𝕄} {k : PUnit → KProg F α} :
    iprop(Known AC BC KN SN ∗ cred (tallyAt (kcell (c, .rB d p)) (posB h d.toNat) NB) ∗ Ow c O ∗ AtR c (.rB d p) r)
      ⊢ iprop(((Ow c O ∗ AtR c (.rB d p) (r + 1) ∗ ownP (cmB d) p c (BC d h (tgtB (!d) c))) -∗ WP c (k ⟨⟩) Q) -∗ WP c (waitRecvP p d >>= k) Q) := by
  unfold waitRecvP
  simp only [Prog.lift, Prog.bind_op, Prog.bind_ret]
  subst hp
  have hd : d.toNat < 2 := by cases d <;> decide
  exact wp_waitD AC BC KN SN c (.rB d p) hr rfl
    (fun K => by cases d <;> exact wpE_waitDma2_eq 𝒱₀ (c : Thread nD τ) none Set.univ K) hO (by rw [posB_add]; omega) (posB_lt hh (by omega))

/-! ## Credits -/

/-- The owner of a cell of single units has consumed `k` of them, and holds what those it took hand over. -/
def Cred (c : Dev nD) (x : Cl) (k : ℕ) : sProp 𝕄 :=
  iprop(∃ T : Finset ℕ, ⌜T ⊆ Finset.range (nD' x) ∧ k + (Finset.range (nD' x) \ T).card ≤ nD' x⌝
    ∗ atPos ER (kcell (c, x)) 0 T k ∗ bigSep T (fun j => pay AC BC c x 0 j))

/-- A wait for `n` units of such a cell. -/
theorem wp_waitC (c : Dev nD) (x : Cl) {k n b : ℕ} (hR : nR x = 1) (ha : amt x = 1) (cr : ℕ →₀ ℕ) (hcr : Idealize.SL.Util.total cr = n)
    (hlt : ∀ i ∈ cr.support, i < b) (hb : 0 < b) (hN : b ≤ NI) {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (semOf x) n K)
    {O : CellTallies nD τ sig ℕ} (hO : Ab b O)
    {α : Type} {Q : α → sProp 𝕄} {kk : PUnit → KProg F α} :
    iprop(Known AC BC KN SN ∗ cred (tallyOn (kcell (c, x)) cr) ∗ Ow c O ∗ Cred AC BC c x k)
      ⊢ iprop(((Ow c O ∗ Cred AC BC c x (k + n)) -∗ WP c (kk ⟨⟩) Q) -∗ WP c (.op w kk) Q) := by
  have hr : 0 < nR x := by omega
  unfold WP Ow Cred
  iintro ⟨#HK, Hc, ⟨%W, HO⟩, ⟨%T, %hT, Hat, Hp⟩⟩ Hk
  iapply (Rounds.wp_wait 𝒱₀ ER (Rd AC BC) (c : Thread nD τ) none (κ := KN (c, x)) hw (Set.mem_univ _) (O := O) (W := W)
    (cr.support.image ((semOf x), ·)) (R := 0) (m := k) (T := T) hcr (Finset.Subset.refl _)) $$ [Hc HO Hat]
  · isplitr
    · iapply (known_cell AC BC KN SN (c, x)); iexact HK
    isplitl [Hc]; · iexact Hc
    isplitl [HO]; · iexact HO
    isplitr
    · iapply (known_mayOwe AC BC KN SN hb hN c (semOf x) cr.support hlt hO)
      iexact HK
    iexact Hat
  iintro %S ⟨%hS, HO, Hat, Hp'⟩
  have hdut : (Rd AC BC).duties (kcell (c, x)) 0 = Finset.range (nD' x) := Rd_duties AC BC (c, x) hr
  have hexp : (Rd AC BC).expect (kcell (c, x)) 0 = nD' x := (Rd_expect AC BC (c, x) hr).trans (by rw [ha, Nat.mul_one])
  iapply Hk
  isplitl [HO]; · iexists _; iexact HO
  iexists S
  isplitr
  · ipureintro
    rw [← hdut]
    refine ⟨hS.2.1, ?_⟩
    have := hS.2.2
    rw [hexp] at this
    rw [hdut] at this ⊢
    exact this
  isplitl [Hat]; · iexact Hat
  ihave Hp'' := (Entails.of_eq (bigSep_congr (Ψ := fun j => pay AC BC c x 0 j) (s := S \ T) fun j _ => Rd_payload AC BC (c, x) 0 j)) $$ Hp'
  ihave H := (show iprop((bigSep T fun j => pay AC BC c x 0 j) ∗ (bigSep (S \ T) fun j => pay AC BC c x 0 j)) ⊢ (bigSep S fun j => pay AC BC c x 0 j : sProp 𝕄) from
    Entails.of_eq (by rw [← bigSep_union_disj Finset.disjoint_sdiff, Finset.union_sdiff_of_subset hS.1])) $$ [Hp Hp'']
  · isplitl [Hp]; · iexact Hp
    iexact Hp''
  iexact H

/-- Closing a cell whose units are all consumed. -/
theorem cred_close (c : Dev nD) (x : Cl) (hR : nR x = 1) (ha : amt x = 1) :
    iprop(Known AC BC KN SN ∗ Cred AC BC c x (nD' x)) ⊢ (|={Set.univ}=> semVal (kcell (c, x)) 0 : sProp 𝕄) := by
  have hr : 0 < nR x := by omega
  have hdut : (Rd AC BC).duties (kcell (c, x)) 0 = Finset.range (nD' x) := Rd_duties AC BC (c, x) hr
  have hexp : (Rd AC BC).expect (kcell (c, x)) 0 = nD' x := (Rd_expect AC BC (c, x) hr).trans (by rw [ha, Nat.mul_one])
  unfold Cred
  iintro ⟨#HK, ⟨%T, %hT, Hat, -⟩⟩
  have hsub : (Rd AC BC).duties (kcell (c, x)) 0 ⊆ T := by
    rw [hdut]
    exact Finset.sdiff_eq_empty_iff_subset.mp (Finset.card_eq_zero.mp (by omega))
  imod (Rounds.fupd_skip ER (Rd AC BC) (κ := KN (c, x)) hsub hexp.symm (Set.mem_univ _)) $$ [Hat] with ⟨Hat, -⟩
  · isplitr
    · iapply (known_cell AC BC KN SN (c, x)); iexact HK
    iexact Hat
  iapply (Rounds.cell_close ER (Rd AC BC) (κ := KN (c, x)) (Set.mem_univ _) (fun h => h) (R := 0 + 1)
    (fun r hr' => Rd_duties_later AC BC (c, x) r (by show nR x ≤ r; omega)))
  isplitr
  · iapply (known_cell AC BC KN SN (c, x)); iexact HK
  iexact Hat

/-- Closing a transfer's cell after its last round. -/
theorem at_close (c : Dev nD) (x : Cl) : iprop(Known AC BC KN SN ∗ AtR c x (nR x)) ⊢ (|={Set.univ}=> semVal (kcell (c, x)) 0 : sProp 𝕄) := by
  unfold AtR
  iintro ⟨#HK, ⟨Hat, -⟩⟩
  iapply (Rounds.cell_close ER (Rd AC BC) (κ := KN (c, x)) (Set.mem_univ _) (fun h => h) (R := nR x)
    (fun r hr' => Rd_duties_later AC BC (c, x) r hr'))
  isplitr
  · iapply (known_cell AC BC KN SN (c, x)); iexact HK
  iexact Hat

theorem CumA_mono (c : Dev nD) (d : Bool) {n n' : ℕ} (h : n ≤ n') : CumA c d n' ⊢ (CumA c d n : sProp 𝕄) := by
  unfold CumA
  exact bigSep_subset (Finset.range_mono h)
theorem CumA_fact (c : Dev nD) (d : Bool) {j n : ℕ} (h : j < n) : CumA c d n ⊢ (FactA c d j : sProp 𝕄) := by
  unfold CumA
  exact BI.bigSep_elim (Finset.mem_range.mpr h)
theorem CumA_succ (c : Dev nD) (d : Bool) (n : ℕ) : iprop(CumA c d n ∗ FactA c d n) ⊢ (CumA c d (n + 1) : sProp 𝕄) := by
  unfold CumA
  rw [Finset.range_add_one, bigSep_insert' Finset.notMem_range_self]
  iintro ⟨H, H'⟩
  isplitl [H']; · iexact H'
  iexact H
theorem CumB_mono (c : Dev nD) (d : Bool) {n n' : ℕ} (h : n ≤ n') : CumB c d n' ⊢ (CumB c d n : sProp 𝕄) := by
  unfold CumB
  iintro ⟨H, H'⟩
  isplitl [H]; · iexact H
  ihave H'' := (show (bigSep (Finset.range n') fun j => FactB c d j) ⊢ (bigSep (Finset.range n) fun j => FactB c d j : sProp 𝕄) from
    bigSep_subset (Finset.range_mono h)) $$ H'
  iexact H''
theorem CumB_fact (c : Dev nD) (d : Bool) {j n : ℕ} (h : j < n) : CumB c d n ⊢ (FactB c d j : sProp 𝕄) := by
  unfold CumB
  iintro ⟨-, H'⟩
  ihave H'' := (show (bigSep (Finset.range n) fun j => FactB c d j) ⊢ (FactB c d j : sProp 𝕄) from
    BI.bigSep_elim (Finset.mem_range.mpr h)) $$ H'
  iexact H''
theorem CumB_succ (c : Dev nD) (d : Bool) (n : ℕ) : iprop(CumB c d n ∗ FactB c d n) ⊢ (CumB c d (n + 1) : sProp 𝕄) := by
  unfold CumB
  rw [Finset.range_add_one, bigSep_insert' Finset.notMem_range_self]
  iintro ⟨⟨Hi, H⟩, H'⟩
  isplitl [Hi]; · iexact Hi
  isplitl [H']; · iexact H'
  iexact H

/-- Of `k + 1` consumed units one is at or after the `k`-th. -/
theorem exists_late {N k : ℕ} {T : Finset ℕ} (hT : T ⊆ Finset.range N) (hk : k + 1 + (Finset.range N \ T).card ≤ N) : ∃ j ∈ T, k ≤ j := by
  by_contra hn
  have hsub : T ⊆ Finset.range k := fun j hj => Finset.mem_range.mpr (Nat.lt_of_not_le fun hle => hn ⟨j, hj, hle⟩)
  have h1 := Finset.card_le_card hsub
  have h2 := Finset.card_sdiff_add_card_eq_card hT
  rw [Finset.card_range] at h1 h2
  omega

/-- After `k + 1` consumed credits of the plane ring the neighbour's first `k + 1` releases are known, -/
theorem cred_cumA (c : Dev nD) (d : Bool) (k : ℕ) : Cred AC BC c (.cA d) (k + 1) ⊢ (CumA (tgtA d c) d (k + 1) : sProp 𝕄) := by
  unfold Cred
  iintro ⟨%T, %hT, -, Hp⟩
  obtain ⟨j, hj, hle⟩ := exists_late hT.1 hT.2
  ihave H := (show (bigSep T fun j => pay AC BC c (.cA d) 0 j) ⊢ (CumA (tgtA d c) d (j + 1) : sProp 𝕄) from BI.bigSep_elim hj) $$ Hp
  iapply (CumA_mono (tgtA d c) d (show k + 1 ≤ j + 1 by omega))
  iexact H
/-- and across planes all but the last two. -/
theorem cred_cumB (c : Dev nD) (d : Bool) (k : ℕ) : Cred AC BC c (.cB d) (k + 1) ⊢ (CumB (tgtB d c) d (k - 1) : sProp 𝕄) := by
  unfold Cred
  iintro ⟨%T, %hT, -, Hp⟩
  obtain ⟨j, hj, hle⟩ := exists_late hT.1 hT.2
  ihave H := (show (bigSep T fun j => pay AC BC c (.cB d) 0 j) ⊢ (CumB (tgtB d c) d (j - 1) : sProp 𝕄) from BI.bigSep_elim hj) $$ Hp
  iapply (CumB_mono (tgtB d c) d (show k - 1 ≤ j - 1 by omega))
  iexact H
/-- After both signals of the barrier both neighbours' slots are known to be released. -/
theorem cred_bar (c : Dev nD) (d : Bool) : Cred AC BC c .bar 2 ⊢ (InitA (tgtA d c) d : sProp 𝕄) := by
  unfold Cred
  iintro ⟨%T, %hT, -, Hp⟩
  have hT2 : T = Finset.range 2 := by
    have h0 : (Finset.range 2 \ T).card = 0 := by have := hT.2; simp only [nD'] at this; omega
    exact Finset.Subset.antisymm hT.1 (Finset.sdiff_eq_empty_iff_subset.mp (Finset.card_eq_zero.mp h0))
  have hm : d.toNat ∈ T := by rw [hT2]; cases d <;> decide
  ihave H := (show (bigSep T fun j => pay AC BC c .bar 0 j) ⊢ (InitA (tgtA (d.toNat == 1) c) (d.toNat == 1) : sProp 𝕄) from BI.bigSep_elim hm) $$ Hp
  rw [show (d.toNat == 1) = d by cases d <;> rfl]
  iexact H

/-- Both directions' credits of the plane ring waited for: `n` units from the `k`-th on. -/
theorem wp_waitCrA (c : Dev nD) {k n b : ℕ} (w : BitVec 32) (hwn : w.toInt = ((n : ℕ) : ℤ)) (cr : Bool → ℕ →₀ ℕ) (hcr : ∀ d, Idealize.SL.Util.total (cr d) = n)
    (hlt : ∀ d, ∀ i ∈ (cr d).support, i < b) (hb : 0 < b) (hN : b ≤ NI) {O : CellTallies nD τ sig ℕ} (hO : Ab b O)
    {α : Type} {Q : α → sProp 𝕄} {kk : PUnit → KProg F α} :
    iprop(Known AC BC KN SN ∗ cred (tallyOn (kcell (c, .cA false)) (cr false)) ∗ cred (tallyOn (kcell (c, .cA true)) (cr true)) ∗ Ow c O
        ∗ Cred AC BC c (.cA false) k ∗ Cred AC BC c (.cA true) k)
      ⊢ iprop(((Ow c O ∗ Cred AC BC c (.cA false) (k + n) ∗ Cred AC BC c (.cA true) (k + n)) -∗ WP c (kk ⟨⟩) Q) -∗ WP c (waitCrA w >>= kk) Q) := by
  unfold waitCrA semWaitWord
  simp only [Prog.lift, Prog.bind_op, Prog.bind_ret]
  iintro ⟨#HK, Hc, Hc', HO, HC, HC'⟩ Hk
  iapply (wp_waitC AC BC KN SN c (.cA false) rfl rfl (cr false) (hcr false) (hlt false) hb hN
    (fun K => by rw [hwn]; exact wpE_semWait_eq 𝒱₀ (c : Thread nD τ) none Set.univ K) hO) $$ [Hc HO HC]
  · isplitr; · iexact HK
    isplitl [Hc]; · iexact Hc
    isplitl [HO]; · iexact HO
    iexact HC
  iintro ⟨HO, HC⟩
  iapply (wp_waitC AC BC KN SN c (.cA true) rfl rfl (cr true) (hcr true) (hlt true) hb hN
    (fun K => by rw [hwn]; exact wpE_semWait_eq 𝒱₀ (c : Thread nD τ) none Set.univ K) hO) $$ [Hc' HO HC']
  · isplitr; · iexact HK
    isplitl [Hc']; · iexact Hc'
    isplitl [HO]; · iexact HO
    iexact HC'
  iintro ⟨HO, HC'⟩
  iapply Hk
  isplitl [HO]; · iexact HO
  isplitl [HC]; · iexact HC
  iexact HC'
@[inherit_doc wp_waitCrA] theorem wp_waitCrB (c : Dev nD) {k b : ℕ} (i : Bool → ℕ) (hlt : ∀ d, i d < b) (hb : 0 < b) (hN : b ≤ NI)
    {O : CellTallies nD τ sig ℕ} (hO : Ab b O)
    {α : Type} {Q : α → sProp 𝕄} {kk : PUnit → KProg F α} :
    iprop(Known AC BC KN SN ∗ cred (tallyAt (kcell (c, .cB false)) (i false) 1) ∗ cred (tallyAt (kcell (c, .cB true)) (i true) 1) ∗ Ow c O
        ∗ Cred AC BC c (.cB false) k ∗ Cred AC BC c (.cB true) k)
      ⊢ iprop(((Ow c O ∗ Cred AC BC c (.cB false) (k + 1) ∗ Cred AC BC c (.cB true) (k + 1)) -∗ WP c (kk ⟨⟩) Q) -∗ WP c (waitCrB >>= kk) Q) := by
  unfold waitCrB semWaitWord
  simp only [Prog.lift, Prog.bind_op, Prog.bind_ret]
  have hs (d : Bool) : ∀ j ∈ (Finsupp.single (i d) 1 : ℕ →₀ ℕ).support, j < b := fun j hj => by
    rw [Finset.mem_singleton.mp (Finsupp.support_single_subset hj)]; exact hlt d
  iintro ⟨#HK, Hc, Hc', HO, HC, HC'⟩ Hk
  iapply (wp_waitC AC BC KN SN c (.cB false) rfl rfl (Finsupp.single (i false) 1) (Idealize.SL.Util.total_single ..) (hs false) hb hN
    (fun K => wpE_semWait_eq 𝒱₀ (c : Thread nD τ) none Set.univ K) hO) $$ [Hc HO HC]
  · isplitr; · iexact HK
    isplitl [Hc]; · iexact Hc
    isplitl [HO]; · iexact HO
    iexact HC
  iintro ⟨HO, HC⟩
  iapply (wp_waitC AC BC KN SN c (.cB true) rfl rfl (Finsupp.single (i true) 1) (Idealize.SL.Util.total_single ..) (hs true) hb hN
    (fun K => wpE_semWait_eq 𝒱₀ (c : Thread nD τ) none Set.univ K) hO) $$ [Hc' HO HC']
  · isplitr; · iexact HK
    isplitl [Hc']; · iexact Hc'
    isplitl [HO]; · iexact HO
    iexact HC'
  iintro ⟨HO, HC'⟩
  iapply Hk
  isplitl [HO]; · iexact HO
  isplitl [HC]; · iexact HC
  iexact HC'

/-! ## Signals -/

/-- A unit paid to a cell of single units: duty `j` of it with its payload. -/
theorem wp_sig (c w : Dev nD) (x : Cl) (s : Sem sig) (hs : semOf x = .reg s) {j ι : ℕ} (hR : nR x = 1) (ha : amt x = 1) (hj : j < nD' x)
    (O : CellTallies nD τ sig ℕ)
    {α : Type} {Q : α → sProp 𝕄} {k : PUnit → KProg F α} :
    iprop(Known AC BC KN SN ∗ Ow c (O + tallyAt (kcell (w, x)) ι 1) ∗ dutyTok ER (kcell (w, x)) 0 j ∗ pay AC BC w x 0 j)
      ⊢ iprop((Ow c O -∗ WP c (k ⟨⟩) Q) -∗ WP c (semSignalWord w s 1#32 >>= k) Q) := by
  have hr : 0 < nR x := by omega
  unfold WP Ow semSignalWord
  simp only [Prog.lift, Prog.bind_op, Prog.bind_ret]
  have hg : ((w : Thread nD τ), SemLoc.reg s) = kcell (w, x) := by unfold kcell; rw [hs]
  iintro ⟨#HK, ⟨%W, HO⟩, Ht, Hp⟩ Hk
  iapply (Rounds.wp_signal 𝒱₀ ER (Rd AC BC) (c : Thread nD τ) none (dst := (w : Thread nD τ)) (κ := KN (w, x)) (r := 0)
      (d := j) (by rw [hg, Rd_duties AC BC (w, x) hr]; exact Finset.mem_range.mpr hj)
      (by rw [hg, Rd_amount AC BC (w, x)]; exact ha.trans (by decide)) ι O (by rw [hg]) (W := W)) $$ [HO Ht Hp]
  · rw [hg]
    isplitr
    · iapply (known_cell AC BC KN SN (w, x)); iexact HK
    isplitl [HO]; · iexact HO
    isplitl [Ht]; · iexact Ht
    isplitl [Hp]
    · iapply (Entails.of_eq (Rd_payload AC BC (w, x) 0 j).symm); iexact Hp
    iapply (known_reached AC BC KN SN (w, x)); iexact HK
  iintro HO
  iapply Hk
  iexists W; iexact HO

/-- Both directions' releases after plane hop `h`. -/
theorem wp_giveA (c : Dev nD) {h : ℕ} (hh : h < 12) (O : CellTallies nD τ sig ℕ) {α : Type} {Q : α → sProp 𝕄} {k : PUnit → KProg F α} :
    iprop(Known AC BC KN SN ∗ Ow c (O + owG c h true + owG c h false)
        ∗ dutyTok ER (kcell (tgtA true c, .cA false)) 0 h ∗ dutyTok ER (kcell (tgtA false c, .cA true)) 0 h
        ∗ CumA c false (h + 1) ∗ CumA c true (h + 1))
      ⊢ iprop((Ow c O -∗ WP c (k ⟨⟩) Q) -∗ WP c (giveA c >>= k) Q) := by
  unfold giveA owG unitA
  rw [if_pos hh]
  simp only [Prog.bind_assoc]
  iintro ⟨#HK, HO, Ht, Ht', Hc, Hc'⟩ Hk
  iapply (wp_sig AC BC KN SN c (tgtA true c) (.cA false) _ rfl rfl rfl hh (O + tallyAt (kcell (tgtA (!true) c, .cA true)) (posA h (4 + true.toNat)) 1)
    (ι := posA h (4 + false.toNat))) $$ [HO Ht Hc]
  · isplitr; · iexact HK
    isplitl [HO]; · iexact HO
    isplitl [Ht]; · iexact Ht
    iapply (Entails.of_eq (show CumA c false (h + 1) = (pay AC BC (tgtA true c) (.cA false) 0 h : sProp 𝕄) by
      show _ = (CumA (tgtA false (tgtA (!false) c)) false (h + 1) : sProp 𝕄)
      rw [tgtA_tgtA]))
    iexact Hc
  iintro HO
  iapply (wp_sig AC BC KN SN c (tgtA false c) (.cA true) _ rfl rfl rfl hh O (ι := posA h (4 + true.toNat))) $$ [HO Ht' Hc']
  · isplitr; · iexact HK
    isplitl [HO]; · iexact HO
    isplitl [Ht']; · iexact Ht'
    iapply (Entails.of_eq (show CumA c true (h + 1) = (pay AC BC (tgtA false c) (.cA true) 0 h : sProp 𝕄) by
      show _ = (CumA (tgtA true (tgtA (!true) c)) true (h + 1) : sProp 𝕄)
      rw [tgtA_tgtA]))
    iexact Hc'
  iexact Hk
/-- Both directions' releases after hop `b` across planes. -/
theorem wp_giveB (c : Dev nD) {b : ℕ} (hb : b < 4) (O : CellTallies nD τ sig ℕ) {α : Type} {Q : α → sProp 𝕄} {k : PUnit → KProg F α} :
    iprop(Known AC BC KN SN ∗ Ow c (O + owGB c b true + owGB c b false)
        ∗ dutyTok ER (kcell (tgtB true c, .cB false)) 0 (b + 2) ∗ dutyTok ER (kcell (tgtB false c, .cB true)) 0 (b + 2)
        ∗ CumB c false (b + 1) ∗ CumB c true (b + 1))
      ⊢ iprop((Ow c O -∗ WP c (k ⟨⟩) Q) -∗ WP c (giveB c 1#32 >>= k) Q) := by
  unfold giveB owGB unitB
  rw [if_pos hb]
  simp only [Prog.bind_assoc]
  have hb2 : b + 2 < 6 := by omega
  iintro ⟨#HK, HO, Ht, Ht', Hc, Hc'⟩ Hk
  iapply (wp_sig AC BC KN SN c (tgtB true c) (.cB false) _ rfl rfl rfl hb2 (O + tallyAt (kcell (tgtB (!true) c, .cB true)) (posB b (2 + true.toNat)) 1)
    (ι := posB b (2 + false.toNat))) $$ [HO Ht Hc]
  · isplitr; · iexact HK
    isplitl [HO]; · iexact HO
    isplitl [Ht]; · iexact Ht
    iapply (Entails.of_eq (show CumB c false (b + 1) = (pay AC BC (tgtB true c) (.cB false) 0 (b + 2) : sProp 𝕄) by
      show _ = (CumB (tgtB false (tgtB (!false) c)) false (b + 2 - 1) : sProp 𝕄)
      rw [tgtB_tgtB]; rfl))
    iexact Hc
  iintro HO
  iapply (wp_sig AC BC KN SN c (tgtB false c) (.cB true) _ rfl rfl rfl hb2 O (ι := posB b (2 + true.toNat))) $$ [HO Ht' Hc']
  · isplitr; · iexact HK
    isplitl [HO]; · iexact HO
    isplitl [Ht']; · iexact Ht'
    iapply (Entails.of_eq (show CumB c true (b + 1) = (pay AC BC (tgtB false c) (.cB true) 0 (b + 2) : sProp 𝕄) by
      show _ = (CumB (tgtB true (tgtB (!true) c)) true (b + 2 - 1) : sProp 𝕄)
      rw [tgtB_tgtB]; rfl))
    iexact Hc'
  iexact Hk

/-- Two units in one signal: duties 0 and 1 together. -/
theorem wp_sig2 (c w : Dev nD) (d : Bool) {ι : ℕ} (O : CellTallies nD τ sig ℕ)
    {α : Type} {Q : α → sProp 𝕄} {k : PUnit → KProg F α} :
    iprop(Known AC BC KN SN ∗ Ow c (O + tallyAt (kcell (w, .cB d)) ι 2) ∗ dutyTok ER (kcell (w, .cB d)) 0 0 ∗ dutyTok ER (kcell (w, .cB d)) 0 1
        ∗ CumB (tgtB d w) d 0)
      ⊢ iprop((Ow c O -∗ WP c (k ⟨⟩) Q) -∗ WP c (semSignalWord w (credB d).sem 2#32 >>= k) Q) := by
  have hm (j : ℕ) (hj : j < nD' (.cB d)) : j ∈ (Rd AC BC).duties (kcell (w, .cB d)) 0 := by
    rw [Rd_duties AC BC (w, .cB d) (show 0 < 1 by decide)]; exact Finset.mem_range.mpr hj
  unfold WP Ow semSignalWord
  simp only [Prog.lift, Prog.bind_op, Prog.bind_ret]
  iintro ⟨#HK, ⟨%W, HO⟩, Ht, Ht', #Hp⟩ Hk
  iapply (wp_semSignal 𝒱₀ (c : Thread nD τ) none Set.univ (dst := (w : Thread nD τ)) ι O rfl) $$ HO [Ht Ht']
  · rw [landingUpdate_def]
    iintro -
    iapply (raise_roundState ER (Rd AC BC) (κ := KN (w, .cB d)) (g := kcell (w, .cB d))
      (X := iprop(dutyTok ER (kcell (w, .cB d)) 0 0 ∗ dutyTok ER (kcell (w, .cB d)) 0 1 ∗ CumB (tgtB d w) d 0 ∗ reached ER (kcell (w, .cB d)) 0)) (Y := iprop(emp))
      ?hX ?hD fun v => ?land)
    case hX =>
      iintro ⟨H, ⟨Ht, -, -, Hr⟩⟩
      iapply (closed_dutyTok_false ER (Rd AC BC) (hm 0 (show 0 < 6 by decide)))
      isplitl [H]; · iexact H
      isplitl [Ht]; · iexact Ht
      iexact Hr
    case hD =>
      iintro ⟨H, ⟨-, -, -, Hr⟩⟩
      iapply (dormant_reached_false ER (Rd AC BC))
      isplitl [H]; · iexact H
      iexact Hr
    case land =>
      iintro ⟨Hst, ⟨Ht, Ht', #Hc, #Hr⟩⟩
      imod (roundState_land ER (Rd AC BC) (hm 0 (show 0 < 6 by decide))) $$ [Hst Ht] with Hst
      · isplitl [Hst]; · iexact Hst
        isplitl [Ht]; · iexact Ht
        isplitr
        · rw [Rd_payload AC BC (w, .cB d)]
          iapply (Entails.of_eq (show CumB (tgtB d w) d 0 = (pay AC BC w (.cB d) 0 0 : sProp 𝕄) from rfl)); iexact Hc
        iexact Hr
      imod (roundState_land ER (Rd AC BC) (hm 1 (show 1 < 6 by decide))) $$ [Hst Ht'] with Hst
      · isplitl [Hst]; · iexact Hst
        isplitl [Ht']; · iexact Ht'
        isplitr
        · rw [Rd_payload AC BC (w, .cB d)]
          iapply (Entails.of_eq (show CumB (tgtB d w) d 0 = (pay AC BC w (.cB d) 0 1 : sProp 𝕄) from rfl)); iexact Hc
        iexact Hr
      imodintro
      isplitl [Hst]
      · rw [Rd_amount AC BC (w, .cB d), Rd_amount AC BC (w, .cB d)]
        iexact Hst
      iempintro
    isplitr
    · iapply (known_cell AC BC KN SN (w, .cB d)); iexact HK
    isplitl [Ht]; · iexact Ht
    isplitl [Ht']; · iexact Ht'
    isplitr; · iexact Hp
    iapply (known_reached AC BC KN SN (w, .cB d)); iexact HK
  iintro HO
  iapply Hk
  iexists W; iexact HO

end Cert.KProof

end
-- ==== Proof.Mem.lean ====
/-
  The loads and stores of the kernel's body over what the device holds: the halves of the plane ring's slots, the slots
  of the ring across planes, and the two-dimensional buffers, of which it is known where they already hold what they will
  hold in the end.
-/
module

public import proofs.«01_k».proof.Proof.Steps
public import Idealize.ShloMosaic.Lib.ViewIndex

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.SiteBlocks (L lv mem_L mem_L' mayWait_of)

variable {F : FTy → Type} [FloatOps F]

local notation "𝕄" => MT nD τ sig ℕ (Elt F) ℕ UU ℕ

/-! ## Any memref held with its contents -/

section generic
variable {s : Shape} {e : EltTy} {sp : CoreSpace}

/-- A load from what is held. -/
theorem wp_loadO (c : Dev nD) (m : Memref sig .tc sp s e) (r : Rect s) {hl : m.view.LoadsAt r.toLoadRect} {q : PosShare TreeShare} (X : s.Idx → Elt F e)
    {α : Type} {Q : α → sProp 𝕄} {k : (r.shape.Idx → Elt F e) → KProg F α} :
    (owns (c : Thread nD τ) m q X : sProp 𝕄)
      ⊢ iprop((owns (c : Thread nD τ) m q X -∗ WP c (k fun j => X (r.emb j)) Q) -∗ WP c (.op (.load m r.toLoadRect hl) k) Q) := by
  unfold WP owns
  iintro ⟨%f, %hf, H⟩ Hk
  iapply (wp_load_rect 𝒱₀ (c : Thread nD τ) none Set.univ (m := m) (r := r) (hl := hl) (q := q) (f := f) (View.set_slice_subset _ r)) $$ H
  iintro H
  rw [show (m.access r).read (Elt F) f = fun j => X (r.emb j) from by rw [← hf]; rfl]
  iapply Hk
  iexists f
  isplitr; · ipureintro; exact hf
  iexact H

/-- What is held agrees with `T` on `D`. -/
def Agr (c : Dev nD) (m : Memref sig .tc sp s e) (T : s.Idx → Elt F e) (D : Set s.Idx) : sProp 𝕄 :=
  iprop(∃ X, ⌜∀ i ∈ D, X i = T i⌝ ∗ owns (c : Thread nD τ) m fullShare X)

theorem Agr_start (c : Dev nD) (m : Memref sig .tc sp s e) (T : s.Idx → Elt F e) (X : s.Idx → Elt F e) :
    (owns (c : Thread nD τ) m fullShare X : sProp 𝕄) ⊢ Agr c m T ∅ := by
  unfold Agr
  iintro H; iexists X
  isplitr; · ipureintro; exact fun i hi => absurd hi (Set.notMem_empty i)
  iexact H
theorem Agr_all (c : Dev nD) (m : Memref sig .tc sp s e) (T : s.Idx → Elt F e) {D : Set s.Idx} (hD : ∀ i, i ∈ D) :
    Agr c m T D ⊢ (owns (c : Thread nD τ) m fullShare T : sProp 𝕄) := by
  unfold Agr
  iintro ⟨%X, %hX, H⟩
  rw [show X = T from funext fun i => hX i (hD i)]
  iexact H

/-- A load inside what agrees. -/
theorem wp_loadA (c : Dev nD) (m : Memref sig .tc sp s e) (r : Rect s) {hl : m.view.LoadsAt r.toLoadRect} (T : s.Idx → Elt F e) {D : Set s.Idx}
    (hD : ∀ j, r.emb j ∈ D) {α : Type} {Q : α → sProp 𝕄} {k : (r.shape.Idx → Elt F e) → KProg F α} :
    (Agr c m T D : sProp 𝕄)
      ⊢ iprop((Agr c m T D -∗ WP c (k fun j => T (r.emb j)) Q) -∗ WP c (.op (.load m r.toLoadRect hl) k) Q) := by
  unfold Agr
  iintro ⟨%X, %hX, H⟩ Hk
  iapply (wp_loadO c m r X) $$ H
  iintro H
  rw [show (fun j => X (r.emb j)) = fun j => T (r.emb j) from funext fun j => hX _ (hD j)]
  iapply Hk
  iexists X
  isplitr; · ipureintro; exact hX
  iexact H

/-- A load whose value is not used, and the store over the same rectangle, of what `T` has there. -/
theorem wp_storeA (c : Dev nD) (m : Memref sig .tc sp s e) (r : Rect s) {hl : m.view.LoadsAt r.toLoadRect} (T : s.Idx → Elt F e) (D : Set s.Idx)
    (w : r.shape.Idx → Elt F e) (hw : w = fun j => T (r.emb j)) {hx : (m.access r).Stores Finset.univ}
    {hm : (Finset.univ : Finset r.shape.Idx) = Finset.univ ∨ ∀ a, r.stride a = 1}
    {α : Type} {Q : α → sProp 𝕄} {k : PUnit → KProg F α} :
    (Agr c m T D : sProp 𝕄)
      ⊢ iprop((Agr c m T (D ∪ Set.range r.emb) -∗ WP c (k ⟨⟩) Q)
        -∗ WP c (.op (.load m r.toLoadRect hl) fun _ => .op (.store m r w Finset.univ hx hm) k) Q) := by
  unfold Agr
  iintro ⟨%X, %hX, H⟩ Hk
  iapply (wp_loadO c m r X) $$ H
  iintro H
  unfold owns
  icases H with ⟨%f, %hf, H⟩
  iapply (wp_store 𝒱₀ (c : Thread nD τ) none Set.univ (m := m) (r := r) (w := w) (f := f) (S := m.view.set)
    (by rw [View.setOn_univ]; exact View.set_slice_subset _ r)) $$ H
  iintro H
  iapply Hk
  iexists (m.view.read (Elt F) ((m.access r).write (Elt F) f w Finset.univ))
  isplitr
  · ipureintro
    intro i hi
    by_cases h : i ∈ Set.range r.emb
    · obtain ⟨j, rfl⟩ := h
      rw [View.read_slice_write_emb r f w (Finset.mem_univ j), hw]
    · rw [View.read_slice_write_of_not_mem r f w Finset.univ (fun hm => h (by
        obtain ⟨j, -, rfl⟩ := Finset.mem_map.mp hm; exact ⟨j, rfl⟩)), hf]
      exact hX i (hi.resolve_right h)
  iexists _
  isplitr; · ipureintro; rfl
  iexact H

/-- A load through the whole buffer of a part held as a squeezed slice of it. -/
theorem wp_loadQ (c : Dev nD) (m : Memref sig .tc sp s e) (r : Rect s) (hu : ∀ a, r.stride a = 1) {s' : Shape} (hq : r.shape.Squeezes s')
    {hl : m.view.LoadsAt r.toLoadRect} {q : PosShare TreeShare} (X : s'.Idx → Elt F e)
    {α : Type} {Q : α → sProp 𝕄} {k : (r.shape.Idx → Elt F e) → KProg F α} :
    (owns (c : Thread nD τ) ((m.slice r hu).squeeze s' hq) q X : sProp 𝕄)
      ⊢ iprop((owns (c : Thread nD τ) ((m.slice r hu).squeeze s' hq) q X -∗ WP c (k fun j => X (Shape.reshapeEquiv hq.numel_eq.symm j)) Q)
        -∗ WP c (.op (.load m r.toLoadRect hl) k) Q) := by
  unfold WP owns
  iintro ⟨%f, %hf, H⟩ Hk
  iapply (wp_load_rect 𝒱₀ (c : Thread nD τ) none Set.univ (m := m) (r := r) (hl := hl) (q := q) (f := f)
    (S := ((m.slice r hu).squeeze s' hq).view.set) (by
      show _ ⊆ ((m.view.slice r).reshape s' hq.numel_eq).set
      rw [View.set_reshape])) $$ H
  iintro H
  rw [show (m.access r).read (Elt F) f = fun j => X (Shape.reshapeEquiv hq.numel_eq.symm j) from by
    rw [← hf]
    funext j
    show _ = (m.access r).read (Elt F) f (Shape.reshapeEquiv hq.numel_eq (Shape.reshapeEquiv hq.numel_eq.symm j))
    rw [Shape.reshapeEquiv_reshapeEquiv, Shape.reshapeEquiv_self]]
  iapply Hk
  iexists f
  isplitr; · ipureintro; exact hf
  iexact H

/-- A load whose value is not used, and the store, over a part held as a squeezed slice. -/
theorem wp_storeQ (c : Dev nD) (m : Memref sig .tc sp s e) (r : Rect s) (hu : ∀ a, r.stride a = 1) {s' : Shape} (hq : r.shape.Squeezes s')
    {hl : m.view.LoadsAt r.toLoadRect} (w : r.shape.Idx → Elt F e) {hx : (m.access r).Stores Finset.univ}
    {hm : (Finset.univ : Finset r.shape.Idx) = Finset.univ ∨ ∀ a, r.stride a = 1}
    {α : Type} {Q : α → sProp 𝕄} {k : PUnit → KProg F α} :
    (slot (((m.slice r hu).squeeze s' hq).view.loc (c : Thread nD τ)) ((m.slice r hu).squeeze s' hq).view.set : sProp 𝕄)
      ⊢ iprop((owns (c : Thread nD τ) ((m.slice r hu).squeeze s' hq) fullShare (fun i => w (Shape.reshapeEquiv hq.numel_eq i)) -∗ WP c (k ⟨⟩) Q)
        -∗ WP c (.op (.load m r.toLoadRect hl) fun _ => .op (.store m r w Finset.univ hx hm) k) Q) := by
  unfold WP owns slot
  have hset : (m.access r).set ⊆ ((m.slice r hu).squeeze s' hq).view.set := by
      show _ ⊆ ((m.view.slice r).reshape s' hq.numel_eq).set
      rw [View.set_reshape]
  iintro ⟨%f, H⟩ Hk
  iapply (wp_load_rect 𝒱₀ (c : Thread nD τ) none Set.univ (m := m) (r := r) (hl := hl) (q := fullShare) (f := f)
    (S := ((m.slice r hu).squeeze s' hq).view.set) hset) $$ H
  iintro H
  iapply (wp_store 𝒱₀ (c : Thread nD τ) none Set.univ (m := m) (r := r) (w := w) (f := f) (S := ((m.slice r hu).squeeze s' hq).view.set)
    (by rw [View.setOn_univ]; exact hset)) $$ H
  iintro H
  iapply Hk
  iexists _
  isplitr
  · ipureintro
    funext i
    show (m.access r).read (Elt F) ((m.access r).write (Elt F) f w Finset.univ) (Shape.reshapeEquiv hq.numel_eq i) = _
    rw [View.read_write_univ]
  iexact H
end generic

/-! ## The kernel's steps -/

theorem dnH_upH (X : FVec F S256x1024 .bf16) : dnH (upH X) = X := by
  funext j
  show X (Shape.reshapeEquiv _ (Shape.reshapeEquiv _ j)) = X j
  rw [Shape.reshapeEquiv_reshapeEquiv, Shape.reshapeEquiv_self]
theorem dnP_upP (X : FVec F S128x1024 .bf16) : dnP (upP X) = X := by
  funext j
  show X (Shape.reshapeEquiv _ (Shape.reshapeEquiv _ j)) = X j
  rw [Shape.reshapeEquiv_reshapeEquiv, Shape.reshapeEquiv_self]

theorem wp_loadH (c : Dev nD) (M : Memref sig .tc .vmem S2x512x1024 .bf16) (p u : Fin 2) (X : FVec F S256x1024 .bf16)
    {α : Type} {Q : α → sProp 𝕄} {k : Vec F S1x256x1024 .bf16 → KProg F α} :
    (ownH M p u c X : sProp 𝕄) ⊢ iprop((ownH M p u c X -∗ WP c (k (upH X)) Q) -∗ WP c (loadH M p u >>= k) Q) := by
  unfold loadH
  simp only [Prog.lift, Prog.bind_op, Prog.bind_ret]
  exact wp_loadQ c M (rH p u) (fun _ => rfl) squeezes_S1x256x1024_S256x1024 X
theorem wp_loadP (c : Dev nD) (M : Memref sig .tc .vmem S2x128x1024 .bf16) (p : Fin 2) (X : FVec F S128x1024 .bf16)
    {α : Type} {Q : α → sProp 𝕄} {k : Vec F S1x128x1024 .bf16 → KProg F α} :
    (ownP M p c X : sProp 𝕄) ⊢ iprop((ownP M p c X -∗ WP c (k (upP X)) Q) -∗ WP c (loadP M p >>= k) Q) := by
  unfold loadP
  simp only [Prog.lift, Prog.bind_op, Prog.bind_ret]
  exact wp_loadQ c M (rP p) (fun _ => rfl) squeezes_S1x128x1024_S128x1024 X
theorem wp_storeH (c : Dev nD) (d : Bool) (p u : Fin 2) (X : FVec F S256x1024 .bf16)
    {α : Type} {Q : α → sProp 𝕄} {k : PUnit → KProg F α} :
    (anyH (stA d) p u c : sProp 𝕄) ⊢ iprop((ownH (stA d) p u c X -∗ WP c (k ⟨⟩) Q) -∗ WP c (storeH d p u (upH X) >>= k) Q) := by
  unfold storeH loadH
  simp only [Prog.lift, Prog.bind_op, Prog.bind_ret]
  have h := wp_storeQ c (stA d) (rH p u) (fun _ => rfl) squeezes_S1x256x1024_S256x1024 (upH X)
    (hl := View.loadsAt_vmem h_S1x256x1024) (hx := View.stores_vmem h_S1x256x1024 ((wholeA d).1.storeExact_slice rfl _ (packedH p u)) (fun _ => rfl)) (hm := .inl rfl) (Q := Q) (k := k)
  rw [show (fun i => upH X (Shape.reshapeEquiv squeezes_S1x256x1024_S256x1024.numel_eq i)) = X from dnH_upH X] at h
  exact h
theorem wp_storeP (c : Dev nD) (d : Bool) (p : Fin 2) (X : FVec F S128x1024 .bf16)
    {α : Type} {Q : α → sProp 𝕄} {k : PUnit → KProg F α} :
    (anyP (stB d) p c : sProp 𝕄) ⊢ iprop((ownP (stB d) p c X -∗ WP c (k ⟨⟩) Q) -∗ WP c (storeP d p (upP X) >>= k) Q) := by
  unfold storeP loadP
  simp only [Prog.lift, Prog.bind_op, Prog.bind_ret]
  have h := wp_storeQ c (stB d) (rP p) (fun _ => rfl) squeezes_S1x128x1024_S128x1024 (upP X)
    (hl := View.loadsAt_vmem h_S1x128x1024) (hx := View.stores_vmem h_S1x128x1024 ((wholeB d).1.storeExact_slice rfl _ (packedP p)) (fun _ => rfl)) (hm := .inl rfl) (Q := Q) (k := k)
  rw [show (fun i => upP X (Shape.reshapeEquiv squeezes_S1x128x1024_S128x1024.numel_eq i)) = X from dnP_upP X] at h
  exact h

/-! ### A whole slot of the plane ring -/

/-- Half `u` of a whole slot's value. -/
def hfV (u : Fin 2) (v : FVec F S512x1024 .bf16) : FVec F S256x1024 .bf16 := extractStridedSlice S256x1024 ![256 * u.val, 0] v (slicesU u)

theorem slot_cover : rS.set ⊆ (rH 0 0).set ∪ (rH 0 1).set := by
  intro i hi
  have h := Rect.mem_set_unit.mp hi
  rw [Finset.mem_union, Rect.mem_set_unit, Rect.mem_set_unit]
  have h0 := h 0; have h1 := h 1; have h2 := h 2
  simp only [S2x512x1024, S1x512x1024, S1x256x1024, Matrix.cons_val_zero, Matrix.cons_val_one, Matrix.cons_val] at h0 h1 h2 ⊢
  by_cases hlt : (i 1).val < 256
  · left
    intro a
    fin_cases a
    · exact ⟨Nat.zero_le _, h0.2⟩
    · exact ⟨Nat.zero_le _, hlt⟩
    · exact ⟨Nat.zero_le _, h2.2⟩
  · right
    intro a
    fin_cases a
    · exact ⟨Nat.zero_le _, h0.2⟩
    · exact ⟨Nat.le_of_not_lt hlt, h1.2⟩
    · exact ⟨Nat.zero_le _, h2.2⟩
theorem halves_disjoint : Disjoint (rH 0 0).set (rH 0 1).set := by
  rw [Finset.disjoint_left]
  intro i hi hi'
  have h := (Rect.mem_set_unit.mp hi 1).2
  have h' := (Rect.mem_set_unit.mp hi' 1).1
  exact absurd (lt_of_le_of_lt h' h) (by decide)
theorem emb_half (u : Fin 2) (j : S256x1024.Idx) :
    (rH 0 u).emb (Shape.reshapeEquiv squeezes_S1x256x1024_S256x1024.numel_eq j)
      = rS.emb (Shape.reshapeEquiv (s := S1x512x1024) shapeCasts_S1x512x1024_S512x1024
          (fun a => ⟨(![256 * u.val, 0] : Fin 2 → ℕ) a + (j a).val, by
            have := (j a).isLt; have hu := u.isLt; revert this; fin_cases a <;> simp [S256x1024, S512x1024] <;> omega⟩ : S512x1024.Idx)) := by
  rw [Shape.reshapeEquiv_cons_one, Shape.reshapeEquiv_cons_one]
  funext a
  apply Fin.ext
  rw [Rect.emb_apply, Rect.emb_apply]
  fin_cases a
  · rfl
  · show 256 * u.val + 1 * (j 0).val = 0 + 1 * (256 * u.val + (j 0).val); omega
  · show 0 + 1 * (j 1).val = 0 + 1 * (0 + (j 1).val); omega

theorem wp_storeSG (c : Dev nD) (m : Memref sig .tc .vmem S2x512x1024 .bf16) (v : FVec F S512x1024 .bf16)
    {hl : m.view.LoadsAt rS.toLoadRect} {hx : (m.access rS).Stores Finset.univ}
    {hm : (Finset.univ : Finset rS.shape.Idx) = Finset.univ ∨ ∀ a, rS.stride a = 1} {α : Type} {Q : α → sProp 𝕄} {k : PUnit → KProg F α} :
    iprop(anyH m 0 0 c ∗ anyH m 0 1 c)
      ⊢ iprop(((ownH m 0 0 c (hfV 0 v) ∗ ownH m 0 1 c (hfV 1 v)) -∗ WP c (k ⟨⟩) Q)
        -∗ WP c (.op (.load m rS.toLoadRect hl) fun _ => .op (.store m rS (upS v) Finset.univ hx hm) k) Q) := by
  unfold WP
  have hset (u : Fin 2) : (halfM m 0 u).view.set = (m.view.slice (rH 0 u)).set := View.set_reshape ..
  have hdis : Disjoint (halfM m 0 0).view.set (halfM m 0 1).view.set := by
    rw [hset, hset]; exact View.disjoint_slice halves_disjoint
  have hsub : (m.access rS).set ⊆ (halfM m 0 0).view.set ∪ (halfM m 0 1).view.set := by
    rw [hset, hset, View.set_slice, View.set_slice, View.set_slice, ← Finset.map_union]
    exact Finset.map_subset_map.mpr slot_cover
  unfold anyH slot
  iintro ⟨⟨%f, H⟩, ⟨%g, H'⟩⟩ Hk
  ihave H := (show iprop(((halfM m 0 0).view.loc (c : Thread nD τ) ↦[(halfM m 0 0).view.set]{fullShare} f) ∗ ((halfM m 0 0).view.loc (c : Thread nD τ) ↦[(halfM m 0 1).view.set]{fullShare} g))
    ⊢ (((halfM m 0 0).view.loc (c : Thread nD τ) ↦[(halfM m 0 0).view.set ∪ (halfM m 0 1).view.set]{fullShare} _) : sProp 𝕄) from pointsTo_join hdis) $$ [H H']
  · isplitl [H]; · iexact H
    iexact H'
  iapply (wp_load_rect 𝒱₀ (c : Thread nD τ) none Set.univ (m := m) (r := rS) (q := fullShare)
    (S := (halfM m 0 0).view.set ∪ (halfM m 0 1).view.set) hsub) $$ H
  iintro H
  iapply (wp_store 𝒱₀ (c : Thread nD τ) none Set.univ (m := m) (r := rS) (S := (halfM m 0 0).view.set ∪ (halfM m 0 1).view.set)
    (by rw [View.setOn_univ]; exact hsub)) $$ H
  iintro H
  generalize Finset.piecewise _ g f = f₀
  have hread (u : Fin 2) : (halfM m 0 u).view.read (Elt F) ((m.access rS).write (Elt F) f₀ (upS v) Finset.univ) = hfV u v := by
    funext j
    show m.view.read (Elt F) ((m.access rS).write (Elt F) f₀ (upS v) Finset.univ) ((rH 0 u).emb (Shape.reshapeEquiv squeezes_S1x256x1024_S256x1024.numel_eq j)) = _
    rw [emb_half]
    refine (View.read_slice_write_emb (Val := Elt F) (v := m.view) rS f₀ (upS v) (Finset.mem_univ _)).trans ?_
    show v (Shape.reshapeEquiv _ (Shape.reshapeEquiv _ _)) = _
    rw [Shape.reshapeEquiv_reshapeEquiv, Shape.reshapeEquiv_self]
    rfl
  ihave H := (pointsTo_union hdis).1 $$ H
  icases H with ⟨H, H'⟩
  iapply Hk
  unfold ownH owns
  isplitl [H]
  · iexists _
    isplitr; · ipureintro; exact hread 0
    iexact H
  iexists _
  isplitr; · ipureintro; exact hread 1
  iexact H'

/-- A whole slot stored is its two halves stored. -/
theorem wp_storeS (c : Dev nD) (d : Bool) (v : FVec F S512x1024 .bf16) {α : Type} {Q : α → sProp 𝕄} {k : PUnit → KProg F α} :
    iprop(anyH (stA d) 0 0 c ∗ anyH (stA d) 0 1 c)
      ⊢ iprop(((ownH (stA d) 0 0 c (hfV 0 v) ∗ ownH (stA d) 0 1 c (hfV 1 v)) -∗ WP c (k ⟨⟩) Q) -∗ WP c (storeS d (upS v) >>= k) Q) := by
  unfold storeS
  simp only [Prog.lift, Prog.bind_op, Prog.bind_ret]
  exact wp_storeSG c (stA d) v

/-! ### The two-dimensional buffers -/

theorem wp_loadX (c : Dev nD) (d : Bool) (s : Fin 7) {q : PosShare TreeShare} (X : Vec F S4096x128 .fp8e4m3)
    {α : Type} {Q : α → sProp 𝕄} {k : Vec F S512x128 .fp8e4m3 → KProg F α} :
    (owns (c : Thread nD τ) xM q X : sProp 𝕄)
      ⊢ iprop((owns (c : Thread nD τ) xM q X -∗ WP c (k fun j => X ((rX d c s).emb j)) Q) -∗ WP c (loadX d c s >>= k) Q) := by
  unfold loadX
  simp only [Prog.lift, Prog.bind_op, Prog.bind_ret]
  exact wp_loadO c xM (rX d c s) X
theorem wp_loadX0 (c : Dev nD) {q : PosShare TreeShare} (X : Vec F S4096x128 .fp8e4m3)
    {α : Type} {Q : α → sProp 𝕄} {k : Vec F S512x128 .fp8e4m3 → KProg F α} :
    (owns (c : Thread nD τ) xM q X : sProp 𝕄)
      ⊢ iprop((owns (c : Thread nD τ) xM q X -∗ WP c (k fun j => X ((rX0 c).emb j)) Q) -∗ WP c (loadX0 c >>= k) Q) := by
  unfold loadX0
  simp only [Prog.lift, Prog.bind_op, Prog.bind_ret]
  exact wp_loadO c xM (rX0 c) X
theorem wp_loadW (c : Dev nD) (d : Bool) {q : PosShare TreeShare} (X : Vec F S128x2048 .fp8e5m2)
    {α : Type} {Q : α → sProp 𝕄} {k : Vec F S128x1024 .fp8e5m2 → KProg F α} :
    (owns (c : Thread nD τ) wM q X : sProp 𝕄)
      ⊢ iprop((owns (c : Thread nD τ) wM q X -∗ WP c (k fun j => X ((rW d).emb j)) Q) -∗ WP c (loadW d >>= k) Q) := by
  unfold loadW
  simp only [Prog.lift, Prog.bind_op, Prog.bind_ret]
  exact wp_loadO c wM (rW d) X
theorem wp_storePl (c : Dev nD) (d : Bool) (u : Fin 2) (T : Vec F S512x1024 .bf16) (D : Set S512x1024.Idx) (w : Vec F S256x1024 .bf16)
    (hw : w = fun j => T ((rPl u).emb j)) {α : Type} {Q : α → sProp 𝕄} {k : PUnit → KProg F α} :
    (Agr c (plM d) T D : sProp 𝕄)
      ⊢ iprop((Agr c (plM d) T (D ∪ Set.range (rPl u).emb) -∗ WP c (k ⟨⟩) Q) -∗ WP c (storePl d u w >>= k) Q) := by
  unfold storePl
  simp only [Prog.lift, Prog.bind_op, Prog.bind_ret]
  exact wp_storeA c (plM d) (rPl u) T D w hw
theorem wp_loadPl0 (c : Dev nD) (d : Bool) (X : Vec F S512x1024 .bf16) {α : Type} {Q : α → sProp 𝕄} {k : Vec F S128x1024 .bf16 → KProg F α} :
    (owns (c : Thread nD τ) (plM d) fullShare X : sProp 𝕄)
      ⊢ iprop((owns (c : Thread nD τ) (plM d) fullShare X -∗ WP c (k fun j => X ((rB0 c).emb j)) Q) -∗ WP c (loadPl0 d c >>= k) Q) := by
  unfold loadPl0
  simp only [Prog.lift, Prog.bind_op, Prog.bind_ret]
  exact wp_loadO c (plM d) (rB0 c) X
theorem wp_loadPl (c : Dev nD) (d : Bool) (r : Fin 4) (X : Vec F S512x1024 .bf16) {α : Type} {Q : α → sProp 𝕄} {k : Vec F S128x1024 .bf16 → KProg F α} :
    (owns (c : Thread nD τ) (plM d) fullShare X : sProp 𝕄)
      ⊢ iprop((owns (c : Thread nD τ) (plM d) fullShare X -∗ WP c (k fun j => X ((rB d c r).emb j)) Q) -∗ WP c (loadPl d c r >>= k) Q) := by
  unfold loadPl
  simp only [Prog.lift, Prog.bind_op, Prog.bind_ret]
  exact wp_loadO c (plM d) (rB d c r) X
theorem wp_storeFi (c : Dev nD) (d : Bool) (r : Fin 4) (T : Vec F S512x1024 .bf16) (D : Set S512x1024.Idx) (w : Vec F S128x1024 .bf16)
    (hw : w = fun j => T ((rB d c r).emb j)) {α : Type} {Q : α → sProp 𝕄} {k : PUnit → KProg F α} :
    (Agr c (fiM d) T D : sProp 𝕄)
      ⊢ iprop((Agr c (fiM d) T (D ∪ Set.range (rB d c r).emb) -∗ WP c (k ⟨⟩) Q) -∗ WP c (storeFi d c r w >>= k) Q) := by
  unfold storeFi
  simp only [Prog.lift, Prog.bind_op, Prog.bind_ret]
  exact wp_storeA c (fiM d) (rB d c r) T D w hw
theorem wp_loadFi (c : Dev nD) (d : Bool) (X : Vec F S512x1024 .bf16) {α : Type} {Q : α → sProp 𝕄} {k : Vec F S512x1024 .bf16 → KProg F α} :
    (owns (c : Thread nD τ) (fiM d) fullShare X : sProp 𝕄)
      ⊢ iprop((owns (c : Thread nD τ) (fiM d) fullShare X -∗ WP c (k X) Q) -∗ WP c (loadFi d >>= k) Q) := by
  unfold loadFi
  simp only [Prog.lift, Prog.bind_op, Prog.bind_ret]
  have h := wp_loadO c (fiM d) (Rect.unit (s := S512x1024) ![0, 0] S512x1024.size inb_S512x1024_S512x1024_0_0) (q := fullShare) X
    (hl := View.loadsAt_vmem h_S512x1024) (Q := Q) (k := k)
  rw [show (fun j => X ((Rect.unit (s := S512x1024) ![0, 0] S512x1024.size inb_S512x1024_S512x1024_0_0).emb j)) = X from funext fun j => congrArg X (by
    funext a
    apply Fin.ext
    rw [Rect.emb_apply]
    fin_cases a
    · show 0 + 1 * (j 0).val = (j 0).val; omega
    · show 0 + 1 * (j 1).val = (j 1).val; omega)] at h
  exact h
theorem wp_storeO (c : Dev nD) (d : Bool) (r : Fin 4) (T : Vec F S4096x2048 .f32) (D : Set S4096x2048.Idx) (w : Vec F S128x1024 .f32)
    (hw : w = fun j => T ((rO d c r).emb j)) {α : Type} {Q : α → sProp 𝕄} {k : PUnit → KProg F α} :
    (Agr c oM T D : sProp 𝕄)
      ⊢ iprop((Agr c oM T (D ∪ Set.range (rO d c r).emb) -∗ WP c (k ⟨⟩) Q) -∗ WP c (storeO d c r w >>= k) Q) := by
  unfold storeO
  simp only [Prog.lift, Prog.bind_op, Prog.bind_ret]
  exact wp_storeA c oM (rO d c r) T D w hw
theorem wp_storeG (c : Dev nD) (d : Bool) (u : Fin 2) (t : Fin 7) (T : Vec F S4096x2048 .f32) (D : Set S4096x2048.Idx) (w : Vec F S256x1024 .f32)
    (hw : w = fun j => T ((rG d u c t).emb j)) {α : Type} {Q : α → sProp 𝕄} {k : PUnit → KProg F α} :
    (Agr c oM T D : sProp 𝕄)
      ⊢ iprop((Agr c oM T (D ∪ Set.range (rG d u c t).emb) -∗ WP c (k ⟨⟩) Q) -∗ WP c (storeG d u c t w >>= k) Q) := by
  unfold storeG
  simp only [Prog.lift, Prog.bind_op, Prog.bind_ret]
  exact wp_storeA c oM (rG d u c t) T D w hw

/-- The one index of a one-element array. -/
def i0 : S1.Idx := fun a => ⟨0, by revert a; decide⟩
theorem eq_i0 (j : S1.Idx) : j = i0 := by
  funext a
  apply Fin.ext
  have h := (j a).isLt
  revert h
  fin_cases a
  show (j 0).val < 1 → (j 0).val = 0
  omega

/-- The two scales' product, read from the two one-element arrays. -/
theorem wp_scale (c : Dev nD) {q q' : PosShare TreeShare} (X X' : Vec F S1 .f32) {α : Type} {Q : α → sProp 𝕄} {k : F .f32 → KProg F α} :
    iprop(owns (c : Thread nD τ) sxM q X ∗ owns (c : Thread nD τ) swM q' X')
      ⊢ iprop(((owns (c : Thread nD τ) sxM q X ∗ owns (c : Thread nD τ) swM q' X')
          -∗ WP c (k (k0_pay2 (X i0) (X' i0))) Q) -∗ WP c (scale >>= k) Q) := by
  unfold scale smemLoad smemLoadElt
  simp only [Prog.lift, Prog.bind_op, Prog.bind_ret, Prog.pure_eq_ret]
  iintro ⟨H, H'⟩ Hk
  iapply (wp_loadO c sxM (Rect.unit (s := S1) ![0] S1.size inb_S1_S1_0) X) $$ H
  iintro H
  iapply (wp_loadO c swM (Rect.unit (s := S1) ![0] S1.size inb_S1_S1_0) X') $$ H'
  iintro H'
  beta_reduce
  rw [eq_i0 ((Rect.unit (s := S1) ![0] S1.size inb_S1_S1_0).emb _)]
  iapply Hk
  isplitl [H]; · iexact H
  iexact H'

end Cert.KProof

end
-- ==== Proof.Hops.lean ====
/-
  The hops of the two rings: what a device holds before and after each, and the run of its steps.
-/
module

public import proofs.«01_k».proof.Proof.Mem

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.SiteBlocks (L lv mem_L mem_L' mayWait_of)

variable {F : FTy → Type} [FloatOps F]

local notation "𝕄" => MT nD τ sig ℕ (Elt F) ℕ UU ℕ

variable (AC : Bool → Fin 2 → ℕ → Dev nD → FVec F S256x1024 .bf16) (BC : Bool → ℕ → Dev nD → FVec F S128x1024 .bf16)
variable (KN : Dev nD × Cl → ℕ) (SN : SKey → ℕ)

/-- Something for both directions. -/
abbrev Bo (P : Bool → sProp 𝕄) : sProp 𝕄 := iprop(P false ∗ P true)

/-! ## The plane ring -/

/-- Plane hop `h` sends slot `p` for the `r`-th time. -/
structure IsHop (h : ℕ) (p : Fin 2) (r : ℕ) : Prop where
  hop : hopOf p r = h
  slot : pslot h = p
  rnd : rnd h = r
  lt : h < 14
  lt' : r < nR (.sA false p 0)

/-- The slot about to be sent at hop `h`. -/
def Src (c : Dev nD) (d : Bool) (p : Fin 2) (h : ℕ) : sProp 𝕄 := iprop(ownH (stA d) p 0 c (AC d 0 h c) ∗ ownH (stA d) p 1 c (AC d 1 h c))
/-- A slot of the staging buffer, at any contents. -/
def AnyS (c : Dev nD) (d : Bool) (p : Fin 2) : sProp 𝕄 := iprop(anyH (stA d) p 0 c ∗ anyH (stA d) p 1 c)
/-- A slot's cells are at round `r`, and so is its reader. -/
def SlotAt (c : Dev nD) (d : Bool) (p : Fin 2) (r : ℕ) : sProp 𝕄 :=
  iprop(AtR c (.sA d p 0) r ∗ AtR c (.sA d p 1) r ∗ AtR c (.rA d p 0) r ∗ AtR c (.rA d p 1) r ∗ readerAt ES (keyA c d p) (r + 1))
/-- The tokens of a half's transfer at hop `h`. -/
def HT (c : Dev nD) (h : ℕ) (p : Fin 2) (r : ℕ) (d : Bool) (u : Fin 2) : sProp 𝕄 :=
  iprop(dutyTok ER (kcell (c, .sA d p u)) r 0 ∗ dutyTok ER (kcell (tgtA d c, .rA d p u)) r 0
    ∗ cred (tallyAt (kcell (c, .rA d p u)) (posA h (2 * u.val + d.toNat)) NA))
/-- Those of a hop. -/
def HTS (c : Dev nD) (h : ℕ) (p : Fin 2) (r : ℕ) (d : Bool) : sProp 𝕄 :=
  iprop(HT c h p r d 0 ∗ HT c h p r d 1 ∗ writeTok ES (keyA (tgtA d c) d p) (r + 1))
/-- The neighbour's slot has been released for this write. -/
def Avail (c : Dev nD) (d : Bool) (p : Fin 2) (r : ℕ) : sProp 𝕄 :=
  iprop(released ES (keyA (tgtA d c) d p) (r + 1) ∗ reached ER (kcell (tgtA d c, .rA d p 0)) r ∗ reached ER (kcell (tgtA d c, .rA d p 1)) r)
instance (c : Dev nD) (d : Bool) (p : Fin 2) (r : ℕ) : BI.Persistent (Avail (F := F) c d p r) := by unfold Avail; infer_instance
/-- A half in flight. -/
def Fly (c : Dev nD) (h : ℕ) (p : Fin 2) (r : ℕ) (u : Fin 2) (d : Bool) : sProp 𝕄 :=
  iprop(AtR c (.sA d p u) r ∗ AtR c (.rA d p u) r ∗ cred (tallyAt (kcell (c, .sA d p u)) 0 NA)
    ∗ cred (tallyAt (kcell (c, .rA d p u)) (posA h (2 * u.val + d.toNat)) NA))
/-- A half back, and the neighbour's landed. -/
def Land (c : Dev nD) (h : ℕ) (p : Fin 2) (r : ℕ) (u : Fin 2) (d : Bool) : sProp 𝕄 :=
  iprop(AtR c (.sA d p u) (r + 1) ∗ AtR c (.rA d p u) (r + 1) ∗ anyH (stA d) p u c ∗ ownH (cmA d) p u c (AC d u h (tgtA (!d) c)))

theorem avail_fact (c : Dev nD) (d : Bool) {j : ℕ} {p : Fin 2} {r : ℕ} (hp : pslot j = p) (hr : rnd j + 1 = r) :
    FactA (tgtA d c) d j ⊢ (Avail c d p r : sProp 𝕄) := by
  subst hp hr
  unfold FactA Avail
  exact Entails.refl _
theorem avail_init (c : Dev nD) (d : Bool) (p : Fin 2) : iprop(Known AC BC KN SN ∗ InitA (tgtA d c) d) ⊢ (Avail c d p 0 : sProp 𝕄) := by
  unfold InitA Avail
  iintro ⟨#HK, #H0, #H1⟩
  isplitr
  · match p with
    | 0 => iexact H0
    | 1 => iexact H1
  isplitr
  · iapply (known_reached AC BC KN SN (tgtA d c, .rA d p 0)); iexact HK
  · iapply (known_reached AC BC KN SN (tgtA d c, .rA d p 1)); iexact HK

/-- The four transfers of a hop. -/
theorem wp_sends (c : Dev nD) {h : ℕ} {p : Fin 2} {r : ℕ} (H : IsHop h p r) (O : CellTallies nD τ sig ℕ)
    {α : Type} {Q : α → sProp 𝕄} {k : PUnit → KProg F α} :
    iprop(Known AC BC KN SN ∗ Bo (fun d => Src AC c d p h) ∗ Bo (HTS c h p r) ∗ Bo (fun d => Avail c d p r) ∗ Bo (fun d => SlotAt c d p r) ∗ Ow c (addA c h O))
      ⊢ iprop(((Bo (Fly c h p r 0) ∗ Bo (Fly c h p r 1) ∗ Bo (fun d => readerAt ES (keyA c d p) (r + 1)) ∗ Ow c (O + owG c h true + owG c h false))
          -∗ WP c (k ⟨⟩) Q) -∗ WP c (sends c p >>= k) Q) := by
  unfold sends
  simp only [Prog.bind_assoc]
  unfold Bo Src HTS HT Avail SlotAt Fly addA AtR
  iintro ⟨#HK, ⟨⟨Sf0, Sf1⟩, ⟨St0, St1⟩⟩,
    ⟨⟨⟨a1, a2, a3⟩, ⟨a4, a5, a6⟩, Wf⟩, ⟨⟨b1, b2, b3⟩, ⟨b4, b5, b6⟩, Wt⟩⟩,
    ⟨⟨#Af, #Af0, #Af1⟩, ⟨#At, #At0, #At1⟩⟩,
    ⟨⟨⟨p1, #q1⟩, ⟨p2, #q2⟩, ⟨p3, #q3⟩, ⟨p4, #q4⟩, Rf⟩, ⟨⟨p5, #q5⟩, ⟨p6, #q6⟩, ⟨p7, #q7⟩, ⟨p8, #q8⟩, Rt⟩⟩, HO⟩ Hk
  unfold WP
  imod (slot_take ES (Es := Set.univ) (Set.mem_univ (SN (keyA (tgtA false c) false p))) (k := keyA (tgtA false c) false p) (S := slotOf (keyA (tgtA false c) false p)) (r + 1)) $$ [Wf] with Hdf
  · isplitr; · (iapply (known_slot AC BC KN SN (keyA (tgtA false c) false p)); iexact HK)
    isplitr; · iexact Af
    iexact Wf
  imod (slot_take ES (Es := Set.univ) (Set.mem_univ (SN (keyA (tgtA true c) true p))) (k := keyA (tgtA true c) true p) (S := slotOf (keyA (tgtA true c) true p)) (r + 1)) $$ [Wt] with Hdt
  · isplitr; · (iapply (known_slot AC BC KN SN (keyA (tgtA true c) true p)); iexact HK)
    isplitr; · iexact At
    iexact Wt
  ihave Hdf := (Entails.of_eq (slotOf_A (F := F) (tgtA false c) false p)) $$ Hdf
  ihave Hdt := (Entails.of_eq (slotOf_A (F := F) (tgtA true c) true p)) $$ Hdt
  icases Hdf with ⟨Df0, Df1⟩
  icases Hdt with ⟨Dt0, Dt1⟩
  iapply (wp_sendH AC BC KN SN c H.hop H.lt' false 0 _ H.slot) $$ [$]
  iintro ⟨C1, HO⟩
  iapply (wp_sendH AC BC KN SN c H.hop H.lt' true 0 _ H.slot) $$ [$]
  iintro ⟨C2, HO⟩
  iapply (wp_sendH AC BC KN SN c H.hop H.lt' false 1 _ H.slot) $$ [$]
  iintro ⟨C3, HO⟩
  iapply (wp_sendH AC BC KN SN c H.hop H.lt' true 1 _ H.slot) $$ [$]
  iintro ⟨C4, HO⟩
  iapply Hk
  iframe ∗ #

/-- The four waits for half `u`. -/
theorem wp_waits4 (c : Dev nD) {h : ℕ} {p : Fin 2} {r b : ℕ} (H : IsHop h p r) (u : Fin 2) {O : CellTallies nD τ sig ℕ} (hO : Ab b O)
    (hb : posA h 0 + 4 ≤ b) {α : Type} {Q : α → sProp 𝕄} {k : PUnit → KProg F α} :
    iprop(Known AC BC KN SN ∗ Bo (Fly c h p r u) ∗ Ow c O)
      ⊢ iprop(((Bo (Land AC c h p r u) ∗ Ow c O) -∗ WP c (k ⟨⟩) Q) -∗ WP c (waits4 p u >>= k) Q) := by
  have hb0 : 0 < b := by omega
  unfold waits4
  simp only [Prog.bind_assoc]
  unfold Bo Fly Land
  iintro ⟨#HK, ⟨⟨p1, p2, C1, C2⟩, ⟨p3, p4, C3, C4⟩⟩, HO⟩ Hk
  iapply (wp_waitSendH AC BC KN SN c H.lt' false u hO hb0) $$ [$]
  iintro ⟨HO, p1, S1⟩
  iapply (wp_waitSendH AC BC KN SN c H.lt' true u hO hb0) $$ [$]
  iintro ⟨HO, p3, S3⟩
  iapply (wp_waitRecvH AC BC KN SN c H.hop H.lt' false u hO hb H.lt) $$ [$]
  iintro ⟨HO, p2, S2⟩
  iapply (wp_waitRecvH AC BC KN SN c H.hop H.lt' true u hO hb H.lt) $$ [$]
  iintro ⟨HO, p4, S4⟩
  iapply Hk
  iframe ∗ #

/-- Half `u` of a reducing hop; -/
theorem wp_red (c : Dev nD) {h : ℕ} {p q : Fin 2} {r b : ℕ} (H : IsHop h p r) (u : Fin 2) {O : CellTallies nD τ sig ℕ} (hO : Ab b O)
    (hb : posA h 0 + 4 ≤ b) (v v' : FVec F S512x1024 .bf16) (hv : AC false u (h + 1) c = accV u v (upH (AC false u h (tgtA (!false) c))))
    (hv' : AC true u (h + 1) c = accV u v' (upH (AC true u h (tgtA (!true) c)))) {α : Type} {Q : α → sProp 𝕄} {k : PUnit → KProg F α} :
    iprop(Known AC BC KN SN ∗ Bo (Fly c h p r u) ∗ Ow c O ∗ anyH (stA false) q u c ∗ anyH (stA true) q u c)
      ⊢ iprop(((Bo (Land AC c h p r u) ∗ Ow c O ∗ ownH (stA false) q u c (AC false u (h + 1) c) ∗ ownH (stA true) q u c (AC true u (h + 1) c))
        -∗ WP c (k ⟨⟩) Q) -∗ WP c (red p q u v v' >>= k) Q) := by
  unfold red
  simp only [Prog.bind_assoc]
  iintro ⟨#HK, HF, HO, A, A'⟩ Hk
  iapply (wp_waits4 AC BC KN SN c H u hO hb) $$ [$]
  unfold Bo Land
  iintro ⟨⟨⟨p1, p2, s1, L⟩, ⟨p3, p4, s3, L'⟩⟩, HO⟩
  iapply (wp_loadH c (cmA false) p u _) $$ L
  iintro L
  iapply (wp_loadH c (cmA true) p u _) $$ L'
  iintro L'
  beta_reduce
  rw [← hv, ← hv']
  iapply (wp_storeH c false q u _) $$ A
  iintro A
  iapply (wp_storeH c true q u _) $$ A'
  iintro A'
  iapply Hk
  iframe ∗ #

/-- of the last one. -/
theorem wp_redL (c : Dev nD) {h : ℕ} {p : Fin 2} {r b : ℕ} (H : IsHop h p r) (u : Fin 2) {O : CellTallies nD τ sig ℕ} (hO : Ab b O)
    (hb : posA h 0 + 4 ≤ b) (v v' : FVec F S512x1024 .bf16) (PL : Bool → Vec F S512x1024 .bf16) (D : Bool → Set S512x1024.Idx)
    (hv : sameV' (accV u v (upH (AC false u h (tgtA (!false) c)))) = fun j => PL false ((rPl u).emb j))
    (hv' : sameV' (accV u v' (upH (AC true u h (tgtA (!true) c)))) = fun j => PL true ((rPl u).emb j)) {α : Type} {Q : α → sProp 𝕄} {k : PUnit → KProg F α} :
    iprop(Known AC BC KN SN ∗ Bo (Fly c h p r u) ∗ Ow c O ∗ Bo (fun d => Agr c (plM d) (PL d) (D d)))
      ⊢ iprop(((Bo (Land AC c h p r u) ∗ Ow c O ∗ Bo (fun d => Agr c (plM d) (PL d) (D d ∪ Set.range (rPl u).emb)))
        -∗ WP c (k ⟨⟩) Q) -∗ WP c (redL p u v v' >>= k) Q) := by
  unfold redL
  simp only [Prog.bind_assoc]
  iintro ⟨#HK, HF, HO, A, A'⟩ Hk
  iapply (wp_waits4 AC BC KN SN c H u hO hb) $$ [$]
  unfold Bo Land
  iintro ⟨⟨⟨p1, p2, s1, L⟩, ⟨p3, p4, s3, L'⟩⟩, HO⟩
  iapply (wp_loadH c (cmA false) p u _) $$ L
  iintro L
  iapply (wp_loadH c (cmA true) p u _) $$ L'
  iintro L'
  iapply (wp_storePl c false u (PL false) (D false) _ hv) $$ A
  iintro A
  iapply (wp_storePl c true u (PL true) (D true) _ hv') $$ A'
  iintro A'
  iapply Hk
  iframe ∗ #

/-- What a hop leaves before its release. -/
def Done (c : Dev nD) (h : ℕ) (p : Fin 2) (r : ℕ) (d : Bool) : sProp 𝕄 :=
  iprop(Land AC c h p r 0 d ∗ Land AC c h p r 1 d ∗ readerAt ES (keyA c d p) (r + 1))

/-- The reader releases a slot. -/
theorem release (c : Dev nD) {h : ℕ} {p : Fin 2} {r : ℕ} (H : IsHop h p r) (d : Bool) :
    iprop(Known AC BC KN SN ∗ Done AC c h p r d) ⊢ (|={Set.univ}=> (SlotAt c d p (r + 1) ∗ FactA c d h ∗ AnyS c d p) : sProp 𝕄) := by
  unfold Done Land SlotAt AnyS FactA AtR
  rw [H.slot, H.rnd]
  iintro ⟨#HK, ⟨⟨p1, #q1⟩, ⟨p2, #q2⟩, s1, L1⟩, ⟨⟨p3, #q3⟩, ⟨p4, #q4⟩, s2, L2⟩, R⟩
  ihave L1 := (ownH_any (cmA d) p 0 c _) $$ L1
  ihave L2 := (ownH_any (cmA d) p 1 c _) $$ L2
  imod (slot_release ES (Es := Set.univ) (Set.mem_univ (SN (keyA c d p))) (k := keyA c d p) (S := slotOf (keyA c d p)) (slotOf_excl _) (r + 1)) $$ [R L1 L2] with ⟨R, #Hrel⟩
  · isplitr; · (iapply (known_slot AC BC KN SN (keyA c d p)); iexact HK)
    isplitl [R]; · iexact R
    iapply (Entails.of_eq (slotOf_A (F := F) c d p).symm)
    isplitl [L1]; · iexact L1
    iexact L2
  imodintro
  iframe ∗ #

/-- The releases after a hop. -/
theorem wp_giveRel (c : Dev nD) {h : ℕ} {p : Fin 2} {r : ℕ} (H : IsHop h p r) (hh : h < 12) (O : CellTallies nD τ sig ℕ)
    {α : Type} {Q : α → sProp 𝕄} {k : PUnit → KProg F α} :
    iprop(Known AC BC KN SN ∗ Bo (Done AC c h p r) ∗ Bo (fun d => CumA c d h) ∗ Bo (fun d => dutyTok ER (kcell (tgtA (!d) c, .cA d)) 0 h)
        ∗ Ow c (O + owG c h true + owG c h false))
      ⊢ iprop(((Bo (fun d => SlotAt c d p (r + 1)) ∗ Bo (fun d => AnyS c d p) ∗ Bo (fun d => CumA c d (h + 1)) ∗ Ow c O) -∗ WP c (k ⟨⟩) Q)
        -∗ WP c (giveA c >>= k) Q) := by
  unfold Bo
  iintro ⟨#HK, ⟨D1, D2⟩, ⟨#C1, #C2⟩, ⟨t1, t2⟩, HO⟩ Hk
  unfold WP
  imod (release AC BC KN SN c H false) $$ [D1] with ⟨S1, #F1, A1⟩
  · iframe ∗ #
  imod (release AC BC KN SN c H true) $$ [D2] with ⟨S2, #F2, A2⟩
  · iframe ∗ #
  ihave #E1 := (CumA_succ (F := F) c false h) $$ []
  · iframe #
  ihave #E2 := (CumA_succ (F := F) c true h) $$ []
  · iframe #
  iapply (wp_giveA AC BC KN SN c hh O) $$ [t1 t2 HO]
  · isplitr; · iexact HK
    isplitl [HO]; · iexact HO
    isplitl [t1]; · iexact t1
    isplitl [t2]; · iexact t2
    isplitr; · iexact E1
    iexact E2
  iintro HO
  iapply Hk
  iframe ∗ #

/-- The rings' state between plane hops: slot `p` is sent next. -/
def RA (c : Dev nD) (p q : Fin 2) (r rq h : ℕ) : sProp 𝕄 :=
  iprop(Bo (fun d => Src AC c d p h) ∗ Bo (fun d => AnyS c d q) ∗ Bo (fun d => SlotAt c d p r) ∗ Bo (fun d => SlotAt c d q rq) ∗ Bo (fun d => CumA c d h))

/-- The input block and the weights as they lie staged. -/
def XW (c : Dev nD) (X : Vec F S4096x128 .fp8e4m3) (W : Vec F S128x2048 .fp8e5m2) : sProp 𝕄 :=
  iprop(owns (c : Thread nD τ) xM fullShare X ∗ owns (c : Thread nD τ) wM fullShare W)
/-- The product of hop `s`. -/
def prodA (c : Dev nD) (X : Vec F S4096x128 .fp8e4m3) (W : Vec F S128x2048 .fp8e5m2) (s : Fin 7) (d : Bool) : FVec F S512x1024 .bf16 :=
  prodV (fun j => X ((rX d c s).emb j)) (fun j => W ((rW d).emb j))

/-- A reducing hop. -/
theorem wp_hopA (c : Dev nD) (s : Fin 7) {h : ℕ} {p q : Fin 2} {r rq : ℕ} (H : IsHop h p r) (hh : h < 12) {O : CellTallies nD τ sig ℕ}
    (hO : Ab (posA h 0 + 6) O) (X : Vec F S4096x128 .fp8e4m3) (W : Vec F S128x2048 .fp8e5m2)
    (hv : ∀ d u, AC d u (h + 1) c = accV u (prodA c X W s d) (upH (AC d u h (tgtA (!d) c)))) {α : Type} {Q : α → sProp 𝕄} {k : PUnit → KProg F α} :
    iprop(Known AC BC KN SN ∗ RA AC c p q r rq h ∗ Bo (HTS c h p r) ∗ Bo (fun d => Avail c d p r)
        ∗ Bo (fun d => dutyTok ER (kcell (tgtA (!d) c, .cA d)) 0 h) ∗ XW c X W ∗ Ow c (addA c h O))
      ⊢ iprop(((RA AC c q p rq (r + 1) (h + 1) ∗ XW c X W ∗ Ow c O) -∗ WP c (k ⟨⟩) Q) -∗ WP c (hopA c s p q >>= k) Q) := by
  have hO' := Ab.gA c H.lt hO
  unfold hopA
  simp only [Prog.bind_assoc]
  unfold RA XW
  iintro ⟨#HK, ⟨HS, HA, Hp, Hq, #HC⟩, HT, HV, Hg, ⟨HX, HW⟩, HO⟩ Hk
  iapply (wp_sends AC BC KN SN c H O) $$ [$]
  iintro ⟨F0, F1, ⟨R, R'⟩, HO⟩
  iapply (wp_loadX c false s X) $$ HX
  iintro HX
  iapply (wp_loadW c false W) $$ HW
  iintro HW
  iapply (wp_loadX c true s X) $$ HX
  iintro HX
  iapply (wp_loadW c true W) $$ HW
  iintro HW
  unfold AnyS
  icases HA with ⟨⟨a1, a2⟩, ⟨a3, a4⟩⟩
  iapply (wp_red AC BC KN SN c H 0 hO' (le_refl _) _ _ (hv false 0) (hv true 0)) $$ [$]
  iintro ⟨⟨l1, l2⟩, HO, a1, a3⟩
  iapply (wp_red AC BC KN SN c H 1 hO' (le_refl _) _ _ (hv false 1) (hv true 1)) $$ [$]
  iintro ⟨⟨l3, l4⟩, HO, a2, a4⟩
  iapply (wp_giveRel AC BC KN SN c H hh O) $$ [l1 l2 l3 l4 R R' Hg HO]
  · unfold Done Bo
    beta_reduce
    iframe ∗ #
  iintro ⟨Hp, HA, #HC', HO⟩
  iapply Hk
  unfold Src AnyS Bo
  beta_reduce
  iframe ∗ #

/-- The last one: the plane sums are stored. -/
theorem wp_hopAL (c : Dev nD) (s : Fin 7) {h : ℕ} {p : Fin 2} {r : ℕ} (H : IsHop h p r) (hh : h < 12) {O : CellTallies nD τ sig ℕ}
    (hO : Ab (posA h 0 + 6) O) (X : Vec F S4096x128 .fp8e4m3) (W : Vec F S128x2048 .fp8e5m2) (PL : Bool → Vec F S512x1024 .bf16)
    (hv : ∀ d u, sameV' (accV u (prodA c X W s d) (upH (AC d u h (tgtA (!d) c)))) = fun j => PL d ((rPl u).emb j))
    {α : Type} {Q : α → sProp 𝕄} {k : PUnit → KProg F α} :
    iprop(Known AC BC KN SN ∗ Bo (fun d => Src AC c d p h) ∗ Bo (fun d => SlotAt c d p r) ∗ Bo (fun d => CumA c d h) ∗ Bo (HTS c h p r) ∗ Bo (fun d => Avail c d p r)
        ∗ Bo (fun d => dutyTok ER (kcell (tgtA (!d) c, .cA d)) 0 h) ∗ XW c X W ∗ Ow c (addA c h O) ∗ Bo (fun d => Agr c (plM d) (PL d) ∅))
      ⊢ iprop(((Bo (fun d => AnyS c d p) ∗ Bo (fun d => SlotAt c d p (r + 1)) ∗ Bo (fun d => CumA c d (h + 1)) ∗ XW c X W ∗ Ow c O
          ∗ Bo (fun d => Agr c (plM d) (PL d) (∅ ∪ Set.range (rPl 0).emb ∪ Set.range (rPl 1).emb))) -∗ WP c (k ⟨⟩) Q) -∗ WP c (hopAL c s p >>= k) Q) := by
  have hO' := Ab.gA c H.lt hO
  unfold hopAL
  simp only [Prog.bind_assoc]
  unfold XW
  iintro ⟨#HK, HS, Hp, #HC, HT, HV, Hg, ⟨HX, HW⟩, HO, HP⟩ Hk
  iapply (wp_sends AC BC KN SN c H O) $$ [$]
  iintro ⟨F0, F1, ⟨R, R'⟩, HO⟩
  iapply (wp_loadX c false s X) $$ HX
  iintro HX
  iapply (wp_loadW c false W) $$ HW
  iintro HW
  iapply (wp_loadX c true s X) $$ HX
  iintro HX
  iapply (wp_loadW c true W) $$ HW
  iintro HW
  iapply (wp_redL AC BC KN SN c H 0 hO' (le_refl _) _ _ PL (fun _ => ∅) (hv false 0) (hv true 0)) $$ [$]
  iintro ⟨⟨l1, l2⟩, HO, HP⟩
  iapply (wp_redL AC BC KN SN c H 1 hO' (le_refl _) _ _ PL (fun _ => ∅ ∪ Set.range (rPl 0).emb) (hv false 1) (hv true 1)) $$ [$]
  iintro ⟨⟨l3, l4⟩, HO, HP⟩
  iapply (wp_giveRel AC BC KN SN c H hh O) $$ [l1 l2 l3 l4 R R' Hg HO]
  · unfold Done Bo
    beta_reduce
    iframe ∗ #
  iintro ⟨Hp, HA, #HC', HO⟩
  iapply Hk
  iframe ∗ #

/-! ### Gathering hops -/

/-- Where the result is known after half `u` of gathering hop `t`, when it was known on `D` before. -/
def DG (c : Dev nD) (t : Fin 7) (u : Fin 2) (D : Set S4096x2048.Idx) : Set S4096x2048.Idx :=
  D ∪ Set.range (rG false u c t).emb ∪ Set.range (rG true u c t).emb

/-- Half `u` of a gathering hop: what landed is stored, -/
theorem wp_keepG (c : Dev nD) (t : Fin 7) {h : ℕ} {p : Fin 2} {r b : ℕ} (H : IsHop h p r) (u : Fin 2) {O : CellTallies nD τ sig ℕ} (hO : Ab b O)
    (hb : posA h 0 + 4 ≤ b) (OUT : Vec F S4096x2048 .f32) (D : Set S4096x2048.Idx)
    (hv : ∀ d, extf .f32 (AC d u h (tgtA (!d) c)) bitsLt_bf16_f32 = fun j => OUT ((rG d u c t).emb j)) {α : Type} {Q : α → sProp 𝕄} {k : PUnit → KProg F α} :
    iprop(Known AC BC KN SN ∗ Bo (Fly c h p r u) ∗ Ow c O ∗ Agr c oM OUT D)
      ⊢ iprop(((Bo (Land AC c h p r u) ∗ Ow c O ∗ Agr c oM OUT (DG c t u D)) -∗ WP c (k ⟨⟩) Q) -∗ WP c (keepG c t p u >>= k) Q) := by
  unfold keepG
  simp only [Prog.bind_assoc]
  iintro ⟨#HK, HF, HO, A⟩ Hk
  iapply (wp_waits4 AC BC KN SN c H u hO hb) $$ [$]
  unfold Bo Land
  iintro ⟨⟨⟨p1, p2, s1, L⟩, ⟨p3, p4, s3, L'⟩⟩, HO⟩
  iapply (wp_loadH c (cmA false) p u _) $$ L
  iintro L
  iapply (wp_storeG c false u t OUT D _ (by rw [dnH_upH]; exact hv false)) $$ A
  iintro A
  iapply (wp_loadH c (cmA true) p u _) $$ L'
  iintro L'
  iapply (wp_storeG c true u t OUT _ _ (by rw [dnH_upH]; exact hv true)) $$ A
  iintro A
  iapply Hk
  unfold DG
  iframe ∗ #

/-- and handed on. -/
theorem wp_passG (c : Dev nD) {h : ℕ} {p q : Fin 2} {r : ℕ} (u : Fin 2) (hv : ∀ d, AC d u (h + 1) c = AC d u h (tgtA (!d) c))
    {α : Type} {Q : α → sProp 𝕄} {k : PUnit → KProg F α} :
    iprop(Bo (Land AC c h p r u) ∗ anyH (stA false) q u c ∗ anyH (stA true) q u c)
      ⊢ iprop(((Bo (Land AC c h p r u) ∗ ownH (stA false) q u c (AC false u (h + 1) c) ∗ ownH (stA true) q u c (AC true u (h + 1) c))
        -∗ WP c (k ⟨⟩) Q) -∗ WP c (passG p q u >>= k) Q) := by
  unfold passG
  simp only [Prog.bind_assoc]
  rw [hv false, hv true]
  unfold Bo Land
  iintro ⟨⟨⟨p1, p2, s1, L⟩, ⟨p3, p4, s3, L'⟩⟩, A, A'⟩ Hk
  iapply (wp_loadH c (cmA false) p u _) $$ L
  iintro L
  beta_reduce
  rw [dnH_upH]
  iapply (wp_storeH c false q u _) $$ A
  iintro A
  iapply (wp_loadH c (cmA true) p u _) $$ L'
  iintro L'
  beta_reduce
  rw [dnH_upH]
  iapply (wp_storeH c true q u _) $$ A'
  iintro A'
  iapply Hk
  iframe ∗ #

/-- A gathering hop before its release. -/
theorem wp_hopC (c : Dev nD) (t : Fin 7) {h : ℕ} {p q : Fin 2} {r : ℕ} (H : IsHop h p r) {O : CellTallies nD τ sig ℕ}
    (hO : Ab (posA h 0 + 6) O) (OUT : Vec F S4096x2048 .f32) (D : Set S4096x2048.Idx)
    (hv : ∀ d u, AC d u (h + 1) c = AC d u h (tgtA (!d) c))
    (hG : ∀ d u, extf .f32 (AC d u h (tgtA (!d) c)) bitsLt_bf16_f32 = fun j => OUT ((rG d u c t).emb j)) {α : Type} {Q : α → sProp 𝕄} {k : PUnit → KProg F α} :
    iprop(Known AC BC KN SN ∗ Bo (fun d => Src AC c d p h) ∗ Bo (fun d => AnyS c d q) ∗ Bo (fun d => SlotAt c d p r) ∗ Bo (HTS c h p r)
        ∗ Bo (fun d => Avail c d p r) ∗ Agr c oM OUT D ∗ Ow c (addA c h O))
      ⊢ iprop(((Bo (fun d => Src AC c d q (h + 1)) ∗ Bo (Done AC c h p r) ∗ Agr c oM OUT (DG c t 1 (DG c t 0 D)) ∗ Ow c (O + owG c h true + owG c h false))
          -∗ WP c (k ⟨⟩) Q) -∗ WP c (hopC c t p q >>= k) Q) := by
  have hO' := Ab.gA c H.lt hO
  unfold hopC
  simp only [Prog.bind_assoc]
  iintro ⟨#HK, HS, HA, Hp, HT, HV, HG, HO⟩ Hk
  iapply (wp_sends AC BC KN SN c H O) $$ [$]
  iintro ⟨F0, F1, ⟨R, R'⟩, HO⟩
  unfold AnyS
  icases HA with ⟨⟨a1, a2⟩, ⟨a3, a4⟩⟩
  iapply (wp_keepG AC BC KN SN c t H 0 hO' (le_refl _) OUT D (fun d => hG d 0)) $$ [$]
  iintro ⟨L, HO, HG⟩
  iapply (wp_passG AC c 0 (fun d => hv d 0)) $$ [$]
  iintro ⟨⟨l1, l2⟩, a1, a3⟩
  iapply (wp_keepG AC BC KN SN c t H 1 hO' (le_refl _) OUT _ (fun d => hG d 1)) $$ [$]
  iintro ⟨L, HO, HG⟩
  iapply (wp_passG AC c 1 (fun d => hv d 1)) $$ [$]
  iintro ⟨⟨l3, l4⟩, a2, a4⟩
  iapply Hk
  unfold Done Src Bo
  beta_reduce
  iframe ∗ #

/-- The last one. -/
theorem wp_hopCL (c : Dev nD) (t : Fin 7) {h : ℕ} {p : Fin 2} {r : ℕ} (H : IsHop h p r) {O : CellTallies nD τ sig ℕ}
    (hO : Ab (posA h 0 + 6) O) (OUT : Vec F S4096x2048 .f32) (D : Set S4096x2048.Idx)
    (hG : ∀ d u, extf .f32 (AC d u h (tgtA (!d) c)) bitsLt_bf16_f32 = fun j => OUT ((rG d u c t).emb j)) {α : Type} {Q : α → sProp 𝕄} {k : PUnit → KProg F α} :
    iprop(Known AC BC KN SN ∗ Bo (fun d => Src AC c d p h) ∗ Bo (fun d => SlotAt c d p r) ∗ Bo (HTS c h p r)
        ∗ Bo (fun d => Avail c d p r) ∗ Agr c oM OUT D ∗ Ow c (addA c h O))
      ⊢ iprop(((Bo (Done AC c h p r) ∗ Agr c oM OUT (DG c t 1 (DG c t 0 D)) ∗ Ow c (O + owG c h true + owG c h false))
          -∗ WP c (k ⟨⟩) Q) -∗ WP c (hopCL c t p >>= k) Q) := by
  have hO' := Ab.gA c H.lt hO
  unfold hopCL
  simp only [Prog.bind_assoc]
  iintro ⟨#HK, HS, Hp, HT, HV, HG, HO⟩ Hk
  iapply (wp_sends AC BC KN SN c H O) $$ [$]
  iintro ⟨F0, F1, ⟨R, R'⟩, HO⟩
  iapply (wp_keepG AC BC KN SN c t H 0 hO' (le_refl _) OUT D (fun d => hG d 0)) $$ [$]
  iintro ⟨⟨l1, l2⟩, HO, HG⟩
  iapply (wp_keepG AC BC KN SN c t H 1 hO' (le_refl _) OUT _ (fun d => hG d 1)) $$ [$]
  iintro ⟨⟨l3, l4⟩, HO, HG⟩
  iapply Hk
  unfold Done Bo
  beta_reduce
  iframe ∗ #

/-! ## The ring across planes -/

/-- Hop `b` across planes sends slot `p` for the `r`-th time. -/
structure IsHopB (b : ℕ) (p : Fin 2) (r : ℕ) : Prop where
  hop : hopOfB p r = b
  slot : qslot b = p
  rnd : b / 2 = r
  lt : b < 6
  lt' : r < nR (.sB false p)

@[inherit_doc SlotAt] def SlotB (c : Dev nD) (d : Bool) (p : Fin 2) (r : ℕ) : sProp 𝕄 :=
  iprop(AtR c (.sB d p) r ∗ AtR c (.rB d p) r ∗ readerAt ES (keyB c d p) (r + 1))
/-- The tokens of a hop. -/
def HTB (c : Dev nD) (b : ℕ) (p : Fin 2) (r : ℕ) (d : Bool) : sProp 𝕄 :=
  iprop(dutyTok ER (kcell (c, .sB d p)) r 0 ∗ dutyTok ER (kcell (tgtB d c, .rB d p)) r 0
    ∗ cred (tallyAt (kcell (c, .rB d p)) (posB b d.toNat) NB) ∗ writeTok ES (keyB (tgtB d c) d p) (r + 1))
@[inherit_doc Avail] def AvailB (c : Dev nD) (d : Bool) (p : Fin 2) (r : ℕ) : sProp 𝕄 :=
  iprop(released ES (keyB (tgtB d c) d p) (r + 1) ∗ reached ER (kcell (tgtB d c, .rB d p)) r)
instance (c : Dev nD) (d : Bool) (p : Fin 2) (r : ℕ) : BI.Persistent (AvailB (F := F) c d p r) := by unfold AvailB; infer_instance
@[inherit_doc Done] def DoneB (c : Dev nD) (b : ℕ) (p : Fin 2) (r : ℕ) (d : Bool) : sProp 𝕄 :=
  iprop(AtR c (.sB d p) (r + 1) ∗ AtR c (.rB d p) (r + 1) ∗ anyP (stB d) p c ∗ ownP (cmB d) p c (BC d b (tgtB (!d) c)) ∗ readerAt ES (keyB c d p) (r + 1))

theorem availB (c : Dev nD) (d : Bool) {b : ℕ} {p : Fin 2} {r : ℕ} (H : IsHopB b p r) :
    iprop(Known AC BC KN SN ∗ CumB (tgtB d c) d (b - 1)) ⊢ (AvailB c d p r : sProp 𝕄) := by
  obtain ⟨h1, h2, h3, h4, h5⟩ := H
  subst h2 h3
  rcases Nat.lt_or_ge b 2 with hb | hb
  · have e : b / 2 = 0 := by omega
    rw [e]
    unfold CumB InitB AvailB
    iintro ⟨#HK, ⟨#H0, #H1⟩, -⟩
    isplitr
    · rcases (by omega : b = 0 ∨ b = 1) with rfl | rfl
      · iexact H0
      · iexact H1
    · iapply (known_reached AC BC KN SN (tgtB d c, .rB d (qslot b))); iexact HK
  · have e : qslot b = qslot (b - 2) := Fin.ext (show b % 2 = (b - 2) % 2 by omega)
    have e' : b / 2 = (b - 2) / 2 + 1 := by omega
    iintro ⟨#HK, #HC⟩
    ihave #HF := (CumB_fact (F := F) (tgtB d c) d (j := b - 2) (n := b - 1) (by omega)) $$ HC
    iapply (show FactB (tgtB d c) d (b - 2) ⊢ (AvailB c d (qslot b) (b / 2) : sProp 𝕄) by
      unfold FactB AvailB
      rw [e, e'])
    iexact HF

/-- Credits, transfers and waits of a hop. -/
theorem wp_moveB (c : Dev nD) {b : ℕ} {p : Fin 2} {r : ℕ} (H : IsHopB b p r) {O : CellTallies nD τ sig ℕ} (hO : Ab (posB b 0 + 4) O)
    (i : Bool → ℕ) (hi : ∀ d, i d < posB b 0) {α : Type} {Q : α → sProp 𝕄} {k : PUnit → KProg F α} :
    iprop(Known AC BC KN SN ∗ Bo (fun d => Cred AC BC c (.cB d) b) ∗ Bo (fun d => cred (tallyAt (kcell (c, .cB d)) (i d) 1))
        ∗ Bo (fun d => ownP (stB d) p c (BC d b c)) ∗ Bo (HTB c b p r) ∗ Bo (fun d => SlotB c d p r) ∗ Ow c (addB c b O))
      ⊢ iprop(((Bo (fun d => Cred AC BC c (.cB d) (b + 1)) ∗ Bo (DoneB BC c b p r) ∗ Ow c (O + owGB c b true + owGB c b false))
          -∗ WP c (k ⟨⟩) Q) -∗ WP c (moveB c p >>= k) Q) := by
  have hO' := Ab.gB c H.lt hO
  have hOs := Ab.addB c H.lt hO
  have hp0 : 0 < posB b 0 := by unfold posB; omega
  unfold moveB
  simp only [Prog.bind_assoc]
  unfold Bo HTB SlotB DoneB
  iintro ⟨#HK, ⟨C1, C2⟩, ⟨c1, c2⟩, ⟨S1, S2⟩, ⟨⟨a1, a2, a3, Wf⟩, ⟨b1, b2, b3, Wt⟩⟩, ⟨⟨p1, p2, Rf⟩, ⟨p3, p4, Rt⟩⟩, HO⟩ Hk
  iapply (wp_waitCrB AC BC KN SN c (k := b) i hi hp0 (by have := posB_lt (i := 0) H.lt (by omega); omega) hOs) $$ [C1 C2 c1 c2 HO]
  · iframe ∗ #
  iintro ⟨HO, C1, C2⟩
  ihave #E1 := (cred_cumB AC BC c false b) $$ C1
  ihave #E2 := (cred_cumB AC BC c true b) $$ C2
  ihave #A1 := (availB AC BC KN SN c false H) $$ []
  · iframe #
  ihave #A2 := (availB AC BC KN SN c true H) $$ []
  · iframe #
  unfold AvailB AtR addB
  icases A1 with ⟨#Af, #Af0⟩
  icases A2 with ⟨#At, #At0⟩
  icases p1 with ⟨p1, #q1⟩
  icases p2 with ⟨p2, #q2⟩
  icases p3 with ⟨p3, #q3⟩
  icases p4 with ⟨p4, #q4⟩
  unfold WP
  imod (slot_take ES (Es := Set.univ) (Set.mem_univ (SN (keyB (tgtB false c) false p))) (k := keyB (tgtB false c) false p) (S := slotOf (keyB (tgtB false c) false p)) (r + 1)) $$ [Wf] with Hdf
  · isplitr; · (iapply (known_slot AC BC KN SN (keyB (tgtB false c) false p)); iexact HK)
    isplitr; · iexact Af
    iexact Wf
  imod (slot_take ES (Es := Set.univ) (Set.mem_univ (SN (keyB (tgtB true c) true p))) (k := keyB (tgtB true c) true p) (S := slotOf (keyB (tgtB true c) true p)) (r + 1)) $$ [Wt] with Hdt
  · isplitr; · (iapply (known_slot AC BC KN SN (keyB (tgtB true c) true p)); iexact HK)
    isplitr; · iexact At
    iexact Wt
  ihave Hdf := (Entails.of_eq (slotOf_B (F := F) (tgtB false c) false p)) $$ Hdf
  ihave Hdt := (Entails.of_eq (slotOf_B (F := F) (tgtB true c) true p)) $$ Hdt
  iapply (wp_sendP AC BC KN SN c H.hop H.lt' false _ H.slot) $$ [S1 Hdf HO a1 a2]
  · iframe ∗ #
  iintro ⟨D1, HO⟩
  iapply (wp_sendP AC BC KN SN c H.hop H.lt' true _ H.slot) $$ [S2 Hdt HO b1 b2]
  · iframe ∗ #
  iintro ⟨D2, HO⟩
  iapply (wp_waitSendP AC BC KN SN c H.lt' false hO' (by omega)) $$ [D1 HO p1]
  · unfold AtR; iframe ∗ #
  iintro ⟨HO, p1, s1⟩
  iapply (wp_waitSendP AC BC KN SN c H.lt' true hO' (by omega)) $$ [D2 HO p3]
  · unfold AtR; iframe ∗ #
  iintro ⟨HO, p3, s3⟩
  iapply (wp_waitRecvP AC BC KN SN c H.hop H.lt' false hO' (le_refl _) H.lt) $$ [a3 HO p2]
  · unfold AtR; iframe ∗ #
  iintro ⟨HO, p2, s2⟩
  iapply (wp_waitRecvP AC BC KN SN c H.hop H.lt' true hO' (le_refl _) H.lt) $$ [b3 HO p4]
  · unfold AtR; iframe ∗ #
  iintro ⟨HO, p4, s4⟩
  iapply Hk
  unfold AtR
  iframe ∗ #

@[inherit_doc release] theorem releaseB (c : Dev nD) {b : ℕ} {p : Fin 2} {r : ℕ} (H : IsHopB b p r) (d : Bool) :
    iprop(Known AC BC KN SN ∗ DoneB BC c b p r d) ⊢ (|={Set.univ}=> (SlotB c d p (r + 1) ∗ FactB c d b ∗ anyP (stB d) p c) : sProp 𝕄) := by
  unfold DoneB SlotB FactB AtR
  rw [H.slot, H.rnd]
  iintro ⟨#HK, ⟨p1, #q1⟩, ⟨p2, #q2⟩, s1, L1, R⟩
  ihave L1 := (ownP_any (cmB d) p c _) $$ L1
  imod (slot_release ES (Es := Set.univ) (Set.mem_univ (SN (keyB c d p))) (k := keyB c d p) (S := slotOf (keyB c d p)) (slotOf_excl _) (r + 1)) $$ [R L1] with ⟨R, #Hrel⟩
  · isplitr; · (iapply (known_slot AC BC KN SN (keyB c d p)); iexact HK)
    isplitl [R]; · iexact R
    iapply (Entails.of_eq (slotOf_B (F := F) c d p).symm)
    iexact L1
  imodintro
  iframe ∗ #

@[inherit_doc wp_giveRel] theorem wp_giveRelB (c : Dev nD) {b : ℕ} {p : Fin 2} {r : ℕ} (H : IsHopB b p r) (hb : b < 4) (O : CellTallies nD τ sig ℕ)
    {α : Type} {Q : α → sProp 𝕄} {k : PUnit → KProg F α} :
    iprop(Known AC BC KN SN ∗ Bo (DoneB BC c b p r) ∗ Bo (fun d => CumB c d b) ∗ Bo (fun d => dutyTok ER (kcell (tgtB (!d) c, .cB d)) 0 (b + 2))
        ∗ Ow c (O + owGB c b true + owGB c b false))
      ⊢ iprop(((Bo (fun d => SlotB c d p (r + 1)) ∗ Bo (fun d => anyP (stB d) p c) ∗ Bo (fun d => CumB c d (b + 1)) ∗ Ow c O) -∗ WP c (k ⟨⟩) Q)
        -∗ WP c (giveB c 1#32 >>= k) Q) := by
  unfold Bo
  iintro ⟨#HK, ⟨D1, D2⟩, ⟨#C1, #C2⟩, ⟨t1, t2⟩, HO⟩ Hk
  unfold WP
  imod (releaseB AC BC KN SN c H false) $$ [D1] with ⟨S1, #F1, A1⟩
  · iframe ∗ #
  imod (releaseB AC BC KN SN c H true) $$ [D2] with ⟨S2, #F2, A2⟩
  · iframe ∗ #
  ihave #E1 := (CumB_succ (F := F) c false b) $$ []
  · iframe #
  ihave #E2 := (CumB_succ (F := F) c true b) $$ []
  · iframe #
  iapply (wp_giveB AC BC KN SN c hb O) $$ [t1 t2 HO]
  · isplitr; · iexact HK
    isplitl [HO]; · iexact HO
    isplitl [t1]; · iexact t1
    isplitl [t2]; · iexact t2
    isplitr; · iexact E1
    iexact E2
  iintro HO
  iapply Hk
  iframe ∗ #

/-- What a hop across planes needs of tokens and credits. -/
def TB (c : Dev nD) (b : ℕ) (p : Fin 2) (r : ℕ) (i : Bool → ℕ) : sProp 𝕄 :=
  iprop(Bo (HTB c b p r) ∗ Bo (fun d => cred (tallyAt (kcell (c, .cB d)) (i d) 1)))
/-- The state between hops: slot `p` is sent next. -/
def RB (c : Dev nD) (p q : Fin 2) (r rq b : ℕ) : sProp 𝕄 :=
  iprop(Bo (fun d => ownP (stB d) p c (BC d b c)) ∗ Bo (fun d => anyP (stB d) q c) ∗ Bo (fun d => SlotB c d p r) ∗ Bo (fun d => SlotB c d q rq)
    ∗ Bo (fun d => CumB c d b) ∗ Bo (fun d => Cred AC BC c (.cB d) b))

/-- A reducing hop across planes. -/
theorem wp_hopB (c : Dev nD) (s : Fin 4) {b : ℕ} {p q : Fin 2} {r rq : ℕ} (H : IsHopB b p r) (hb : b < 4) {O : CellTallies nD τ sig ℕ}
    (hO : Ab (posB b 0 + 4) O) (i : Bool → ℕ) (hi : ∀ d, i d < posB b 0) (PL : Bool → Vec F S512x1024 .bf16)
    (hv : ∀ d, BC d (b + 1) c = addf (BC d b (tgtB (!d) c)) (fun j => PL d ((rB d c s).emb j))) {α : Type} {Q : α → sProp 𝕄} {k : PUnit → KProg F α} :
    iprop(Known AC BC KN SN ∗ RB AC BC c p q r rq b ∗ TB c b p r i ∗ Bo (fun d => dutyTok ER (kcell (tgtB (!d) c, .cB d)) 0 (b + 2))
        ∗ Bo (fun d => owns (c : Thread nD τ) (plM d) fullShare (PL d)) ∗ Ow c (addB c b O))
      ⊢ iprop(((RB AC BC c q p rq (r + 1) (b + 1) ∗ Bo (fun d => owns (c : Thread nD τ) (plM d) fullShare (PL d)) ∗ Ow c O)
          -∗ WP c (k ⟨⟩) Q) -∗ WP c (hopB c s p q >>= k) Q) := by
  unfold hopB
  simp only [Prog.bind_assoc]
  unfold RB TB
  iintro ⟨#HK, ⟨HS, ⟨A, A'⟩, Hp, Hq, #HC, Hcr⟩, ⟨HT, Hc⟩, Hg, ⟨P, P'⟩, HO⟩ Hk
  iapply (wp_moveB AC BC KN SN c H hO i hi) $$ [HS Hp Hcr HT Hc HO]
  · iframe ∗ #
  unfold Bo DoneB
  iintro ⟨Hcr, ⟨⟨p1, p2, s1, L, R⟩, ⟨p3, p4, s2, L', R'⟩⟩, HO⟩
  iapply (wp_loadP c (cmB false) p _) $$ L
  iintro L
  iapply (wp_loadPl c false s (PL false)) $$ P
  iintro P
  iapply (wp_loadP c (cmB true) p _) $$ L'
  iintro L'
  iapply (wp_loadPl c true s (PL true)) $$ P'
  iintro P'
  beta_reduce
  rw [dnP_upP, dnP_upP, ← hv false, ← hv true]
  iapply (wp_storeP c false q _) $$ A
  iintro A
  iapply (wp_storeP c true q _) $$ A'
  iintro A'
  iapply (wp_giveRelB AC BC KN SN c H hb O) $$ [p1 p2 s1 L R p3 p4 s2 L' R' HO Hg]
  · unfold DoneB Bo
    beta_reduce
    iframe ∗ #
  unfold Bo
  iintro ⟨Hp, HA, #HC', HO⟩
  iapply Hk
  beta_reduce
  iframe ∗ #

end Cert.KProof

end
-- ==== Proof.Parts.lean ====
/-
  The three parts of the body, hop by hop.
-/
module

public import proofs.«01_k».proof.Proof.Hops

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.SiteBlocks (L lv mem_L mem_L' mayWait_of)

variable {F : FTy → Type} [FloatOps F]

local notation "𝕄" => MT nD τ sig ℕ (Elt F) ℕ UU ℕ

variable (AC : Bool → Fin 2 → ℕ → Dev nD → FVec F S256x1024 .bf16) (BC : Bool → ℕ → Dev nD → FVec F S128x1024 .bf16)
variable (KN : Dev nD × Cl → ℕ) (SN : SKey → ℕ)

/-! ## The reducing part in the plane -/

/-- What a plane hop needs of tokens: those of its transfers, and of the releases after it. -/
def TA (c : Dev nD) (h : ℕ) (p : Fin 2) (r : ℕ) : sProp 𝕄 :=
  iprop(Bo (HTS c h p r) ∗ Bo (fun d => dutyTok ER (kcell (tgtA (!d) c, .cA d)) 0 h))
/-- The credits that the neighbours' release after hop `j` earns. -/
def crA (c : Dev nD) (j : ℕ) : sProp 𝕄 := Bo (fun d => cred (tallyAt (kcell (c, .cA d)) (posA j (4 + d.toNat)) 1))

/-- One credit each waited for. -/
theorem wp_crA (c : Dev nD) {j k b : ℕ} (hj : posA j 5 < b) (hN : b ≤ NI) {O : CellTallies nD τ sig ℕ} (hO : Ab b O)
    {α : Type} {Q : α → sProp 𝕄} {kk : PUnit → KProg F α} :
    iprop(Known AC BC KN SN ∗ crA c j ∗ Bo (fun d => Cred AC BC c (.cA d) k) ∗ Ow c O)
      ⊢ iprop(((Bo (fun d => Cred AC BC c (.cA d) (k + 1)) ∗ Ow c O) -∗ WP c (kk ⟨⟩) Q) -∗ WP c (waitCrA 1#32 >>= kk) Q) := by
  have h := wp_waitCrA AC BC KN SN c (k := k) (n := 1) (b := b) 1#32 rfl (fun d => Finsupp.single (posA j (4 + d.toNat)) 1)
    (fun d => by simp [Idealize.SL.Util.total])
    (fun d i hi => by
      have hi := Finset.mem_singleton.mp (Finsupp.support_single_subset hi)
      have e := posA_add j (4 + d.toNat)
      have e' := posA_add j 5
      have hd : d.toNat < 2 := by cases d <;> decide
      omega) (by omega) hN hO (Q := Q) (kk := kk)
  unfold crA Bo
  iintro ⟨#HK, ⟨c1, c2⟩, ⟨C1, C2⟩, HO⟩ Hk
  iapply h $$ [c1 c2 C1 C2 HO]
  · isplitr; · iexact HK
    isplitl [c1]; · iexact c1
    isplitl [c2]; · iexact c2
    iframe ∗ #
  iintro ⟨HO, C1, C2⟩
  iapply Hk
  iframe ∗ #

/-- After `k + 1` credits the slot of hop `j ≤ k` is free again. -/
theorem avail_cred (c : Dev nD) {k j : ℕ} (hj : j < k + 1) {p : Fin 2} {r : ℕ} (hp : pslot j = p) (hr : rnd j + 1 = r) :
    Bo (fun d => Cred AC BC c (.cA d) (k + 1)) ⊢ (Bo (fun d => Avail c d p r) : sProp 𝕄) := by
  have h (d : Bool) : Cred AC BC c (.cA d) (k + 1) ⊢ (Avail c d p r : sProp 𝕄) :=
    (cred_cumA AC BC c d k).trans ((CumA_fact (F := F) (tgtA d c) d hj).trans (avail_fact c d hp hr))
  unfold Bo
  iintro ⟨C1, C2⟩
  isplitl [C1]
  · iapply (h false); iexact C1
  · iapply (h true); iexact C2

/-- At the start both slots are free. -/
theorem availInit (c : Dev nD) (p : Fin 2) : iprop(Known AC BC KN SN ∗ Bo (fun d => InitA (tgtA d c) d)) ⊢ (Bo (fun d => Avail c d p 0) : sProp 𝕄) := by
  unfold Bo
  iintro ⟨#HK, ⟨#I, #I'⟩⟩
  isplitr
  · iapply (avail_init AC BC KN SN c false p); iframe #
  · iapply (avail_init AC BC KN SN c true p); iframe #

/-- A credit each, and a reducing hop. -/
theorem wp_nextA (c : Dev nD) (s : Fin 7) {h h' n m j k' : ℕ} {p q : Fin 2} {r r' rq : ℕ} (H : IsHop h p r) (hn : 6 - n = h) (hm : n + 1 = m) (hh' : h + 1 = h')
    (hr' : r + 1 = r') (hk' : j + 1 = k') (hjh : j + 2 = h) (hpj : pslot j = p) (hrj : rnd j + 1 = r) (X : Vec F S4096x128 .fp8e4m3) (W : Vec F S128x2048 .fp8e5m2)
    (hv : ∀ d u, AC d u (h + 1) c = accV u (prodA c X W s d) (upH (AC d u h (tgtA (!d) c)))) (hn6 : n ≤ 6)
    {α : Type} {Q : α → sProp 𝕄} {k : PUnit → KProg F α} :
    iprop(Known AC BC KN SN ∗ RA AC c p q r rq h ∗ TA c h p r ∗ crA c j ∗ Bo (fun d => Cred AC BC c (.cA d) j) ∗ XW c X W ∗ Ow c (owFromA c m))
      ⊢ iprop(((RA AC c q p rq r' h' ∗ Bo (fun d => Cred AC BC c (.cA d) k') ∗ XW c X W ∗ Ow c (owFromA c n)) -∗ WP c (k ⟨⟩) Q)
        -∗ WP c (waitCrA 1#32 >>= fun _ => hopA c s p q >>= k) Q) := by
  subst hn hm hh' hr' hk'
  have hpos : posA (6 - n) 0 = 41 - 6 * n := by unfold posA; rw [if_pos (by omega)]; omega
  have hpj5 : posA j 5 = 34 - 6 * n := by unfold posA; rw [if_pos (by omega)]; omega
  have hO : Ab (posA (6 - n) 0 + 6) (owFromA c n) := (Ab.fromA c n (by omega)).mono (by omega)
  have hO' : Ab (posA (6 - n) 0) (addA c (6 - n) (owFromA c n)) := Ab.addA c H.lt hO
  show iprop(Known AC BC KN SN ∗ RA AC c p q r rq _ ∗ TA c _ p r ∗ crA c j ∗ Bo (fun d => Cred AC BC c (.cA d) j) ∗ XW c X W ∗ Ow c (addA c (6 - n) (owFromA c n))) ⊢ _
  unfold TA
  iintro ⟨#HK, HR, ⟨HT, Hg⟩, Hc, HC, HX, HO⟩ Hk
  iapply (wp_crA AC BC KN SN c (k := j) (j := j) (b := posA (6 - n) 0) (by omega) (by show _ ≤ 113; omega) hO') $$ [$]
  iintro ⟨HC, HO⟩
  ihave #HV := (avail_cred AC BC c (Nat.lt_succ_self j) hpj hrj) $$ HC
  iapply (wp_hopA AC BC KN SN c s H (by omega) hO X W hv) $$ [$]
  iintro ⟨HR, HX, HO⟩
  iapply Hk
  iframe ∗ #

/-- The whole reducing part. -/
theorem wp_partA (c : Dev nD) (X : Vec F S4096x128 .fp8e4m3) (W : Vec F S128x2048 .fp8e5m2) (PL : Bool → Vec F S512x1024 .bf16)
    (hv : ∀ (s : Fin 7), s.val < 6 → ∀ d u, AC d u (s.val + 1) c = accV u (prodA c X W s d) (upH (AC d u s.val (tgtA (!d) c))))
    (hPL : ∀ d u, sameV' (accV u (prodA c X W 6 d) (upH (AC d u 6 (tgtA (!d) c)))) = fun j => PL d ((rPl u).emb j))
    {α : Type} {Q : α → sProp 𝕄} {k : PUnit → KProg F α} :
    iprop(Known AC BC KN SN ∗ RA AC c 0 1 0 0 0 ∗ Bo (fun d => InitA (tgtA d c) d) ∗ Bo (fun d => Cred AC BC c (.cA d) 0)
        ∗ (TA c 0 0 0 ∗ TA c 1 1 0 ∗ TA c 2 0 1 ∗ TA c 3 1 1 ∗ TA c 4 0 2 ∗ TA c 5 1 2 ∗ TA c 6 0 3)
        ∗ (crA c 0 ∗ crA c 1 ∗ crA c 2 ∗ crA c 3 ∗ crA c 4) ∗ XW c X W ∗ Ow c (owFromA c 7) ∗ Bo (fun d => Agr c (plM d) (PL d) ∅))
      ⊢ iprop(((Bo (fun d => AnyS c d 0) ∗ Bo (fun d => AnyS c d 1) ∗ Bo (fun d => SlotAt c d 0 4) ∗ Bo (fun d => SlotAt c d 1 3) ∗ Bo (fun d => CumA c d 7)
          ∗ Bo (fun d => Cred AC BC c (.cA d) 5) ∗ XW c X W ∗ Ow c (owFromB c 6)
          ∗ Bo (fun d => Agr c (plM d) (PL d) (∅ ∪ Set.range (rPl 0).emb ∪ Set.range (rPl 1).emb))) -∗ WP c (k ⟨⟩) Q) -∗ WP c (partA c >>= k) Q) := by
  have H0 : IsHop 0 0 0 := ⟨by decide, by decide, by decide, by decide, by decide⟩
  have H1 : IsHop 1 1 0 := ⟨by decide, by decide, by decide, by decide, by decide⟩
  have H6 : IsHop 6 0 3 := ⟨by decide, by decide, by decide, by decide, by decide⟩
  have hO0 : Ab (posA 0 0 + 6) (owFromA c 6) := (Ab.fromA c 6 (by omega)).mono (by decide)
  have hO1 : Ab (posA 1 0 + 6) (owFromA c 5) := (Ab.fromA c 5 (by omega)).mono (by decide)
  have hO6 : Ab (posA 6 0 + 6) (owFromA c 0) := (Ab.fromA c 0 (by omega)).mono (by decide)
  have hO6' : Ab (posA 6 0) (addA c 6 (owFromA c 0)) := Ab.addA c H6.lt hO6
  unfold partA
  simp only [Prog.bind_assoc]
  iintro ⟨#HK, HR, ⟨#I, #I'⟩, HC, ⟨t0, t1, t2, t3, t4, t5, t6⟩, ⟨c0, c1, c2, c3, c4⟩, HX, HO, HP⟩ Hk
  ihave #V0 := (availInit AC BC KN SN c 0) $$ []
  · unfold Bo; iframe #
  ihave #V1 := (availInit AC BC KN SN c 1) $$ []
  · unfold Bo; iframe #
  unfold TA
  icases t0 with ⟨t0, g0⟩
  ihave HO := (show Ow c (owFromA c 7) ⊢ (Ow c (addA c 0 (owFromA c 6)) : sProp 𝕄) from Entails.refl _) $$ HO
  iapply (wp_hopA AC BC KN SN c 0 H0 (by decide) hO0 X W (hv 0 (by decide))) $$ [HR t0 g0 HX HO]
  · iframe ∗ #
  iintro ⟨HR, HX, HO⟩
  icases t1 with ⟨t1, g1⟩
  ihave HO := (show Ow c (owFromA c 6) ⊢ (Ow c (addA c 1 (owFromA c 5)) : sProp 𝕄) from Entails.refl _) $$ HO
  iapply (wp_hopA AC BC KN SN c 1 H1 (by decide) hO1 X W (hv 1 (by decide))) $$ [HR t1 g1 HX HO]
  · iframe ∗ #
  iintro ⟨HR, HX, HO⟩
  iapply (wp_nextA AC BC KN SN c 2 (h := 2) (h' := 3) (n := 4) (m := 5) (j := 0) (k' := 1) (p := 0) (r := 1) (r' := 2) (rq := 1)
    ⟨by decide, by decide, by decide, by decide, by decide⟩ rfl rfl rfl rfl rfl rfl (by decide) (by decide) X W (hv 2 (by decide)) (by decide)) $$ [HR t2 c0 HC HX HO]
  · unfold TA; iframe ∗ #
  iintro ⟨HR, HC, HX, HO⟩
  iapply (wp_nextA AC BC KN SN c 3 (h := 3) (h' := 4) (n := 3) (m := 4) (j := 1) (k' := 2) (p := 1) (r := 1) (r' := 2) (rq := 2)
    ⟨by decide, by decide, by decide, by decide, by decide⟩ rfl rfl rfl rfl rfl rfl (by decide) (by decide) X W (hv 3 (by decide)) (by decide)) $$ [HR t3 c1 HC HX HO]
  · unfold TA; iframe ∗ #
  iintro ⟨HR, HC, HX, HO⟩
  iapply (wp_nextA AC BC KN SN c 4 (h := 4) (h' := 5) (n := 2) (m := 3) (j := 2) (k' := 3) (p := 0) (r := 2) (r' := 3) (rq := 2)
    ⟨by decide, by decide, by decide, by decide, by decide⟩ rfl rfl rfl rfl rfl rfl (by decide) (by decide) X W (hv 4 (by decide)) (by decide)) $$ [HR t4 c2 HC HX HO]
  · unfold TA; iframe ∗ #
  iintro ⟨HR, HC, HX, HO⟩
  iapply (wp_nextA AC BC KN SN c 5 (h := 5) (h' := 6) (n := 1) (m := 2) (j := 3) (k' := 4) (p := 1) (r := 2) (r' := 3) (rq := 3)
    ⟨by decide, by decide, by decide, by decide, by decide⟩ rfl rfl rfl rfl rfl rfl (by decide) (by decide) X W (hv 5 (by decide)) (by decide)) $$ [HR t5 c3 HC HX HO]
  · unfold TA; iframe ∗ #
  iintro ⟨HR, HC, HX, HO⟩
  ihave HO := (show Ow c (owFromA c 1) ⊢ (Ow c (addA c 6 (owFromA c 0)) : sProp 𝕄) from Entails.refl _) $$ HO
  iapply (wp_crA AC BC KN SN c (k := 4) (j := 4) (b := posA 6 0) (by decide) (by decide) hO6') $$ [c4 HC HO]
  · iframe ∗ #
  iintro ⟨HC, HO⟩
  ihave #HV := (avail_cred AC BC c (k := 4) (j := 4) (p := 0) (r := 3) (by decide) (by decide) (by decide)) $$ HC
  icases t6 with ⟨t6, g6⟩
  unfold RA
  icases HR with ⟨HS, HA, Hp, Hq, #HCu⟩
  iapply (wp_hopAL AC BC KN SN c 6 H6 (by decide) hO6 X W PL hPL) $$ [HS Hp t6 g6 HX HO HP]
  · iframe ∗ #
  iintro ⟨HA', Hp, #HCu', HX, HO, HP⟩
  iapply Hk
  ihave HO := (show Ow c (owFromA c 0) ⊢ (Ow c (owFromB c 6) : sProp 𝕄) from Entails.refl _) $$ HO
  iframe ∗ #

/-! ## The part across planes -/

/-- Where a plane's finished rows, and the result, are known after quarter `r`. -/
def DF (c : Dev nD) (d : Bool) (r : Fin 4) (D : Set S512x1024.Idx) : Set S512x1024.Idx := D ∪ Set.range (rB d c r).emb
@[inherit_doc DF] def DO (c : Dev nD) (r : Fin 4) (D : Set S4096x2048.Idx) : Set S4096x2048.Idx :=
  D ∪ Set.range (rO false c r).emb ∪ Set.range (rO true c r).emb

/-- The first quarter handed to the ring across planes. -/
theorem wp_proB (c : Dev nD) (d : Bool) (PL : Vec F S512x1024 .bf16) (hv : BC d 0 c = fun j => PL ((rB0 c).emb j))
    {α : Type} {Q : α → sProp 𝕄} {k : PUnit → KProg F α} :
    iprop(anyP (stB d) 0 c ∗ owns (c : Thread nD τ) (plM d) fullShare PL)
      ⊢ iprop(((ownP (stB d) 0 c (BC d 0 c) ∗ owns (c : Thread nD τ) (plM d) fullShare PL) -∗ WP c (k ⟨⟩) Q) -∗ WP c (proB c d >>= k) Q) := by
  unfold proB
  simp only [Prog.bind_assoc]
  rw [hv]
  iintro ⟨A, P⟩ Hk
  iapply (wp_loadPl0 c d PL) $$ P
  iintro P
  iapply (wp_storeP c d 0 _) $$ A
  iintro A
  iapply Hk
  isplitl [A]; · iexact A
  iexact P

/-- The hop that finishes a quarter. -/
theorem wp_hopBL (c : Dev nD) (sc : F .f32) {r rq : ℕ} (H : IsHopB 2 0 r) {O : CellTallies nD τ sig ℕ}
    (hO : Ab (posB 2 0 + 4) O) (i : Bool → ℕ) (hi : ∀ d, i d < posB 2 0) (PL FI : Bool → Vec F S512x1024 .bf16) (OUT : Vec F S4096x2048 .f32)
    (Y : Bool → FVec F S128x1024 .f32) (hY : ∀ d, Y d = siluV sc (upP (BC d 2 (tgtB (!d) c))) (fun j => PL d ((rB d c 3).emb j)))
    (hB : ∀ d, BC d 3 c = truncV (Y d)) (hF : ∀ d, sameV (truncV (Y d)) = fun j => FI d ((rB d c 3).emb j)) (hOUT : ∀ d, Y d = fun j => OUT ((rO d c 3).emb j))
    (DFI : Bool → Set S512x1024.Idx) (D : Set S4096x2048.Idx) {α : Type} {Q : α → sProp 𝕄} {k : PUnit → KProg F α} :
    iprop(Known AC BC KN SN ∗ RB AC BC c 0 1 r rq 2 ∗ TB c 2 0 r i ∗ Bo (fun d => dutyTok ER (kcell (tgtB (!d) c, .cB d)) 0 (2 + 2))
        ∗ Bo (fun d => owns (c : Thread nD τ) (plM d) fullShare (PL d)) ∗ Bo (fun d => Agr c (fiM d) (FI d) (DFI d)) ∗ Agr c oM OUT D ∗ Ow c (addB c 2 O))
      ⊢ iprop(((RB AC BC c 1 0 rq (r + 1) 3 ∗ Bo (fun d => owns (c : Thread nD τ) (plM d) fullShare (PL d))
            ∗ Bo (fun d => Agr c (fiM d) (FI d) (DF c d 3 (DFI d))) ∗ Agr c oM OUT (DO c 3 D) ∗ Ow c O)
          -∗ WP c (k ⟨⟩) Q) -∗ WP c (hopBL c sc >>= k) Q) := by
  unfold hopBL
  simp only [Prog.bind_assoc]
  unfold RB TB
  iintro ⟨#HK, ⟨HS, ⟨A, A'⟩, Hp, Hq, #HC, Hcr⟩, ⟨HT, Hc⟩, Hg, ⟨P, P'⟩, ⟨G, G'⟩, HOUT, HO⟩ Hk
  iapply (wp_moveB AC BC KN SN c H hO i hi) $$ [HS Hp Hcr HT Hc HO]
  · iframe ∗ #
  unfold Bo DoneB
  iintro ⟨Hcr, ⟨⟨p1, p2, s1, L, R⟩, ⟨p3, p4, s2, L', R'⟩⟩, HO⟩
  iapply (wp_loadP c (cmB false) 0 _) $$ L
  iintro L
  iapply (wp_loadPl c false 3 (PL false)) $$ P
  iintro P
  iapply (wp_loadP c (cmB true) 0 _) $$ L'
  iintro L'
  iapply (wp_loadPl c true 3 (PL true)) $$ P'
  iintro P'
  beta_reduce
  rw [← hY false, ← hY true]
  iapply (wp_storeO c false 3 OUT D _ (hOUT false)) $$ HOUT
  iintro HOUT
  iapply (wp_storeO c true 3 OUT _ _ (hOUT true)) $$ HOUT
  iintro HOUT
  iapply (wp_storeFi c false 3 (FI false) _ _ (hF false)) $$ G
  iintro G
  iapply (wp_storeFi c true 3 (FI true) _ _ (hF true)) $$ G'
  iintro G'
  rw [← hB false, ← hB true]
  iapply (wp_storeP c false 1 _) $$ A
  iintro A
  iapply (wp_storeP c true 1 _) $$ A'
  iintro A'
  iapply (wp_giveRelB AC BC KN SN c H (by decide) O) $$ [p1 p2 s1 L R p3 p4 s2 L' R' HO Hg]
  · unfold DoneB Bo
    beta_reduce
    iframe ∗ #
  unfold Bo
  iintro ⟨Hp, HA, #HC', HO⟩
  iapply Hk
  unfold DF DO
  beta_reduce
  iframe ∗ #

/-- What a gathering hop stores of what landed. -/
theorem wp_keepB (c : Dev nD) (s : Fin 4) {b : ℕ} {p : Fin 2} {r : ℕ} (FI : Bool → Vec F S512x1024 .bf16) (OUT : Vec F S4096x2048 .f32)
    (hF : ∀ d, sameV (BC d b (tgtB (!d) c)) = fun j => FI d ((rB d c s).emb j))
    (hOUT : ∀ d, extf .f32 (BC d b (tgtB (!d) c)) bitsLt_bf16_f32 = fun j => OUT ((rO d c s).emb j))
    (DFI : Bool → Set S512x1024.Idx) (D : Set S4096x2048.Idx) {α : Type} {Q : α → sProp 𝕄} {k : PUnit → KProg F α} :
    iprop(Bo (DoneB BC c b p r) ∗ Bo (fun d => Agr c (fiM d) (FI d) (DFI d)) ∗ Agr c oM OUT D)
      ⊢ iprop(((Bo (DoneB BC c b p r) ∗ Bo (fun d => Agr c (fiM d) (FI d) (DF c d s (DFI d))) ∗ Agr c oM OUT (DO c s D)) -∗ WP c (k ⟨⟩) Q)
        -∗ WP c (keepB c s p >>= k) Q) := by
  unfold keepB
  simp only [Prog.bind_assoc]
  unfold Bo DoneB
  iintro ⟨⟨⟨p1, p2, s1, L, R⟩, ⟨p3, p4, s2, L', R'⟩⟩, ⟨G, G'⟩, HOUT⟩ Hk
  iapply (wp_loadP c (cmB false) p _) $$ L
  iintro L
  iapply (wp_storeFi c false s (FI false) _ _ (by rw [dnP_upP]; exact hF false)) $$ G
  iintro G
  iapply (wp_loadP c (cmB true) p _) $$ L'
  iintro L'
  iapply (wp_storeFi c true s (FI true) _ _ (by rw [dnP_upP]; exact hF true)) $$ G'
  iintro G'
  iapply (wp_loadP c (cmB false) p _) $$ L
  iintro L
  iapply (wp_storeO c false s OUT _ _ (by rw [dnP_upP]; exact hOUT false)) $$ HOUT
  iintro HOUT
  iapply (wp_loadP c (cmB true) p _) $$ L'
  iintro L'
  iapply (wp_storeO c true s OUT _ _ (by rw [dnP_upP]; exact hOUT true)) $$ HOUT
  iintro HOUT
  iapply Hk
  unfold DF DO
  beta_reduce
  iframe ∗ #

/-- What landed, handed on. -/
theorem wp_passB (c : Dev nD) {b : ℕ} {p q : Fin 2} {r : ℕ} (hv : ∀ d, BC d (b + 1) c = BC d b (tgtB (!d) c))
    {α : Type} {Q : α → sProp 𝕄} {k : PUnit → KProg F α} :
    iprop(Bo (DoneB BC c b p r) ∗ Bo (fun d => anyP (stB d) q c))
      ⊢ iprop(((Bo (DoneB BC c b p r) ∗ Bo (fun d => ownP (stB d) q c (BC d (b + 1) c))) -∗ WP c (k ⟨⟩) Q) -∗ WP c (passB p q >>= k) Q) := by
  unfold passB
  simp only [Prog.bind_assoc]
  unfold Bo DoneB
  iintro ⟨⟨⟨p1, p2, s1, L, R⟩, ⟨p3, p4, s2, L', R'⟩⟩, ⟨A, A'⟩⟩ Hk
  iapply (wp_loadP c (cmB false) p _) $$ L
  iintro L
  beta_reduce
  rw [dnP_upP, ← hv false]
  iapply (wp_storeP c false q _) $$ A
  iintro A
  iapply (wp_loadP c (cmB true) p _) $$ L'
  iintro L'
  beta_reduce
  rw [dnP_upP, ← hv true]
  iapply (wp_storeP c true q _) $$ A'
  iintro A'
  iapply Hk
  iframe ∗ #

/-- Which credits a hop across planes waits for. -/
def iB (b : ℕ) (d : Bool) : ℕ := if b < 2 then 3 + d.toNat else posB (b - 2) (2 + d.toNat)
theorem iB_lt {b : ℕ} (d : Bool) : iB b d < posB b 0 := by
  have hd : d.toNat < 2 := by cases d <;> decide
  unfold iB posB
  split <;> omega
/-- The tokens of the releases after hop `b`. -/
def gB (c : Dev nD) (b : ℕ) : sProp 𝕄 := Bo (fun d => dutyTok ER (kcell (tgtB (!d) c, .cB d)) 0 (b + 2))
/-- Where the finished rows and the result are known after the part across planes. -/
def DFall (c : Dev nD) (d : Bool) : Set S512x1024.Idx := DF c d 2 (DF c d 1 (DF c d 0 (DF c d 3 ∅)))
@[inherit_doc DFall] def DOall (c : Dev nD) : Set S4096x2048.Idx := DO c 2 (DO c 1 (DO c 0 (DO c 3 ∅)))

/-- The whole part across planes. -/
theorem wp_partB (c : Dev nD) (sc : F .f32) (PL FI : Bool → Vec F S512x1024 .bf16) (OUT : Vec F S4096x2048 .f32)
    (h0 : ∀ d, BC d 0 c = fun j => PL d ((rB0 c).emb j))
    (h1 : ∀ d, BC d 1 c = addf (BC d 0 (tgtB (!d) c)) (fun j => PL d ((rB d c 1).emb j)))
    (h2 : ∀ d, BC d 2 c = addf (BC d 1 (tgtB (!d) c)) (fun j => PL d ((rB d c 2).emb j)))
    (Y : Bool → FVec F S128x1024 .f32) (hY : ∀ d, Y d = siluV sc (upP (BC d 2 (tgtB (!d) c))) (fun j => PL d ((rB d c 3).emb j)))
    (hB : ∀ d, BC d 3 c = truncV (Y d)) (hF : ∀ d, sameV (truncV (Y d)) = fun j => FI d ((rB d c 3).emb j)) (hOUT : ∀ d, Y d = fun j => OUT ((rO d c 3).emb j))
    (h4 : ∀ d, BC d 4 c = BC d 3 (tgtB (!d) c)) (h5 : ∀ d, BC d 5 c = BC d 4 (tgtB (!d) c))
    (hFs : ∀ d (s : Fin 3), sameV (BC d (3 + s.val) (tgtB (!d) c)) = fun j => FI d ((rB d c s.castSucc).emb j))
    (hOs : ∀ d (s : Fin 3), extf .f32 (BC d (3 + s.val) (tgtB (!d) c)) bitsLt_bf16_f32 = fun j => OUT ((rO d c s.castSucc).emb j))
    {α : Type} {Q : α → sProp 𝕄} {k : PUnit → KProg F α} :
    iprop(Known AC BC KN SN ∗ Bo (fun d => anyP (stB d) 0 c) ∗ Bo (fun d => anyP (stB d) 1 c) ∗ Bo (fun d => SlotB c d 0 0) ∗ Bo (fun d => SlotB c d 1 0)
        ∗ Bo (fun d => CumB c d 0) ∗ Bo (fun d => Cred AC BC c (.cB d) 0)
        ∗ (TB c 0 0 0 (iB 0) ∗ TB c 1 1 0 (iB 1) ∗ TB c 2 0 1 (iB 2) ∗ TB c 3 1 1 (iB 3) ∗ TB c 4 0 2 (iB 4) ∗ TB c 5 1 2 (iB 5))
        ∗ (gB c 0 ∗ gB c 1 ∗ gB c 2 ∗ gB c 3)
        ∗ Bo (fun d => owns (c : Thread nD τ) (plM d) fullShare (PL d)) ∗ Bo (fun d => Agr c (fiM d) (FI d) ∅) ∗ Agr c oM OUT ∅ ∗ Ow c (owFromB c 6))
      ⊢ iprop(((Bo (DoneB BC c 4 0 2) ∗ Bo (DoneB BC c 5 1 2) ∗ Bo (fun d => Cred AC BC c (.cB d) 6)
            ∗ Bo (fun d => owns (c : Thread nD τ) (plM d) fullShare (PL d))
            ∗ Bo (fun d => Agr c (fiM d) (FI d) (DFall c d)) ∗ Agr c oM OUT (DOall c) ∗ Ow c (owFromC c 7))
          -∗ WP c (k ⟨⟩) Q) -∗ WP c (partB c sc >>= k) Q) := by
  have H0 : IsHopB 0 0 0 := ⟨by decide, by decide, by decide, by decide, by decide⟩
  have H1 : IsHopB 1 1 0 := ⟨by decide, by decide, by decide, by decide, by decide⟩
  have H2 : IsHopB 2 0 1 := ⟨by decide, by decide, by decide, by decide, by decide⟩
  have H3 : IsHopB 3 1 1 := ⟨by decide, by decide, by decide, by decide, by decide⟩
  have H4 : IsHopB 4 0 2 := ⟨by decide, by decide, by decide, by decide, by decide⟩
  have H5 : IsHopB 5 1 2 := ⟨by decide, by decide, by decide, by decide, by decide⟩
  have hO (b n : ℕ) (h : posB b 0 + 4 ≤ 71 - 4 * n) (hn : n ≤ 6) : Ab (posB b 0 + 4) (owFromB c n) := (Ab.fromB c n hn).mono h
  have o4 : owGB c 4 true = 0 ∧ owGB c 4 false = 0 := ⟨tallyAt_zero .., tallyAt_zero ..⟩
  have o5 : owGB c 5 true = 0 ∧ owGB c 5 false = 0 := ⟨tallyAt_zero .., tallyAt_zero ..⟩
  unfold partB
  simp only [Prog.bind_assoc]
  iintro ⟨#HK, ⟨A, A'⟩, Hq, Hp0, Hp1, #HC, Hcr, ⟨t0, t1, t2, t3, t4, t5⟩, ⟨g0, g1, g2, g3⟩, ⟨P, P'⟩, HF, HOUT, HO⟩ Hk
  iapply (wp_proB BC c false (PL false) (h0 false)) $$ [A P]
  · iframe ∗
  iintro ⟨A, P⟩
  iapply (wp_proB BC c true (PL true) (h0 true)) $$ [A' P']
  · iframe ∗
  iintro ⟨A', P'⟩
  unfold gB
  ihave HO := (show Ow c (owFromB c 6) ⊢ (Ow c (addB c 0 (owFromB c 5)) : sProp 𝕄) from Entails.refl _) $$ HO
  iapply (wp_hopB AC BC KN SN c 1 (q := 1) (rq := 0) H0 (by decide) (hO 0 5 (by decide) (by decide)) (iB 0) (fun d => iB_lt d) PL h1) $$ [A A' Hq Hp0 Hp1 Hcr t0 g0 P P' HO]
  · unfold RB Bo; beta_reduce; iframe ∗ #
  iintro ⟨HR, HP, HO⟩
  ihave HO := (show Ow c (owFromB c 5) ⊢ (Ow c (addB c 1 (owFromB c 4)) : sProp 𝕄) from Entails.refl _) $$ HO
  iapply (wp_hopB AC BC KN SN c 2 (q := 0) (rq := 1) H1 (by decide) (hO 1 4 (by decide) (by decide)) (iB 1) (fun d => iB_lt d) PL h2) $$ [HR t1 g1 HP HO]
  · iframe ∗ #
  iintro ⟨HR, HP, HO⟩
  ihave HO := (show Ow c (owFromB c 4) ⊢ (Ow c (addB c 2 (owFromB c 3)) : sProp 𝕄) from Entails.refl _) $$ HO
  iapply (wp_hopBL AC BC KN SN c sc (r := 1) (rq := 1) H2 (hO 2 3 (by decide) (by decide)) (iB 2) (fun d => iB_lt d) PL FI OUT Y hY hB hF hOUT (fun _ => ∅) ∅) $$ [HR t2 g2 HP HF HOUT HO]
  · iframe ∗ #
  iintro ⟨HR, HP, HF, HOUT, HO⟩
  unfold RB TB
  icases HR with ⟨HS, HA, Hp, Hq, #HC', Hcr⟩
  icases t3 with ⟨t3, c3⟩
  ihave HO := (show Ow c (owFromB c 3) ⊢ (Ow c (addB c 3 (owFromB c 2)) : sProp 𝕄) from Entails.refl _) $$ HO
  iapply (wp_moveB AC BC KN SN c H3 (hO 3 2 (by decide) (by decide)) (iB 3) (fun d => iB_lt d)) $$ [HS Hp Hcr t3 c3 HO]
  · iframe ∗ #
  iintro ⟨Hcr, HD, HO⟩
  iapply (wp_keepB BC c 0 FI OUT (fun d => hFs d 0) (fun d => hOs d 0) _ _) $$ [HD HF HOUT]
  · iframe ∗
  iintro ⟨HD, HF, HOUT⟩
  iapply (wp_passB BC c (q := 0) h4) $$ [HD HA]
  · iframe ∗
  iintro ⟨HD, HS⟩
  iapply (wp_giveRelB AC BC KN SN c H3 (by decide) (owFromB c 2)) $$ [HD g3 HO]
  · iframe ∗ #
  iintro ⟨Hp, HA, #HC'', HO⟩
  icases t4 with ⟨t4, c4⟩
  ihave HO := (show Ow c (owFromB c 2) ⊢ (Ow c (addB c 4 (owFromB c 1)) : sProp 𝕄) from Entails.refl _) $$ HO
  iapply (wp_moveB AC BC KN SN c H4 (hO 4 1 (by decide) (by decide)) (iB 4) (fun d => iB_lt d)) $$ [HS Hq Hcr t4 c4 HO]
  · iframe ∗ #
  iintro ⟨Hcr, HD4, HO⟩
  rw [o4.1, o4.2, add_zero, add_zero]
  iapply (wp_keepB BC c 1 FI OUT (fun d => hFs d 1) (fun d => hOs d 1) _ _) $$ [HD4 HF HOUT]
  · iframe ∗
  iintro ⟨HD4, HF, HOUT⟩
  iapply (wp_passB BC c (q := 1) h5) $$ [HD4 HA]
  · iframe ∗
  iintro ⟨HD4, HS⟩
  icases t5 with ⟨t5, c5⟩
  ihave HO := (show Ow c (owFromB c 1) ⊢ (Ow c (addB c 5 (owFromB c 0)) : sProp 𝕄) from Entails.refl _) $$ HO
  iapply (wp_moveB AC BC KN SN c H5 (hO 5 0 (by decide) (by decide)) (iB 5) (fun d => iB_lt d)) $$ [HS Hp Hcr t5 c5 HO]
  · iframe ∗ #
  iintro ⟨Hcr, HD5, HO⟩
  rw [o5.1, o5.2, add_zero, add_zero]
  iapply (wp_keepB BC c 2 FI OUT (fun d => hFs d 2) (fun d => hOs d 2) _ _) $$ [HD5 HF HOUT]
  · iframe ∗
  iintro ⟨HD5, HF, HOUT⟩
  iapply Hk
  ihave HO := (show Ow c (owFromB c 0) ⊢ (Ow c (owFromC c 7) : sProp 𝕄) from Entails.refl _) $$ HO
  unfold DFall DOall
  iframe ∗ #

/-! ## The gather in the plane -/

/-- Two credits each waited for. -/
theorem wp_crA2 (c : Dev nD) {j k b : ℕ} (hj : posA j 5 < b) (hj' : posA (j + 1) 5 < b) (hN : b ≤ NI) {O : CellTallies nD τ sig ℕ} (hO : Ab b O)
    {α : Type} {Q : α → sProp 𝕄} {kk : PUnit → KProg F α} :
    iprop(Known AC BC KN SN ∗ crA c j ∗ crA c (j + 1) ∗ Bo (fun d => Cred AC BC c (.cA d) k) ∗ Ow c O)
      ⊢ iprop(((Bo (fun d => Cred AC BC c (.cA d) (k + 2)) ∗ Ow c O) -∗ WP c (kk ⟨⟩) Q) -∗ WP c (waitCrA 2#32 >>= kk) Q) := by
  have h := wp_waitCrA AC BC KN SN c (k := k) (n := 2) (b := b) 2#32 rfl
    (fun d => Finsupp.single (posA j (4 + d.toNat)) 1 + Finsupp.single (posA (j + 1) (4 + d.toNat)) 1)
    (fun d => by rw [Idealize.SL.Util.total_add, Idealize.SL.Util.total_single, Idealize.SL.Util.total_single])
    (fun d i hi => by
      have e := posA_add j (4 + d.toNat)
      have e' := posA_add j 5
      have f := posA_add (j + 1) (4 + d.toNat)
      have f' := posA_add (j + 1) 5
      have hd : d.toNat < 2 := by cases d <;> decide
      rcases Finset.mem_union.mp (Finsupp.support_add hi) with hi | hi
      · have hi := Finset.mem_singleton.mp (Finsupp.support_single_subset hi)
        omega
      · have hi := Finset.mem_singleton.mp (Finsupp.support_single_subset hi)
        omega) (by omega) hN hO (Q := Q) (kk := kk)
  have hc (d : Bool) : iprop(cred (tallyAt (kcell (c, .cA d)) (posA j (4 + d.toNat)) 1) ∗ cred (tallyAt (kcell (c, .cA d)) (posA (j + 1) (4 + d.toNat)) 1))
      ⊢ (cred (tallyOn (kcell (c, .cA d)) (Finsupp.single (posA j (4 + d.toNat)) 1 + Finsupp.single (posA (j + 1) (4 + d.toNat)) 1)) : sProp 𝕄) := by
    rw [tallyOn_add]
    exact (cred_add _ _).2
  unfold crA Bo
  iintro ⟨#HK, ⟨c1, c2⟩, ⟨c3, c4⟩, ⟨C1, C2⟩, HO⟩ Hk
  ihave c1 := (hc false) $$ [c1 c3]
  · isplitl [c1]; · iexact c1
    iexact c3
  ihave c2 := (hc true) $$ [c2 c4]
  · isplitl [c2]; · iexact c2
    iexact c4
  iapply h $$ [c1 c2 C1 C2 HO]
  · isplitr; · iexact HK
    isplitl [c1]; · iexact c1
    isplitl [c2]; · iexact c2
    iframe ∗ #
  iintro ⟨HO, C1, C2⟩
  iapply Hk
  iframe ∗ #

/-- The finished rows handed to the gather. -/
theorem wp_proC (c : Dev nD) (d : Bool) (FI : Vec F S512x1024 .bf16) (hv : ∀ u, AC d u 7 c = hfV u FI)
    {α : Type} {Q : α → sProp 𝕄} {k : PUnit → KProg F α} :
    iprop(AnyS c d 0 ∗ owns (c : Thread nD τ) (fiM d) fullShare FI)
      ⊢ iprop(((Src AC c d 0 7 ∗ owns (c : Thread nD τ) (fiM d) fullShare FI) -∗ WP c (k ⟨⟩) Q) -∗ WP c (proC d >>= k) Q) := by
  unfold proC Src AnyS
  simp only [Prog.bind_assoc]
  rw [hv, hv]
  iintro ⟨A, P⟩ Hk
  iapply (wp_loadFi c d FI) $$ P
  iintro P
  iapply (wp_storeS c d FI) $$ A
  iintro A
  iapply Hk
  isplitl [A]; · iexact A
  iexact P

/-- Where the result is known after a gathering hop. -/
def DG2 (c : Dev nD) (t : Fin 7) (D : Set S4096x2048.Idx) : Set S4096x2048.Idx := DG c t 1 (DG c t 0 D)

/-- A gathering hop and its release. -/
theorem wp_goC (c : Dev nD) (t : Fin 7) {h h' n m : ℕ} {p q : Fin 2} {r r' rq : ℕ} (H : IsHop h p r) (hn : 13 - n = h) (hm : n + 1 = m) (hh' : h + 1 = h')
    (hr' : r + 1 = r') (hh : h < 12) (hn6 : n ≤ 6) (OUT : Vec F S4096x2048 .f32) (D : Set S4096x2048.Idx)
    (hv : ∀ d u, AC d u (h + 1) c = AC d u h (tgtA (!d) c))
    (hG : ∀ d u, extf .f32 (AC d u h (tgtA (!d) c)) bitsLt_bf16_f32 = fun j => OUT ((rG d u c t).emb j))
    {α : Type} {Q : α → sProp 𝕄} {k : PUnit → KProg F α} :
    iprop(Known AC BC KN SN ∗ RA AC c p q r rq h ∗ TA c h p r ∗ Bo (fun d => Avail c d p r) ∗ Agr c oM OUT D ∗ Ow c (owFromC c m))
      ⊢ iprop(((RA AC c q p rq r' h' ∗ Agr c oM OUT (DG2 c t D) ∗ Ow c (owFromC c n)) -∗ WP c (k ⟨⟩) Q)
        -∗ WP c (hopC c t p q >>= fun _ => giveA c >>= k) Q) := by
  subst hn hm hh' hr'
  have hpos : posA (13 - n) 0 = 107 - 6 * n := by unfold posA; rw [if_neg (by omega)]; omega
  have hO : Ab (posA (13 - n) 0 + 6) (owFromC c n) := (Ab.fromC c n (by omega)).mono (by omega)
  show iprop(Known AC BC KN SN ∗ RA AC c p q r rq _ ∗ TA c _ p r ∗ Bo (fun d => Avail c d p r) ∗ Agr c oM OUT D ∗ Ow c (addA c (13 - n) (owFromC c n))) ⊢ _
  unfold TA RA
  iintro ⟨#HK, ⟨HS, HA, Hp, Hq, #HC⟩, ⟨HT, Hg⟩, #HV, HX, HO⟩ Hk
  iapply (wp_hopC AC BC KN SN c t H hO OUT D hv hG) $$ [HS HA Hp HT HX HO]
  · iframe ∗ #
  iintro ⟨HS, HD, HX, HO⟩
  iapply (wp_giveRel AC BC KN SN c H hh (owFromC c n)) $$ [HD Hg HO]
  · iframe ∗ #
  iintro ⟨Hp, HA, #HC', HO⟩
  iapply Hk
  unfold DG2
  iframe ∗ #

/-- A credit each before it. -/
theorem wp_nextC (c : Dev nD) (t : Fin 7) {h h' n m j k' : ℕ} {p q : Fin 2} {r r' rq : ℕ} (H : IsHop h p r) (hn : 13 - n = h) (hm : n + 1 = m) (hh' : h + 1 = h')
    (hr' : r + 1 = r') (hh : h < 12) (hk' : j + 1 = k') (hjh : j + 2 = h) (hpj : pslot j = p) (hrj : rnd j + 1 = r) (hn4 : n ≤ 4) (OUT : Vec F S4096x2048 .f32) (D : Set S4096x2048.Idx)
    (hv : ∀ d u, AC d u (h + 1) c = AC d u h (tgtA (!d) c))
    (hG : ∀ d u, extf .f32 (AC d u h (tgtA (!d) c)) bitsLt_bf16_f32 = fun j => OUT ((rG d u c t).emb j))
    {α : Type} {Q : α → sProp 𝕄} {k : PUnit → KProg F α} :
    iprop(Known AC BC KN SN ∗ RA AC c p q r rq h ∗ TA c h p r ∗ crA c j ∗ Bo (fun d => Cred AC BC c (.cA d) j) ∗ Agr c oM OUT D ∗ Ow c (owFromC c m))
      ⊢ iprop(((RA AC c q p rq r' h' ∗ Bo (fun d => Cred AC BC c (.cA d) k') ∗ Agr c oM OUT (DG2 c t D) ∗ Ow c (owFromC c n)) -∗ WP c (k ⟨⟩) Q)
        -∗ WP c (waitCrA 1#32 >>= fun _ => hopC c t p q >>= fun _ => giveA c >>= k) Q) := by
  subst hk'
  have hO' : Ab (posA j 0 + 12) (owFromC c m) := (Ab.fromC c m (by omega)).mono (by unfold posA; rw [if_neg (by omega)]; omega)
  iintro ⟨#HK, HR, HT, Hc, HC, HX, HO⟩ Hk
  iapply (wp_crA AC BC KN SN c (k := j) (j := j) (b := posA j 0 + 12) (by rw [posA_add j 5]; omega) (by unfold posA; rw [if_neg (by omega)]; show _ ≤ 113; omega) hO') $$ [Hc HC HO]
  · iframe ∗ #
  iintro ⟨HC, HO⟩
  ihave #HV := (avail_cred AC BC c (Nat.lt_succ_self j) hpj hrj) $$ HC
  iapply (wp_goC AC BC KN SN c t H hn hm hh' hr' hh (by omega) OUT D hv hG) $$ [HR HT HX HO]
  · iframe ∗ #
  iintro ⟨HR, HX, HO⟩
  iapply Hk
  iframe ∗ #

/-- Where the result is known at the end. -/
def DGall (c : Dev nD) (D : Set S4096x2048.Idx) : Set S4096x2048.Idx :=
  DG2 c 6 (DG2 c 5 (DG2 c 4 (DG2 c 3 (DG2 c 2 (DG2 c 1 (DG2 c 0 D))))))

/-- The whole gather. -/
theorem wp_partC (c : Dev nD) (FI : Bool → Vec F S512x1024 .bf16) (OUT : Vec F S4096x2048 .f32) (D : Set S4096x2048.Idx)
    (h7 : ∀ d u, AC d u 7 c = hfV u (FI d))
    (hv : ∀ (t : Fin 7), t.val < 6 → ∀ d u, AC d u (7 + t.val + 1) c = AC d u (7 + t.val) (tgtA (!d) c))
    (hG : ∀ (t : Fin 7) d u, extf .f32 (AC d u (7 + t.val) (tgtA (!d) c)) bitsLt_bf16_f32 = fun j => OUT ((rG d u c t).emb j))
    {α : Type} {Q : α → sProp 𝕄} {k : PUnit → KProg F α} :
    iprop(Known AC BC KN SN ∗ Bo (fun d => AnyS c d 0) ∗ Bo (fun d => AnyS c d 1) ∗ Bo (fun d => SlotAt c d 0 4) ∗ Bo (fun d => SlotAt c d 1 3)
        ∗ Bo (fun d => CumA c d 7) ∗ Bo (fun d => Cred AC BC c (.cA d) 5)
        ∗ (TA c 7 0 4 ∗ TA c 8 1 3 ∗ TA c 9 0 5 ∗ TA c 10 1 4 ∗ TA c 11 0 6 ∗ Bo (HTS c 12 1 5) ∗ Bo (HTS c 13 0 7))
        ∗ (crA c 5 ∗ crA c 6 ∗ crA c 7 ∗ crA c 8 ∗ crA c 9 ∗ crA c 10 ∗ crA c 11)
        ∗ Bo (fun d => owns (c : Thread nD τ) (fiM d) fullShare (FI d)) ∗ Agr c oM OUT D ∗ Ow c (owFromC c 7))
      ⊢ iprop(((Bo (Done AC c 12 1 5) ∗ Bo (Done AC c 13 0 7) ∗ Bo (fun d => Cred AC BC c (.cA d) 12)
            ∗ Bo (fun d => owns (c : Thread nD τ) (fiM d) fullShare (FI d)) ∗ Agr c oM OUT (DGall c D) ∗ Ow c 0)
          -∗ WP c (k ⟨⟩) Q) -∗ WP c (partC c >>= k) Q) := by
  have H (h : ℕ) (p : Fin 2) (r : ℕ) (e : hopOf p r = h ∧ pslot h = p ∧ rnd h = r ∧ h < 14 ∧ r < nR (.sA false p 0)) : IsHop h p r := ⟨e.1, e.2.1, e.2.2.1, e.2.2.2.1, e.2.2.2.2⟩
  have H12 : IsHop 12 1 5 := H _ _ _ (by decide)
  have H13 : IsHop 13 0 7 := H _ _ _ (by decide)
  have hO12 : Ab (posA 12 0 + 6) (owFromC c 1) := (Ab.fromC c 1 (by omega)).mono (by decide)
  have hO13 : Ab (posA 13 0 + 6) (owFromC c 0) := (Ab.fromC c 0 (by omega)).mono (by decide)
  have o12 : owG c 12 true = 0 ∧ owG c 12 false = 0 := ⟨tallyAt_zero .., tallyAt_zero ..⟩
  have o13 : owG c 13 true = 0 ∧ owG c 13 false = 0 := ⟨tallyAt_zero .., tallyAt_zero ..⟩
  unfold partC
  simp only [Prog.bind_assoc]
  iintro ⟨#HK, ⟨A, A'⟩, HA, Hp, Hq, #HCu, HC, ⟨t7, t8, t9, t10, t11, t12, t13⟩, ⟨c5, c6, c7, c8, c9, c10, c11⟩, ⟨P, P'⟩, HX, HO⟩ Hk
  iapply (wp_proC AC c false (FI false) (h7 false)) $$ [A P]
  · iframe ∗
  iintro ⟨A, P⟩
  iapply (wp_proC AC c true (FI true) (h7 true)) $$ [A' P']
  · iframe ∗
  iintro ⟨A', P'⟩
  iapply (wp_crA2 AC BC KN SN c (k := 5) (j := 5) (b := 71) (by decide) (by decide) (by decide) (Ab.fromC c 7 (by omega))) $$ [c5 c6 HC HO]
  · iframe ∗ #
  iintro ⟨HC, HO⟩
  ihave #V0 := (avail_cred AC BC c (k := 6) (j := 6) (p := 0) (r := 4) (by decide) (by decide) (by decide)) $$ HC
  ihave #V1 := (avail_cred AC BC c (k := 6) (j := 5) (p := 1) (r := 3) (by decide) (by decide) (by decide)) $$ HC
  iapply (wp_goC AC BC KN SN c 0 (h := 7) (h' := 8) (n := 6) (m := 7) (p := 0) (q := 1) (r := 4) (r' := 5) (rq := 3)
    (H _ _ _ (by decide)) rfl rfl rfl rfl (by decide) (by decide) OUT D (hv 0 (by decide)) (hG 0)) $$ [A A' HA Hp Hq t7 HX HO]
  · unfold RA Bo; beta_reduce; iframe ∗ #
  iintro ⟨HR, HX, HO⟩
  iapply (wp_goC AC BC KN SN c 1 (h := 8) (h' := 9) (n := 5) (m := 6) (p := 1) (q := 0) (r := 3) (r' := 4) (rq := 5)
    (H _ _ _ (by decide)) rfl rfl rfl rfl (by decide) (by decide) OUT _ (hv 1 (by decide)) (hG 1)) $$ [HR t8 HX HO]
  · iframe ∗ #
  iintro ⟨HR, HX, HO⟩
  iapply (wp_nextC AC BC KN SN c 2 (h := 9) (h' := 10) (n := 4) (m := 5) (j := 7) (k' := 8) (p := 0) (q := 1) (r := 5) (r' := 6) (rq := 4)
    (H _ _ _ (by decide)) rfl rfl rfl rfl (by decide) rfl rfl (by decide) (by decide) (by decide) OUT _ (hv 2 (by decide)) (hG 2)) $$ [HR t9 c7 HC HX HO]
  · iframe ∗ #
  iintro ⟨HR, HC, HX, HO⟩
  iapply (wp_nextC AC BC KN SN c 3 (h := 10) (h' := 11) (n := 3) (m := 4) (j := 8) (k' := 9) (p := 1) (q := 0) (r := 4) (r' := 5) (rq := 6)
    (H _ _ _ (by decide)) rfl rfl rfl rfl (by decide) rfl rfl (by decide) (by decide) (by decide) OUT _ (hv 3 (by decide)) (hG 3)) $$ [HR t10 c8 HC HX HO]
  · iframe ∗ #
  iintro ⟨HR, HC, HX, HO⟩
  iapply (wp_nextC AC BC KN SN c 4 (h := 11) (h' := 12) (n := 2) (m := 3) (j := 9) (k' := 10) (p := 0) (q := 1) (r := 6) (r' := 7) (rq := 5)
    (H _ _ _ (by decide)) rfl rfl rfl rfl (by decide) rfl rfl (by decide) (by decide) (by decide) OUT _ (hv 4 (by decide)) (hG 4)) $$ [HR t11 c9 HC HX HO]
  · iframe ∗ #
  iintro ⟨HR, HC, HX, HO⟩
  unfold RA
  icases HR with ⟨HS, HA, Hp, Hq, #HCu'⟩
  iapply (wp_crA AC BC KN SN c (k := 10) (j := 10) (b := 101) (by decide) (by decide) (Ab.fromC c 2 (by omega))) $$ [c10 HC HO]
  · iframe ∗ #
  iintro ⟨HC, HO⟩
  ihave #V12 := (avail_cred AC BC c (k := 10) (j := 10) (p := 1) (r := 5) (by decide) (by decide) (by decide)) $$ HC
  ihave HO := (show Ow c (owFromC c 2) ⊢ (Ow c (addA c 12 (owFromC c 1)) : sProp 𝕄) from Entails.refl _) $$ HO
  iapply (wp_hopC AC BC KN SN c 5 (q := 0) H12 hO12 OUT _ (hv 5 (by decide)) (hG 5)) $$ [HS HA Hp t12 HX HO]
  · iframe ∗ #
  iintro ⟨HS, HD12, HX, HO⟩
  rw [o12.1, o12.2, add_zero, add_zero]
  iapply (wp_crA AC BC KN SN c (k := 11) (j := 11) (b := 107) (by decide) (by decide) (Ab.fromC c 1 (by omega))) $$ [c11 HC HO]
  · iframe ∗ #
  iintro ⟨HC, HO⟩
  ihave #V13 := (avail_cred AC BC c (k := 11) (j := 11) (p := 0) (r := 7) (by decide) (by decide) (by decide)) $$ HC
  ihave HO := (show Ow c (owFromC c 1) ⊢ (Ow c (addA c 13 (owFromC c 0)) : sProp 𝕄) from Entails.refl _) $$ HO
  iapply (wp_hopCL AC BC KN SN c 6 H13 hO13 OUT _ (hG 6)) $$ [HS Hq t13 HX HO]
  · iframe ∗ #
  iintro ⟨HD13, HX, HO⟩
  rw [o13.1, o13.2, add_zero, add_zero]
  iapply Hk
  ihave HO := (show Ow c (owFromC c 0) ⊢ (Ow c 0 : sProp 𝕄) from Entails.refl _) $$ HO
  unfold DGall DG2 Bo
  beta_reduce
  iframe ∗ #

end Cert.KProof

end
-- ==== Proof.Body.lean ====
/-
  The whole body on one device: from the tokens, the credits and the buffers to the result.
-/
module

public import proofs.«01_k».proof.Proof.Parts

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.SiteBlocks (L lv mem_L mem_L' mayWait_of)

variable {F : FTy → Type} [FloatOps F]

local notation "𝕄" => MT nD τ sig ℕ (Elt F) ℕ UU ℕ

variable (AC : Bool → Fin 2 → ℕ → Dev nD → FVec F S256x1024 .bf16) (BC : Bool → ℕ → Dev nD → FVec F S128x1024 .bf16)
variable (KN : Dev nD × Cl → ℕ) (SN : SKey → ℕ)

/-! ## What a device starts from -/

/-- A statement of every cell of a device, by direction. -/
def PD (Φ : Cl → sProp 𝕄) (d : Bool) : sProp 𝕄 :=
  iprop(Φ (.cA d) ∗ Φ (.cB d) ∗ (Φ (.sA d 0 0) ∗ Φ (.sA d 0 1) ∗ Φ (.rA d 0 0) ∗ Φ (.rA d 0 1)) ∗ (Φ (.sA d 1 0) ∗ Φ (.sA d 1 1) ∗ Φ (.rA d 1 0) ∗ Φ (.rA d 1 1))
    ∗ (Φ (.sB d 0) ∗ Φ (.rB d 0)) ∗ (Φ (.sB d 1) ∗ Φ (.rB d 1)))

theorem bigSep_Cl (Φ : Cl → sProp 𝕄) : bigSep Finset.univ Φ
    = bigSepL [.bar, .cA false, .cB false, .sA false 0 0, .sA false 0 1, .rA false 0 0, .rA false 0 1, .sA false 1 0, .sA false 1 1, .rA false 1 0, .rA false 1 1,
      .sB false 0, .rB false 0, .sB false 1, .rB false 1,
      .cA true, .cB true, .sA true 0 0, .sA true 0 1, .rA true 0 0, .rA true 0 1, .sA true 1 0, .sA true 1 1, .rA true 1 0, .rA true 1 1,
      .sB true 0, .rB true 0, .sB true 1, .rB true 1] Φ :=
  bigSep_univ_eq_bigSepL _ (by decide) (by decide) Φ

theorem Cl_split (Φ : Cl → sProp 𝕄) : bigSep Finset.univ Φ ⊢ iprop(Φ .bar ∗ Bo (PD Φ)) := by
  rw [bigSep_Cl]
  show iprop(_ ∗ _ ∗ _ ∗ _ ∗ _ ∗ _ ∗ _ ∗ _ ∗ _ ∗ _ ∗ _ ∗ _ ∗ _ ∗ _ ∗ _ ∗ _ ∗ _ ∗ _ ∗ _ ∗ _ ∗ _ ∗ _ ∗ _ ∗ _ ∗ _ ∗ _ ∗ _ ∗ _ ∗ _) ⊢ _
  unfold Bo PD
  beta_reduce
  iintro ⟨b, a1, a2, a3, a4, a5, a6, a7, a8, a9, a10, a11, a12, a13, a14, b1, b2, b3, b4, b5, b6, b7, b8, b9, b10, b11, b12, b13, b14⟩
  iframe ∗
  iapply (show (bigSepL [Cl.rB true 1] Φ : sProp 𝕄) ⊢ Φ (Cl.rB true 1) from Entails.refl _)
  iexact b14
theorem Cl_join (Φ : Cl → sProp 𝕄) : iprop(Φ .bar ∗ Bo (PD Φ)) ⊢ bigSep Finset.univ Φ := by
  rw [bigSep_Cl]
  show _ ⊢ iprop(_ ∗ _ ∗ _ ∗ _ ∗ _ ∗ _ ∗ _ ∗ _ ∗ _ ∗ _ ∗ _ ∗ _ ∗ _ ∗ _ ∗ _ ∗ _ ∗ _ ∗ _ ∗ _ ∗ _ ∗ _ ∗ _ ∗ _ ∗ _ ∗ _ ∗ _ ∗ _ ∗ _ ∗ _)
  unfold Bo PD
  beta_reduce
  iintro ⟨b, ⟨a1, a2, ⟨a3, a4, a5, a6⟩, ⟨a7, a8, a9, a10⟩, ⟨a11, a12⟩, a13, a14⟩, ⟨b1, b2, ⟨b3, b4, b5, b6⟩, ⟨b7, b8, b9, b10⟩, ⟨b11, b12⟩, b13, b14⟩⟩
  iframe ∗
  iapply (show Φ (Cl.rB true 1) ⊢ (bigSepL [Cl.rB true 1] Φ : sProp 𝕄) from Entails.refl _)
  iexact b14

/-- The readers' positions, -/
def Rdr (c : Dev nD) (d : Bool) : sProp 𝕄 :=
  iprop(readerAt ES (keyA c d 0) 0 ∗ readerAt ES (keyA c d 1) 0 ∗ readerAt ES (keyB c d 0) 0 ∗ readerAt ES (keyB c d 1) 0)
/-- and the buffers of a direction, landing slots apart, at any contents. -/
def Scr (c : Dev nD) (d : Bool) : sProp 𝕄 :=
  iprop(AnyS c d 0 ∗ AnyS c d 1 ∗ slotOf (keyA c d 0) ∗ slotOf (keyA c d 1) ∗ anyP (stB d) 0 c ∗ anyP (stB d) 1 c ∗ slotOf (keyB c d 0) ∗ slotOf (keyB c d 1)
    ∗ (∃ X, owns (c : Thread nD τ) (plM d) fullShare X) ∗ (∃ X, owns (c : Thread nD τ) (fiM d) fullShare X))

/-- The tokens that a device pays with in the plane. -/
def ToksA (c : Dev nD) : sProp 𝕄 :=
  iprop((TA c 0 0 0 ∗ TA c 1 1 0 ∗ TA c 2 0 1 ∗ TA c 3 1 1 ∗ TA c 4 0 2 ∗ TA c 5 1 2 ∗ TA c 6 0 3)
    ∗ (TA c 7 0 4 ∗ TA c 8 1 3 ∗ TA c 9 0 5 ∗ TA c 10 1 4 ∗ TA c 11 0 6 ∗ Bo (HTS c 12 1 5) ∗ Bo (HTS c 13 0 7)))
/-- The credits of the plane. -/
def CrA (c : Dev nD) : sProp 𝕄 :=
  iprop((crA c 0 ∗ crA c 1 ∗ crA c 2 ∗ crA c 3 ∗ crA c 4) ∗ (crA c 5 ∗ crA c 6 ∗ crA c 7 ∗ crA c 8 ∗ crA c 9 ∗ crA c 10 ∗ crA c 11))
/-- Tokens and credits across planes. -/
def ToksB (c : Dev nD) : sProp 𝕄 :=
  iprop((TB c 0 0 0 (iB 0) ∗ TB c 1 1 0 (iB 1) ∗ TB c 2 0 1 (iB 2) ∗ TB c 3 1 1 (iB 3) ∗ TB c 4 0 2 (iB 4) ∗ TB c 5 1 2 (iB 5))
    ∗ (gB c 0 ∗ gB c 1 ∗ gB c 2 ∗ gB c 3))
/-- Those of the start. -/
def ToksI (c : Dev nD) : sProp 𝕄 :=
  iprop(Bo (fun d => dutyTok ER (kcell (tgtA (!d) c, .bar)) 0 d.toNat)
    ∗ Bo (fun d => iprop(dutyTok ER (kcell (tgtB (!d) c, .cB d)) 0 0 ∗ dutyTok ER (kcell (tgtB (!d) c, .cB d)) 0 1))
    ∗ cred (tallyAt (kcell (c, .bar)) 1 1) ∗ cred (tallyAt (kcell (c, .bar)) 2 1))

/-! ## The first steps -/

theorem cred_start (c : Dev nD) (x : Cl) : (atPos ER (kcell (c, x)) 0 ∅ 0 : sProp 𝕄) ⊢ Cred AC BC c x 0 := by
  unfold Cred
  iintro H
  iexists ∅
  isplitr; · ipureintro; exact ⟨Finset.empty_subset _, by simp⟩
  isplitl [H]; · iexact H
  rw [bigSep_empty]; iempintro

theorem at_start (c : Dev nD) (x : Cl) : iprop(Known AC BC KN SN ∗ atPos ER (kcell (c, x)) 0 ∅ 0) ⊢ (AtR c x 0 : sProp 𝕄) := by
  unfold AtR
  iintro ⟨#HK, H⟩
  isplitl [H]; · iexact H
  iapply (known_reached AC BC KN SN (c, x)); iexact HK

/-- A landing slot released for the first time. -/
theorem release0 (k : SKey) : iprop(Known AC BC KN SN ∗ readerAt ES k 0 ∗ slotOf k) ⊢ (|={Set.univ}=> (readerAt ES k 1 ∗ released ES k 1) : sProp 𝕄) := by
  iintro ⟨#HK, R, H⟩
  ihave #HI := (known_slot AC BC KN SN k) $$ HK
  iapply (slot_release ES (Es := Set.univ) (Set.mem_univ (SN k)) (k := k) (S := slotOf k) (slotOf_excl k) 0)
  isplitr; · iexact HI
  isplitl [R]; · iexact R
  iexact H

/-- A direction made ready: everything is released once, all cells stand at their first round. -/
theorem enter (c : Dev nD) (d : Bool) :
    iprop(Known AC BC KN SN ∗ PD (fun x => atPos ER (kcell (c, x)) 0 ∅ 0) d ∗ Rdr c d ∗ Scr c d)
      ⊢ (|={Set.univ}=> (InitA c d ∗ CumB c d 0 ∗ Cred AC BC c (.cA d) 0 ∗ Cred AC BC c (.cB d) 0 ∗ SlotAt c d 0 0 ∗ SlotAt c d 1 0 ∗ SlotB c d 0 0 ∗ SlotB c d 1 0
        ∗ AnyS c d 0 ∗ AnyS c d 1 ∗ anyP (stB d) 0 c ∗ anyP (stB d) 1 c
        ∗ (∃ X, owns (c : Thread nD τ) (plM d) fullShare X) ∗ (∃ X, owns (c : Thread nD τ) (fiM d) fullShare X)) : sProp 𝕄) := by
  unfold PD Rdr Scr SlotAt SlotB InitA CumB InitB
  iintro ⟨#HK, ⟨a, b, ⟨a1, a2, a3, a4⟩, ⟨a5, a6, a7, a8⟩, ⟨b1, b2⟩, b3, b4⟩, ⟨r1, r2, r3, r4⟩, ⟨S, S', s1, s2, P, P', s3, s4, L, L'⟩⟩
  imod (release0 AC BC KN SN (keyA c d 0)) $$ [r1 s1] with ⟨r1, #q1⟩
  · iframe ∗ #
  imod (release0 AC BC KN SN (keyA c d 1)) $$ [r2 s2] with ⟨r2, #q2⟩
  · iframe ∗ #
  imod (release0 AC BC KN SN (keyB c d 0)) $$ [r3 s3] with ⟨r3, #q3⟩
  · iframe ∗ #
  imod (release0 AC BC KN SN (keyB c d 1)) $$ [r4 s4] with ⟨r4, #q4⟩
  · iframe ∗ #
  ihave a := (cred_start AC BC c (.cA d)) $$ a
  ihave b := (cred_start AC BC c (.cB d)) $$ b
  ihave a1 := (at_start AC BC KN SN c _) $$ [a1]
  · isplitr; · iexact HK
    iexact a1
  ihave a2 := (at_start AC BC KN SN c _) $$ [a2]
  · isplitr; · iexact HK
    iexact a2
  ihave a3 := (at_start AC BC KN SN c _) $$ [a3]
  · isplitr; · iexact HK
    iexact a3
  ihave a4 := (at_start AC BC KN SN c _) $$ [a4]
  · isplitr; · iexact HK
    iexact a4
  ihave a5 := (at_start AC BC KN SN c _) $$ [a5]
  · isplitr; · iexact HK
    iexact a5
  ihave a6 := (at_start AC BC KN SN c _) $$ [a6]
  · isplitr; · iexact HK
    iexact a6
  ihave a7 := (at_start AC BC KN SN c _) $$ [a7]
  · isplitr; · iexact HK
    iexact a7
  ihave a8 := (at_start AC BC KN SN c _) $$ [a8]
  · isplitr; · iexact HK
    iexact a8
  ihave b1 := (at_start AC BC KN SN c _) $$ [b1]
  · isplitr; · iexact HK
    iexact b1
  ihave b2 := (at_start AC BC KN SN c _) $$ [b2]
  · isplitr; · iexact HK
    iexact b2
  ihave b3 := (at_start AC BC KN SN c _) $$ [b3]
  · isplitr; · iexact HK
    iexact b3
  ihave b4 := (at_start AC BC KN SN c _) $$ [b4]
  · isplitr; · iexact HK
    iexact b4
  imodintro
  rw [Finset.range_zero, bigSep_empty]
  iframe ∗ #
  iempintro

/-- The barrier with both ring neighbours, and the first credits across planes. -/
theorem wp_bar (c : Dev nD) {α : Type} {Q : α → sProp 𝕄} {k : PUnit → KProg F α} :
    iprop(Known AC BC KN SN ∗ ToksI c ∗ Cred AC BC c .bar 0 ∗ Bo (fun d => InitA c d) ∗ Bo (fun d => CumB c d 0) ∗ Ow c (O₀ c))
      ⊢ iprop(((Bo (fun d => InitA (tgtA d c) d) ∗ Cred AC BC c .bar 2 ∗ Ow c (owFromA c 7)) -∗ WP c (k ⟨⟩) Q) -∗ WP c (bar c >>= k) Q) := by
  have hc : iprop(cred (tallyAt (kcell (c, .bar)) 1 1) ∗ cred (tallyAt (kcell (c, .bar)) 2 1))
      ⊢ (cred (tallyOn (kcell (c, .bar)) (Finsupp.single 1 1 + Finsupp.single 2 1)) : sProp 𝕄) := by
    rw [tallyOn_add]
    exact (cred_add _ _).2
  unfold bar giveB ToksI
  simp only [Prog.bind_assoc]
  iintro ⟨#HK, ⟨⟨t1, t2⟩, ⟨⟨u1, u2⟩, ⟨u3, u4⟩⟩, c1, c2⟩, HB, ⟨#I1, #I2⟩, ⟨#J1, #J2⟩, HO⟩ Hk
  iapply (wp_sig AC BC KN SN c (tgtA true c) .bar barS rfl (j := 0) (ι := 1) rfl rfl (by decide)
    (owFromA c 7 + owI c true + owI c false + owBar c true)) $$ [HO t1]
  · isplitr; · iexact HK
    isplitl [HO]; · iexact HO
    isplitl [t1]; · iexact t1
    iapply (Entails.of_eq (show InitA c false = (pay AC BC (tgtA true c) .bar 0 0 : sProp 𝕄) by
      show _ = (InitA (tgtA false (tgtA (!false) c)) false : sProp 𝕄)
      rw [tgtA_tgtA]))
    iexact I1
  iintro HO
  iapply (wp_sig AC BC KN SN c (tgtA false c) .bar barS rfl (j := 1) (ι := 2) rfl rfl (by decide)
    (owFromA c 7 + owI c true + owI c false)) $$ [HO t2]
  · isplitr; · iexact HK
    isplitl [HO]; · iexact HO
    isplitl [t2]; · iexact t2
    iapply (Entails.of_eq (show InitA c true = (pay AC BC (tgtA false c) .bar 0 1 : sProp 𝕄) by
      show _ = (InitA (tgtA true (tgtA (!true) c)) true : sProp 𝕄)
      rw [tgtA_tgtA]))
    iexact I2
  iintro HO
  ihave c1 := hc $$ [c1 c2]
  · isplitl [c1]; · iexact c1
    iexact c2
  unfold semWaitWord
  simp only [Prog.lift, Prog.bind_op, Prog.bind_ret]
  iapply (wp_waitC AC BC KN SN c .bar (k := 0) (n := 2) (b := 3) rfl rfl (Finsupp.single 1 1 + Finsupp.single 2 1)
    (by rw [Idealize.SL.Util.total_add, Idealize.SL.Util.total_single, Idealize.SL.Util.total_single])
    (fun i hi => by
      rcases Finset.mem_union.mp (Finsupp.support_add hi) with hi | hi
      · have hi := Finset.mem_singleton.mp (Finsupp.support_single_subset hi)
        omega
      · have hi := Finset.mem_singleton.mp (Finsupp.support_single_subset hi)
        omega) (by decide) (by decide)
    (fun K => wpE_semWait_eq 𝒱₀ (c : Thread nD τ) none Set.univ K) (Ab.start₂ c)) $$ [c1 HO HB]
  · isplitr; · iexact HK
    isplitl [c1]; · iexact c1
    isplitl [HO]; · iexact HO
    iexact HB
  iintro ⟨HO, HB⟩
  ihave #V1 := (cred_bar AC BC c false) $$ HB
  ihave #V2 := (cred_bar AC BC c true) $$ HB
  iapply (wp_sig2 AC BC KN SN c (tgtB true c) false (ι := 3) (owFromA c 7 + owI c true)) $$ [HO u1 u2]
  · isplitr; · iexact HK
    isplitl [HO]; · iexact HO
    isplitl [u1]; · iexact u1
    isplitl [u2]; · iexact u2
    iapply (Entails.of_eq (show CumB c false 0 = (CumB (tgtB false (tgtB true c)) false 0 : sProp 𝕄) by
      show _ = (CumB (tgtB false (tgtB (!false) c)) false 0 : sProp 𝕄)
      rw [tgtB_tgtB]))
    iexact J1
  iintro HO
  iapply (wp_sig2 AC BC KN SN c (tgtB false c) true (ι := 4) (owFromA c 7)) $$ [HO u3 u4]
  · isplitr; · iexact HK
    isplitl [HO]; · iexact HO
    isplitl [u3]; · iexact u3
    isplitl [u4]; · iexact u4
    iapply (Entails.of_eq (show CumB c true 0 = (CumB (tgtB true (tgtB false c)) true 0 : sProp 𝕄) by
      show _ = (CumB (tgtB true (tgtB (!true) c)) true 0 : sProp 𝕄)
      rw [tgtB_tgtB]))
    iexact J2
  iintro HO
  iapply Hk
  unfold Bo
  isplitr
  · isplitr; · iexact V1
    iexact V2
  isplitl [HB]; · iexact HB
  iexact HO

/-- The first product. -/
theorem wp_pro (c : Dev nD) (d : Bool) (X : Vec F S4096x128 .fp8e4m3) (W : Vec F S128x2048 .fp8e5m2)
    (hv : ∀ u, AC d u 0 c = hfV u (prodV (fun j => X ((rX0 c).emb j)) (fun j => W ((rW d).emb j))))
    {α : Type} {Q : α → sProp 𝕄} {k : PUnit → KProg F α} :
    iprop(AnyS c d 0 ∗ XW c X W)
      ⊢ iprop(((Src AC c d 0 0 ∗ XW c X W) -∗ WP c (k ⟨⟩) Q) -∗ WP c (pro c d >>= k) Q) := by
  unfold pro Src AnyS XW
  simp only [Prog.bind_assoc]
  rw [hv, hv]
  iintro ⟨A, x, w⟩ Hk
  iapply (wp_loadX0 c X) $$ x
  iintro x
  iapply (wp_loadW c d W) $$ w
  iintro w
  iapply (wp_storeS c d _) $$ A
  iintro A
  iapply Hk
  isplitl [A]; · iexact A
  isplitl [x]; · iexact x
  iexact w

/-! ## The end -/

/-- A direction done: every counter is at zero, the buffers are whole again. -/
theorem leave (c : Dev nD) (d : Bool) :
    iprop(Known AC BC KN SN ∗ Cred AC BC c (.cA d) 12 ∗ Cred AC BC c (.cB d) 6 ∗ Done AC c 12 1 5 d ∗ Done AC c 13 0 7 d ∗ DoneB BC c 4 0 2 d ∗ DoneB BC c 5 1 2 d
        ∗ (∃ X, owns (c : Thread nD τ) (plM d) fullShare X) ∗ (∃ X, owns (c : Thread nD τ) (fiM d) fullShare X))
      ⊢ (|={Set.univ}=> (PD (fun x => semVal (kcell (c, x)) 0) d ∗ Scr c d) : sProp 𝕄) := by
  unfold PD Scr Done DoneB Land AnyS
  rw [slotOf_A, slotOf_A, slotOf_B, slotOf_B]
  iintro ⟨#HK, a, b, ⟨⟨a5, a7, s1, l1⟩, ⟨a6, a8, s2, l2⟩, -⟩, ⟨⟨a1, a3, s3, l3⟩, ⟨a2, a4, s4, l4⟩, -⟩, ⟨b1, b2, s5, l5, -⟩, ⟨b3, b4, s6, l6, -⟩, L, L'⟩
  ihave l1 := (ownH_any (cmA d) 1 0 c _) $$ l1
  ihave l2 := (ownH_any (cmA d) 1 1 c _) $$ l2
  ihave l3 := (ownH_any (cmA d) 0 0 c _) $$ l3
  ihave l4 := (ownH_any (cmA d) 0 1 c _) $$ l4
  ihave l5 := (ownP_any (cmB d) 0 c _) $$ l5
  ihave l6 := (ownP_any (cmB d) 1 c _) $$ l6
  imod (cred_close AC BC KN SN c (.cA d) rfl rfl) $$ [a] with a
  · isplitr; · iexact HK
    iexact a
  imod (cred_close AC BC KN SN c (.cB d) rfl rfl) $$ [b] with b
  · isplitr; · iexact HK
    iexact b
  imod (at_close AC BC KN SN c (.sA d 0 0)) $$ [a1] with a1
  · isplitr; · iexact HK
    iexact a1
  imod (at_close AC BC KN SN c (.sA d 0 1)) $$ [a2] with a2
  · isplitr; · iexact HK
    iexact a2
  imod (at_close AC BC KN SN c (.rA d 0 0)) $$ [a3] with a3
  · isplitr; · iexact HK
    iexact a3
  imod (at_close AC BC KN SN c (.rA d 0 1)) $$ [a4] with a4
  · isplitr; · iexact HK
    iexact a4
  imod (at_close AC BC KN SN c (.sA d 1 0)) $$ [a5] with a5
  · isplitr; · iexact HK
    iexact a5
  imod (at_close AC BC KN SN c (.sA d 1 1)) $$ [a6] with a6
  · isplitr; · iexact HK
    iexact a6
  imod (at_close AC BC KN SN c (.rA d 1 0)) $$ [a7] with a7
  · isplitr; · iexact HK
    iexact a7
  imod (at_close AC BC KN SN c (.rA d 1 1)) $$ [a8] with a8
  · isplitr; · iexact HK
    iexact a8
  imod (at_close AC BC KN SN c (.sB d 0)) $$ [b1] with b1
  · isplitr; · iexact HK
    iexact b1
  imod (at_close AC BC KN SN c (.rB d 0)) $$ [b2] with b2
  · isplitr; · iexact HK
    iexact b2
  imod (at_close AC BC KN SN c (.sB d 1)) $$ [b3] with b3
  · isplitr; · iexact HK
    iexact b3
  imod (at_close AC BC KN SN c (.rB d 1)) $$ [b4] with b4
  · isplitr; · iexact HK
    iexact b4
  imodintro
  iframe ∗

/-! ## The body -/

/-- What the transfers of device `c` carry and what its buffers end up as, from its input blocks and the neighbours' transfers. -/
structure Spec (c : Dev nD) (X : Vec F S4096x128 .fp8e4m3) (W : Vec F S128x2048 .fp8e5m2) (sc : F .f32) (PL FI : Bool → Vec F S512x1024 .bf16)
    (OUT : Vec F S4096x2048 .f32) : Prop where
  a0 : ∀ d u, AC d u 0 c = hfV u (prodV (fun j => X ((rX0 c).emb j)) (fun j => W ((rW d).emb j)))
  aS : ∀ (s : Fin 7), s.val < 6 → ∀ d u, AC d u (s.val + 1) c = accV u (prodA c X W s d) (upH (AC d u s.val (tgtA (!d) c)))
  pl : ∀ d u, sameV' (accV u (prodA c X W 6 d) (upH (AC d u 6 (tgtA (!d) c)))) = fun j => PL d ((rPl u).emb j)
  b0 : ∀ d, BC d 0 c = fun j => PL d ((rB0 c).emb j)
  b1 : ∀ d, BC d 1 c = addf (BC d 0 (tgtB (!d) c)) (fun j => PL d ((rB d c 1).emb j))
  b2 : ∀ d, BC d 2 c = addf (BC d 1 (tgtB (!d) c)) (fun j => PL d ((rB d c 2).emb j))
  b3 : ∀ d, BC d 3 c = truncV (siluV sc (upP (BC d 2 (tgtB (!d) c))) (fun j => PL d ((rB d c 3).emb j)))
  b4 : ∀ d, BC d 4 c = BC d 3 (tgtB (!d) c)
  b5 : ∀ d, BC d 5 c = BC d 4 (tgtB (!d) c)
  f3 : ∀ d, sameV (truncV (siluV sc (upP (BC d 2 (tgtB (!d) c))) (fun j => PL d ((rB d c 3).emb j)))) = fun j => FI d ((rB d c 3).emb j)
  o3 : ∀ d, siluV sc (upP (BC d 2 (tgtB (!d) c))) (fun j => PL d ((rB d c 3).emb j)) = fun j => OUT ((rO d c 3).emb j)
  fS : ∀ d (s : Fin 3), sameV (BC d (3 + s.val) (tgtB (!d) c)) = fun j => FI d ((rB d c s.castSucc).emb j)
  oS : ∀ d (s : Fin 3), extf .f32 (BC d (3 + s.val) (tgtB (!d) c)) bitsLt_bf16_f32 = fun j => OUT ((rO d c s.castSucc).emb j)
  a7 : ∀ d u, AC d u 7 c = hfV u (FI d)
  aG : ∀ (t : Fin 7), t.val < 6 → ∀ d u, AC d u (7 + t.val + 1) c = AC d u (7 + t.val) (tgtA (!d) c)
  oG : ∀ (t : Fin 7) d u, extf .f32 (AC d u (7 + t.val) (tgtA (!d) c)) bitsLt_bf16_f32 = fun j => OUT ((rG d u c t).emb j)

theorem wp_body (c : Dev nD) (X : Vec F S4096x128 .fp8e4m3) (W : Vec F S128x2048 .fp8e5m2) (SX SW : Vec F S1 .f32) (PL FI : Bool → Vec F S512x1024 .bf16)
    (OUT : Vec F S4096x2048 .f32) (H : Spec AC BC c X W (k0_pay2 (SX i0) (SW i0)) PL FI OUT)
    (hPl : ∀ i, i ∈ (∅ ∪ Set.range (rPl 0).emb ∪ Set.range (rPl 1).emb : Set S512x1024.Idx)) (hFi : ∀ d i, i ∈ DFall c d)
    (hOut : ∀ i, i ∈ DGall c (DOall c)) {q0 q1 : PosShare TreeShare} {Q : PUnit → sProp 𝕄} :
    iprop(Known AC BC KN SN ∗ (bigSep Finset.univ fun x : Cl => atPos ER (kcell (c, x)) 0 ∅ 0) ∗ Bo (Rdr c) ∗ Bo (Scr c) ∗ ToksI c ∗ ToksA c ∗ CrA c ∗ ToksB c
        ∗ Ow c (O₀ c) ∗ XW c X W ∗ (owns (c : Thread nD τ) sxM q0 SX ∗ owns (c : Thread nD τ) swM q1 SW) ∗ (∃ Y, owns (c : Thread nD τ) oM fullShare Y))
      ⊢ iprop((((bigSep Finset.univ fun x : Cl => semVal (kcell (c, x)) 0) ∗ Bo (Scr c) ∗ Ow c 0 ∗ XW c X W
            ∗ (owns (c : Thread nD τ) sxM q0 SX ∗ owns (c : Thread nD τ) swM q1 SW) ∗ owns (c : Thread nD τ) oM fullShare OUT) -∗ Q ⟨⟩)
          -∗ WP c bodyProg Q) := by
  unfold bodyProg
  simp only [Prog.lift, Prog.bind_op, Prog.bind_ret]
  unfold WP
  rw [wp_deviceId]
  iintro ⟨#HK, Hat, ⟨R1, R2⟩, ⟨S1, S2⟩, TI, TA, CA, TB, HO, HXW, HS, ⟨%Y, HY⟩⟩ Hk
  ihave Hat := (Cl_split _) $$ Hat
  icases Hat with ⟨aB, a1, a2⟩
  ihave aB := (cred_start AC BC c .bar) $$ aB
  imod (enter AC BC KN SN c false) $$ [a1 R1 S1] with ⟨#i1, #j1, C1, D1, A1, A1', B1, B1', s1, s1', p1, p1', ⟨%P1, P1⟩, %F1, F1⟩
  · iframe ∗ #
  imod (enter AC BC KN SN c true) $$ [a2 R2 S2] with ⟨#i2, #j2, C2, D2, A2, A2', B2, B2', s2, s2', p2, p2', ⟨%P2, P2⟩, %F2, F2⟩
  · iframe ∗ #
  ihave P1 := (Agr_start c (plM false) (PL false) P1) $$ P1
  ihave P2 := (Agr_start c (plM true) (PL true) P2) $$ P2
  ihave F1 := (Agr_start c (fiM false) (FI false) F1) $$ F1
  ihave F2 := (Agr_start c (fiM true) (FI true) F2) $$ F2
  ihave HY := (Agr_start c oM OUT Y) $$ HY
  iapply (wp_bar AC BC KN SN c) $$ [TI aB HO]
  · unfold Bo; beta_reduce; iframe ∗ #
  iintro ⟨#V, HB, HO⟩
  iapply (wp_scale c SX SW) $$ HS
  iintro HS
  iapply (wp_pro AC c false X W (H.a0 false)) $$ [s1 HXW]
  · iframe ∗
  iintro ⟨s1, HXW⟩
  iapply (wp_pro AC c true X W (H.a0 true)) $$ [s2 HXW]
  · iframe ∗
  iintro ⟨s2, HXW⟩
  unfold ToksA CrA ToksB
  icases TA with ⟨TA, TC⟩
  icases CA with ⟨CA, CC⟩
  icases TB with ⟨TB, GB⟩
  iapply (wp_partA AC BC KN SN c X W PL H.aS H.pl) $$ [s1 s2 s1' s2' A1 A2 A1' A2' C1 C2 TA CA HXW HO P1 P2]
  · unfold RA Bo; beta_reduce
    ihave #Z1 := (show iprop(emp) ⊢ (CumA c false 0 : sProp 𝕄) by unfold CumA; rw [Finset.range_zero, bigSep_empty]; exact Entails.refl _) $$ []
    · iempintro
    ihave #Z2 := (show iprop(emp) ⊢ (CumA c true 0 : sProp 𝕄) by unfold CumA; rw [Finset.range_zero, bigSep_empty]; exact Entails.refl _) $$ []
    · iempintro
    iframe ∗ #
  iintro ⟨s, s', A, A', #Cu, C, HXW, HO, P1, P2⟩
  ihave P1 := (Agr_all c (plM false) (PL false) hPl) $$ P1
  ihave P2 := (Agr_all c (plM true) (PL true) hPl) $$ P2
  iapply (wp_partB AC BC KN SN c (k0_pay2 (SX i0) (SW i0)) PL FI OUT H.b0 H.b1 H.b2 _ (fun _ => rfl) H.b3 H.f3 H.o3 H.b4 H.b5 H.fS H.oS)
    $$ [p1 p2 p1' p2' B1 B2 B1' B2' D1 D2 TB GB P1 P2 F1 F2 HY HO]
  · unfold Bo; beta_reduce; iframe ∗ #
  iintro ⟨E, E', D, P, ⟨F1, F2⟩, HY, HO⟩
  ihave F1 := (Agr_all c (fiM false) (FI false) (hFi false)) $$ F1
  ihave F2 := (Agr_all c (fiM true) (FI true) (hFi true)) $$ F2
  rw [← Prog.bind_pure (partC c)]
  iapply (wp_partC AC BC KN SN c FI OUT (DOall c) H.a7 H.aG H.oG) $$ [s s' A A' C TC CC F1 F2 HY HO]
  · unfold Bo; beta_reduce; iframe ∗ #
  iintro ⟨⟨G1, G2⟩, ⟨G1', G2'⟩, ⟨C1, C2⟩, ⟨F1, F2⟩, HY, HO⟩
  icases E with ⟨E1, E2⟩
  icases E' with ⟨E1', E2'⟩
  icases D with ⟨D1, D2⟩
  icases P with ⟨P1, P2⟩
  ihave HY := (Agr_all c oM OUT hOut) $$ HY
  imod (cred_close AC BC KN SN c .bar rfl rfl) $$ [HB] with HB
  · isplitr; · iexact HK
    iexact HB
  imod (leave AC BC KN SN c false) $$ [C1 D1 G1 G1' E1 E1' P1 F1] with ⟨a1, S1⟩
  · iframe # ∗
    isplitl [P1]
    · iexists _; iexact P1
    iexists _; iexact F1
  imod (leave AC BC KN SN c true) $$ [C2 D2 G2 G2' E2 E2' P2 F2] with ⟨a2, S2⟩
  · iframe # ∗
    isplitl [P2]
    · iexists _; iexact P2
    iexists _; iexact F2
  rw [Prog.pure_eq_ret, wp_ret]
  imodintro
  iapply Hk
  isplitl [HB a1 a2]
  · iapply (Cl_join _)
    isplitl [HB]; · iexact HB
    isplitl [a1]; · iexact a1
    iexact a2
  unfold Bo
  iframe ∗

end Cert.KProof

end
-- ==== Proof.Ghost.lean ====
/-
  What the launch deals every device: tokens, writes and credits, as its body takes them.
-/
module

public import proofs.«01_k».proof.Proof.Body

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.SiteBlocks (L lv mem_L mem_L' mayWait_of)

variable {F : FTy → Type} [FloatOps F]

local notation "𝕄" => MT nD τ sig ℕ (Elt F) ℕ UU ℕ

variable (AC : Bool → Fin 2 → ℕ → Dev nD → FVec F S256x1024 .bf16) (BC : Bool → ℕ → Dev nD → FVec F S128x1024 .bf16)
variable (KN : Dev nD × Cl → ℕ) (SN : SKey → ℕ)

/-! ## The duty tokens, named by who pays -/

/-- The payments of one device: the halves of the plane transfers (here and at the neighbour), the plane credits, the transfers across planes,
    their credits, and the barrier's signals. -/
abbrev TI : Type := (Fin 14 × Bool × Fin 2 × Bool) ⊕ (Fin 12 × Bool) ⊕ (Fin 6 × Bool × Bool) ⊕ (Fin 6 × Bool) ⊕ Bool

/-- The cell, round and duty of each. -/
def tokC (c : Dev nD) : TI → (Dev nD × Cl) × ℕ × ℕ
  | .inl (h, d, u, false) => ((c, .sA d (pslot h) u), rnd h, 0)
  | .inl (h, d, u, true) => ((tgtA d c, .rA d (pslot h) u), rnd h, 0)
  | .inr (.inl (h, d)) => ((tgtA (!d) c, .cA d), 0, h)
  | .inr (.inr (.inl (b, d, false))) => ((c, .sB d (qslot b)), b / 2, 0)
  | .inr (.inr (.inl (b, d, true))) => ((tgtB d c, .rB d (qslot b)), b / 2, 0)
  | .inr (.inr (.inr (.inl (b, d)))) => ((tgtB (!d) c, .cB d), 0, b)
  | .inr (.inr (.inr (.inr d))) => ((tgtA (!d) c, .bar), 0, d.toNat)

/-- Who pays a duty, and as which of its payments. -/
def tokD : (Dev nD × Cl) × ℕ × ℕ → Dev nD × TI
  | ((c, .sA d p u), r, _) => (c, .inl (Fin.ofNat 14 (hopOf p r), d, u, false))
  | ((c, .rA d p u), r, _) => (tgtA (!d) c, .inl (Fin.ofNat 14 (hopOf p r), d, u, true))
  | ((c, .cA d), _, j) => (tgtA d c, .inr (.inl (Fin.ofNat 12 j, d)))
  | ((c, .sB d p), r, _) => (c, .inr (.inr (.inl (Fin.ofNat 6 (hopOfB p r), d, false))))
  | ((c, .rB d p), r, _) => (tgtB (!d) c, .inr (.inr (.inl (Fin.ofNat 6 (hopOfB p r), d, true))))
  | ((c, .cB d), _, j) => (tgtB d c, .inr (.inr (.inr (.inl (Fin.ofNat 6 j, d)))))
  | ((c, .bar), _, j) => (tgtA (j == 1) c, .inr (.inr (.inr (.inr (j == 1)))))

theorem ofNat_val {n : ℕ} [NeZero n] (h : Fin n) : Fin.ofNat n h.val = h := Fin.ext (Nat.mod_eq_of_lt h.isLt)

theorem tokD_tokC (c : Dev nD) (x : TI) : tokD (tokC c x) = (c, x) := by
  rcases x with ⟨h, d, u, _ | _⟩ | ⟨h, d⟩ | ⟨b, d, _ | _⟩ | ⟨b, d⟩ | d
  · simp only [tokC, tokD, hopOf_pslot h.isLt, ofNat_val]
  · simp only [tokC, tokD, hopOf_pslot h.isLt, ofNat_val, tgtA_tgtA']
  · simp only [tokC, tokD, ofNat_val, tgtA_tgtA]
  · simp only [tokC, tokD, hopOfB_qslot, ofNat_val]
  · simp only [tokC, tokD, hopOfB_qslot, ofNat_val, tgtB_tgtB']
  · simp only [tokC, tokD, ofNat_val, tgtB_tgtB]
  · have e : (d.toNat == 1) = d := by cases d <;> rfl
    simp only [tokC, tokD, e, tgtA_tgtA]

/-- All tokens, by the device that pays. -/
def tokOf (x : Dev nD × TI) : GSem nD τ sig × ℕ × ℕ := (kcell (tokC x.1 x.2).1, (tokC x.1 x.2).2)

theorem tokOf_injective : Function.Injective tokOf := by
  rintro ⟨c, x⟩ ⟨c', x'⟩ h
  have h1 : tokC c x = tokC c' x' := Prod.ext (kcell_injective (congrArg (fun y : GSem nD τ sig × ℕ × ℕ => y.1) h)) (congrArg (fun y : GSem nD τ sig × ℕ × ℕ => y.2) h)
  rw [← tokD_tokC c x, ← tokD_tokC c' x', h1]

/-- The tokens that device `c` pays with. -/
def toksOf (c : Dev nD) : sProp 𝕄 :=
  bigSep Finset.univ fun x : TI => dutyTok ER (tokOf (c, x)).1 (tokOf (c, x)).2.1 (tokOf (c, x)).2.2

/-! ## The write tokens, named by who writes -/

abbrev WI : Type := (Fin 14 × Bool) ⊕ (Fin 6 × Bool)

/-- The slot and the number of the write. -/
def wrC (c : Dev nD) : WI → SKey × ℕ
  | .inl (h, d) => (keyA (tgtA d c) d (pslot h), rnd h)
  | .inr (b, d) => (keyB (tgtB d c) d (qslot b), b / 2)
def wrD : SKey × ℕ → Dev nD × WI
  | ((c, false, d, p), r) => (tgtA (!d) c, .inl (Fin.ofNat 14 (hopOf p r), d))
  | ((c, true, d, p), r) => (tgtB (!d) c, .inr (Fin.ofNat 6 (hopOfB p r), d))

theorem wrD_wrC (c : Dev nD) (x : WI) : wrD (wrC c x) = (c, x) := by
  rcases x with ⟨h, d⟩ | ⟨b, d⟩
  · simp only [wrC, wrD, hopOf_pslot h.isLt, ofNat_val, tgtA_tgtA']
  · simp only [wrC, wrD, hopOfB_qslot, ofNat_val, tgtB_tgtB']

def wrOf (x : Dev nD × WI) : SKey × ℕ := wrC x.1 x.2
theorem wrOf_injective : Function.Injective wrOf := by
  rintro ⟨c, x⟩ ⟨c', x'⟩ h
  have h : wrC c x = wrC c' x' := h
  rw [← wrD_wrC c x, ← wrD_wrC c' x', h]

theorem wrOf_lt (x : Dev nD × WI) : (wrOf x).2 < 8 := by
  rcases x with ⟨c, ⟨h, d⟩ | ⟨b, d⟩⟩
  · show rnd h < 8
    revert h; decide
  · show b.val / 2 < 8
    omega

/-- The writes that device `c` makes. -/
def writesOf (c : Dev nD) : sProp 𝕄 :=
  bigSep Finset.univ fun x : WI => writeTok ES (wrOf (c, x)).1 ((wrOf (c, x)).2 + 1)

theorem bigSep_range_succ (Φ : ℕ → sProp 𝕄) (n : ℕ) : bigSep (Finset.range (n + 1)) Φ = iprop(Φ n ∗ bigSep (Finset.range n) Φ) := by
  rw [Finset.range_add_one, bigSep_insert Finset.notMem_range_self]
  rfl

/-! ## The credits at launch -/

/-- The credits that a device gets for a hop: one per half that arrives, and its neighbour's releases. -/
def crS (c : Dev nD) (h : ℕ) (d : Bool) : sProp 𝕄 :=
  iprop(cred (tallyAt (kcell (c, .rA d (pslot h) 0)) (posA h (2 * (0 : Fin 2).val + d.toNat)) NA)
    ∗ cred (tallyAt (kcell (c, .rA d (pslot h) 1)) (posA h (2 * (1 : Fin 2).val + d.toNat)) NA))
def crG (c : Dev nD) (h : ℕ) (d : Bool) : sProp 𝕄 := cred (tallyAt (kcell (c, .cA d)) (posA h (4 + d.toNat)) (unitA h))
def crP (c : Dev nD) (b : ℕ) (d : Bool) : sProp 𝕄 := cred (tallyAt (kcell (c, .rB d (qslot b))) (posB b d.toNat) NB)
def crGB (c : Dev nD) (b : ℕ) (d : Bool) : sProp 𝕄 := cred (tallyAt (kcell (c, .cB d)) (posB b (2 + d.toNat)) (unitB b))

section
variable (c : Dev nD)

theorem cred_owS (h : ℕ) (d : Bool) (u : Fin 2) : (Pipeline.launchCred (fun e => owS e h d u) c : sProp 𝕄)
    ⊢ cred (tallyAt (kcell (c, .rA d (pslot h) u)) (posA h (2 * u.val + d.toNat)) NA) :=
  Pipeline.launchCred_tallyAt (semOf (.rA d (pslot h) u)) (tgtA d) (tgtA (!d)) (tgtA_tgtA d) (tgtA_tgtA' d) _ _ c
theorem cred_owG (h : ℕ) (d : Bool) : (Pipeline.launchCred (fun e => owG e h d) c : sProp 𝕄) ⊢ crG c h d :=
  Pipeline.launchCred_tallyAt (semOf (.cA d)) (tgtA (!d)) (tgtA d) (tgtA_tgtA' d) (tgtA_tgtA d) _ _ c
theorem cred_owP (b : ℕ) (d : Bool) : (Pipeline.launchCred (fun e => owP e b d) c : sProp 𝕄) ⊢ crP c b d :=
  Pipeline.launchCred_tallyAt (semOf (.rB d (qslot b))) (tgtB d) (tgtB (!d)) (tgtB_tgtB d) (tgtB_tgtB' d) _ _ c
theorem cred_owGB (b : ℕ) (d : Bool) : (Pipeline.launchCred (fun e => owGB e b d) c : sProp 𝕄) ⊢ crGB c b d :=
  Pipeline.launchCred_tallyAt (semOf (.cB d)) (tgtB (!d)) (tgtB d) (tgtB_tgtB' d) (tgtB_tgtB d) _ _ c
theorem cred_owBar (d : Bool) : (Pipeline.launchCred (fun e => owBar e d) c : sProp 𝕄) ⊢ cred (tallyAt (kcell (c, .bar)) (1 + d.toNat) 1) :=
  Pipeline.launchCred_tallyAt (semOf .bar) (tgtA (!d)) (tgtA d) (tgtA_tgtA' d) (tgtA_tgtA d) _ _ c
theorem cred_owI (d : Bool) : (Pipeline.launchCred (fun e => owI e d) c : sProp 𝕄)
    ⊢ iprop(cred (tallyAt (kcell (c, .cB d)) (iB 0 d) 1) ∗ cred (tallyAt (kcell (c, .cB d)) (iB 1 d) 1)) := by
  refine (Pipeline.launchCred_tallyAt (semOf (.cB d)) (tgtB (!d)) (tgtB d) (tgtB_tgtB' d) (tgtB_tgtB d) _ _ c).trans ?_
  show (cred (tallyAt (kcell (c, .cB d)) (3 + d.toNat) (1 + 1)) : sProp 𝕄) ⊢ _
  rw [← tallyAt_add]
  exact (cred_add _ _).1

/-- A plane hop's credits out of the launch's, -/
theorem cred_addA (O : Dev nD → CellTallies nD τ sig ℕ) (h : ℕ) : (Pipeline.launchCred (fun e => addA e h (O e)) c : sProp 𝕄)
    ⊢ iprop(Pipeline.launchCred O c ∗ Bo (crS c h) ∗ Bo (crG c h)) := by
  unfold addA crS Bo
  rw [Pipeline.launchCred_add, Pipeline.launchCred_add, Pipeline.launchCred_add, Pipeline.launchCred_add, Pipeline.launchCred_add, Pipeline.launchCred_add]
  iintro ⟨⟨⟨⟨⟨⟨HO, g1⟩, g0⟩, s3⟩, s2⟩, s1⟩, s0⟩
  ihave g1 := (cred_owG c h true) $$ g1
  ihave g0 := (cred_owG c h false) $$ g0
  ihave s3 := (cred_owS c h true 1) $$ s3
  ihave s2 := (cred_owS c h false 1) $$ s2
  ihave s1 := (cred_owS c h true 0) $$ s1
  ihave s0 := (cred_owS c h false 0) $$ s0
  isplitl [HO]; · iexact HO
  isplitl [s0 s1 s2 s3]
  · isplitl [s0 s2]
    · isplitl [s0]; · iexact s0
      iexact s2
    isplitl [s1]; · iexact s1
    iexact s3
  isplitl [g0]; · iexact g0
  iexact g1
/-- and a hop's across planes. -/
theorem cred_addB (O : Dev nD → CellTallies nD τ sig ℕ) (b : ℕ) : (Pipeline.launchCred (fun e => addB e b (O e)) c : sProp 𝕄)
    ⊢ iprop(Pipeline.launchCred O c ∗ Bo (crP c b) ∗ Bo (crGB c b)) := by
  unfold addB Bo
  rw [Pipeline.launchCred_add, Pipeline.launchCred_add, Pipeline.launchCred_add, Pipeline.launchCred_add]
  iintro ⟨⟨⟨⟨HO, g1⟩, g0⟩, s1⟩, s0⟩
  ihave g1 := (cred_owGB c b true) $$ g1
  ihave g0 := (cred_owGB c b false) $$ g0
  ihave s1 := (cred_owP c b true) $$ s1
  ihave s0 := (cred_owP c b false) $$ s0
  isplitl [HO]; · iexact HO
  isplitl [s0 s1]
  · isplitl [s0]; · iexact s0
    iexact s1
  isplitl [g0]; · iexact g0
  iexact g1

/-- All hops' credits, the last hop first. -/
theorem cred_fromC : ∀ n : ℕ, (Pipeline.launchCred (fun e => owFromC e n) c : sProp 𝕄)
    ⊢ bigSep (Finset.range n) fun i => iprop(Bo (crS c (13 - i)) ∗ Bo (crG c (13 - i)))
  | 0 => by
    show (Pipeline.launchCred (fun _ => 0) c : sProp 𝕄) ⊢ _
    rw [Pipeline.launchCred_zero, Finset.range_zero, bigSep_empty]
    exact Entails.refl _
  | n + 1 => by
    rw [bigSep_range_succ]
    refine (cred_addA c (fun e => owFromC e n) (13 - n)).trans ?_
    iintro ⟨H, H'⟩
    isplitl [H']; · iexact H'
    iapply (cred_fromC n); iexact H
theorem cred_fromB : ∀ n : ℕ, (Pipeline.launchCred (fun e => owFromB e n) c : sProp 𝕄)
    ⊢ iprop((bigSep (Finset.range n) fun i => iprop(Bo (crP c (5 - i)) ∗ Bo (crGB c (5 - i))))
      ∗ bigSep (Finset.range 7) fun i => iprop(Bo (crS c (13 - i)) ∗ Bo (crG c (13 - i))))
  | 0 => by
    rw [Finset.range_zero, bigSep_empty]
    iintro H
    isplitr; · iempintro
    iapply (cred_fromC c 7); iexact H
  | n + 1 => by
    rw [bigSep_range_succ]
    refine (cred_addB c (fun e => owFromB e n) (5 - n)).trans ?_
    iintro ⟨H, H'⟩
    ihave H := (cred_fromB n) $$ H
    icases H with ⟨H1, H2⟩
    isplitl [H' H1]
    · isplitl [H']; · iexact H'
      iexact H1
    iexact H2
theorem cred_fromA : ∀ n : ℕ, (Pipeline.launchCred (fun e => owFromA e n) c : sProp 𝕄)
    ⊢ iprop((bigSep (Finset.range n) fun i => iprop(Bo (crS c (6 - i)) ∗ Bo (crG c (6 - i))))
      ∗ (bigSep (Finset.range 6) fun i => iprop(Bo (crP c (5 - i)) ∗ Bo (crGB c (5 - i))))
      ∗ bigSep (Finset.range 7) fun i => iprop(Bo (crS c (13 - i)) ∗ Bo (crG c (13 - i))))
  | 0 => by
    rw [Finset.range_zero, bigSep_empty]
    iintro H
    isplitr; · iempintro
    iapply (cred_fromB c 6); iexact H
  | n + 1 => by
    rw [bigSep_range_succ]
    refine (cred_addA c (fun e => owFromA e n) (6 - n)).trans ?_
    iintro ⟨H, H'⟩
    ihave H := (cred_fromA n) $$ H
    icases H with ⟨H1, H2⟩
    isplitl [H' H1]
    · isplitl [H']; · iexact H'
      iexact H1
    iexact H2

/-- What holds of every plane hop, from the two parts; and of every hop across planes. -/
theorem hops_join (Φ : ℕ → sProp 𝕄) : iprop((bigSep (Finset.range 7) fun i => Φ (6 - i)) ∗ bigSep (Finset.range 7) fun i => Φ (13 - i))
    ⊢ bigSep Finset.univ fun h : Fin 14 => Φ h := by
  rw [bigSep_univ_eq_bigSepL [0, 1, 2, 3, 4, 5, 6, 7, 8, 9, 10, 11, 12, 13] (by decide) (by decide),
    bigSep_eq_bigSepL_of_eq [6, 5, 4, 3, 2, 1, 0] (by decide) (by decide), bigSep_eq_bigSepL_of_eq [6, 5, 4, 3, 2, 1, 0] (by decide) (by decide)]
  show iprop((Φ 0 ∗ Φ 1 ∗ Φ 2 ∗ Φ 3 ∗ Φ 4 ∗ Φ 5 ∗ Φ 6) ∗ (Φ 7 ∗ Φ 8 ∗ Φ 9 ∗ Φ 10 ∗ Φ 11 ∗ Φ 12 ∗ Φ 13))
    ⊢ iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13)
  iintro ⟨⟨h0, h1, h2, h3, h4, h5, h6⟩, h7, h8, h9, h10, h11, h12, h13⟩
  iframe ∗
theorem hopsB_join (Φ : ℕ → sProp 𝕄) : (bigSep (Finset.range 6) fun i => Φ (5 - i)) ⊢ bigSep Finset.univ fun b : Fin 6 => Φ b := by
  rw [bigSep_univ_eq_bigSepL [5, 4, 3, 2, 1, 0] (by decide) (by decide), bigSep_eq_bigSepL_of_eq [0, 1, 2, 3, 4, 5] (by decide) (by decide)]
  exact Entails.refl _

/-- The launch's credits, hop by hop. -/
theorem creds : (Pipeline.launchCred O₀ c : sProp 𝕄)
    ⊢ iprop((bigSep Finset.univ fun h : Fin 14 => iprop(Bo (crS c h) ∗ Bo (crG c h))) ∗ (bigSep Finset.univ fun b : Fin 6 => iprop(Bo (crP c b) ∗ Bo (crGB c b)))
      ∗ Bo (fun d => iprop(cred (tallyAt (kcell (c, .cB d)) (iB 0 d) 1) ∗ cred (tallyAt (kcell (c, .cB d)) (iB 1 d) 1)))
      ∗ cred (tallyAt (kcell (c, .bar)) 1 1) ∗ cred (tallyAt (kcell (c, .bar)) 2 1)) := by
  show (Pipeline.launchCred (fun e => owFromA e 7 + owI e true + owI e false + owBar e true + owBar e false) c : sProp 𝕄) ⊢ _
  rw [Pipeline.launchCred_add, Pipeline.launchCred_add, Pipeline.launchCred_add, Pipeline.launchCred_add]
  unfold Bo
  iintro ⟨⟨⟨⟨H, i1⟩, i0⟩, b1⟩, b0⟩
  ihave H := (cred_fromA c 7) $$ H
  icases H with ⟨HA, HB, HC⟩
  ihave i1 := (cred_owI c true) $$ i1
  ihave i0 := (cred_owI c false) $$ i0
  ihave b1 := (cred_owBar c true) $$ b1
  ihave b0 := (cred_owBar c false) $$ b0
  isplitl [HA HC]
  · iapply (hops_join (fun h => iprop(Bo (crS c h) ∗ Bo (crG c h))))
    isplitl [HA]; · iexact HA
    iexact HC
  isplitl [HB]
  · iapply (hopsB_join (fun b => iprop(Bo (crP c b) ∗ Bo (crGB c b)))); iexact HB
  isplitl [i0 i1]
  · isplitl [i0]; · iexact i0
    iexact i1
  isplitl [b0]; · iexact b0
  iexact b1
end

/-! ## Hop by hop -/

theorem bigSep_bool (Φ : Bool → sProp 𝕄) : bigSep Finset.univ Φ = Bo Φ := bigSep_univ_eq_bigSepL [false, true] (by decide) (by decide) Φ
theorem bigSep_fin2 (Φ : Fin 2 → sProp 𝕄) : bigSep Finset.univ Φ = iprop(Φ 0 ∗ Φ 1) := bigSep_univ_eq_bigSepL [0, 1] (by decide) (by decide) Φ

section
variable (c : Dev nD)

/-- A plane hop's transfer tokens by direction. -/
def tkS (h : ℕ) (d : Bool) : sProp 𝕄 :=
  iprop((dutyTok ER (kcell (c, .sA d (pslot h) 0)) (rnd h) 0 ∗ dutyTok ER (kcell (tgtA d c, .rA d (pslot h) 0)) (rnd h) 0)
    ∗ (dutyTok ER (kcell (c, .sA d (pslot h) 1)) (rnd h) 0 ∗ dutyTok ER (kcell (tgtA d c, .rA d (pslot h) 1)) (rnd h) 0))
def tkG (h : ℕ) (d : Bool) : sProp 𝕄 := dutyTok ER (kcell (tgtA (!d) c, .cA d)) 0 h
def tkP (b : ℕ) (d : Bool) : sProp 𝕄 :=
  iprop(dutyTok ER (kcell (c, .sB d (qslot b))) (b / 2) 0 ∗ dutyTok ER (kcell (tgtB d c, .rB d (qslot b))) (b / 2) 0)
def tkGB (b : ℕ) (d : Bool) : sProp 𝕄 := dutyTok ER (kcell (tgtB (!d) c, .cB d)) 0 b
def tkI (d : Bool) : sProp 𝕄 := dutyTok ER (kcell (tgtA (!d) c, .bar)) 0 d.toNat
def wrA (h : ℕ) (d : Bool) : sProp 𝕄 := writeTok ES (keyA (tgtA d c) d (pslot h)) (rnd h + 1)
def wrB (b : ℕ) (d : Bool) : sProp 𝕄 := writeTok ES (keyB (tgtB d c) d (qslot b)) (b / 2 + 1)

theorem toks_split : (toksOf c : sProp 𝕄)
    ⊢ iprop((bigSep Finset.univ fun h : Fin 14 => Bo (tkS c h)) ∗ (bigSep Finset.univ fun h : Fin 12 => Bo (tkG c h))
      ∗ (bigSep Finset.univ fun b : Fin 6 => Bo (tkP c b)) ∗ (bigSep Finset.univ fun b : Fin 6 => Bo (tkGB c b)) ∗ Bo (tkI c)) := by
  have e (Ψ : TI → sProp 𝕄) : bigSep Finset.univ Ψ
      = iprop((bigSep Finset.univ fun h : Fin 14 => Bo fun d => iprop((Ψ (.inl (h, d, 0, false)) ∗ Ψ (.inl (h, d, 0, true))) ∗ (Ψ (.inl (h, d, 1, false)) ∗ Ψ (.inl (h, d, 1, true)))))
        ∗ (bigSep Finset.univ fun h : Fin 12 => Bo fun d => Ψ (.inr (.inl (h, d))))
        ∗ (bigSep Finset.univ fun b : Fin 6 => Bo fun d => iprop(Ψ (.inr (.inr (.inl (b, d, false)))) ∗ Ψ (.inr (.inr (.inl (b, d, true))))))
        ∗ (bigSep Finset.univ fun b : Fin 6 => Bo fun d => Ψ (.inr (.inr (.inr (.inl (b, d)))))) ∗ Bo fun d => Ψ (.inr (.inr (.inr (.inr d))))) := by
    simp only [BI.bigSep_univ_sum, bigSep_univ_prod, bigSep_bool, bigSep_fin2]
    rfl
  unfold toksOf
  rw [e]
  exact Entails.refl _

theorem writes_split : (writesOf c : sProp 𝕄)
    ⊢ iprop((bigSep Finset.univ fun h : Fin 14 => Bo (wrA c h)) ∗ (bigSep Finset.univ fun b : Fin 6 => Bo (wrB c b))) := by
  have e (Ψ : WI → sProp 𝕄) : bigSep Finset.univ Ψ
      = iprop((bigSep Finset.univ fun h : Fin 14 => Bo fun d => Ψ (.inl (h, d))) ∗ (bigSep Finset.univ fun b : Fin 6 => Bo fun d => Ψ (.inr (b, d)))) := by
    simp only [BI.bigSep_univ_sum, bigSep_univ_prod, bigSep_bool]
    rfl
  unfold writesOf
  rw [e]
  exact Entails.refl _

theorem hop_join (h : ℕ) (d : Bool) : iprop(tkS c h d ∗ wrA c h d ∗ crS c h d) ⊢ (HTS c h (pslot h) (rnd h) d : sProp 𝕄) := by
  unfold tkS wrA crS HTS HT
  iintro ⟨⟨⟨t1, t2⟩, t3, t4⟩, w, c1, c2⟩
  isplitl [t1 t2 c1]
  · isplitl [t1]; · iexact t1
    isplitl [t2]; · iexact t2
    iexact c1
  isplitl [t3 t4 c2]
  · isplitl [t3]; · iexact t3
    isplitl [t4]; · iexact t4
    iexact c2
  iexact w
theorem hopB_join (b : ℕ) (d : Bool) : iprop(tkP c b d ∗ wrB c b d ∗ crP c b d) ⊢ (HTB c b (qslot b) (b / 2) d : sProp 𝕄) := by
  unfold tkP wrB crP HTB
  iintro ⟨⟨t1, t2⟩, w, c1⟩
  isplitl [t1]; · iexact t1
  isplitl [t2]; · iexact t2
  isplitl [c1]; · iexact c1
  iexact w

theorem Bo_join {P Q R S : Bool → sProp 𝕄} (h : ∀ d, iprop(P d ∗ Q d ∗ R d) ⊢ S d) : iprop(Bo P ∗ Bo Q ∗ Bo R) ⊢ Bo S := by
  unfold Bo
  iintro ⟨⟨p, p'⟩, ⟨q, q'⟩, r, r'⟩
  isplitl [p q r]
  · iapply (h false); iframe ∗
  · iapply (h true); iframe ∗

theorem fam_join {I : Type} [Fintype I] {P Q R S : I → sProp 𝕄} (h : ∀ i, iprop(P i ∗ Q i ∗ R i) ⊢ S i) :
    iprop(bigSep Finset.univ P ∗ bigSep Finset.univ Q ∗ bigSep Finset.univ R) ⊢ bigSep Finset.univ S := by
  rw [← bigSep_sep', ← bigSep_sep']
  exact bigSep_mono fun i _ => h i

theorem list14 (Φ : Fin 14 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [0, 1, 2, 3, 4, 5, 6, 7, 8, 9, 10, 11, 12, 13] (by decide) (by decide) Φ
theorem list12 (Φ : Fin 12 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ
theorem list6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

/-- The tokens, writes and credits of the plane, hop by hop, as the body takes them. -/
theorem deal_A : iprop((bigSep Finset.univ fun h : Fin 14 => Bo (HTS c h (pslot h) (rnd h))) ∗ bigSep Finset.univ fun h : Fin 12 => Bo (tkG c h))
    ⊢ (ToksA c : sProp 𝕄) := by
  rw [list14, list12]
  show iprop((Bo (HTS c 0 0 0) ∗ Bo (HTS c 1 1 0) ∗ Bo (HTS c 2 0 1) ∗ Bo (HTS c 3 1 1) ∗ Bo (HTS c 4 0 2) ∗ Bo (HTS c 5 1 2) ∗ Bo (HTS c 6 0 3)
      ∗ Bo (HTS c 7 0 4) ∗ Bo (HTS c 8 1 3) ∗ Bo (HTS c 9 0 5) ∗ Bo (HTS c 10 1 4) ∗ Bo (HTS c 11 0 6) ∗ Bo (HTS c 12 1 5) ∗ Bo (HTS c 13 0 7))
    ∗ Bo (tkG c 0) ∗ Bo (tkG c 1) ∗ Bo (tkG c 2) ∗ Bo (tkG c 3) ∗ Bo (tkG c 4) ∗ Bo (tkG c 5) ∗ Bo (tkG c 6) ∗ Bo (tkG c 7) ∗ Bo (tkG c 8)
      ∗ Bo (tkG c 9) ∗ Bo (tkG c 10) ∗ Bo (tkG c 11)) ⊢ _
  have e (h : ℕ) (p : Fin 2) (r : ℕ) : iprop(Bo (HTS c h p r) ∗ Bo (tkG c h)) ⊢ (TA c h p r : sProp 𝕄) := Entails.refl _
  unfold ToksA
  iintro ⟨⟨h0, h1, h2, h3, h4, h5, h6, h7, h8, h9, h10, h11, h12, h13⟩, g0, g1, g2, g3, g4, g5, g6, g7, g8, g9, g10, g11⟩
  ihave t0 := (e 0 0 0) $$ [h0 g0]
  · iframe ∗
  ihave t1 := (e 1 1 0) $$ [h1 g1]
  · iframe ∗
  ihave t2 := (e 2 0 1) $$ [h2 g2]
  · iframe ∗
  ihave t3 := (e 3 1 1) $$ [h3 g3]
  · iframe ∗
  ihave t4 := (e 4 0 2) $$ [h4 g4]
  · iframe ∗
  ihave t5 := (e 5 1 2) $$ [h5 g5]
  · iframe ∗
  ihave t6 := (e 6 0 3) $$ [h6 g6]
  · iframe ∗
  ihave t7 := (e 7 0 4) $$ [h7 g7]
  · iframe ∗
  ihave t8 := (e 8 1 3) $$ [h8 g8]
  · iframe ∗
  ihave t9 := (e 9 0 5) $$ [h9 g9]
  · iframe ∗
  ihave t10 := (e 10 1 4) $$ [h10 g10]
  · iframe ∗
  ihave t11 := (e 11 0 6) $$ [h11 g11]
  · iframe ∗
  iframe ∗

theorem deal_cr : (bigSep Finset.univ fun h : Fin 14 => Bo (crG c h)) ⊢ (CrA c : sProp 𝕄) := by
  rw [list14]
  show iprop(crA c 0 ∗ crA c 1 ∗ crA c 2 ∗ crA c 3 ∗ crA c 4 ∗ crA c 5 ∗ crA c 6 ∗ crA c 7 ∗ crA c 8 ∗ crA c 9 ∗ crA c 10 ∗ crA c 11 ∗ _ ∗ _) ⊢ _
  unfold CrA
  iintro ⟨h0, h1, h2, h3, h4, h5, h6, h7, h8, h9, h10, h11, -, -⟩
  iframe ∗

theorem deal_B : iprop((bigSep Finset.univ fun b : Fin 6 => Bo (HTB c b (qslot b) (b / 2))) ∗ (bigSep Finset.univ fun b : Fin 6 => Bo (crGB c b))
      ∗ Bo (fun d => iprop(cred (tallyAt (kcell (c, .cB d)) (iB 0 d) 1) ∗ cred (tallyAt (kcell (c, .cB d)) (iB 1 d) 1)))
      ∗ bigSep Finset.univ fun b : Fin 6 => Bo (tkGB c b))
    ⊢ (iprop(ToksB c ∗ Bo (fun d => iprop(dutyTok ER (kcell (tgtB (!d) c, .cB d)) 0 0 ∗ dutyTok ER (kcell (tgtB (!d) c, .cB d)) 0 1))) : sProp 𝕄) := by
  rw [list6, list6, list6]
  have e (b : ℕ) (p : Fin 2) (r : ℕ) : iprop(Bo (HTB c b p r) ∗ Bo (fun d => cred (tallyAt (kcell (c, .cB d)) (iB b d) 1))) ⊢ (TB c b p r (iB b) : sProp 𝕄) := Entails.refl _
  show iprop((Bo (HTB c 0 0 0) ∗ Bo (HTB c 1 1 0) ∗ Bo (HTB c 2 0 1) ∗ Bo (HTB c 3 1 1) ∗ Bo (HTB c 4 0 2) ∗ Bo (HTB c 5 1 2))
    ∗ (Bo (fun d => cred (tallyAt (kcell (c, .cB d)) (iB 2 d) 1)) ∗ Bo (fun d => cred (tallyAt (kcell (c, .cB d)) (iB 3 d) 1))
      ∗ Bo (fun d => cred (tallyAt (kcell (c, .cB d)) (iB 4 d) 1)) ∗ Bo (fun d => cred (tallyAt (kcell (c, .cB d)) (iB 5 d) 1)) ∗ _ ∗ _)
    ∗ _ ∗ (dutyTok ER (kcell (tgtB (!false) c, .cB false)) 0 0 ∗ dutyTok ER (kcell (tgtB (!true) c, .cB true)) 0 0)
      ∗ (dutyTok ER (kcell (tgtB (!false) c, .cB false)) 0 1 ∗ dutyTok ER (kcell (tgtB (!true) c, .cB true)) 0 1) ∗ gB c 0 ∗ gB c 1 ∗ gB c 2 ∗ gB c 3) ⊢ _
  unfold ToksB
  iintro ⟨⟨h0, h1, h2, h3, h4, h5⟩, ⟨k2, k3, k4, k5, -, -⟩, ⟨⟨i0, i1⟩, j0, j1⟩, ⟨a0, a1⟩, ⟨b0, b1⟩, g0, g1, g2, g3⟩
  ihave t0 := (e 0 0 0) $$ [h0 i0 j0]
  · isplitl [h0]; · iexact h0
    isplitl [i0]; · iexact i0
    iexact j0
  ihave t1 := (e 1 1 0) $$ [h1 i1 j1]
  · isplitl [h1]; · iexact h1
    isplitl [i1]; · iexact i1
    iexact j1
  ihave t2 := (e 2 0 1) $$ [h2 k2]
  · isplitl [h2]; · iexact h2
    iexact k2
  ihave t3 := (e 3 1 1) $$ [h3 k3]
  · isplitl [h3]; · iexact h3
    iexact k3
  ihave t4 := (e 4 0 2) $$ [h4 k4]
  · isplitl [h4]; · iexact h4
    iexact k4
  ihave t5 := (e 5 1 2) $$ [h5 k5]
  · isplitl [h5]; · iexact h5
    iexact k5
  unfold Bo
  beta_reduce
  iframe ∗

/-- Everything a device is dealt at the launch, as its body takes it. -/
theorem deal : iprop(toksOf c ∗ writesOf c ∗ Pipeline.launchCred O₀ c) ⊢ (iprop(ToksI c ∗ ToksA c ∗ CrA c ∗ ToksB c) : sProp 𝕄) := by
  iintro ⟨T, W, C⟩
  ihave T := (toks_split c) $$ T
  ihave W := (writes_split c) $$ W
  ihave C := (creds c) $$ C
  icases T with ⟨T1, T2, T3, T4, T5⟩
  icases W with ⟨W1, W2⟩
  icases C with ⟨C1, C2, C3, C4, C5⟩
  ihave C1 := (Entails.of_eq (bigSep_sep' Finset.univ (fun h : Fin 14 => (Bo (crS c h) : sProp 𝕄)) (fun h => Bo (crG c h)))) $$ C1
  ihave C2 := (Entails.of_eq (bigSep_sep' Finset.univ (fun b : Fin 6 => (Bo (crP c b) : sProp 𝕄)) (fun b => Bo (crGB c b)))) $$ C2
  icases C1 with ⟨S1, G1⟩
  icases C2 with ⟨S2, G2⟩
  ihave H := (fam_join (P := fun h : Fin 14 => Bo (tkS c h)) (Q := fun h => Bo (wrA c h)) (R := fun h => Bo (crS c h)) (S := fun h => Bo (HTS c h (pslot h) (rnd h)))
    fun h => Bo_join (hop_join c h)) $$ [T1 W1 S1]
  · isplitl [T1]; · iexact T1
    isplitl [W1]; · iexact W1
    iexact S1
  ihave H' := (fam_join (P := fun b : Fin 6 => Bo (tkP c b)) (Q := fun b => Bo (wrB c b)) (R := fun b => Bo (crP c b)) (S := fun b => Bo (HTB c b (qslot b) (b / 2)))
    fun b => Bo_join (hopB_join c b)) $$ [T3 W2 S2]
  · isplitl [T3]; · iexact T3
    isplitl [W2]; · iexact W2
    iexact S2
  ihave A := (deal_A c) $$ [H T2]
  · isplitl [H]; · iexact H
    iexact T2
  ihave CA := (deal_cr c) $$ G1
  ihave B := (deal_B c) $$ [H' G2 C3 T4]
  · isplitl [H']; · iexact H'
    isplitl [G2]; · iexact G2
    isplitl [C3]; · iexact C3
    iexact T4
  icases B with ⟨B, I⟩
  unfold ToksI
  isplitl [T5 I C4 C5]
  · isplitl [T5]; · iexact T5
    isplitl [I]; · iexact I
    isplitl [C4]; · iexact C4
    iexact C5
  isplitl [A]; · iexact A
  isplitl [CA]; · iexact CA
  iexact B
end

end Cert.KProof

end
-- ==== Proof.Place.lean ====
module

public import proofs.«01_k».proof.Proof.Body
public import Idealize.ShloMosaic.Lib.Pipeline.Value

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.SiteBlocks (L lv mem_L mem_L' mayWait_of)

variable {F : FTy → Type} [FloatOps F]

local notation "𝕄" => MT nD τ sig ℕ (Elt F) ℕ UU ℕ

/-! ## Where the rectangles start -/

/-- A device's place on the ring of its plane. -/
def posN (c : Dev nD) : ℕ := if ((c.val % 8) + ((c.val % 8) / 2)) % 2 = 1 then ((c.val % 8) / 2) + 1 else (8 - ((c.val % 8) / 2)) % 8
theorem posN_lt (c : Dev nD) : posN c < 8 := by revert c; decide
theorem pl_lt (c : Dev nD) : c.val / 8 < 4 := by revert c; decide

/-- The chunk of the result that the device's plane hop `t` of the gather fills, -/
def chG (d : Bool) (c : Dev nD) (t : ℕ) : ℕ := match d with
  | false => (posN c + 16 - t) % 8
  | true => (posN c + t) % 8
/-- the chunk the device's plane finishes, -/
def chO (d : Bool) (c : Dev nD) : ℕ := match d with
  | false => (posN c + 1) % 8
  | true => (posN c + 7) % 8
/-- the quarter handled at step `r` across planes, -/
def quB (d : Bool) (c : Dev nD) (r : ℕ) : ℕ := match d with
  | false => (c.val / 8 + 8 - r) % 4
  | true => (c.val / 8 + r) % 4
/-- and the chunk of the input multiplied at hop `s`. -/
def chX (d : Bool) (c : Dev nD) (s : ℕ) : ℕ := match d with
  | false => (posN c + 15 - s) % 8
  | true => (posN c + s + 1) % 8

theorem offG_eq (d : Bool) (u : Fin 2) (c : Dev nD) (t : Fin 7) : offG d u c t = ![512 * chG d c t + 256 * u.val, 1024 * d.toNat] := by
  match d, u with
  | false, 0 => exact k0_off9_eq c t
  | true, 0 => exact k0_off10_eq c t
  | false, 1 => exact k0_off11_eq c t
  | true, 1 => exact k0_off12_eq c t
theorem offO_eq (d : Bool) (c : Dev nD) (r : Fin 4) : offO d c r = ![512 * chO d c + 128 * quB d c r, 1024 * d.toNat] := by
  match d with
  | false => exact k0_off7_eq c r
  | true => exact k0_off8_eq c r
theorem offB_eq (d : Bool) (c : Dev nD) (r : Fin 4) : offB d c r = ![128 * quB d c r, 0] := by
  match d with
  | false => exact k0_off5_eq c r
  | true => exact k0_off6_eq c r
theorem offX_eq (d : Bool) (c : Dev nD) (s : Fin 7) : offX d c s = ![512 * chX d c s, 0] := by
  match d with
  | false => exact k0_off2_eq c s
  | true => exact k0_off3_eq c s

/-! ## An element by its row and column -/

/-- The element of a rectangle at a row and a column. -/
def mk2 {a b : ℕ} (x y : ℕ) (hx : x < a) (hy : y < b) : (⟨2, ![a, b]⟩ : Shape).Idx :=
  fun k => ⟨![x, y] k, by fin_cases k <;> assumption⟩
theorem ext2 {a b : ℕ} {i j : (⟨2, ![a, b]⟩ : Shape).Idx} (h0 : (i 0).val = (j 0).val) (h1 : (i 1).val = (j 1).val) : i = j := by
  funext k
  match k with
  | 0 => exact Fin.ext h0
  | 1 => exact Fin.ext h1

theorem rG_row (d : Bool) (u : Fin 2) (c : Dev nD) (t : Fin 7) (j : S256x1024.Idx) :
    ((rG d u c t).emb j 0).val = 512 * chG d c t + 256 * u.val + (j 0).val := by
  rw [Rect.emb_apply]; show offG d u c t 0 + 1 * _ = _; rw [offG_eq, one_mul]; rfl
theorem rG_col (d : Bool) (u : Fin 2) (c : Dev nD) (t : Fin 7) (j : S256x1024.Idx) :
    ((rG d u c t).emb j 1).val = 1024 * d.toNat + (j 1).val := by
  rw [Rect.emb_apply]; show offG d u c t 1 + 1 * _ = _; rw [offG_eq, one_mul]; rfl
theorem rO_row (d : Bool) (c : Dev nD) (r : Fin 4) (j : S128x1024.Idx) :
    ((rO d c r).emb j 0).val = 512 * chO d c + 128 * quB d c r + (j 0).val := by
  rw [Rect.emb_apply]; show offO d c r 0 + 1 * _ = _; rw [offO_eq, one_mul]; rfl
theorem rO_col (d : Bool) (c : Dev nD) (r : Fin 4) (j : S128x1024.Idx) :
    ((rO d c r).emb j 1).val = 1024 * d.toNat + (j 1).val := by
  rw [Rect.emb_apply]; show offO d c r 1 + 1 * _ = _; rw [offO_eq, one_mul]; rfl
theorem rB_row (d : Bool) (c : Dev nD) (r : Fin 4) (j : S128x1024.Idx) : ((rB d c r).emb j 0).val = 128 * quB d c r + (j 0).val := by
  rw [Rect.emb_apply]; show offB d c r 0 + 1 * _ = _; rw [offB_eq, one_mul]; rfl
theorem rB_col (d : Bool) (c : Dev nD) (r : Fin 4) (j : S128x1024.Idx) : ((rB d c r).emb j 1).val = (j 1).val := by
  rw [Rect.emb_apply]; show offB d c r 1 + 1 * _ = _; rw [offB_eq, one_mul]; exact Nat.zero_add _
theorem rB0_eq (d : Bool) (c : Dev nD) (j : S128x1024.Idx) : (rB0 c).emb j = (rB d c 0).emb j := by
  have hz := pl_lt c
  refine ext2 (a := 512) (b := 1024) ?_ ?_
  · rw [rB_row, Rect.emb_apply]; show k0_off4 c 0 + 1 * _ = _; rw [k0_off4_eq, one_mul]
    show 128 * (c.val / 8) + _ = _
    have : quB d c (0 : Fin 4).val = c.val / 8 := by cases d <;> simp only [quB, Fin.val_zero] <;> omega
    rw [this]
  · rw [rB_col, Rect.emb_apply]; show k0_off4 c 1 + 1 * _ = _; rw [k0_off4_eq, one_mul]; exact Nat.zero_add _
theorem rPl_row (u : Fin 2) (j : S256x1024.Idx) : ((rPl u).emb j 0).val = 256 * u.val + (j 0).val := by
  rw [Rect.emb_apply]; show 256 * u.val + 1 * _ = _; rw [one_mul]
theorem rPl_col (u : Fin 2) (j : S256x1024.Idx) : ((rPl u).emb j 1).val = (j 1).val := by
  rw [Rect.emb_apply]; show 0 + 1 * _ = _; omega

/-! ## Which step fills an element -/

/-- The plane hop of the gather that fills chunk `q`; 7 is none, as the device's plane finishes it. -/
def stG (d : Bool) (c : Dev nD) (q : ℕ) : ℕ := match d with
  | false => (posN c + 8 - q) % 8
  | true => (q + 8 - posN c) % 8
/-- The step across planes that handles quarter `k`. -/
def stpB (d : Bool) (c : Dev nD) (k : ℕ) : ℕ := match d with
  | false => (c.val / 8 + 4 - k) % 4
  | true => (k + 4 - c.val / 8) % 4

theorem stG_lt (d : Bool) (c : Dev nD) (q : ℕ) : stG d c q < 8 := by cases d <;> exact Nat.mod_lt _ (by decide)
theorem stpB_lt (d : Bool) (c : Dev nD) (k : ℕ) : stpB d c k < 4 := by cases d <;> exact Nat.mod_lt _ (by decide)
theorem chG_lt (d : Bool) (c : Dev nD) (t : ℕ) : chG d c t < 8 := by cases d <;> exact Nat.mod_lt _ (by decide)
theorem chO_lt (d : Bool) (c : Dev nD) : chO d c < 8 := by cases d <;> exact Nat.mod_lt _ (by decide)
theorem quB_lt (d : Bool) (c : Dev nD) (r : ℕ) : quB d c r < 4 := by cases d <;> exact Nat.mod_lt _ (by decide)

theorem stG_chG (d : Bool) (c : Dev nD) {t : ℕ} (ht : t < 7) : stG d c (chG d c t) = t := by
  have := posN_lt c
  cases d <;> simp only [stG, chG] <;> omega
theorem stG_chO (d : Bool) (c : Dev nD) : stG d c (chO d c) = 7 := by
  have := posN_lt c
  cases d <;> simp only [stG, chO] <;> omega
theorem chG_stG (d : Bool) (c : Dev nD) {q : ℕ} (hq : q < 8) : chG d c (stG d c q) = q := by
  have := posN_lt c
  cases d <;> simp only [stG, chG] <;> omega
theorem chO_of (d : Bool) (c : Dev nD) {q : ℕ} (hq : q < 8) (h : ¬ stG d c q < 7) : chO d c = q := by
  have := posN_lt c
  cases d <;> simp only [stG, chO] at * <;> omega
theorem stpB_quB (d : Bool) (c : Dev nD) {r : ℕ} (hr : r < 4) : stpB d c (quB d c r) = r := by
  have := pl_lt c
  cases d <;> simp only [stpB, quB] <;> omega
theorem quB_stpB (d : Bool) (c : Dev nD) {k : ℕ} (hk : k < 4) : quB d c (stpB d c k) = k := by
  have := pl_lt c
  cases d <;> simp only [stpB, quB] <;> omega

variable {α : Type}

/-- The result put together from what the gathering hops and the steps across planes store. -/
def asmO (c : Dev nD) (G : Bool → Fin 2 → Fin 7 → S256x1024.Idx → α) (Q : Bool → Fin 4 → S128x1024.Idx → α) : S4096x2048.Idx → α := fun i =>
  let d : Bool := decide (1024 ≤ (i 1).val)
  if h : stG d c ((i 0).val / 512) < 7 then
    G d ⟨(i 0).val % 512 / 256, by omega⟩ ⟨_, h⟩ (mk2 ((i 0).val % 256) ((i 1).val % 1024) (Nat.mod_lt _ (by decide)) (Nat.mod_lt _ (by decide)))
  else Q d ⟨_, stpB_lt d c ((i 0).val % 512 / 128)⟩ (mk2 ((i 0).val % 128) ((i 1).val % 1024) (Nat.mod_lt _ (by decide)) (Nat.mod_lt _ (by decide)))
/-- A plane's chunk put together from its quarters, -/
def asmF (d : Bool) (c : Dev nD) (Q : Fin 4 → S128x1024.Idx → α) : S512x1024.Idx → α := fun i =>
  Q ⟨_, stpB_lt d c ((i 0).val / 128)⟩ (mk2 ((i 0).val % 128) (i 1).val (Nat.mod_lt _ (by decide)) (i 1).isLt)
/-- and from its halves. -/
def asmP (H : Fin 2 → S256x1024.Idx → α) : S512x1024.Idx → α := fun i =>
  H ⟨(i 0).val / 256, by have := (i 0).isLt; change (i 0).val < 512 at this; omega⟩ (mk2 ((i 0).val % 256) (i 1).val (Nat.mod_lt _ (by decide)) (i 1).isLt)

theorem lt0 {a b : ℕ} (j : (⟨2, ![a, b]⟩ : Shape).Idx) : (j 0).val < a := (j 0).isLt
theorem lt1 {a b : ℕ} (j : (⟨2, ![a, b]⟩ : Shape).Idx) : (j 1).val < b := (j 1).isLt

theorem col_dir (d : Bool) {y : ℕ} (hy : y < 1024) : decide (1024 ≤ 1024 * d.toNat + y) = d := by
  cases d
  · exact decide_eq_false (by show ¬ 1024 ≤ 1024 * 0 + y; omega)
  · exact decide_eq_true (by show 1024 ≤ 1024 * 1 + y; omega)
theorem col_mod (d : Bool) {y : ℕ} (hy : y < 1024) : (1024 * d.toNat + y) % 1024 = y := by omega

theorem asmO_G (c : Dev nD) (G : Bool → Fin 2 → Fin 7 → S256x1024.Idx → α) (Q : Bool → Fin 4 → S128x1024.Idx → α) (d : Bool) (u : Fin 2) (t : Fin 7) (j : S256x1024.Idx) :
    asmO c G Q ((rG d u c t).emb j) = G d u t j := by
  have h0 := lt0 j; have h1 := lt1 j; have hu := u.isLt
  have hq : ((rG d u c t).emb j 0).val / 512 = chG d c t := by rw [rG_row]; omega
  have hd : decide (1024 ≤ ((rG d u c t).emb j 1).val) = d := by rw [rG_col]; exact col_dir d h1
  unfold asmO
  simp only [hd, hq, stG_chG d c t.isLt, t.isLt, dif_pos]
  congr 1
  · congr 1; rw [rG_row]; omega
  · refine ext2 (a := 256) (b := 1024) ?_ ?_
    · show _ % 256 = _; rw [rG_row]; omega
    · show _ % 1024 = _; rw [rG_col]; exact col_mod d h1

theorem asmO_Q (c : Dev nD) (G : Bool → Fin 2 → Fin 7 → S256x1024.Idx → α) (Q : Bool → Fin 4 → S128x1024.Idx → α) (d : Bool) (r : Fin 4) (j : S128x1024.Idx) :
    asmO c G Q ((rO d c r).emb j) = Q d r j := by
  have h0 := lt0 j; have h1 := lt1 j; have hk := quB_lt d c r
  have hq : ((rO d c r).emb j 0).val / 512 = chO d c := by rw [rO_row]; omega
  have hk' : ((rO d c r).emb j 0).val % 512 / 128 = quB d c r := by rw [rO_row]; omega
  have hd : decide (1024 ≤ ((rO d c r).emb j 1).val) = d := by rw [rO_col]; exact col_dir d h1
  unfold asmO
  simp only [hd, hq, hk', stG_chO d c, stpB_quB d c r.isLt]
  rw [dif_neg (by decide)]
  congr 1
  refine ext2 (a := 128) (b := 1024) ?_ ?_
  · show _ % 128 = _; rw [rO_row]; omega
  · show _ % 1024 = _; rw [rO_col]; exact col_mod d h1

theorem asmF_Q (d : Bool) (c : Dev nD) (Q : Fin 4 → S128x1024.Idx → α) (r : Fin 4) (j : S128x1024.Idx) : asmF d c Q ((rB d c r).emb j) = Q r j := by
  have h0 := lt0 j; have h1 := lt1 j; have hk := quB_lt d c r
  have hk' : ((rB d c r).emb j 0).val / 128 = quB d c r := by rw [rB_row]; omega
  unfold asmF
  simp only [hk', stpB_quB d c r.isLt]
  congr 1
  refine ext2 (a := 128) (b := 1024) ?_ ?_
  · show _ % 128 = _; rw [rB_row]; omega
  · show _ = _; exact rB_col d c r j

theorem asmP_H (H : Fin 2 → S256x1024.Idx → α) (u : Fin 2) (j : S256x1024.Idx) : asmP H ((rPl u).emb j) = H u j := by
  have h0 := lt0 j; have h1 := lt1 j; have hu := u.isLt
  unfold asmP
  congr 1
  · congr 1; rw [rPl_row]; omega
  · refine ext2 (a := 256) (b := 1024) ?_ ?_
    · show _ % 256 = _; rw [rPl_row]; omega
    · exact rPl_col u j

/-- Every element of the result is stored by a gathering hop or a step across planes. -/
theorem casesO (c : Dev nD) (i : S4096x2048.Idx) : (∃ d u t j, (rG d u c t).emb j = i) ∨ (∃ d r j, (rO d c r).emb j = i) := by
  have h0 := lt0 i; have h1 := lt1 i
  let d : Bool := decide (1024 ≤ (i 1).val)
  have hd : 1024 * d.toNat + (i 1).val % 1024 = (i 1).val := by
    by_cases h : 1024 ≤ (i 1).val
    · have : d = true := decide_eq_true h
      rw [this]; show 1024 * 1 + _ = _; omega
    · have : d = false := decide_eq_false h
      rw [this]; show 1024 * 0 + _ = _; omega
  by_cases h : stG d c ((i 0).val / 512) < 7
  · left
    refine ⟨d, ⟨(i 0).val % 512 / 256, by omega⟩, ⟨_, h⟩, mk2 ((i 0).val % 256) ((i 1).val % 1024) (Nat.mod_lt _ (by decide)) (Nat.mod_lt _ (by decide)), ?_⟩
    refine ext2 (a := 4096) (b := 2048) ?_ ?_
    · rw [rG_row, chG_stG d c (by omega)]; show 512 * _ + 256 * (_ % 512 / 256) + _ % 256 = _; omega
    · rw [rG_col]; exact hd
  · right
    refine ⟨d, ⟨_, stpB_lt d c ((i 0).val % 512 / 128)⟩, mk2 ((i 0).val % 128) ((i 1).val % 1024) (Nat.mod_lt _ (by decide)) (Nat.mod_lt _ (by decide)), ?_⟩
    refine ext2 (a := 4096) (b := 2048) ?_ ?_
    · rw [rO_row, chO_of d c (by omega) h, quB_stpB d c (by omega)]; show 512 * _ + 128 * _ + _ % 128 = _; omega
    · rw [rO_col]; exact hd
theorem casesF (d : Bool) (c : Dev nD) (i : S512x1024.Idx) : ∃ r j, (rB d c r).emb j = i := by
  have h0 := lt0 i; have h1 := lt1 i
  refine ⟨⟨_, stpB_lt d c ((i 0).val / 128)⟩, mk2 ((i 0).val % 128) (i 1).val (Nat.mod_lt _ (by decide)) h1, ?_⟩
  refine ext2 (a := 512) (b := 1024) ?_ ?_
  · rw [rB_row, quB_stpB d c (by omega)]; show 128 * _ + _ % 128 = _; omega
  · rw [rB_col]; rfl
theorem casesP (i : S512x1024.Idx) : ∃ u j, (rPl u).emb j = i := by
  have h0 := lt0 i; have h1 := lt1 i
  refine ⟨⟨(i 0).val / 256, by omega⟩, mk2 ((i 0).val % 256) (i 1).val (Nat.mod_lt _ (by decide)) h1, ?_⟩
  refine ext2 (a := 512) (b := 1024) ?_ ?_
  · rw [rPl_row]; show 256 * (_ / 256) + _ % 256 = _; omega
  · rw [rPl_col]; rfl

/-! ## So everything is stored -/

theorem allPl (i : S512x1024.Idx) : i ∈ (∅ ∪ Set.range (rPl 0).emb ∪ Set.range (rPl 1).emb : Set S512x1024.Idx) := by
  obtain ⟨u, j, h⟩ := casesP i
  match u with
  | 0 => exact Or.inl (Or.inr ⟨j, h⟩)
  | 1 => exact Or.inr ⟨j, h⟩
theorem mem_DF (c : Dev nD) (d : Bool) (r : Fin 4) (D : Set S512x1024.Idx) {i : S512x1024.Idx} (j : S128x1024.Idx) (h : (rB d c r).emb j = i) : i ∈ DF c d r D :=
  Set.mem_union_right _ ⟨j, h⟩
theorem sub_DF (c : Dev nD) (d : Bool) (r : Fin 4) {D : Set S512x1024.Idx} {i : S512x1024.Idx} (h : i ∈ D) : i ∈ DF c d r D := Set.mem_union_left _ h
theorem fin4_cases : ∀ r : Fin 4, r = 0 ∨ r = 1 ∨ r = 2 ∨ r = 3 := by decide
theorem fin7_cases : ∀ t : Fin 7, t = 0 ∨ t = 1 ∨ t = 2 ∨ t = 3 ∨ t = 4 ∨ t = 5 ∨ t = 6 := by decide
theorem allFi (c : Dev nD) (d : Bool) (i : S512x1024.Idx) : i ∈ DFall c d := by
  obtain ⟨r, j, h⟩ := casesF d c i
  unfold DFall
  rcases fin4_cases r with rfl | rfl | rfl | rfl
  · exact sub_DF _ _ _ (sub_DF _ _ _ (mem_DF _ _ _ _ j h))
  · exact sub_DF _ _ _ (mem_DF _ _ _ _ j h)
  · exact mem_DF _ _ _ _ j h
  · exact sub_DF _ _ _ (sub_DF _ _ _ (sub_DF _ _ _ (mem_DF _ _ _ _ j h)))
theorem mem_DG2 (c : Dev nD) (t : Fin 7) (D : Set S4096x2048.Idx) {i : S4096x2048.Idx} (d : Bool) (u : Fin 2) (j : S256x1024.Idx) (h : (rG d u c t).emb j = i) :
    i ∈ DG2 c t D := by
  match d, u with
  | false, 0 => exact Or.inl (Or.inl (Or.inl (Or.inr ⟨j, h⟩)))
  | true, 0 => exact Or.inl (Or.inl (Or.inr ⟨j, h⟩))
  | false, 1 => exact Or.inl (Or.inr ⟨j, h⟩)
  | true, 1 => exact Or.inr ⟨j, h⟩
theorem sub_DG2 (c : Dev nD) (t : Fin 7) {D : Set S4096x2048.Idx} {i : S4096x2048.Idx} (h : i ∈ D) : i ∈ DG2 c t D := Or.inl (Or.inl (Or.inl (Or.inl h)))
theorem mem_DO (c : Dev nD) (r : Fin 4) (D : Set S4096x2048.Idx) {i : S4096x2048.Idx} (d : Bool) (j : S128x1024.Idx) (h : (rO d c r).emb j = i) : i ∈ DO c r D := by
  match d with
  | false => exact Or.inl (Or.inr ⟨j, h⟩)
  | true => exact Or.inr ⟨j, h⟩
theorem sub_DO (c : Dev nD) (r : Fin 4) {D : Set S4096x2048.Idx} {i : S4096x2048.Idx} (h : i ∈ D) : i ∈ DO c r D := Or.inl (Or.inl h)
theorem allOut (c : Dev nD) (i : S4096x2048.Idx) : i ∈ DGall c (DOall c) := by
  unfold DGall
  rcases casesO c i with ⟨d, u, t, j, h⟩ | ⟨d, r, j, h⟩
  · rcases fin7_cases t with rfl | rfl | rfl | rfl | rfl | rfl | rfl
    · iterate 6 apply sub_DG2
      exact mem_DG2 _ _ _ d u j h
    · iterate 5 apply sub_DG2
      exact mem_DG2 _ _ _ d u j h
    · iterate 4 apply sub_DG2
      exact mem_DG2 _ _ _ d u j h
    · iterate 3 apply sub_DG2
      exact mem_DG2 _ _ _ d u j h
    · iterate 2 apply sub_DG2
      exact mem_DG2 _ _ _ d u j h
    · apply sub_DG2
      exact mem_DG2 _ _ _ d u j h
    · exact mem_DG2 _ _ _ d u j h
  · iterate 7 apply sub_DG2
    unfold DOall
    rcases fin4_cases r with rfl | rfl | rfl | rfl
    · iterate 2 apply sub_DO
      exact mem_DO _ _ _ d j h
    · apply sub_DO
      exact mem_DO _ _ _ d j h
    · exact mem_DO _ _ _ d j h
    · iterate 3 apply sub_DO
      exact mem_DO _ _ _ d j h

/-! ## The contents that every hop and store carries -/

variable (X : Dev nD → Vec F S4096x128 .fp8e4m3) (W : Dev nD → Vec F S128x2048 .fp8e5m2) (sc : Dev nD → F .f32)

/-- The reducing hop's contents: a device's own product, then what landed plus its next product. -/
def redV (d : Bool) (u : Fin 2) : ℕ → Dev nD → FVec F S256x1024 .bf16
  | 0, c => hfV u (prodV (fun j => X c ((rX0 c).emb j)) (fun j => W c ((rW d).emb j)))
  | s + 1, c => accV u (prodA c (X c) (W c) ⟨s % 7, Nat.mod_lt _ (by decide)⟩ d) (upH (redV d u s (tgtA (!d) c)))
/-- The plane's finished chunk. -/
def planeV (c : Dev nD) (d : Bool) : Vec F S512x1024 .bf16 := asmP fun u => redV X W d u 7 c
/-- What goes round across planes while it is summed, -/
def sumV (d : Bool) : ℕ → Dev nD → FVec F S128x1024 .bf16
  | 0, c => fun j => planeV X W c d ((rB d c 0).emb j)
  | s + 1, c => addf (sumV d s (tgtB (!d) c)) (fun j => planeV X W c d ((rB d c ⟨(s + 1) % 4, Nat.mod_lt _ (by decide)⟩).emb j))
/-- the finished quarter, -/
def doneV (d : Bool) (c : Dev nD) : FVec F S128x1024 .f32 := siluV (sc c) (upP (sumV X W d 2 (tgtB (!d) c))) (fun j => planeV X W c d ((rB d c 3).emb j))
/-- and the finished quarters going round. -/
def goV (d : Bool) : ℕ → Dev nD → FVec F S128x1024 .bf16
  | 0, c => truncV (doneV X W sc d c)
  | s + 1, c => goV d s (tgtB (!d) c)
def BCV (d : Bool) (k : ℕ) (c : Dev nD) : FVec F S128x1024 .bf16 := if k < 3 then sumV X W d k c else goV X W sc d (k - 3) c
/-- The quarter as the result keeps it. -/
def quarterV (d : Bool) (c : Dev nD) (r : Fin 4) : FVec F S128x1024 .f32 :=
  if r = 3 then doneV X W sc d c else extf .f32 (goV X W sc d r.val (tgtB (!d) c)) bitsLt_bf16_f32
/-- The finished chunk that the gather sends. -/
def finV (c : Dev nD) (d : Bool) : Vec F S512x1024 .bf16 :=
  asmF d c fun r => if r = 3 then truncV (doneV X W sc d c) else goV X W sc d r.val (tgtB (!d) c)
def gatV (d : Bool) (u : Fin 2) : ℕ → Dev nD → FVec F S256x1024 .bf16
  | 0, c => hfV u (finV X W sc c d)
  | s + 1, c => gatV d u s (tgtA (!d) c)
def ACV (d : Bool) (u : Fin 2) (h : ℕ) (c : Dev nD) : FVec F S256x1024 .bf16 := if h < 7 then redV X W d u h c else gatV X W sc d u (h - 7) c
/-- The result. -/
def outV (c : Dev nD) : Vec F S4096x2048 .f32 :=
  asmO c (fun d u t => extf .f32 (gatV X W sc d u t.val (tgtA (!d) c)) bitsLt_bf16_f32) (fun d r => quarterV X W sc d c r)

theorem sameV_eq (v : FVec F S128x1024 .bf16) : sameV v = v := shapeCast_self _ _
theorem sameV'_eq (v : FVec F S256x1024 .bf16) : sameV' v = v := shapeCast_self _ _

theorem ACV_red (d : Bool) (u : Fin 2) {h : ℕ} (c : Dev nD) (hh : h < 7) : ACV X W sc d u h c = redV X W d u h c := if_pos hh
theorem ACV_gat (d : Bool) (u : Fin 2) (t : ℕ) (c : Dev nD) : ACV X W sc d u (7 + t) c = gatV X W sc d u t c := by
  unfold ACV; rw [if_neg (by omega), Nat.add_sub_cancel_left]
theorem BCV_sum (d : Bool) {k : ℕ} (c : Dev nD) (hk : k < 3) : BCV X W sc d k c = sumV X W d k c := if_pos hk
theorem BCV_go (d : Bool) (s : ℕ) (c : Dev nD) : BCV X W sc d (3 + s) c = goV X W sc d s c := by
  unfold BCV; rw [if_neg (by omega), Nat.add_sub_cancel_left]
theorem redV_zero (d : Bool) (u : Fin 2) (c : Dev nD) : redV X W d u 0 c = hfV u (prodV (fun j => X c ((rX0 c).emb j)) (fun j => W c ((rW d).emb j))) := by rw [redV]
theorem redV_succ (d : Bool) (u : Fin 2) (s : Fin 7) (c : Dev nD) :
    redV X W d u (s.val + 1) c = accV u (prodA c (X c) (W c) s d) (upH (redV X W d u s.val (tgtA (!d) c))) := by
  have h2 : (⟨s.val % 7, Nat.mod_lt _ (by decide)⟩ : Fin 7) = s := Fin.ext (Nat.mod_eq_of_lt s.isLt)
  rw [redV, h2]
theorem sumV_zero (d : Bool) (c : Dev nD) : sumV X W d 0 c = fun j => planeV X W c d ((rB d c 0).emb j) := by rw [sumV]; rfl
theorem sumV_succ (d : Bool) (s : ℕ) (r : Fin 4) (hr : s + 1 = r.val) (c : Dev nD) :
    sumV X W d (s + 1) c = addf (sumV X W d s (tgtB (!d) c)) (fun j => planeV X W c d ((rB d c r).emb j)) := by
  have h2 : (⟨(s + 1) % 4, Nat.mod_lt _ (by decide)⟩ : Fin 4) = r := Fin.ext (by show (s + 1) % 4 = r.val; rw [hr]; exact Nat.mod_eq_of_lt r.isLt)
  rw [sumV, h2]
theorem goV_zero (d : Bool) (c : Dev nD) : goV X W sc d 0 c = truncV (doneV X W sc d c) := by rw [goV]
theorem goV_succ (d : Bool) (s : ℕ) (c : Dev nD) : goV X W sc d (s + 1) c = goV X W sc d s (tgtB (!d) c) := by rw [goV]
theorem gatV_zero (d : Bool) (u : Fin 2) (c : Dev nD) : gatV X W sc d u 0 c = hfV u (finV X W sc c d) := by rw [gatV]
theorem gatV_succ (d : Bool) (u : Fin 2) (s : ℕ) (c : Dev nD) : gatV X W sc d u (s + 1) c = gatV X W sc d u s (tgtA (!d) c) := by rw [gatV]
theorem castSucc_ne : ∀ s : Fin 3, s.castSucc ≠ (3 : Fin 4) := by decide
theorem planeV_pl (d : Bool) (u : Fin 2) (c : Dev nD) (j : S256x1024.Idx) : planeV X W c d ((rPl u).emb j) = redV X W d u 7 c j := by
  unfold planeV; rw [asmP_H]
theorem finV_3 (d : Bool) (c : Dev nD) (j : S128x1024.Idx) : finV X W sc c d ((rB d c 3).emb j) = truncV (doneV X W sc d c) j := by
  unfold finV; rw [asmF_Q, if_pos rfl]
theorem finV_S (d : Bool) (c : Dev nD) (s : Fin 3) (j : S128x1024.Idx) : finV X W sc c d ((rB d c s.castSucc).emb j) = goV X W sc d s.val (tgtB (!d) c) j := by
  unfold finV; rw [asmF_Q, if_neg (castSucc_ne s)]; rfl
theorem outV_3 (d : Bool) (c : Dev nD) (j : S128x1024.Idx) : outV X W sc c ((rO d c 3).emb j) = doneV X W sc d c j := by
  unfold outV; rw [asmO_Q]; unfold quarterV; rw [if_pos rfl]
theorem outV_S (d : Bool) (c : Dev nD) (s : Fin 3) (j : S128x1024.Idx) :
    outV X W sc c ((rO d c s.castSucc).emb j) = extf .f32 (goV X W sc d s.val (tgtB (!d) c)) bitsLt_bf16_f32 j := by
  unfold outV; rw [asmO_Q]; unfold quarterV; rw [if_neg (castSucc_ne s)]; rfl
theorem outV_G (d : Bool) (c : Dev nD) (t : Fin 7) (u : Fin 2) (j : S256x1024.Idx) :
    outV X W sc c ((rG d u c t).emb j) = extf .f32 (gatV X W sc d u t.val (tgtA (!d) c)) bitsLt_bf16_f32 j := by
  unfold outV; rw [asmO_G]

/-- The contents just named are what the kernel computes. -/
theorem spec_holds (c : Dev nD) : Spec (ACV X W sc) (BCV X W sc) c (X c) (W c) (sc c) (planeV X W c) (finV X W sc c) (outV X W sc c) where
  a0 d u := by rw [ACV_red _ _ _ _ _ _ (by decide), redV_zero]
  aS s hs d u := by rw [ACV_red _ _ _ _ _ _ (by omega), ACV_red _ _ _ _ _ _ s.isLt, redV_succ]
  pl d u := by
    rw [sameV'_eq, ACV_red _ _ _ _ _ _ (by decide)]; funext j; rw [planeV_pl]; exact (congrFun (redV_succ X W d u 6 c) j).symm
  b0 d := by rw [BCV_sum _ _ _ _ _ (by decide), sumV_zero]; funext j; rw [rB0_eq d]
  b1 d := by rw [BCV_sum _ _ _ _ _ (by decide), BCV_sum _ _ _ _ _ (by decide), sumV_succ _ _ _ _ 1 rfl]
  b2 d := by rw [BCV_sum _ _ _ _ _ (by decide), BCV_sum _ _ _ _ _ (by decide), sumV_succ _ _ _ _ 2 rfl]
  b3 d := by rw [BCV_go _ _ _ _ 0, BCV_sum _ _ _ _ _ (by decide), goV_zero]; unfold doneV; rfl
  b4 d := by rw [BCV_go _ _ _ _ 1, BCV_go _ _ _ _ 0, goV_succ]
  b5 d := by rw [BCV_go _ _ _ _ 2, BCV_go _ _ _ _ 1, goV_succ]
  f3 d := by rw [sameV_eq, BCV_sum _ _ _ _ _ (by decide)]; funext j; rw [finV_3]; unfold doneV; rfl
  o3 d := by rw [BCV_sum _ _ _ _ _ (by decide)]; funext j; rw [outV_3]; unfold doneV; rfl
  fS d s := by rw [sameV_eq, BCV_go]; funext j; rw [finV_S]
  oS d s := by rw [BCV_go]; funext j; rw [outV_S]
  a7 d u := by rw [ACV_gat _ _ _ _ _ 0, gatV_zero]
  aG t ht d u := by rw [Nat.add_assoc, ACV_gat, ACV_gat, gatV_succ]
  oG t d u := by rw [ACV_gat]; funext j; rw [outV_G]

end Cert.KProof
-- ==== Proof.Scratch.lean ====
module

public import proofs.«01_k».proof.Proof.Ghost
public import proofs.«01_k».proof.Proof.Gen.KernelIdeal.Launch

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.SiteBlocks (L lv mem_L mem_L' mayWait_of)

variable {F : FTy → Type} [FloatOps F]

local notation "𝕄" => MT nD τ sig ℕ (Elt F) ℕ UU ℕ

/-! ## A buffer by its parts -/

theorem slot_split {ℓ : Loc nD τ sig} {I J : Finset (Idx ℓ)} (h : Disjoint I J) : (slot ℓ (I ∪ J) : sProp 𝕄) ⊢ iprop(slot ℓ I ∗ slot ℓ J) := by
  unfold slot
  iintro ⟨%f, H⟩
  ihave H := (pointsTo_union h).1 $$ H
  icases H with ⟨H, H'⟩
  isplitl [H]
  · iexists f; iexact H
  · iexists f; iexact H'
theorem slot_union {ℓ : Loc nD τ sig} {I J : Finset (Idx ℓ)} (h : Disjoint I J) : iprop(slot ℓ I ∗ slot ℓ J) ⊢ (slot ℓ (I ∪ J) : sProp 𝕄) := by
  unfold slot
  iintro ⟨⟨%f, H⟩, %g, H'⟩
  iexists (J.piecewise g f)
  iapply (pointsTo_join h)
  isplitl [H]; · iexact H
  iexact H'

theorem half_set (m : Memref sig .tc .vmem S2x512x1024 .bf16) (p u : Fin 2) : (halfM m p u).view.set = (m.view.slice (rH p u)).set := View.set_reshape ..
theorem slotM_set (m : Memref sig .tc .vmem S2x128x1024 .bf16) (p : Fin 2) : (slotM m p).view.set = (m.view.slice (rP p)).set := View.set_reshape ..

theorem rH_cover : ((rH 0 0).set ∪ (rH 0 1).set) ∪ ((rH 1 0).set ∪ (rH 1 1).set) = Finset.univ := by
  rw [Finset.eq_univ_iff_forall]
  intro i
  have h0 : (i 0).val < 2 := (i 0).isLt
  have h1 : (i 1).val < 512 := (i 1).isLt
  have h2 : (i 2).val < 1024 := (i 2).isLt
  have key (p u : Fin 2) (hp : (i 0).val = p.val) (hu : 256 * u.val ≤ (i 1).val ∧ (i 1).val < 256 * u.val + 256) : i ∈ (rH p u).set := by
    refine Rect.mem_set_unit.mpr fun a => ?_
    fin_cases a
    · show p.val ≤ (i 0).val ∧ (i 0).val < p.val + 1; omega
    · exact hu
    · show 0 ≤ (i 2).val ∧ (i 2).val < 0 + 1024; omega
  simp only [Finset.mem_union]
  by_cases hp : (i 0).val = 0 <;> by_cases hu : (i 1).val < 256
  · exact Or.inl (Or.inl (key 0 0 hp ⟨Nat.zero_le _, hu⟩))
  · exact Or.inl (Or.inr (key 0 1 hp ⟨by show 256 * 1 ≤ _; omega, by show _ < 256 * 1 + 256; omega⟩))
  · exact Or.inr (Or.inl (key 1 0 (by show _ = 1; omega) ⟨Nat.zero_le _, hu⟩))
  · exact Or.inr (Or.inr (key 1 1 (by show _ = 1; omega) ⟨by show 256 * 1 ≤ _; omega, by show _ < 256 * 1 + 256; omega⟩))
theorem rP_cover : (rP 0).set ∪ (rP 1).set = Finset.univ := by
  rw [Finset.eq_univ_iff_forall]
  intro i
  have h0 : (i 0).val < 2 := (i 0).isLt
  have h1 : (i 1).val < 128 := (i 1).isLt
  have h2 : (i 2).val < 1024 := (i 2).isLt
  have key (p : Fin 2) (hp : (i 0).val = p.val) : i ∈ (rP p).set := by
    refine Rect.mem_set_unit.mpr fun a => ?_
    fin_cases a
    · show p.val ≤ (i 0).val ∧ (i 0).val < p.val + 1; omega
    · show 0 ≤ (i 1).val ∧ (i 1).val < 0 + 128; omega
    · show 0 ≤ (i 2).val ∧ (i 2).val < 0 + 1024; omega
  simp only [Finset.mem_union]
  by_cases hp : (i 0).val = 0
  · exact Or.inl (key 0 hp)
  · exact Or.inr (key 1 (by show _ = 1; omega))
theorem rH_disj_slot (u u' : Fin 2) : Disjoint (rH 0 u).set (rH 1 u').set := by
  rw [Finset.disjoint_left]
  intro i hi hi'
  have h : (i 0).val < 0 + 1 := (Rect.mem_set_unit.mp hi 0).2
  have h' : 1 ≤ (i 0).val := (Rect.mem_set_unit.mp hi' 0).1
  omega
theorem rH_disj_half (p : Fin 2) : Disjoint (rH p 0).set (rH p 1).set := by
  rw [Finset.disjoint_left]
  intro i hi hi'
  have h : (i 1).val < 256 * 0 + 256 := (Rect.mem_set_unit.mp hi 1).2
  have h' : 256 * 1 ≤ (i 1).val := (Rect.mem_set_unit.mp hi' 1).1
  omega
theorem rP_disj : Disjoint (rP 0).set (rP 1).set := by
  rw [Finset.disjoint_left]
  intro i hi hi'
  have h : (i 0).val < 0 + 1 := (Rect.mem_set_unit.mp hi 0).2
  have h' : 1 ≤ (i 0).val := (Rect.mem_set_unit.mp hi' 0).1
  omega

theorem halves_set (m : Memref sig .tc .vmem S2x512x1024 .bf16) : ((halfM m 0 0).view.set ∪ (halfM m 0 1).view.set) ∪ ((halfM m 1 0).view.set ∪ (halfM m 1 1).view.set) = m.view.set := by
  rw [half_set, half_set, half_set, half_set, View.set_slice, View.set_slice, View.set_slice, View.set_slice, ← Finset.map_union, ← Finset.map_union, ← Finset.map_union, rH_cover]
  rfl
theorem slots_set (m : Memref sig .tc .vmem S2x128x1024 .bf16) : (slotM m 0).view.set ∪ (slotM m 1).view.set = m.view.set := by
  rw [slotM_set, slotM_set, View.set_slice, View.set_slice, ← Finset.map_union, rP_cover]
  rfl
theorem half_disj (m : Memref sig .tc .vmem S2x512x1024 .bf16) (p : Fin 2) : Disjoint (halfM m p 0).view.set (halfM m p 1).view.set := by
  rw [half_set, half_set]; exact View.disjoint_slice (rH_disj_half p)
theorem slots_disj (m : Memref sig .tc .vmem S2x512x1024 .bf16) :
    Disjoint ((halfM m 0 0).view.set ∪ (halfM m 0 1).view.set) ((halfM m 1 0).view.set ∪ (halfM m 1 1).view.set) := by
  rw [half_set, half_set, half_set, half_set]
  simp only [Finset.disjoint_union_left, Finset.disjoint_union_right]
  exact ⟨⟨View.disjoint_slice (rH_disj_slot 0 0), View.disjoint_slice (rH_disj_slot 1 0)⟩, ⟨View.disjoint_slice (rH_disj_slot 0 1), View.disjoint_slice (rH_disj_slot 1 1)⟩⟩
theorem slotMs_disj (m : Memref sig .tc .vmem S2x128x1024 .bf16) : Disjoint (slotM m 0).view.set (slotM m 1).view.set := by
  rw [slotM_set, slotM_set]; exact View.disjoint_slice rP_disj

variable (c : Dev nD)

/-- A buffer of the plane ring held whole is its four halves held. -/
theorem halves_in (m : Memref sig .tc .vmem S2x512x1024 .bf16) : (slot (m.view.loc (c : Thread nD τ)) m.view.set : sProp 𝕄)
    ⊢ iprop((anyH m 0 0 c ∗ anyH m 0 1 c) ∗ anyH m 1 0 c ∗ anyH m 1 1 c) := by
  rw [← halves_set m]
  iintro H
  ihave H := (slot_split (slots_disj m)) $$ H
  icases H with ⟨H, H'⟩
  ihave H := (slot_split (half_disj m 0)) $$ H
  ihave H' := (slot_split (half_disj m 1)) $$ H'
  isplitl [H]; · iexact H
  iexact H'
theorem halves_out (m : Memref sig .tc .vmem S2x512x1024 .bf16) : iprop((anyH m 0 0 c ∗ anyH m 0 1 c) ∗ anyH m 1 0 c ∗ anyH m 1 1 c)
    ⊢ (slot (m.view.loc (c : Thread nD τ)) m.view.set : sProp 𝕄) := by
  rw [← halves_set m]
  iintro ⟨H, H'⟩
  ihave H := (slot_union (half_disj m 0)) $$ H
  ihave H' := (slot_union (half_disj m 1)) $$ H'
  iapply (slot_union (slots_disj m))
  isplitl [H]; · iexact H
  iexact H'
theorem slots_in (m : Memref sig .tc .vmem S2x128x1024 .bf16) : (slot (m.view.loc (c : Thread nD τ)) m.view.set : sProp 𝕄) ⊢ iprop(anyP m 0 c ∗ anyP m 1 c) := by
  rw [← slots_set m]; exact slot_split (slotMs_disj m)
theorem slots_out (m : Memref sig .tc .vmem S2x128x1024 .bf16) : iprop(anyP m 0 c ∗ anyP m 1 c) ⊢ (slot (m.view.loc (c : Thread nD τ)) m.view.set : sProp 𝕄) := by
  rw [← slots_set m]; exact slot_union (slotMs_disj m)
theorem owns_in {s : Shape} (m : Memref sig .tc .vmem s .bf16) : (slot (m.view.loc (c : Thread nD τ)) m.view.set : sProp 𝕄)
    ⊢ iprop(∃ X, owns (c : Thread nD τ) m fullShare X) := by
  unfold slot owns
  iintro ⟨%f, H⟩; iexists _, f; isplitr; · (ipureintro; rfl)
  iexact H
theorem owns_out {s : Shape} (m : Memref sig .tc .vmem s .bf16) : iprop(∃ X, owns (c : Thread nD τ) m fullShare X)
    ⊢ (slot (m.view.loc (c : Thread nD τ)) m.view.set : sProp 𝕄) := by
  unfold slot owns
  iintro ⟨%X, %f, -, H⟩; iexists f; iexact H

/-- A direction's buffers, each whole. -/
def Buf6 (c : Dev nD) (d : Bool) : sProp 𝕄 :=
  iprop(slot ((stA d).view.loc (c : Thread nD τ)) (stA d).view.set ∗ slot ((cmA d).view.loc (c : Thread nD τ)) (cmA d).view.set
    ∗ slot ((stB d).view.loc (c : Thread nD τ)) (stB d).view.set ∗ slot ((cmB d).view.loc (c : Thread nD τ)) (cmB d).view.set
    ∗ slot ((plM d).view.loc (c : Thread nD τ)) (plM d).view.set ∗ slot ((fiM d).view.loc (c : Thread nD τ)) (fiM d).view.set)

theorem scr_in (d : Bool) : (Buf6 c d : sProp 𝕄) ⊢ Scr c d := by
  unfold Buf6 Scr AnyS
  rw [slotOf_A, slotOf_A, slotOf_B, slotOf_B]
  iintro ⟨H1, H2, H3, H4, H5, H6⟩
  ihave H1 := (halves_in c (stA d)) $$ H1
  ihave H2 := (halves_in c (cmA d)) $$ H2
  ihave H3 := (slots_in c (stB d)) $$ H3
  ihave H4 := (slots_in c (cmB d)) $$ H4
  ihave H5 := (owns_in c (plM d)) $$ H5
  ihave H6 := (owns_in c (fiM d)) $$ H6
  icases H1 with ⟨A1, A2⟩
  icases H2 with ⟨B1, B2⟩
  icases H3 with ⟨C1, C2⟩
  icases H4 with ⟨D1, D2⟩
  isplitl [A1]; · iexact A1
  isplitl [A2]; · iexact A2
  isplitl [B1]; · iexact B1
  isplitl [B2]; · iexact B2
  isplitl [C1]; · iexact C1
  isplitl [C2]; · iexact C2
  isplitl [D1]; · iexact D1
  isplitl [D2]; · iexact D2
  isplitl [H5]; · iexact H5
  iexact H6
theorem scr_out (d : Bool) : (Scr c d : sProp 𝕄) ⊢ Buf6 c d := by
  unfold Buf6 Scr AnyS
  rw [slotOf_A, slotOf_A, slotOf_B, slotOf_B]
  iintro ⟨A1, A2, B1, B2, C1, C2, D1, D2, H5, H6⟩
  isplitl [A1 A2]
  · iapply (halves_out c (stA d))
    isplitl [A1]; · iexact A1
    iexact A2
  isplitl [B1 B2]
  · iapply (halves_out c (cmA d))
    isplitl [B1]; · iexact B1
    iexact B2
  isplitl [C1 C2]
  · iapply (slots_out c (stB d))
    isplitl [C1]; · iexact C1
    iexact C2
  isplitl [D1 D2]
  · iapply (slots_out c (cmB d))
    isplitl [D1]; · iexact D1
    iexact D2
  isplitl [H5]
  · iapply (owns_out c (plM d)); iexact H5
  iapply (owns_out c (fiM d)); iexact H6

theorem whole_slot (b : Ref sig .tc) : (iprop(∃ f : Buf (Elt F) ((c : Thread nD τ).loc b), ((c : Thread nD τ).loc b) ↦{fullShare} f) : sProp 𝕄)
    = slot ((Memref.whole b).view.loc (c : Thread nD τ)) (Memref.whole b).view.set := by
  unfold slot
  rw [Memref.view_whole, View.set_whole]

/-- The scratch buffers are the two directions' buffers, each whole. -/
theorem scoped_split : (Pipeline.scopedRest (Ix := ℕ) (Name := ℕ) (U := UU) (Lvl := ℕ) (Val := Elt F) spec0 c : sProp 𝕄) ⊢ Bo (Buf6 c) := by
  rw [scopedRest0_eq]
  simp only [whole_slot]
  unfold Bo Buf6
  iintro ⟨h0, h1, h2, h3, h4, h5, h6, h7, h8, h9, h10, h11⟩
  isplitl [h0 h2 h4 h6 h8 h10]
  · isplitl [h0]; · iexact h0
    isplitl [h2]; · iexact h2
    isplitl [h4]; · iexact h4
    isplitl [h6]; · iexact h6
    isplitl [h8]; · iexact h8
    iexact h10
  isplitl [h1]; · iexact h1
  isplitl [h3]; · iexact h3
  isplitl [h5]; · iexact h5
  isplitl [h7]; · iexact h7
  isplitl [h9]; · iexact h9
  iexact h11
theorem scoped_join : (Bo (Buf6 c) : sProp 𝕄) ⊢ Pipeline.scopedRest (Ix := ℕ) (Name := ℕ) (U := UU) (Lvl := ℕ) (Val := Elt F) spec0 c := by
  rw [scopedRest0_eq]
  simp only [whole_slot]
  unfold Bo Buf6
  iintro ⟨⟨h0, h2, h4, h6, h8, h10⟩, h1, h3, h5, h7, h9, h11⟩
  isplitl [h0]; · iexact h0
  isplitl [h1]; · iexact h1
  isplitl [h2]; · iexact h2
  isplitl [h3]; · iexact h3
  isplitl [h4]; · iexact h4
  isplitl [h5]; · iexact h5
  isplitl [h6]; · iexact h6
  isplitl [h7]; · iexact h7
  isplitl [h8]; · iexact h8
  isplitl [h9]; · iexact h9
  isplitl [h10]; · iexact h10
  iexact h11

theorem Bo_mono {P Q : Bool → sProp 𝕄} (h : ∀ d, P d ⊢ Q d) : Bo P ⊢ Bo Q := by
  unfold Bo
  iintro ⟨H, H'⟩
  isplitl [H]
  · iapply (h false); iexact H
  · iapply (h true); iexact H'

theorem scratch_in : (Pipeline.scopedRest (Ix := ℕ) (Name := ℕ) (U := UU) (Lvl := ℕ) (Val := Elt F) spec0 c : sProp 𝕄) ⊢ Bo (Scr c) :=
  (scoped_split c).trans (Bo_mono (scr_in c))
theorem scratch_out : (Bo (Scr c) : sProp 𝕄) ⊢ Pipeline.scopedRest (Ix := ℕ) (Name := ℕ) (U := UU) (Lvl := ℕ) (Val := Elt F) spec0 c :=
  (Bo_mono (scr_out c)).trans (scoped_join c)

end Cert.KProof
-- ==== Proof.Fold.lean ====
/-
  The printed body is `bodyProg`.
-/
module

public import proofs.«01_k».proof.Proof.Program

@[expose] public section

noncomputable section

namespace Cert.KProof

open Cert.KernelIdeal Cert.KernelIdeal.Gen
open Idealize.ShloMosaic
open Idealize.ShloMosaic.TcCoe
open Idealize.SL.Sem

variable {F : FTy → Type} [FloatOps F]

set_option maxHeartbeats 4000000 in
/-- The printed body, over the buffers of the call, is the folded program. -/
theorem fold_body : cc0_body (F := F) (win0_0.stage 0) (hstage0_0 0) (win0_1.stage 0) (hstage0_1 0) (win0_2.stage 0) (hstage0_2 0)
    (win0_3.stage 0) (hstage0_3 0) (win0_4.stage 0) (hstage0_4 0)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _) (Memref.whole cc0_scratch7) (Memref.isWhole_whole _)
    (Memref.whole cc0_scratch8) (Memref.isWhole_whole _) (Memref.whole cc0_scratch9) (Memref.isWhole_whole _)
    (Memref.whole cc0_scratch10) (Memref.isWhole_whole _) (Memref.whole cc0_scratch11) (Memref.isWhole_whole _)
    cc0_scratch12 cc0_scratch13 cc0_scratch14 cc0_scratch15 cc0_scratch16 cc0_scratch17 cc0_scratch18 cc0_scratch19
    cc0_scratch20 cc0_scratch21 cc0_scratch22 cc0_scratch23 = bodyProg := by
  rfl

end Cert.KProof

end
-- ==== Proof.Launch.lean ====
module

public import proofs.«01_k».proof.Proof.Ghost
public import proofs.«01_k».proof.Proof.Place
public import proofs.«01_k».proof.Proof.Scratch
public import proofs.«01_k».proof.Proof.Fold
public import Idealize.ShloMosaic.Lib.Pipeline.Launch
public import Idealize.ShloMosaic.Lib.Pipeline.Kit

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.SiteBlocks (L lv mem_L mem_L' mayWait_of)

open Idealize.ShloMosaic.Pipeline (Dat Cfg Window BodyObligation cellOf)

variable {F : FTy → Type} [FloatOps F]

local notation "𝕄" => MT nD τ sig ℕ (Elt F) ℕ UU ℕ

variable (AC : Bool → Fin 2 → ℕ → Dev nD → FVec F S256x1024 .bf16) (BC : Bool → ℕ → Dev nD → FVec F S128x1024 .bf16)

/-! ## The kernel's own semaphores -/

/-- The cells but the barrier's, in order. -/
abbrev clOf : Fin 28 → Cl := ![.cA false, .cB false, .sA false 0 0, .sA false 0 1, .rA false 0 0, .rA false 0 1, .sA false 1 0, .sA false 1 1, .rA false 1 0, .rA false 1 1,
  .sB false 0, .rB false 0, .sB false 1, .rB false 1,
  .cA true, .cB true, .sA true 0 0, .sA true 0 1, .rA true 0 0, .rA true 0 1, .sA true 1 0, .sA true 1 1, .rA true 1 0, .rA true 1 1,
  .sB true 0, .rB true 0, .sB true 1, .rB true 1]
abbrev osem (k : Fin 28) : SemLoc sig := semOf (clOf k)

theorem ownSemFacts : Pipeline.OwnSemFacts spec0 osem := by decide

theorem sems0_eq (c : Dev nD) : (iprop(unscopedSems0 c ∗ Pipeline.ownSems0 (Ix := ℕ) (Name := ℕ) (U := UU) (Lvl := ℕ) (Val := Elt F) (τ := τ) osem c) : sProp 𝕄)
    = bigSep Finset.univ fun x : Cl => semVal (kcell (c, x)) 0 := by
  rw [Pipeline.ownSems0_eq_of_list c osem [0, 1, 2, 3, 4, 5, 6, 7, 8, 9, 10, 11, 12, 13, 14, 15, 16, 17, 18, 19, 20, 21, 22, 23, 24, 25, 26, 27] (by decide) (by decide)]
  unfold unscopedSems0
  rw [bigSep_eq_bigSepL_of_eq [SemLoc.reg barS] (by decide) (by decide), bigSep_Cl]
  rfl

/-! ## The launch element -/

def cellsF : Finset (GSem nD τ sig) := Finset.univ.map ⟨kcell, kcell_injective⟩
def toksF : Finset (GSem nD τ sig × ℕ × ℕ) := Finset.univ.map ⟨tokOf, tokOf_injective⟩
def u₀ : UU := (initOf (Pipeline.cells cfgs cellOf_inj) (Pipeline.launchToks cfgs cellOf_inj), (initOf cellsF toksF, initSlots (Finset.univ : Finset SKey) 8))

theorem u₀_split : (ownU u₀ : sProp 𝕄) ⊢ iprop(BI.own (EP (initOf (Pipeline.cells cfgs cellOf_inj) (Pipeline.launchToks cfgs cellOf_inj)))
    ∗ BI.own (ER (initOf cellsF toksF)) ∗ BI.own (ES (initSlots (Finset.univ : Finset SKey) 8))) :=
  (show _ ⊢ _ from ownU_pair (A := UR sig nD τ) (B := UB × UC) _ _).trans (sep_mono_right (own_pair_emb (embR (A := UR sig nD τ) (B := UB × UC)) _ _))

/-- What every device learns of the cells, -/
def PR : sProp 𝕄 := bigSep Finset.univ fun x : Dev nD × Cl => reached ER (kcell x) 0
/-- and of the landing slots. -/
def PS : sProp 𝕄 := iprop(∃ SN : SKey → ℕ, bigSep Finset.univ fun k : SKey => slotInv ES (SN k) k (slotOf k))
instance PR_persistent : BI.Persistent (PR : sProp 𝕄) := by unfold PR; infer_instance
instance PS_persistent : BI.Persistent (PS : sProp 𝕄) := by unfold PS; infer_instance
def atAll (c : Dev nD) : sProp 𝕄 := bigSep Finset.univ fun x : Cl => atPos ER (kcell (c, x)) 0 ∅ 0

theorem fund_cells : (BI.own (ER (initOf cellsF toksF)) : sProp 𝕄)
    ⊢ |==> iprop((bigSep Finset.univ fun c : Dev nD => bigSep Finset.univ fun x : Cl => roundState ER (Rd AC BC) (kcell (c, x)) 0)
        ∗ PR ∗ (bigSep Finset.univ fun c : Dev nD => atAll c) ∗ bigSep Finset.univ fun c : Dev nD => toksOf c) := by
  have hX (Φ : GSem nD τ sig → sProp 𝕄) : bigSep cellsF Φ = bigSep Finset.univ fun x : Dev nD × Cl => Φ (kcell x) := by
    unfold cellsF; rw [bigSep_map]; rfl
  have hT : bigSep toksF (fun x => (dutyTok ER x.1 x.2.1 x.2.2 : sProp 𝕄)) = bigSep Finset.univ fun c : Dev nD => toksOf c := by
    unfold toksF; rw [bigSep_map, bigSep_univ_prod]; rfl
  iintro HX
  imod (Rounds.fund ER (Rd AC BC) cellsF toksF) $$ HX with ⟨Hst, Hr, Hat, Htok⟩
  imodintro
  ihave Hst := (Entails.of_eq ((hX fun g => roundState ER (Rd AC BC) g 0).trans (bigSep_univ_prod _))) $$ Hst
  ihave Hr := (Entails.of_eq (hX fun g => reached ER g 0)) $$ Hr
  ihave Hat := (Entails.of_eq ((hX fun g => atPos ER g 0 ∅ 0).trans (bigSep_univ_prod _))) $$ Hat
  ihave Htok := (Entails.of_eq hT) $$ Htok
  isplitl [Hst]; · iexact Hst
  isplitl [Hr]; · unfold PR; iexact Hr
  isplitl [Hat]; · unfold atAll; iexact Hat
  iexact Htok

theorem readers_split : (bigSep Finset.univ fun k : SKey => (readerAt ES k 0 : sProp 𝕄)) ⊢ bigSep Finset.univ fun c : Dev nD => Bo (Rdr c) := by
  rw [bigSep_univ_prod]
  refine bigSep_mono fun c _ => ?_
  rw [bigSep_univ_eq_bigSepL [(false, false, 0), (false, false, 1), (true, false, 0), (true, false, 1), (false, true, 0), (false, true, 1), (true, true, 0), (true, true, 1)]
    (by decide) (by decide)]
  show iprop(readerAt ES (keyA c false 0) 0 ∗ readerAt ES (keyA c false 1) 0 ∗ readerAt ES (keyB c false 0) 0 ∗ readerAt ES (keyB c false 1) 0
    ∗ readerAt ES (keyA c true 0) 0 ∗ readerAt ES (keyA c true 1) 0 ∗ readerAt ES (keyB c true 0) 0 ∗ readerAt ES (keyB c true 1) 0) ⊢ _
  unfold Bo Rdr
  iintro ⟨h1, h2, h3, h4, h5, h6, h7, h8⟩
  isplitl [h1 h2 h3 h4]
  · isplitl [h1]; · iexact h1
    isplitl [h2]; · iexact h2
    isplitl [h3]; · iexact h3
    iexact h4
  isplitl [h5]; · iexact h5
  isplitl [h6]; · iexact h6
  isplitl [h7]; · iexact h7
  iexact h8

theorem writers_split : (bigSep ((Finset.univ : Finset SKey) ×ˢ Finset.range 8) fun x => (writeTok ES x.1 (x.2 + 1) : sProp 𝕄))
    ⊢ bigSep Finset.univ fun c : Dev nD => writesOf c := by
  have e : bigSep (Finset.univ.map ⟨wrOf, wrOf_injective⟩) (fun x => (writeTok ES x.1 (x.2 + 1) : sProp 𝕄)) = bigSep Finset.univ fun c : Dev nD => writesOf c := by
    rw [bigSep_map, bigSep_univ_prod]; rfl
  rw [← e]
  refine BI.bigSep_subset fun x hx => ?_
  obtain ⟨y, -, rfl⟩ := Finset.mem_map.mp hx
  exact Finset.mem_product.mpr ⟨Finset.mem_univ _, Finset.mem_range.mpr (wrOf_lt y)⟩

theorem fund_slots : (BI.own (ES (initSlots (Finset.univ : Finset SKey) 8)) : sProp 𝕄)
    ⊢ |={Set.univ}=> iprop(PS ∗ (bigSep Finset.univ fun c : Dev nD => Bo (Rdr c)) ∗ bigSep Finset.univ fun c : Dev nD => writesOf c) := by
  iintro H
  imod (slots_init ES (Finset.univ : Finset SKey) 8 (fun k => slotOf k)) $$ H with ⟨%SN, -, HI, HR, HW⟩
  imodintro
  ihave HR := readers_split $$ HR
  ihave HW := writers_split $$ HW
  isplitl [HI]
  · unfold PS; iexists SN; iexact HI
  isplitl [HR]; · iexact HR
  iexact HW

/-- What the launch element deals a device, its cells' states apart, -/
def lin (c : Dev nD) : sProp 𝕄 := iprop(atAll c ∗ Bo (Rdr c) ∗ toksOf c ∗ writesOf c)
/-- and with them. -/
def G (c : Dev nD) : sProp 𝕄 := iprop((bigSep Finset.univ fun x : Cl => roundState ER (Rd AC BC) (kcell (c, x)) 0) ∗ lin c ∗ PR ∗ PS)
def G' (c : Dev nD) : sProp 𝕄 :=
  iprop(lin c ∗ PR ∗ PS ∗ ∃ KN : Dev nD × Cl → ℕ, bigSep Finset.univ fun x : Dev nD × Cl => cellInv ER (Rd AC BC) (KN x) (kcell x))

theorem with_persistent {I : Type} [DecidableEq I] {S : Finset I} {R : sProp 𝕄} [BI.Persistent R] {Φ : I → sProp 𝕄} :
    iprop(R ∗ bigSep S Φ) ⊢ bigSep S fun i => iprop(Φ i ∗ R) :=
  (sep_mono_left (BI.bigSep_of_persistent S R)).trans (by
    rw [← bigSep_sep']
    exact bigSep_mono fun i _ => show iprop(R ∗ Φ i) ⊢ iprop(Φ i ∗ R) from sep_comm.1)

theorem G_of (c : Dev nD) : (iprop(iprop((bigSep Finset.univ fun x : Cl => roundState ER (Rd AC BC) (kcell (c, x)) 0) ∗ lin c) ∗ PR ∗ PS) : sProp 𝕄) ⊢ G AC BC c := by
  unfold G
  iintro ⟨⟨H1, H2⟩, H3⟩
  isplitl [H1]; · iexact H1
  isplitl [H2]; · iexact H2
  iexact H3
theorem G'_of (KN : Dev nD × Cl → ℕ) (c : Dev nD) :
    (iprop(lin c ∗ PR ∗ PS ∗ bigSep Finset.univ fun x : Dev nD × Cl => cellInv ER (Rd AC BC) (KN x) (kcell x)) : sProp 𝕄) ⊢ G' AC BC c := by
  unfold G'
  iintro ⟨H1, H2, H3, H4⟩
  isplitl [H1]; · iexact H1
  isplitl [H2]; · iexact H2
  isplitl [H3]; · iexact H3
  iexists KN; iexact H4

theorem deal_u₀ : (ownU u₀ : sProp 𝕄) ⊢ |={Set.univ}=> iprop(BI.own (EP (initOf (Pipeline.cells cfgs cellOf_inj) (Pipeline.launchToks cfgs cellOf_inj)))
    ∗ bigSep Finset.univ (G AC BC)) := by
  iintro Hu
  ihave H := u₀_split $$ Hu
  icases H with ⟨HP, HX, HS⟩
  imod (fund_cells AC BC) $$ HX with ⟨Hst, #HR, Hat, Htok⟩
  imod fund_slots $$ HS with ⟨#HI, Hrd, Hwr⟩
  imodintro
  isplitl [HP]; · iexact HP
  ihave H := (show iprop(iprop(PR ∗ PS) ∗ bigSep Finset.univ fun c : Dev nD => iprop((bigSep Finset.univ fun x : Cl => roundState ER (Rd AC BC) (kcell (c, x)) 0) ∗ lin c))
    ⊢ (bigSep Finset.univ (G AC BC) : sProp 𝕄) from with_persistent.trans (bigSep_mono fun c _ => G_of AC BC c)) $$ [Hst Hat Htok Hrd Hwr]
  · isplitr
    · isplitr; · iexact HR
      iexact HI
    · unfold lin
      simp only [bigSep_sep']
      isplitl [Hst]; · iexact Hst
      isplitl [Hat]; · iexact Hat
      isplitl [Hrd]; · iexact Hrd
      isplitl [Htok]; · iexact Htok
      iexact Hwr
  iexact H

theorem core_alloc (c : Dev nD) :
    iprop(Pipeline.ownSems0 (Ix := ℕ) (Name := ℕ) (U := UU) (Lvl := ℕ) (Val := Elt F) (τ := τ) osem c ∗ unscopedSems0 c ∗ G AC BC c)
      ⊢ |={Set.univ}=> iprop((bigSep Finset.univ fun x : Cl => iprop(∃ κ : ℕ, cellInv ER (Rd AC BC) κ (kcell (c, x)))) ∗ lin c ∗ PR ∗ PS) := by
  unfold G
  iintro ⟨Hos, Hus, Hst, Hrest⟩
  ihave Hv := (Entails.of_eq (sems0_eq (F := F) c)) $$ [Hos Hus]
  · isplitl [Hus] <;> iassumption
  imod (show iprop((bigSep Finset.univ fun x : Cl => semVal (kcell (c, x)) 0) ∗ bigSep Finset.univ fun x : Cl => roundState ER (Rd AC BC) (kcell (c, x)) 0)
      ⊢ (|={Set.univ}=> bigSep Finset.univ fun x : Cl => iprop(∃ κ : ℕ, cellInv ER (Rd AC BC) κ (kcell (c, x))) : sProp 𝕄) from by
        rw [← bigSep_sep']
        exact (bigSep_mono fun x _ => (Rounds.body_intro ER (Rd AC BC) (kcell (c, x))).trans inv_alloc).trans (bigSep_fupd _ _)) $$ [Hv Hst] with Hinv
  · isplitl [Hv] <;> iassumption
  imodintro
  isplitl [Hinv]; · iexact Hinv
  iexact Hrest

theorem regroup : (bigSep Finset.univ fun c : Dev nD => iprop((bigSep Finset.univ fun x : Cl => iprop(∃ κ : ℕ, cellInv ER (Rd AC BC) κ (kcell (c, x)))) ∗ lin c ∗ PR ∗ PS) : sProp 𝕄)
    ⊢ bigSep Finset.univ (G' AC BC) := by
  rw [bigSep_sep', bigSep_sep', bigSep_sep', ← bigSep_univ_prod (fun x : Dev nD × Cl => iprop(∃ κ : ℕ, cellInv ER (Rd AC BC) κ (kcell x)))]
  iintro ⟨HI, Hlin, HR, HS⟩
  ihave #HR := (show (bigSep Finset.univ fun _ : Dev nD => (PR : sProp 𝕄)) ⊢ PR from bigSep_elim (Finset.mem_univ (⟨0, by decide⟩ : Dev nD))) $$ HR
  ihave #HS := (show (bigSep Finset.univ fun _ : Dev nD => (PS : sProp 𝕄)) ⊢ PS from bigSep_elim (Finset.mem_univ (⟨0, by decide⟩ : Dev nD))) $$ HS
  ihave HK := (BI.bigSep_exists_pi Finset.univ (fun (x : Dev nD × Cl) (κ : ℕ) => (cellInv ER (Rd AC BC) κ (kcell x) : sProp 𝕄))) $$ HI
  icases HK with ⟨%KN, #HI⟩
  ihave H := (show iprop(iprop(PR ∗ PS ∗ bigSep Finset.univ fun x : Dev nD × Cl => cellInv ER (Rd AC BC) (KN x) (kcell x)) ∗ bigSep Finset.univ fun c : Dev nD => lin c)
    ⊢ (bigSep Finset.univ (G' AC BC) : sProp 𝕄) from with_persistent.trans (bigSep_mono fun c _ => G'_of AC BC KN c)) $$ [Hlin]
  · isplitr
    · isplitr; · iexact HR
      isplitr; · iexact HS
      iexact HI
    · iexact Hlin
  iexact H

/-- The semaphores of every device become the cells' invariants. -/
theorem glob : (bigSep Finset.univ fun c => iprop(Pipeline.ownSems0 (Ix := ℕ) (Name := ℕ) (U := UU) (Lvl := ℕ) (Val := Elt F) (τ := τ) osem c ∗ unscopedSems0 c ∗ G AC BC c) : sProp 𝕄)
    ⊢ |={Set.univ}=> bigSep Finset.univ (G' AC BC) :=
  ((bigSep_mono fun c _ => core_alloc AC BC c).trans (bigSep_fupd _ _)).trans (BI.fupd_mono (regroup AC BC))

/-- What a device's body starts from, its scratch apart. -/
def start (c : Dev nD) : sProp 𝕄 :=
  iprop((∃ (KN : Dev nD × Cl → ℕ) (SN : SKey → ℕ), Known AC BC KN SN) ∗ atAll c ∗ Bo (Rdr c) ∗ ToksI c ∗ ToksA c ∗ CrA c ∗ ToksB c)

theorem start_of (c : Dev nD) : iprop(levAts (L NI) lv ∗ Pipeline.launchCred O₀ c ∗ G' AC BC c) ⊢ (start AC BC c : sProp 𝕄) := by
  unfold G' lin start PR PS
  iintro ⟨Hlev, Hcr, ⟨Hat, Hrd, Htk, Hwr⟩, HR, ⟨%SN, HS⟩, %KN, HI⟩
  ihave H := (deal c) $$ [Hcr Htk Hwr]
  · isplitl [Htk]; · iexact Htk
    isplitl [Hwr]; · iexact Hwr
    iexact Hcr
  isplitl [Hlev HR HS HI]
  · iexists KN, SN
    unfold Known
    isplitl [HI]; · iexact HI
    isplitl [HS]; · iexact HS
    isplitl [HR]; · iexact HR
    iexact Hlev
  isplitl [Hat]; · iexact Hat
  isplitl [Hrd]; · iexact Hrd
  iexact H

end Cert.KProof
-- ==== Proof.Run.lean ====
module

public import proofs.«01_k».proof.Proof.Launch
public import proofs.«01_k».proof.Proof.Place
public import proofs.«01_k».proof.Proof.Scratch
public import proofs.«01_k».proof.Proof.Fold
public import Idealize.ShloMosaic.Lib.Pipeline.Launch
public import Idealize.ShloMosaic.Lib.Pipeline.Kit
public import Idealize.ShloMosaic.Lib.Pipeline.CollectiveSegs

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.SiteBlocks (L lv mem_L mem_L' mayWait_of)

open Idealize.ShloMosaic.Pipeline (Dat Cfg Window BodyObligation cellOf)

variable {F : FTy → Type} [FloatOps F]

local notation "𝕄" => MT nD τ sig ℕ (Elt F) ℕ UU ℕ

variable (m : (l : Loc nD τ sig) → Buf (Elt F) l) (ρ : Dev nD → PrngReg)

def s₀ : MemSt nD τ sig (Elt F) := ⟨m, fun _ => 0, ρ⟩

/-! ## The blocks staged -/

def xS (c : Dev nD) : Vec F S4096x128 .fp8e4m3 := (win0_0.blk (0 : Fin 1)).view.read (Elt F) ((s₀ m ρ).mem ((c : Thread nD τ).loc main_arg0))
def wS (c : Dev nD) : Vec F S128x2048 .fp8e5m2 := (win0_1.blk (0 : Fin 1)).view.read (Elt F) ((s₀ m ρ).mem ((c : Thread nD τ).loc main_arg1))
def sxS (c : Dev nD) : Vec F S1 .f32 := (win0_2.blk (0 : Fin 1)).view.read (Elt F) ((s₀ m ρ).mem ((c : Thread nD τ).loc main_arg2))
def swS (c : Dev nD) : Vec F S1 .f32 := (win0_3.blk (0 : Fin 1)).view.read (Elt F) ((s₀ m ρ).mem ((c : Thread nD τ).loc main_arg3))
/-- The product of the two scales. -/
def scS (c : Dev nD) : F .f32 := k0_pay2 (sxS m ρ c i0) (swS m ρ c i0)
abbrev ACm := ACV (xS m ρ) (wS m ρ) (scS m ρ)
abbrev BCm := BCV (xS m ρ) (wS m ρ) (scS m ρ)
/-- What device `c` computes. -/
def outS (c : Dev nD) : Vec F S4096x2048 .f32 := outV (xS m ρ) (wS m ρ) (scS m ρ) c

def Φ₀ (c : Dev nD) : sProp 𝕄 := iprop(start (ACm m ρ) (BCm m ρ) c ∗ Bo (Scr c))
def Φ₁ (c : Dev nD) : sProp 𝕄 := iprop((bigSep Finset.univ fun x : Cl => semVal (kcell (c, x)) 0) ∗ Bo (Scr c))

set_option maxRecDepth 200000 in
def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xS m ρ c
    | ⟨1, _⟩ => wS m ρ c
    | ⟨2, _⟩ => sxS m ρ c
    | ⟨3, _⟩ => swS m ρ c
    | ⟨4, _⟩ => outS m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-! ## The body -/

theorem fetch_in (w : Fin 5) (hw : w ≠ 4) : (cfg0.win w).fetch t0_0 = true := by
  fin_cases w <;> first | rfl | exact absurd rfl hw
theorem before_0 (c : Dev nD) (d) : (dats m ρ 0 c).before (0 : Fin 5) t0_0 d = xS m ρ c := by
  unfold Dat.before; rw [if_pos (fetch_in 0 (by decide))]; rfl
theorem before_1 (c : Dev nD) (d) : (dats m ρ 0 c).before (1 : Fin 5) t0_0 d = wS m ρ c := by
  unfold Dat.before; rw [if_pos (fetch_in 1 (by decide))]; rfl
theorem before_2 (c : Dev nD) (d) : (dats m ρ 0 c).before (2 : Fin 5) t0_0 d = sxS m ρ c := by
  unfold Dat.before; rw [if_pos (fetch_in 2 (by decide))]; rfl
theorem before_3 (c : Dev nD) (d) : (dats m ρ 0 c).before (3 : Fin 5) t0_0 d = swS m ρ c := by
  unfold Dat.before; rw [if_pos (fetch_in 3 (by decide))]; rfl

set_option maxRecDepth 200000 in
def bodyPre (c : Dev nD) : sProp 𝕄 :=
  iprop(Φ₀ m ρ c ∗ (dats m ρ 0 c).owesAt (0 : ℕ) t0_0.castSucc
    ∗ (∃ d, owns (c : Thread nD τ) xM fullShare ((dats m ρ 0 c).before (0 : Fin 5) t0_0 d))
    ∗ (∃ d, owns (c : Thread nD τ) wM fullShare ((dats m ρ 0 c).before (1 : Fin 5) t0_0 d))
    ∗ (∃ d, owns (c : Thread nD τ) sxM fullShare ((dats m ρ 0 c).before (2 : Fin 5) t0_0 d))
    ∗ (∃ d, owns (c : Thread nD τ) swM fullShare ((dats m ρ 0 c).before (3 : Fin 5) t0_0 d))
    ∗ (∃ d, owns (c : Thread nD τ) oM fullShare ((dats m ρ 0 c).before (4 : Fin 5) t0_0 d)))

set_option maxRecDepth 200000 in
def bodyPost (c : Dev nD) : sProp 𝕄 :=
  iprop(Φ₁ c ∗ (dats m ρ 0 c).owesAt (0 : ℕ) t0_0.succ
    ∗ owns (c : Thread nD τ) xM fullShare (xS m ρ c) ∗ owns (c : Thread nD τ) wM fullShare (wS m ρ c)
    ∗ owns (c : Thread nD τ) sxM fullShare (sxS m ρ c) ∗ owns (c : Thread nD τ) swM fullShare (swS m ρ c)
    ∗ owns (c : Thread nD τ) oM fullShare (outS m ρ c))

set_option maxRecDepth 200000 in
theorem sound_body (c : Dev nD) : bodyPre m ρ c ⊢ WP c bodyProg fun _ => bodyPost m ρ c := by
  unfold bodyPre Φ₀ start Dat.owesAt Pipeline.owesWithin
  simp only [before_0, before_1, before_2, before_3]
  rw [show (dats m ρ 0 c).owed t0_0.castSucc = O₀ c from rfl]
  iintro ⟨⟨⟨⟨%KN, %SN, HK⟩, Hat, HR, HTI, HTA, HCA, HTB⟩, HS⟩, ⟨%W, %hW, HO⟩, ⟨%_, Hx⟩, ⟨%_, Hw⟩, ⟨%_, Hsx⟩, ⟨%_, Hsw⟩, ⟨%d4, Ho⟩⟩
  unfold atAll
  iapply (wp_body (ACm m ρ) (BCm m ρ) KN SN c (xS m ρ c) (wS m ρ c) (sxS m ρ c) (swS m ρ c) _ _ _
    (spec_holds (xS m ρ) (wS m ρ) (scS m ρ) c) allPl (fun d => allFi c d) (allOut c) (q0 := fullShare) (q1 := fullShare)) $$ [HK Hat HR HS HTI HTA HCA HTB HO Hx Hw Hsx Hsw Ho]
  · isplitl [HK]; · iexact HK
    isplitl [Hat]; · iexact Hat
    isplitl [HR]; · iexact HR
    isplitl [HS]; · iexact HS
    isplitl [HTI]; · iexact HTI
    isplitl [HTA]; · iexact HTA
    isplitl [HCA]; · iexact HCA
    isplitl [HTB]; · iexact HTB
    isplitl [HO]; · unfold Ow; iexists W; iexact HO
    isplitl [Hx Hw]
    · unfold XW; isplitl [Hx] <;> iassumption
    isplitl [Hsx Hsw]
    · isplitl [Hsx] <;> iassumption
    iexists _; iexact Ho
  unfold Ow XW
  iintro ⟨Hv, HS, ⟨%W', HO⟩, ⟨Hx, Hw⟩, ⟨Hsx, Hsw⟩, Ho⟩
  unfold bodyPost Φ₁ Dat.owesAt Pipeline.owesWithin
  rw [show (dats m ρ 0 c).owed t0_0.succ = 0 from rfl]
  isplitl [Hv HS]
  · isplitl [Hv] <;> iassumption
  isplitl [HO]
  · iexists W'
    isplitr; · ipureintro; exact fun _ _ => Or.inl trivial
    iexact HO
  isplitl [Hx]; · iexact Hx
  isplitl [Hw]; · iexact Hw
  isplitl [Hsx]; · iexact Hsx
  isplitl [Hsw]; · iexact Hsw
  unfold outS
  iexact Ho

set_option maxRecDepth 200000 in
/-- The library's body obligation on device `c`. -/
theorem body_obligation (c : Dev nD) : BodyObligation (dats (F := F) m ρ 0 c) (defs₀ (F := F)) 𝒱₀ (0 : ℕ) Set.univ := fun t => by
  rw [fin_N0 t]
  rw [bigSep_W0, bigSep_W0]
  show bodyPre m ρ c ⊢ WP c (cc0_body (F := F) (win0_0.stage 0) (hstage0_0 0) (win0_1.stage 0) (hstage0_1 0) (win0_2.stage 0) (hstage0_2 0)
    (win0_3.stage 0) (hstage0_3 0) (win0_4.stage 0) (hstage0_4 0)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _) (Memref.whole cc0_scratch7) (Memref.isWhole_whole _)
    (Memref.whole cc0_scratch8) (Memref.isWhole_whole _) (Memref.whole cc0_scratch9) (Memref.isWhole_whole _)
    (Memref.whole cc0_scratch10) (Memref.isWhole_whole _) (Memref.whole cc0_scratch11) (Memref.isWhole_whole _)
    cc0_scratch12 cc0_scratch13 cc0_scratch14 cc0_scratch15 cc0_scratch16 cc0_scratch17 cc0_scratch18 cc0_scratch19
    cc0_scratch20 cc0_scratch21 cc0_scratch22 cc0_scratch23) (fun _ => bodyPost m ρ c)
  rw [fold_body]
  exact sound_body m ρ c

/-! ## The run -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts (L NI) lv
        ∗ Pipeline.launchCred O₀ c ∗ prngReg c (ρ c) ∗ G' (ACm m ρ) (BCm m ρ) c)
      ⊢ (|={Set.univ}=> iprop(start (ACm m ρ) (BCm m ρ) c ∗ emp) : sProp 𝕄) := by
  iintro ⟨-, Hlev, Hcr, -, HG⟩
  ihave H := (start_of (ACm m ρ) (BCm m ρ) c) $$ [Hlev Hcr HG]
  · isplitl [Hlev]; · iexact Hlev
    isplitl [Hcr] <;> iassumption
  imodintro
  isplitl
  · iexact H
  · iempintro

theorem phi0_intro (c : Dev nD) :
    iprop(start (ACm m ρ) (BCm m ρ) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs]; · iexact Hs
  iapply (scratch_in (F := F) c); iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl]
  unfold Φ₁
  rw [← sems0_eq (F := F) c]
  iintro ⟨⟨H1, H2⟩, H3⟩
  isplitl [H1]; · iexact H1
  isplitl [H2]; · iexact H2
  iapply (scratch_out (F := F) c); iexact H3

theorem waits (c : Dev nD) : (levAts (L NI) lv : sProp 𝕄) ⊢ Pipeline.cellsWaits cfgs (dats m ρ) (0 : ℕ) 0 c :=
  Pipeline.cellsWaits_intro cfgs (dats m ρ) (0 : ℕ) 0 c fun w s t => by
    rcases t with ⟨_ | _, ht⟩
    · exact mayWait (Nat.zero_lt_one) (by decide) c _ (Ab.start c)
    · show _ ⊢ MayWait _ _ _ (0 : CellTallies nD τ sig ℕ)
      rw [MayWait_zero]; exact (show _ ⊢ _ by iintro -; iempintro)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 200000 in
/-- For any float values, from any memory with zero counters: every weakly fair run of the kernel on its thirty-two devices
    ends, each window's array at the contents named and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) (0 : ℕ) cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L NI) (lv := lv) (hL := SiteBlocks.hL NI) (hwaits := waits m ρ)
    (G := G (ACm m ρ) (BCm m ρ)) (G' := G' (ACm m ρ) (BCm m ρ)) (u₀ := u₀)
    (hu₀ := deal_u₀ (ACm m ρ) (BCm m ρ))
    (hglob := glob (ACm m ρ) (BCm m ρ))
    (hA := fun _ _ => rfl) (hpf := fun _ k => k.elim0)
    (X := start (ACm m ρ) (BCm m ρ)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the arrays hold -/

theorem final_x (c : Dev nD) : finalA m ρ c (0 : Fin 5) = m ((c : Thread nD τ).loc main_arg0) := (dats m ρ 0 c).arrAt_in (0 : Fin 5) rfl _
theorem final_w (c : Dev nD) : finalA m ρ c (1 : Fin 5) = m ((c : Thread nD τ).loc main_arg1) := (dats m ρ 0 c).arrAt_in (1 : Fin 5) rfl _
theorem final_sx (c : Dev nD) : finalA m ρ c (2 : Fin 5) = m ((c : Thread nD τ).loc main_arg2) := (dats m ρ 0 c).arrAt_in (2 : Fin 5) rfl _
theorem final_sw (c : Dev nD) : finalA m ρ c (3 : Fin 5) = m ((c : Thread nD τ).loc main_arg3) := (dats m ρ 0 c).arrAt_in (3 : Fin 5) rfl _

end Cert.KProof
-- ==== Proof.Frames.lean ====
module

public import proofs.«01_k».proof.Defs
public import proofs.«01_k».proof.Proof.Run
public import proofs.«01_k».proof.Proof.Gen.Kernel
public import proofs.«01_k».proof.Proof.Gen.ReferenceIdeal.Frame

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.SiteBlocks (L lv mem_L mem_L' mayWait_of)

open Idealize.ShloMosaic.Pipeline (Dat Cfg Window BodyObligation cellOf)

variable {F : FTy → Type} [FloatOps F]

local notation "𝕄" => MT nD τ sig ℕ (Elt F) ℕ UU ℕ

/-- The run, its arrays' contents dropped: the arguments unchanged and every semaphore at zero. -/
theorem run_frame (m : (l : Loc nD τ sig) → Buf (Elt F) l) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c (0 : Fin 5)).trans (final_x m ρ c), (h.1 c (1 : Fin 5)).trans (final_w m ρ c),
    (h.1 c (2 : Fin 5)).trans (final_sx m ρ c), (h.1 c (3 : Fin 5)).trans (final_sw m ρ c)⟩, h.2⟩) (run_main (F := F) m ρ)

/-- The kernel over the extended reals runs to the end, its arguments unchanged and every semaphore at zero. -/
theorem frame_kernelIdeal : Cert.quiescent_KernelIdeal := fun m ρ _ => run_frame (F := Ideal) m ρ

/-- The reference runs to the end, its arguments unchanged and every semaphore at zero. -/
theorem frame_reference : Cert.quiescent_ReferenceIdeal := fun m ρ _ => Cert.ReferenceIdeal.Gen.frame m ρ

set_option maxRecDepth 200000 in
/-- The two printed bodies are the same program. -/
theorem body_same : @Kernel.cc0_body Bits _ Kernel.Gen.facts = @KernelIdeal.cc0_body Bits _ KernelIdeal.Gen.facts := rfl

set_option maxHeartbeats 2000000 in
set_option maxRecDepth 200000 in
/-- The two body tables are the same. -/
theorem table_same : @Kernel.defs₀ Bits _ Kernel.Gen.facts = @KernelIdeal.defs₀ Bits _ KernelIdeal.Gen.facts := by
  unfold Kernel.defs₀ KernelIdeal.defs₀
  show Defs.onTc _ = Defs.onTc _
  congr 1
  funext l p
  fin_cases l
  obtain ⟨t, s⟩ := p
  have := body_same
  rfl

set_option maxHeartbeats 2000000 in
set_option maxRecDepth 200000 in
/-- The two programs' tables are the same. -/
theorem defs_same : @Kernel.defs Bits _ Kernel.Gen.facts = @KernelIdeal.defs Bits _ KernelIdeal.Gen.facts := by
  unfold Kernel.defs KernelIdeal.defs
  have hp : @Kernel.pcfgs Bits Kernel.Gen.facts = @KernelIdeal.pcfgs Bits KernelIdeal.Gen.facts := by
    funext p
    fin_cases p
    rfl
  have hq : ∀ (P P' : Fin 1 → Pipeline.PCfg KernelIdeal.sig KernelIdeal.Λ₀ (Elt Bits)) (D D' : Defs KernelIdeal.nD KernelIdeal.τ KernelIdeal.sig (Elt Bits) KernelIdeal.Λ₀),
      P = P' → D = D' → HEq (Pipeline.defs P D) (Pipeline.defs P' D') := fun _ _ _ _ h h' => by subst h; subst h'; rfl
  exact eq_of_heq (hq _ _ _ _ hp table_same)

set_option maxHeartbeats 2000000 in
set_option maxRecDepth 200000 in
/-- The two entry programs are the same. -/
theorem main_same : @Kernel.main Bits Kernel.Gen.facts = @KernelIdeal.main Bits KernelIdeal.Gen.facts := rfl

set_option maxHeartbeats 2000000 in
set_option maxRecDepth 200000 in
/-- The kernel at bits runs to the end, its arguments unchanged and every semaphore at zero. -/
theorem frame_kernel : Cert.quiescent_Kernel := by
  intro m ρ _
  rw [defs_same, main_same]
  exact run_frame (F := Bits) m ρ

end Cert.KProof
-- ==== Proof.Total.lean ====
module

public import proofs.«01_k».proof.Proof.Place
public import Idealize.ShloMosaic.Lib.ValueIdx
public import Idealize.ShloMosaic.Lib.MatmulPlain
public import Idealize.ShloMosaic.Lib.Pipeline.Value

@[expose] public section

noncomputable section

namespace Cert.KProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release
open Idealize.ShloMosaic.SiteBlocks (L lv mem_L mem_L' mayWait_of)

open Idealize.ShloMosaic.ValueIdx

/-! # What the contents are over the extended reals -/

/-! ## How the places move along the rings -/

theorem posN_tgt (d : Bool) (c : Dev nD) : posN (tgtA (!d) c) = (posN c + if d then 1 else 7) % 8 := by revert d c; decide +kernel
theorem plane_tgtA (d : Bool) (c : Dev nD) : (tgtA d c).val / 8 = c.val / 8 := by revert d c; decide +kernel
theorem plane_tgtB (d : Bool) (c : Dev nD) : (tgtB (!d) c).val / 8 = (c.val / 8 + if d then 1 else 3) % 4 := by revert d c; decide +kernel
theorem posN_tgtB (d : Bool) (c : Dev nD) : posN (tgtB d c) = posN c := by revert d c; decide +kernel

theorem chG_tgt (d : Bool) (c : Dev nD) {s : ℕ} (hs : s < 16) : chG d (tgtA (!d) c) s = chG d c (s + 1) := by
  have h := posN_tgt d c; have := posN_lt c
  cases d <;> unfold chG <;> rw [h] <;> simp <;> omega
theorem chG_iter (d : Bool) (n : ℕ) : ∀ (c : Dev nD) {s : ℕ} (_ : s + n < 17), chG d ((tgtA (!d))^[n] c) s = chG d c (s + n) := by
  induction n with
  | zero => intro c s _; rfl
  | succ n ih =>
    intro c s hs
    rw [Function.iterate_succ_apply, ih _ (by omega), chG_tgt d c (by omega)]; rfl
theorem chG_period (d : Bool) (c : Dev nD) {s : ℕ} (hs : s ≤ 8) : chG d c (s + 8) = chG d c s := by
  have := posN_lt c
  cases d <;> unfold chG <;> simp <;> omega
theorem chO_eq (d : Bool) (c : Dev nD) : chO d c = chG d c 7 := by
  have := posN_lt c
  cases d <;> unfold chG chO <;> simp <;> omega
theorem chX_eq (d : Bool) (c : Dev nD) (s : ℕ) : chX d c s = chG d c (s + 1) := by
  have := posN_lt c
  cases d <;> unfold chG chX <;> simp <;> omega
theorem chO_tgtB (d e : Bool) (c : Dev nD) : chO d (tgtB e c) = chO d c := by cases d <;> unfold chO <;> rw [posN_tgtB]
theorem chO_iterB (d e : Bool) (n : ℕ) (c : Dev nD) : chO d ((tgtB e)^[n] c) = chO d c := by
  induction n generalizing c with
  | zero => rfl
  | succ n ih => rw [Function.iterate_succ_apply, ih, chO_tgtB]
theorem quB_tgt (d : Bool) (c : Dev nD) {s : ℕ} (hs : s < 8) : quB d (tgtB (!d) c) s = quB d c (s + 1) := by
  have h := plane_tgtB d c; have := pl_lt c
  cases d <;> unfold quB <;> rw [h] <;> simp <;> omega
theorem quB_iter (d : Bool) (n : ℕ) : ∀ (c : Dev nD) {s : ℕ} (_ : s + n < 9), quB d ((tgtB (!d))^[n] c) s = quB d c (s + n) := by
  induction n with
  | zero => intro c s _; rfl
  | succ n ih =>
    intro c s hs
    rw [Function.iterate_succ_apply, ih _ (by omega), quB_tgt d c (by omega)]; rfl
theorem quB_period (d : Bool) (c : Dev nD) {s : ℕ} (hs : s ≤ 4) : quB d c (s + 4) = quB d c s := by
  have := pl_lt c
  cases d <;> unfold quB <;> simp <;> omega

theorem posN_iter (d : Bool) (n : ℕ) (c : Dev nD) : posN ((tgtA (!d))^[n] c) = (posN c + if d then n else 7 * n) % 8 := by
  induction n generalizing c with
  | zero => cases d <;> exact (Nat.mod_eq_of_lt (posN_lt c)).symm
  | succ n ih => rw [Function.iterate_succ_apply, ih, posN_tgt]; cases d <;> simp only [if_true, Bool.false_eq_true, if_false] <;> omega
theorem plane_iterA (d : Bool) (n : ℕ) (c : Dev nD) : ((tgtA d)^[n] c).val / 8 = c.val / 8 := by
  induction n generalizing c with
  | zero => rfl
  | succ n ih => rw [Function.iterate_succ_apply, ih, plane_tgtA]
theorem posN_iterB (d : Bool) (n : ℕ) (c : Dev nD) : posN ((tgtB d)^[n] c) = posN c := by
  induction n generalizing c with
  | zero => rfl
  | succ n ih => rw [Function.iterate_succ_apply, ih, posN_tgtB]
theorem plane_iter (d : Bool) (n : ℕ) (c : Dev nD) : ((tgtB (!d))^[n] c).val / 8 = (c.val / 8 + if d then n else 3 * n) % 4 := by
  induction n generalizing c with
  | zero => cases d <;> exact (Nat.mod_eq_of_lt (pl_lt c)).symm
  | succ n ih => rw [Function.iterate_succ_apply, ih, plane_tgtB]; cases d <;> simp only [if_true, Bool.false_eq_true, if_false] <;> omega
theorem round_at (d : Bool) (c : Dev nD) (p : Fin 4 × Fin 8) :
    ((tgtA (!d))^[p.2.val] ((tgtB (!d))^[p.1.val] c)).val / 8 = (c.val / 8 + if d then p.1.val else 3 * p.1.val) % 4
    ∧ posN ((tgtA (!d))^[p.2.val] ((tgtB (!d))^[p.1.val] c)) = (posN c + if d then p.2.val else 7 * p.2.val) % 8 := by
  rw [plane_iterA, plane_iter, posN_iter, posN_iterB]; exact ⟨rfl, rfl⟩
/-- Round both rings each device is met once. -/
theorem around (d : Bool) (c : Dev nD) : Function.Bijective fun p : Fin 4 × Fin 8 => (tgtA (!d))^[p.2.val] ((tgtB (!d))^[p.1.val] c) := by
  refine (Fintype.bijective_iff_injective_and_card _).mpr ⟨?_, rfl⟩
  intro p q h
  have hp := round_at d c p; have hq := round_at d c q
  dsimp only at h
  rw [h] at hp
  have h1 := hp.1.symm.trans hq.1; have h2 := hp.2.symm.trans hq.2
  have := posN_lt c; have := pl_lt c; have := p.1.isLt; have := p.2.isLt; have := q.1.isLt; have := q.2.isLt
  refine Prod.ext (Fin.ext ?_) (Fin.ext ?_)
  · cases d <;> simp only [if_true, Bool.false_eq_true, if_false] at h1 <;> omega
  · cases d <;> simp only [if_true, Bool.false_eq_true, if_false] at h2 <;> omega

/-! ## Products -/

variable (X : Dev nD → Vec Ideal S4096x128 .fp8e4m3) (W : Dev nD → Vec Ideal S128x2048 .fp8e5m2) (sc : Dev nD → Ideal .f32)

/-- Device `c`'s share of entry `(R, C)` of the product. -/
def part (c : Dev nD) (R C : ℕ) : EReal :=
  ∑ k : Fin 128, X c (ix2 (⟨R % 4096, Nat.mod_lt _ (by decide)⟩ : Fin 4096) k) * W c (ix2 k (⟨C % 2048, Nat.mod_lt _ (by decide)⟩ : Fin 2048))

theorem dot_eq : dot_S512x128_S128x1024_S512x1024_1_0_0_1_n_n = DotDims.plain 512 128 1024 := rfl

theorem prodV_apply (x : Vec Ideal S512x128 .fp8e4m3) (w : Vec Ideal S128x1024 .fp8e5m2) (r : Fin 512) (q : Fin 1024) :
    prodV x w (ix2 r q) = ∑ k : Fin 128, x (ix2 r k) * w (ix2 k q) := by
  unfold prodV k0_pay4
  simp only [shapeCast_self, matmul, dot_eq]
  show FloatOps.matmul (DotDims.plain 512 128 1024) none _ _ _ (ix2 r q) = _
  rw [Ideal.matmul_plain_apply]
  show Ideal.ofBits .f32 0x00000000#32 + _ = _
  rw [Ideal.ofBits_zero_f32, zero_add]
  rfl

/-! ## The contents of the hops, entry by entry -/

theorem part_congr (c : Dev nD) {R R' C C' : ℕ} (hR : R = R') (hC : C = C') : part X W c R C = part X W c R' C' := by rw [hR, hC]

theorem hfV_apply (u : Fin 2) (v : FVec Ideal S512x1024 .bf16) (j : S256x1024.Idx) (i : S512x1024.Idx)
    (h0 : (i 0).val = 256 * u.val + (j 0).val) (h1 : (i 1).val = (j 1).val) : hfV u v j = v i := by
  unfold hfV
  refine extractStridedSlice_apply _ _ _ _ _ fun a => ?_
  match a with
  | 0 => exact h0
  | 1 => exact h1.trans (Nat.zero_add _).symm

/-- A product of rows of the input block by half of the weights' columns is a share of the whole product. -/
theorem prod_part (c : Dev nD) (d : Bool) (R : ℕ) (f : S512x128.Idx → S4096x128.Idx)
    (hf0 : ∀ j, (f j 0).val = R + (j 0).val) (hf1 : ∀ j, (f j 1).val = (j 1).val) (i : S512x1024.Idx) :
    prodV (fun j => X c (f j)) (fun j => W c ((rW d).emb j)) i = part X W c (R + (i 0).val) (1024 * d.toNat + (i 1).val) := by
  have hi0 := lt0 i; have hi1 := lt1 i
  refine (congrArg _ (eq_ix2 (n0 := 512) (n1 := 1024) i)).trans ((prodV_apply _ _ _ _).trans ?_)
  unfold part
  refine Finset.sum_congr rfl fun k _ => ?_
  have hR : R + (i 0).val < 4096 := by
    have := lt0 (f (ix2 (i 0) k)); rw [hf0] at this; exact this
  congr 1
  · congr 1
    refine ext2 (a := 4096) (b := 128) ?_ ?_
    · rw [hf0]; exact (Nat.mod_eq_of_lt hR).symm
    · rw [hf1]
  · congr 1
    refine ext2 (a := 128) (b := 2048) ?_ ?_
    · rw [Rect.emb_apply]; show 0 + 1 * _ = _; rw [one_mul, Nat.zero_add]
    · rw [Rect.emb_apply]; show 1024 * d.toNat + 1 * (i 1).val = (1024 * d.toNat + (i 1).val) % 2048
      cases d
      · show 1024 * 0 + 1 * (i 1).val = (1024 * 0 + (i 1).val) % 2048; omega
      · show 1024 * 1 + 1 * (i 1).val = (1024 * 1 + (i 1).val) % 2048; omega

theorem rX0_at (c : Dev nD) (j : S512x128.Idx) : ((rX0 c).emb j 0).val = 512 * posN c + (j 0).val ∧ ((rX0 c).emb j 1).val = (j 1).val := by
  constructor
  · rw [Rect.emb_apply]; show k0_off1 c 0 + 1 * _ = _; rw [k0_off1_eq, one_mul]; rfl
  · rw [Rect.emb_apply]; show k0_off1 c 1 + 1 * _ = _; rw [k0_off1_eq, one_mul]; exact Nat.zero_add _
theorem rX_at (d : Bool) (c : Dev nD) (s : Fin 7) (j : S512x128.Idx) :
    ((rX d c s).emb j 0).val = 512 * chX d c s + (j 0).val ∧ ((rX d c s).emb j 1).val = (j 1).val := by
  constructor
  · rw [Rect.emb_apply]; show offX d c s 0 + 1 * _ = _; rw [offX_eq, one_mul]; rfl
  · rw [Rect.emb_apply]; show offX d c s 1 + 1 * _ = _; rw [offX_eq, one_mul]; exact Nat.zero_add _

theorem chG_zero (d : Bool) (c : Dev nD) : chG d c 0 = posN c := by
  have := posN_lt c
  cases d <;> unfold chG <;> simp <;> omega

/-- The element of a half in its chunk. -/
def inHalf (u : Fin 2) (j : S256x1024.Idx) : S512x1024.Idx := (rPl u).emb j
theorem inHalf_row (u : Fin 2) (j : S256x1024.Idx) : (inHalf u j 0).val = 256 * u.val + (j 0).val := rPl_row u j
theorem inHalf_col (u : Fin 2) (j : S256x1024.Idx) : (inHalf u j 1).val = (j 1).val := rPl_col u j

/-- A reducing hop holds the shares of the devices behind it on the ring of the plane. -/
theorem redV_apply (d : Bool) (u : Fin 2) : ∀ (s : ℕ) (_ : s < 8) (c : Dev nD) (j : S256x1024.Idx),
    redV X W d u s c j = ∑ i ∈ Finset.range (s + 1), part X W ((tgtA (!d))^[i] c) (512 * chG d c s + (256 * u.val + (j 0).val)) (1024 * d.toNat + (j 1).val) := by
  intro s
  induction s with
  | zero =>
    intro _ c j
    rw [Finset.sum_range_one]
    refine (hfV_apply u _ j (inHalf u j) (inHalf_row u j) (inHalf_col u j)).trans ?_
    rw [prod_part X W c d (512 * posN c) _ (fun j => (rX0_at c j).1) (fun j => (rX0_at c j).2), inHalf_row, inHalf_col, chG_zero]
    rfl
  | succ s ih =>
    intro hs c j
    rw [Finset.sum_range_succ']
    have hm : s % 7 = s := Nat.mod_eq_of_lt (by omega)
    show dnH (upH (redV X W d u s (tgtA (!d) c))) j + hfV u (prodA c (X c) (W c) ⟨s % 7, Nat.mod_lt _ (by decide)⟩ d) j = _
    rw [dnH_upH, ih (by omega)]
    congr 1
    · refine Finset.sum_congr rfl fun i _ => ?_
      rw [chG_tgt d c (by omega), Function.iterate_succ_apply]
    · refine (hfV_apply u _ j (inHalf u j) (inHalf_row u j) (inHalf_col u j)).trans ?_
      unfold prodA
      rw [prod_part X W c d (512 * chX d c (s % 7)) _ (fun j => (rX_at d c _ j).1) (fun j => (rX_at d c _ j).2), inHalf_row, inHalf_col, chX_eq, hm]
      rfl

/-- The plane's chunk: the shares of the devices of the plane. -/
theorem planeV_apply (c : Dev nD) (d : Bool) (i : S512x1024.Idx) :
    planeV X W c d i = ∑ k ∈ Finset.range 8, part X W ((tgtA (!d))^[k] c) (512 * chO d c + (i 0).val) (1024 * d.toNat + (i 1).val) := by
  obtain ⟨u, j, rfl⟩ := casesP i
  unfold planeV
  rw [asmP_H, redV_apply X W d u 7 (by omega), rPl_row, rPl_col, chO_eq]

/-- The sum across planes. -/
theorem sumV_apply (d : Bool) : ∀ (s : ℕ) (_ : s < 4) (c : Dev nD) (j : S128x1024.Idx),
    sumV X W d s c j = ∑ a ∈ Finset.range (s + 1), ∑ k ∈ Finset.range 8, part X W ((tgtA (!d))^[k] ((tgtB (!d))^[a] c))
      (512 * chO d c + (128 * quB d c s + (j 0).val)) (1024 * d.toNat + (j 1).val) := by
  intro s
  induction s with
  | zero =>
    intro _ c j
    rw [Finset.sum_range_one]
    show planeV X W c d _ = _
    rw [planeV_apply, rB_row, rB_col]
    rfl
  | succ s ih =>
    intro hs c j
    rw [Finset.sum_range_succ']
    have hm : (s + 1) % 4 = s + 1 := Nat.mod_eq_of_lt hs
    show sumV X W d s (tgtB (!d) c) j + planeV X W c d _ = _
    rw [ih (by omega), planeV_apply, rB_row, rB_col]
    congr 1
    · refine Finset.sum_congr rfl fun a _ => ?_
      rw [chO_tgtB, quB_tgt d c (by omega), Function.iterate_succ_apply]
    · simp only [hm]; rfl

/-- Entry `(R, C)` of the product: every device's share. -/
def total (R C : ℕ) : EReal := ∑ c : Dev nD, part X W c R C

theorem total_eq (d : Bool) (c : Dev nD) (R C : ℕ) :
    ∑ a ∈ Finset.range 4, ∑ k ∈ Finset.range 8, part X W ((tgtA (!d))^[k] ((tgtB (!d))^[a] c)) R C = total X W R C := by
  unfold total
  rw [← (around d c).sum_comp (fun e => part X W e R C), Fintype.sum_prod_type, Finset.sum_range]
  exact Finset.sum_congr rfl fun a _ => Finset.sum_range _

/-- The silu of a product, scaled. -/
def act (s t : EReal) : EReal :=
  Ideal.div (t * s) (Ideal.ofBits .f32 0x3F800000#32 + Ideal.exp (Ideal.ofBits .f32 0x00000000#32 - min (Ideal.ofBits .f32 0x42700000#32) (max (Ideal.ofBits .f32 0xC2700000#32) (t * s))))

/-- The finished quarter. -/
theorem doneV_apply (d : Bool) (c : Dev nD) (j : S128x1024.Idx) :
    doneV X W sc d c j = act (sc c) (total X W (512 * chO d c + (128 * quB d c 3 + (j 0).val)) (1024 * d.toNat + (j 1).val)) := by
  have h := sumV_apply X W d 3 (by omega) c j
  rw [total_eq] at h
  rw [← h]
  unfold doneV siluV
  rw [dnP_upP]
  rfl

theorem goV_eq (d : Bool) (s : ℕ) (c : Dev nD) : goV X W sc d s c = truncV (doneV X W sc d ((tgtB (!d))^[s] c)) := by
  induction s generalizing c with
  | zero => rfl
  | succ s ih => rw [Function.iterate_succ_apply, ← ih]; rfl
theorem gatV_eq (d : Bool) (u : Fin 2) (s : ℕ) (c : Dev nD) : gatV X W sc d u s c = hfV u (finV X W sc ((tgtA (!d))^[s] c) d) := by
  induction s generalizing c with
  | zero => rfl
  | succ s ih => rw [Function.iterate_succ_apply, ← ih]; rfl

variable (s₁ : EReal) (hsc : ∀ c, sc c = s₁)

include hsc in
theorem goV_apply (d : Bool) {s : ℕ} (hs : s < 4) (c : Dev nD) (j : S128x1024.Idx) :
    goV X W sc d s (tgtB (!d) c) j = act s₁ (total X W (512 * chO d c + (128 * quB d c s + (j 0).val)) (1024 * d.toNat + (j 1).val)) := by
  rw [goV_eq]
  show doneV X W sc d _ j = _
  rw [doneV_apply, hsc, ← Function.iterate_succ_apply, chO_iterB, quB_iter d (s + 1) c (by omega), show 3 + (s + 1) = s + 4 from by omega, quB_period d c (by omega)]

include hsc in
theorem finV_apply (c : Dev nD) (d : Bool) (i : S512x1024.Idx) :
    finV X W sc c d i = act s₁ (total X W (512 * chO d c + (i 0).val) (1024 * d.toNat + (i 1).val)) := by
  obtain ⟨r, j, rfl⟩ := casesF d c i
  unfold finV
  rw [asmF_Q, rB_row, rB_col]
  split
  · rename_i h; subst h
    show doneV X W sc d c j = _
    rw [doneV_apply, hsc]; rfl
  · exact goV_apply X W sc s₁ hsc d r.isLt c j

include hsc in
/-- The result, entry by entry, is the silu of the scaled product. -/
theorem outV_apply (c : Dev nD) (i : S4096x2048.Idx) : outV X W sc c i = act s₁ (total X W (i 0).val (i 1).val) := by
  unfold outV
  rcases casesO c i with ⟨d, u, t, j, rfl⟩ | ⟨d, r, j, rfl⟩
  · rw [asmO_G, rG_row, rG_col]
    show gatV X W sc d u t.val (tgtA (!d) c) j = _
    rw [gatV_eq, hfV_apply u _ j (inHalf u j) (inHalf_row u j) (inHalf_col u j), finV_apply X W sc s₁ hsc, inHalf_row, inHalf_col,
      ← Function.iterate_succ_apply, chO_eq, chG_iter d (t.val + 1) c (by have := t.isLt; omega), show 7 + (t.val + 1) = t.val + 8 from by omega,
      chG_period d c (by have := t.isLt; omega), Nat.add_assoc]
  · rw [asmO_Q, rO_row, rO_col, Nat.add_assoc]
    unfold quarterV
    split
    · rename_i h; subst h
      rw [doneV_apply, hsc]; rfl
    · exact goV_apply X W sc s₁ hsc d r.isLt c j

end Cert.KProof
-- ==== Proof.Plain.lean ====
module

public import proofs.«01_k».proof.Proof.Gen.ReferenceIdeal.Value
public import proofs.«01_k».proof.Proof.Total
public import Idealize.ShloMosaic.Lib.ValueIdx
public import Idealize.ShloMosaic.Lib.MatmulPlain

@[expose] public section

noncomputable section

namespace Cert.KProof.Plain

open Cert.ReferenceIdeal Cert.ReferenceIdeal.Gen Cert.ReferenceIdeal.Value
open Idealize.ShloMosaic
open Idealize.ShloMosaic.TcCoe
open Idealize.ShloMosaic.ValueIdx

/-! # What the reference computes -/

variable {F : FTy → Type} [FloatOps F]

/-- The one place of a scale. -/
def place : S1.Idx := fun a => ⟨0, by revert a; decide⟩
theorem place_only (i : S1.Idx) : i = place := funext fun a => by
  match a with
  | 0 => exact Fin.ext (by have := (i 0).isLt; change (i 0).val < 1 at this; show (i 0).val = 0; omega)

/-- The result as one function of the arguments. -/
def refV (x : Vec F S4096x4096 .fp8e4m3) (w : Vec F S4096x2048 .fp8e5m2) (a b : Vec F S1 .f32) : Vec F S4096x2048 .f32 :=
  k0_pay1 x w (a place) (b place)

theorem zero2 : (![0, 0] : Fin 2 → Nat) = fun _ => 0 := funext fun a => by fin_cases a <;> rfl

/-- The run leaves that function of the input buffers in the result's buffer. -/
theorem left_eq (c : Dev nD) (a0 : Memref sig .tc .vmem S4096x4096 .fp8e4m3) (h0 : a0.IsWhole) (a1 : Memref sig .tc .vmem S4096x2048 .fp8e5m2) (h1 : a1.IsWhole)
    (a2 : Memref sig .tc .smem S1 .f32) (h2 : a2.IsWhole) (a3 : Memref sig .tc .smem S1 .f32) (h3 : a3.IsWhole) (a4 : Memref sig .tc .vmem S4096x2048 .f32) (h4 : a4.IsWhole)
    (x0 : Vec F S4096x4096 .fp8e4m3) (x1 : Vec F S4096x2048 .fp8e5m2) (x2 : Vec F S1 .f32) (x3 : Vec F S1 .f32) :
    out0_A_4 c a0 h0 a1 h1 a2 h2 a3 h3 a4 h4 x0 x1 x2 x3 = refV x0 x1 x2 x3 := by
  unfold out0_A_4
  rw [View.read_writes_junk_eq_canon]
  show View.canon ([⟨Rect.unit ![0, 0] S4096x2048.size inb_S4096x2048_S4096x2048_0_0,
      k0_pay1
        (View.readAt (Elt F) a0.view (Rect.unit ![0, 0] S4096x4096.size inb_S4096x4096_S4096x4096_0_0).toLoadRect (h0.unread x0))
        (View.readAt (Elt F) a1.view (Rect.unit ![0, 0] S4096x2048.size inb_S4096x2048_S4096x2048_0_0).toLoadRect (h1.unread x1))
        (View.readAt (Elt F) a2.view (Rect.unit (s := S1) ![0] S1.size inb_S1_S1_0).toLoadRect (h2.unread x2) _)
        (View.readAt (Elt F) a3.view (Rect.unit (s := S1) ![0] S1.size inb_S1_S1_0).toLoadRect (h3.unread x3) _)⟩] :
      List (View.Piece (Elt F) S4096x2048 .f32)) = _
  rw [View.canon_unit_zero zero2, View.readAt_eq_ld, View.readAt_eq_ld, View.readAt_eq_ld, View.readAt_eq_ld, h0.read_unread, h1.read_unread, h2.read_unread, h3.read_unread,
    View.ld_unit_zero zero2, View.ld_unit_zero zero2]
  exact congrArg₂ (k0_pay1 x0 x1) (congrArg x2 (place_only _)) (congrArg x3 (place_only _))

variable (m : (ℓ : Loc nD τ sig) → Buf (Elt F) ℓ) (ρ : Dev nD → PrngReg)

theorem whole0 (f) : ((cfg0.win 0).blk (0 : Fin 1)).view.read (Elt F) f = f :=
  Memref.read_access_unit_zero (Elt F) main_arg0 (funext fun a => by fin_cases a <;> decide) (fun a => by fin_cases a <;> decide) f
theorem whole1 (f) : ((cfg0.win 1).blk (0 : Fin 1)).view.read (Elt F) f = f :=
  Memref.read_access_unit_zero (Elt F) main_arg1 (funext fun a => by fin_cases a <;> decide) (fun a => by fin_cases a <;> decide) f
theorem whole2 (f) : ((cfg0.win 2).blk (0 : Fin 1)).view.read (Elt F) f = f :=
  Memref.read_access_unit_zero (Elt F) main_arg2 (funext fun a => by fin_cases a <;> decide) (fun a => by fin_cases a <;> decide) f
theorem whole3 (f) : ((cfg0.win 3).blk (0 : Fin 1)).view.read (Elt F) f = f :=
  Memref.read_access_unit_zero (Elt F) main_arg3 (funext fun a => by fin_cases a <;> decide) (fun a => by fin_cases a <;> decide) f
theorem whole4 (f) : ((cfg0.win 4).blk (0 : Fin 1)).view.read (Elt F) f = f :=
  Memref.read_access_unit_zero (Elt F) main_v0 (funext fun a => by fin_cases a <;> decide) (fun a => by fin_cases a <;> decide) f

/-- The result array after the run. -/
theorem final_ref (c : Dev nD) : (dats m 0 c).arrAt 4 cfg0.N
    = refV (m ((c : Thread nD τ).loc main_arg0)) (m ((c : Thread nD τ).loc main_arg1)) (m ((c : Thread nD τ).loc main_arg2)) (m ((c : Thread nD τ).loc main_arg3)) := by
  have e0 : iblk m c 0 (0 : Fin 1) = m ((c : Thread nD τ).loc main_arg0) := (whole0 _).trans (V_main_arg0 m c)
  have e1 : iblk m c 1 (0 : Fin 1) = m ((c : Thread nD τ).loc main_arg1) := (whole1 _).trans (V_main_arg1 m c)
  have e2 : iblk m c 2 (0 : Fin 1) = m ((c : Thread nD τ).loc main_arg2) := (whole2 _).trans (V_main_arg2 m c)
  have e3 : iblk m c 3 (0 : Fin 1) = m ((c : Thread nD τ).loc main_arg3) := (whole3 _).trans (V_main_arg3 m c)
  have h := (whole4 _).symm.trans ((blocks4 m c (0 : Fin 1) (flush0_4 _)).trans (flushed4_A m c (0 : Fin 1)))
  rw [left_eq, e0, e1, e2, e3] at h
  exact h

/-! ## Over the extended reals -/

theorem dotR_eq : dot_S4096x4096_S4096x2048_S4096x2048_1_0_0_1_n_n = DotDims.plain 4096 4096 2048 := rfl

/-- The product's entry, plainly. -/
theorem mat_apply (x : Vec Ideal S4096x4096 .fp8e4m3) (w : Vec Ideal S4096x2048 .fp8e5m2) (r : Fin 4096) (q : Fin 2048) :
    FloatOps.matmul (F := Ideal) (DotDims.plain 4096 4096 2048) none (extf .f32 x bitsLt_fp8e4m3_f32) (extf .f32 w bitsLt_fp8e5m2_f32) (constant S4096x2048 .f32 0x00000000#32) (ix2 r q)
      = ∑ k : Fin 4096, x (ix2 r k) * w (ix2 k q) := by
  rw [Ideal.matmul_plain_apply]
  show Ideal.ofBits .f32 0x00000000#32 + _ = _
  rw [Ideal.ofBits_zero_f32, zero_add]
  rfl

/-- The reference's result, entry by entry. -/
theorem refV_apply (x : Vec Ideal S4096x4096 .fp8e4m3) (w : Vec Ideal S4096x2048 .fp8e5m2) (a b : Vec Ideal S1 .f32) (r : Fin 4096) (q : Fin 2048) :
    refV x w a b (ix2 r q) = act (a place * b place) (∑ k : Fin 4096, x (ix2 r k) * w (ix2 k q)) := by
  rw [← mat_apply]
  rfl

end Cert.KProof.Plain
-- ==== Proof.Value.lean ====
module

public import proofs.«01_k».proof.Defs
public import proofs.«01_k».proof.Proof.Run
public import proofs.«01_k».proof.Proof.Total
public import proofs.«01_k».proof.Proof.Plain

@[expose] public section

noncomputable section

namespace Cert.KProof

open Cert.KernelIdeal Cert.KernelIdeal.Gen

open Idealize.ShloMosaic
open Idealize.ShloMosaic.TcCoe
open Idealize.SL.Sem
open Idealize.ShloMosaic.ValueIdx

/-! # The kernel's result is the reference's -/

section read
variable {F : FTy → Type} [FloatOps F]
variable (m : (l : Loc nD τ sig) → Buf (Elt F) l) (ρ : Dev nD → PrngReg)

/-! ## The staged blocks are the arrays -/

theorem xS_eq (c : Dev nD) : xS m ρ c = m ((c : Thread nD τ).loc main_arg0) :=
  Memref.read_access_unit_zero (Elt F) main_arg0 (funext fun a => by fin_cases a <;> decide) (fun a => by fin_cases a <;> decide) _
theorem wS_eq (c : Dev nD) : wS m ρ c = m ((c : Thread nD τ).loc main_arg1) :=
  Memref.read_access_unit_zero (Elt F) main_arg1 (funext fun a => by fin_cases a <;> decide) (fun a => by fin_cases a <;> decide) _
theorem sxS_eq (c : Dev nD) : sxS m ρ c = m ((c : Thread nD τ).loc main_arg2) :=
  Memref.read_access_unit_zero (Elt F) main_arg2 (funext fun a => by fin_cases a <;> decide) (fun a => by fin_cases a <;> decide) _
theorem swS_eq (c : Dev nD) : swS m ρ c = m ((c : Thread nD τ).loc main_arg3) :=
  Memref.read_access_unit_zero (Elt F) main_arg3 (funext fun a => by fin_cases a <;> decide) (fun a => by fin_cases a <;> decide) _

set_option maxRecDepth 200000 in
theorem final_read (c : Dev nD) : (win0_4.blk (0 : Fin 1)).view.read (Elt F) (finalA m ρ c (4 : Fin 5)) = outS m ρ c := by
  unfold finalA
  rw [show cfg0.N = ((0 : Fin 1) : Fin cfg0.N).val + 1 from rfl, (dats m ρ 0 c).arrAt_succ (4 : Fin 5) (0 : Fin 1)]
  rw [show (cfg0.win (4 : Fin 5)).flush (0 : Fin 1) = true from by decide, if_pos rfl]
  exact View.read_write_univ _ _
/-- The result array ends with what the device computes. -/
theorem final_out (c : Dev nD) : finalA m ρ c (4 : Fin 5) = outS m ρ c :=
  (Memref.read_access_unit_zero (Elt F) main_v1 (funext fun a => by fin_cases a <;> decide) (fun a => by fin_cases a <;> decide) _).symm.trans (final_read m ρ c)
end read

/-! ## All shares together -/

/-- The shares of all devices are the whole product. -/
theorem total_whole (X : Dev nD → Vec Ideal S4096x128 .fp8e4m3) (W : Dev nD → Vec Ideal S128x2048 .fp8e5m2)
    (x : Vec Ideal Cert.ReferenceIdeal.S4096x4096 .fp8e4m3) (w : Vec Ideal Cert.ReferenceIdeal.S4096x2048 .fp8e5m2)
    (hX : ∀ c, X c = Layout.block ⟨2, ![4096, 128]⟩ ⟨2, ![4096, 4096]⟩ 1 32 c x)
    (hW : ∀ c, W c = Layout.block ⟨2, ![128, 2048]⟩ ⟨2, ![4096, 2048]⟩ 0 32 c w) (r : Fin 4096) (q : Fin 2048) :
    total X W r.val q.val = ∑ k : Fin 4096, x (ix2 r k) * w (ix2 k q) := by
  unfold total part
  rw [← (finProdFinEquiv (m := 32) (n := 128)).sum_comp (fun k : Fin 4096 => x (ix2 r k) * w (ix2 k q)), Fintype.sum_prod_type]
  refine Finset.sum_congr rfl fun c _ => Finset.sum_congr rfl fun k _ => ?_
  rw [hX, hW, Layout.block_apply, Layout.block_apply]
  congr 1
  · congr 1
    refine ext2 (a := 4096) (b := 4096) ?_ ?_
    · exact Nat.mod_eq_of_lt r.isLt
    · show c.val * 128 + k.val = k.val + 128 * c.val; omega
  · congr 1
    refine ext2 (a := 4096) (b := 2048) ?_ ?_
    · show c.val * 128 + k.val = k.val + 128 * c.val; omega
    · exact Nat.mod_eq_of_lt q.isLt

/-- Every device computes the reference's result. -/
theorem out_eq (m : (l : Loc nD τ sig) → Buf (Elt Ideal) l) (ρ : Dev nD → PrngReg)
    (x : Vec Ideal Cert.ReferenceIdeal.S4096x4096 .fp8e4m3) (w : Vec Ideal Cert.ReferenceIdeal.S4096x2048 .fp8e5m2) (a b : Vec Ideal S1 .f32)
    (hx : ∀ c : Dev nD, m ((c : Thread nD τ).loc main_arg0) = Layout.block ⟨2, ![4096, 128]⟩ ⟨2, ![4096, 4096]⟩ 1 32 c x)
    (hw : ∀ c : Dev nD, m ((c : Thread nD τ).loc main_arg1) = Layout.block ⟨2, ![128, 2048]⟩ ⟨2, ![4096, 2048]⟩ 0 32 c w)
    (ha : ∀ c : Dev nD, m ((c : Thread nD τ).loc main_arg2) = a) (hb : ∀ c : Dev nD, m ((c : Thread nD τ).loc main_arg3) = b) (c : Dev nD) :
    outS m ρ c = Plain.refV x w a b := by
  funext i
  unfold outS
  have hs : ∀ c, scS m ρ c = a Plain.place * b Plain.place := fun c => by
    unfold scS
    rw [sxS_eq, swS_eq, ha, hb]; rfl
  rw [outV_apply _ _ _ _ hs]
  refine Eq.trans ?_ ((congrArg (Plain.refV x w a b) (eq_ix2 (n0 := 4096) (n1 := 2048) i)).trans (Plain.refV_apply x w a b (i 0) (i 1))).symm
  exact congrArg _ (total_whole _ _ x w (fun c => (xS_eq m ρ c).trans (hx c)) (fun c => (wS_eq m ρ c).trans (hw c)) (i 0) (i 1))

/-- Over the extended reals every device ends with the reference's result, and the arguments of both are unchanged. -/
theorem algebraic : Cert.algebraic_KernelIdeal_ReferenceIdeal := by
  intro m ρ m' ρ' _ h
  refine ⟨_, ?_, (θ_run Cert.ReferenceIdeal.defs _ _).mono (fun r hr => hr 0) (Cert.ReferenceIdeal.Value.run_blocks (F := Ideal) m' ρ')⟩
  refine (θ_run defs _ _).mono (fun r hr c => ?_) (run_main (F := Ideal) m ρ)
  refine ⟨?_, (hr.1 c (0 : Fin 5)).trans (final_x m ρ c), (hr.1 c (1 : Fin 5)).trans (final_w m ρ c),
    (hr.1 c (2 : Fin 5)).trans (final_sx m ρ c), (hr.1 c (3 : Fin 5)).trans (final_sw m ρ c)⟩
  refine ((hr.1 c (4 : Fin 5)).trans (final_out m ρ c)).trans ((out_eq m ρ _ _ _ _ (fun c => (h c).1) (fun c => (h c).2.1)
    (fun c => (h c).2.2.1) (fun c => (h c).2.2.2) c).trans ?_)
  exact (Plain.final_ref m' 0).symm

end Cert.KProof
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Value
public import proofs.«01_k».proof.Proof.Frames
public import proofs.«01_k».proof.Proof.Value

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.KProof.frame_kernel, Cert.KProof.frame_kernelIdeal, Cert.KProof.frame_reference, trivial, Cert.KProof.algebraic⟩

end Cert.Proof

end
